-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite2 [hPre_finite2 : Cert.Pre_finite2.Facts] (m : (ℓ : Loc Cert.GateIdeal.nD Cert.GateIdeal.τ Cert.GateIdeal.sig) → Buf (Elt Ideal) ℓ) : Prop :=
  ∀ c : Dev Cert.GateIdeal.nD,
    (Cert.Pre_finite2.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite2 [hPre_finite2 : Cert.Pre_finite2.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite2.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Gwi (m : (ℓ : Loc Cert.Gwi.nD Cert.Gwi.τ Cert.Gwi.sig) → Buf (Elt Bits) ℓ) : Prop :=
  True

def Pre_GwiIdeal (m : (ℓ : Loc Cert.GwiIdeal.nD Cert.GwiIdeal.τ Cert.GwiIdeal.sig) → Buf (Elt Ideal) ℓ) : Prop :=
  True

def Pre_GwiRefIdeal (m : (ℓ : Loc Cert.GwiRefIdeal.nD Cert.GwiRefIdeal.τ Cert.GwiRefIdeal.sig) → Buf (Elt Ideal) ℓ) : Prop :=
  True

def Pre_Gwo (m : (ℓ : Loc Cert.Gwo.nD Cert.Gwo.τ Cert.Gwo.sig) → Buf (Elt Bits) ℓ) : Prop :=
  True

def Pre_GwoIdeal (m : (ℓ : Loc Cert.GwoIdeal.nD Cert.GwoIdeal.τ Cert.GwoIdeal.sig) → Buf (Elt Ideal) ℓ) : Prop :=
  True

def Pre_GwoRefIdeal (m : (ℓ : Loc Cert.GwoRefIdeal.nD Cert.GwoRefIdeal.τ Cert.GwoRefIdeal.sig) → Buf (Elt Ideal) ℓ) : Prop :=
  True

def Pre_Gate2 (m : (ℓ : Loc Cert.Gate2.nD Cert.Gate2.τ Cert.Gate2.sig) → Buf (Elt Bits) ℓ) : Prop :=
  True

def Pre_Gate2Ideal (m : (ℓ : Loc Cert.Gate2Ideal.nD Cert.Gate2Ideal.τ Cert.Gate2Ideal.sig) → Buf (Elt Ideal) ℓ) : Prop :=
  True

def Pre_Gate2Ideal_finite3 [hPre_finite3 : Cert.Pre_finite3.Facts] (m : (ℓ : Loc Cert.Gate2Ideal.nD Cert.Gate2Ideal.τ Cert.Gate2Ideal.sig) → Buf (Elt Ideal) ℓ) : Prop :=
  ∀ c : Dev Cert.Gate2Ideal.nD,
    (Cert.Pre_finite3.fn (F := Ideal) (m ((c.tc : Thread Cert.Gate2Ideal.nD Cert.Gate2Ideal.τ).loc Cert.Gate2Ideal.main_arg0)) (m ((c.tc : Thread Cert.Gate2Ideal.nD Cert.Gate2Ideal.τ).loc Cert.Gate2Ideal.main_arg1)) (m ((c.tc : Thread Cert.Gate2Ideal.nD Cert.Gate2Ideal.τ).loc Cert.Gate2Ideal.main_arg2)) (m ((c.tc : Thread Cert.Gate2Ideal.nD Cert.Gate2Ideal.τ).loc Cert.Gate2Ideal.main_arg3))) = (fun _ => 1#1)

def Pre_Gate2RefIdeal (m : (ℓ : Loc Cert.Gate2RefIdeal.nD Cert.Gate2RefIdeal.τ Cert.Gate2RefIdeal.sig) → Buf (Elt Ideal) ℓ) : Prop :=
  True

def Pre_Gate2RefIdeal_finite3 [hPre_finite3 : Cert.Pre_finite3.Facts] (m : (ℓ : Loc Cert.Gate2RefIdeal.nD Cert.Gate2RefIdeal.τ Cert.Gate2RefIdeal.sig) → Buf (Elt Ideal) ℓ) : Prop :=
  ∀ c : Dev Cert.Gate2RefIdeal.nD,
    (Cert.Pre_finite3.fn (F := Ideal) (m ((c.tc : Thread Cert.Gate2RefIdeal.nD Cert.Gate2RefIdeal.τ).loc Cert.Gate2RefIdeal.main_arg0)) (m ((c.tc : Thread Cert.Gate2RefIdeal.nD Cert.Gate2RefIdeal.τ).loc Cert.Gate2RefIdeal.main_arg1)) (m ((c.tc : Thread Cert.Gate2RefIdeal.nD Cert.Gate2RefIdeal.τ).loc Cert.Gate2RefIdeal.main_arg2)) (m ((c.tc : Thread Cert.Gate2RefIdeal.nD Cert.Gate2RefIdeal.τ).loc Cert.Gate2RefIdeal.main_arg3))) = (fun _ => 1#1)

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_Gwi2 (m : (ℓ : Loc Cert.Gwi2.nD Cert.Gwi2.τ Cert.Gwi2.sig) → Buf (Elt Bits) ℓ) : Prop :=
  True

def Pre_Gwi2Ideal (m : (ℓ : Loc Cert.Gwi2Ideal.nD Cert.Gwi2Ideal.τ Cert.Gwi2Ideal.sig) → Buf (Elt Ideal) ℓ) : Prop :=
  True

def Pre_Gwi2RefIdeal (m : (ℓ : Loc Cert.Gwi2RefIdeal.nD Cert.Gwi2RefIdeal.τ Cert.Gwi2RefIdeal.sig) → Buf (Elt Ideal) ℓ) : Prop :=
  True

def Pre_Gwo2 (m : (ℓ : Loc Cert.Gwo2.nD Cert.Gwo2.τ Cert.Gwo2.sig) → Buf (Elt Bits) ℓ) : Prop :=
  True

def Pre_Gwo2Ideal (m : (ℓ : Loc Cert.Gwo2Ideal.nD Cert.Gwo2Ideal.τ Cert.Gwo2Ideal.sig) → Buf (Elt Ideal) ℓ) : Prop :=
  True

def Pre_Gwo2RefIdeal (m : (ℓ : Loc Cert.Gwo2RefIdeal.nD Cert.Gwo2RefIdeal.τ Cert.Gwo2RefIdeal.sig) → Buf (Elt Ideal) ℓ) : Prop :=
  True

def Pre_DhIn (m : (ℓ : Loc Cert.DhIn.nD Cert.DhIn.τ Cert.DhIn.sig) → Buf (Elt Bits) ℓ) : Prop :=
  True

def Pre_DhInIdeal (m : (ℓ : Loc Cert.DhInIdeal.nD Cert.DhInIdeal.τ Cert.DhInIdeal.sig) → Buf (Elt Ideal) ℓ) : Prop :=
  True

def Pre_DhInRefIdeal (m : (ℓ : Loc Cert.DhInRefIdeal.nD Cert.DhInRefIdeal.τ Cert.DhInRefIdeal.sig) → Buf (Elt Ideal) ℓ) : Prop :=
  True

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_GwInRefIdeal (m : (ℓ : Loc Cert.GwInRefIdeal.nD Cert.GwInRefIdeal.τ Cert.GwInRefIdeal.sig) → Buf (Elt Ideal) ℓ) : Prop :=
  True

def Pre_DMix (m : (ℓ : Loc Cert.DMix.nD Cert.DMix.τ Cert.DMix.sig) → Buf (Elt Bits) ℓ) : Prop :=
  True

def Pre_DMixIdeal (m : (ℓ : Loc Cert.DMixIdeal.nD Cert.DMixIdeal.τ Cert.DMixIdeal.sig) → Buf (Elt Ideal) ℓ) : Prop :=
  True

def Pre_DMixRefIdeal (m : (ℓ : Loc Cert.DMixRefIdeal.nD Cert.DMixRefIdeal.τ Cert.DMixRefIdeal.sig) → Buf (Elt Ideal) ℓ) : Prop :=
  True

def Pre_GwMix (m : (ℓ : Loc Cert.GwMix.nD Cert.GwMix.τ Cert.GwMix.sig) → Buf (Elt Bits) ℓ) : Prop :=
  True

def Pre_GwMixIdeal (m : (ℓ : Loc Cert.GwMixIdeal.nD Cert.GwMixIdeal.τ Cert.GwMixIdeal.sig) → Buf (Elt Ideal) ℓ) : Prop :=
  True

def Pre_GwMixRefIdeal (m : (ℓ : Loc Cert.GwMixRefIdeal.nD Cert.GwMixRefIdeal.τ Cert.GwMixRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Down2 (m : (ℓ : Loc Cert.Down2.nD Cert.Down2.τ Cert.Down2.sig) → Buf (Elt Bits) ℓ) : Prop :=
  True

def Pre_Down2Ideal (m : (ℓ : Loc Cert.Down2Ideal.nD Cert.Down2Ideal.τ Cert.Down2Ideal.sig) → Buf (Elt Ideal) ℓ) : Prop :=
  True

def Pre_Down2RefIdeal (m : (ℓ : Loc Cert.Down2RefIdeal.nD Cert.Down2RefIdeal.τ Cert.Down2RefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Up2 (m : (ℓ : Loc Cert.Up2.nD Cert.Up2.τ Cert.Up2.sig) → Buf (Elt Bits) ℓ) : Prop :=
  True

def Pre_Up2Ideal (m : (ℓ : Loc Cert.Up2Ideal.nD Cert.Up2Ideal.τ Cert.Up2Ideal.sig) → Buf (Elt Ideal) ℓ) : Prop :=
  True

def Pre_Up2RefIdeal (m : (ℓ : Loc Cert.Up2RefIdeal.nD Cert.Up2RefIdeal.τ Cert.Up2RefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite4 [hPre_finite4 : Cert.Pre_finite4.Facts] (m : (ℓ : Loc Cert.AttnIdeal.nD Cert.AttnIdeal.τ Cert.AttnIdeal.sig) → Buf (Elt Ideal) ℓ) : Prop :=
  ∀ c : Dev Cert.AttnIdeal.nD,
    (Cert.Pre_finite4.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite4 [hPre_finite4 : Cert.Pre_finite4.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite4.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite2 [hGateIdeal : Cert.GateIdeal.Facts] [hPre_finite2 : Cert.Pre_finite2.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite2 m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_finite2 [hGateRefIdeal : Cert.GateRefIdeal.Facts] [hPre_finite2 : Cert.Pre_finite2.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite2 m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_Gwi [hGwi : Cert.Gwi.Facts] : Prop :=
  ∀ (m : (ℓ : Loc Cert.Gwi.nD Cert.Gwi.τ Cert.Gwi.sig) → Buf (Elt Bits) ℓ) (g : Dev Cert.Gwi.nD → PrngReg), Pre_Gwi m →
    θ_run (Cert.Gwi.defs (F := Bits)) (onTc (τ := Cert.Gwi.τ) (Cert.Gwi.main (F := Bits))) ⟨m, fun _ => 0, g⟩ (fun r => (∀ c : Dev Cert.Gwi.nD,
      r.2.mem ((c.tc : Thread Cert.Gwi.nD Cert.Gwi.τ).loc Cert.Gwi.main_arg0) = m ((c.tc : Thread Cert.Gwi.nD Cert.Gwi.τ).loc Cert.Gwi.main_arg0)
      ∧ r.2.mem ((c.tc : Thread Cert.Gwi.nD Cert.Gwi.τ).loc Cert.Gwi.main_arg1) = m ((c.tc : Thread Cert.Gwi.nD Cert.Gwi.τ).loc Cert.Gwi.main_arg1))
      ∧ r.2.sem = fun _ => 0)

def quiescent_GwiIdeal [hGwiIdeal : Cert.GwiIdeal.Facts] : Prop :=
  ∀ (m : (ℓ : Loc Cert.GwiIdeal.nD Cert.GwiIdeal.τ Cert.GwiIdeal.sig) → Buf (Elt Ideal) ℓ) (g : Dev Cert.GwiIdeal.nD → PrngReg), Pre_GwiIdeal m →
    θ_run (Cert.GwiIdeal.defs (F := Ideal)) (onTc (τ := Cert.GwiIdeal.τ) (Cert.GwiIdeal.main (F := Ideal))) ⟨m, fun _ => 0, g⟩ (fun r => (∀ c : Dev Cert.GwiIdeal.nD,
      r.2.mem ((c.tc : Thread Cert.GwiIdeal.nD Cert.GwiIdeal.τ).loc Cert.GwiIdeal.main_arg0) = m ((c.tc : Thread Cert.GwiIdeal.nD Cert.GwiIdeal.τ).loc Cert.GwiIdeal.main_arg0)
      ∧ r.2.mem ((c.tc : Thread Cert.GwiIdeal.nD Cert.GwiIdeal.τ).loc Cert.GwiIdeal.main_arg1) = m ((c.tc : Thread Cert.GwiIdeal.nD Cert.GwiIdeal.τ).loc Cert.GwiIdeal.main_arg1))
      ∧ r.2.sem = fun _ => 0)

def quiescent_GwiRefIdeal [hGwiRefIdeal : Cert.GwiRefIdeal.Facts] : Prop :=
  ∀ (m : (ℓ : Loc Cert.GwiRefIdeal.nD Cert.GwiRefIdeal.τ Cert.GwiRefIdeal.sig) → Buf (Elt Ideal) ℓ) (g : Dev Cert.GwiRefIdeal.nD → PrngReg), Pre_GwiRefIdeal m →
    θ_run (Cert.GwiRefIdeal.defs (F := Ideal)) (onTc (τ := Cert.GwiRefIdeal.τ) (Cert.GwiRefIdeal.main (F := Ideal))) ⟨m, fun _ => 0, g⟩ (fun r => (∀ c : Dev Cert.GwiRefIdeal.nD,
      r.2.mem ((c.tc : Thread Cert.GwiRefIdeal.nD Cert.GwiRefIdeal.τ).loc Cert.GwiRefIdeal.main_arg0) = m ((c.tc : Thread Cert.GwiRefIdeal.nD Cert.GwiRefIdeal.τ).loc Cert.GwiRefIdeal.main_arg0)
      ∧ r.2.mem ((c.tc : Thread Cert.GwiRefIdeal.nD Cert.GwiRefIdeal.τ).loc Cert.GwiRefIdeal.main_arg1) = m ((c.tc : Thread Cert.GwiRefIdeal.nD Cert.GwiRefIdeal.τ).loc Cert.GwiRefIdeal.main_arg1))
      ∧ r.2.sem = fun _ => 0)

def quiescent_Gwo [hGwo : Cert.Gwo.Facts] : Prop :=
  ∀ (m : (ℓ : Loc Cert.Gwo.nD Cert.Gwo.τ Cert.Gwo.sig) → Buf (Elt Bits) ℓ) (g : Dev Cert.Gwo.nD → PrngReg), Pre_Gwo m →
    θ_run (Cert.Gwo.defs (F := Bits)) (onTc (τ := Cert.Gwo.τ) (Cert.Gwo.main (F := Bits))) ⟨m, fun _ => 0, g⟩ (fun r => (∀ c : Dev Cert.Gwo.nD,
      r.2.mem ((c.tc : Thread Cert.Gwo.nD Cert.Gwo.τ).loc Cert.Gwo.main_arg0) = m ((c.tc : Thread Cert.Gwo.nD Cert.Gwo.τ).loc Cert.Gwo.main_arg0)
      ∧ r.2.mem ((c.tc : Thread Cert.Gwo.nD Cert.Gwo.τ).loc Cert.Gwo.main_arg1) = m ((c.tc : Thread Cert.Gwo.nD Cert.Gwo.τ).loc Cert.Gwo.main_arg1)
      ∧ r.2.mem ((c.tc : Thread Cert.Gwo.nD Cert.Gwo.τ).loc Cert.Gwo.main_arg2) = m ((c.tc : Thread Cert.Gwo.nD Cert.Gwo.τ).loc Cert.Gwo.main_arg2))
      ∧ r.2.sem = fun _ => 0)

def quiescent_GwoIdeal [hGwoIdeal : Cert.GwoIdeal.Facts] : Prop :=
  ∀ (m : (ℓ : Loc Cert.GwoIdeal.nD Cert.GwoIdeal.τ Cert.GwoIdeal.sig) → Buf (Elt Ideal) ℓ) (g : Dev Cert.GwoIdeal.nD → PrngReg), Pre_GwoIdeal m →
    θ_run (Cert.GwoIdeal.defs (F := Ideal)) (onTc (τ := Cert.GwoIdeal.τ) (Cert.GwoIdeal.main (F := Ideal))) ⟨m, fun _ => 0, g⟩ (fun r => (∀ c : Dev Cert.GwoIdeal.nD,
      r.2.mem ((c.tc : Thread Cert.GwoIdeal.nD Cert.GwoIdeal.τ).loc Cert.GwoIdeal.main_arg0) = m ((c.tc : Thread Cert.GwoIdeal.nD Cert.GwoIdeal.τ).loc Cert.GwoIdeal.main_arg0)
      ∧ r.2.mem ((c.tc : Thread Cert.GwoIdeal.nD Cert.GwoIdeal.τ).loc Cert.GwoIdeal.main_arg1) = m ((c.tc : Thread Cert.GwoIdeal.nD Cert.GwoIdeal.τ).loc Cert.GwoIdeal.main_arg1)
      ∧ r.2.mem ((c.tc : Thread Cert.GwoIdeal.nD Cert.GwoIdeal.τ).loc Cert.GwoIdeal.main_arg2) = m ((c.tc : Thread Cert.GwoIdeal.nD Cert.GwoIdeal.τ).loc Cert.GwoIdeal.main_arg2))
      ∧ r.2.sem = fun _ => 0)

def quiescent_GwoRefIdeal [hGwoRefIdeal : Cert.GwoRefIdeal.Facts] : Prop :=
  ∀ (m : (ℓ : Loc Cert.GwoRefIdeal.nD Cert.GwoRefIdeal.τ Cert.GwoRefIdeal.sig) → Buf (Elt Ideal) ℓ) (g : Dev Cert.GwoRefIdeal.nD → PrngReg), Pre_GwoRefIdeal m →
    θ_run (Cert.GwoRefIdeal.defs (F := Ideal)) (onTc (τ := Cert.GwoRefIdeal.τ) (Cert.GwoRefIdeal.main (F := Ideal))) ⟨m, fun _ => 0, g⟩ (fun r => (∀ c : Dev Cert.GwoRefIdeal.nD,
      r.2.mem ((c.tc : Thread Cert.GwoRefIdeal.nD Cert.GwoRefIdeal.τ).loc Cert.GwoRefIdeal.main_arg0) = m ((c.tc : Thread Cert.GwoRefIdeal.nD Cert.GwoRefIdeal.τ).loc Cert.GwoRefIdeal.main_arg0)
      ∧ r.2.mem ((c.tc : Thread Cert.GwoRefIdeal.nD Cert.GwoRefIdeal.τ).loc Cert.GwoRefIdeal.main_arg1) = m ((c.tc : Thread Cert.GwoRefIdeal.nD Cert.GwoRefIdeal.τ).loc Cert.GwoRefIdeal.main_arg1)
      ∧ r.2.mem ((c.tc : Thread Cert.GwoRefIdeal.nD Cert.GwoRefIdeal.τ).loc Cert.GwoRefIdeal.main_arg2) = m ((c.tc : Thread Cert.GwoRefIdeal.nD Cert.GwoRefIdeal.τ).loc Cert.GwoRefIdeal.main_arg2))
      ∧ r.2.sem = fun _ => 0)

def quiescent_Gate2 [hGate2 : Cert.Gate2.Facts] : Prop :=
  ∀ (m : (ℓ : Loc Cert.Gate2.nD Cert.Gate2.τ Cert.Gate2.sig) → Buf (Elt Bits) ℓ) (g : Dev Cert.Gate2.nD → PrngReg), Pre_Gate2 m →
    θ_run (Cert.Gate2.defs (F := Bits)) (onTc (τ := Cert.Gate2.τ) (Cert.Gate2.main (F := Bits))) ⟨m, fun _ => 0, g⟩ (fun r => (∀ c : Dev Cert.Gate2.nD,
      r.2.mem ((c.tc : Thread Cert.Gate2.nD Cert.Gate2.τ).loc Cert.Gate2.main_arg0) = m ((c.tc : Thread Cert.Gate2.nD Cert.Gate2.τ).loc Cert.Gate2.main_arg0)
      ∧ r.2.mem ((c.tc : Thread Cert.Gate2.nD Cert.Gate2.τ).loc Cert.Gate2.main_arg1) = m ((c.tc : Thread Cert.Gate2.nD Cert.Gate2.τ).loc Cert.Gate2.main_arg1)
      ∧ r.2.mem ((c.tc : Thread Cert.Gate2.nD Cert.Gate2.τ).loc Cert.Gate2.main_arg2) = m ((c.tc : Thread Cert.Gate2.nD Cert.Gate2.τ).loc Cert.Gate2.main_arg2)
      ∧ r.2.mem ((c.tc : Thread Cert.Gate2.nD Cert.Gate2.τ).loc Cert.Gate2.main_arg3) = m ((c.tc : Thread Cert.Gate2.nD Cert.Gate2.τ).loc Cert.Gate2.main_arg3))
      ∧ r.2.sem = fun _ => 0)

def quiescent_Gate2Ideal [hGate2Ideal : Cert.Gate2Ideal.Facts] : Prop :=
  ∀ (m : (ℓ : Loc Cert.Gate2Ideal.nD Cert.Gate2Ideal.τ Cert.Gate2Ideal.sig) → Buf (Elt Ideal) ℓ) (g : Dev Cert.Gate2Ideal.nD → PrngReg), Pre_Gate2Ideal m →
    θ_run (Cert.Gate2Ideal.defs (F := Ideal)) (onTc (τ := Cert.Gate2Ideal.τ) (Cert.Gate2Ideal.main (F := Ideal))) ⟨m, fun _ => 0, g⟩ (fun r => (∀ c : Dev Cert.Gate2Ideal.nD,
      r.2.mem ((c.tc : Thread Cert.Gate2Ideal.nD Cert.Gate2Ideal.τ).loc Cert.Gate2Ideal.main_arg0) = m ((c.tc : Thread Cert.Gate2Ideal.nD Cert.Gate2Ideal.τ).loc Cert.Gate2Ideal.main_arg0)
      ∧ r.2.mem ((c.tc : Thread Cert.Gate2Ideal.nD Cert.Gate2Ideal.τ).loc Cert.Gate2Ideal.main_arg1) = m ((c.tc : Thread Cert.Gate2Ideal.nD Cert.Gate2Ideal.τ).loc Cert.Gate2Ideal.main_arg1)
      ∧ r.2.mem ((c.tc : Thread Cert.Gate2Ideal.nD Cert.Gate2Ideal.τ).loc Cert.Gate2Ideal.main_arg2) = m ((c.tc : Thread Cert.Gate2Ideal.nD Cert.Gate2Ideal.τ).loc Cert.Gate2Ideal.main_arg2)
      ∧ r.2.mem ((c.tc : Thread Cert.Gate2Ideal.nD Cert.Gate2Ideal.τ).loc Cert.Gate2Ideal.main_arg3) = m ((c.tc : Thread Cert.Gate2Ideal.nD Cert.Gate2Ideal.τ).loc Cert.Gate2Ideal.main_arg3))
      ∧ r.2.sem = fun _ => 0)

def quiescent_Gate2Ideal_pre_finite3 [hGate2Ideal : Cert.Gate2Ideal.Facts] [hPre_finite3 : Cert.Pre_finite3.Facts] : Prop :=
  ∀ (m : (ℓ : Loc Cert.Gate2Ideal.nD Cert.Gate2Ideal.τ Cert.Gate2Ideal.sig) → Buf (Elt Ideal) ℓ) (g : Dev Cert.Gate2Ideal.nD → PrngReg), Pre_Gate2Ideal_finite3 m →
    θ_run (Cert.Gate2Ideal.defs (F := Ideal)) (onTc (τ := Cert.Gate2Ideal.τ) (Cert.Gate2Ideal.main (F := Ideal))) ⟨m, fun _ => 0, g⟩ (fun r => (∀ c : Dev Cert.Gate2Ideal.nD,
      r.2.mem ((c.tc : Thread Cert.Gate2Ideal.nD Cert.Gate2Ideal.τ).loc Cert.Gate2Ideal.main_arg0) = m ((c.tc : Thread Cert.Gate2Ideal.nD Cert.Gate2Ideal.τ).loc Cert.Gate2Ideal.main_arg0)
      ∧ r.2.mem ((c.tc : Thread Cert.Gate2Ideal.nD Cert.Gate2Ideal.τ).loc Cert.Gate2Ideal.main_arg1) = m ((c.tc : Thread Cert.Gate2Ideal.nD Cert.Gate2Ideal.τ).loc Cert.Gate2Ideal.main_arg1)
      ∧ r.2.mem ((c.tc : Thread Cert.Gate2Ideal.nD Cert.Gate2Ideal.τ).loc Cert.Gate2Ideal.main_arg2) = m ((c.tc : Thread Cert.Gate2Ideal.nD Cert.Gate2Ideal.τ).loc Cert.Gate2Ideal.main_arg2)
      ∧ r.2.mem ((c.tc : Thread Cert.Gate2Ideal.nD Cert.Gate2Ideal.τ).loc Cert.Gate2Ideal.main_arg3) = m ((c.tc : Thread Cert.Gate2Ideal.nD Cert.Gate2Ideal.τ).loc Cert.Gate2Ideal.main_arg3))
      ∧ r.2.sem = fun _ => 0)

def quiescent_Gate2RefIdeal [hGate2RefIdeal : Cert.Gate2RefIdeal.Facts] : Prop :=
  ∀ (m : (ℓ : Loc Cert.Gate2RefIdeal.nD Cert.Gate2RefIdeal.τ Cert.Gate2RefIdeal.sig) → Buf (Elt Ideal) ℓ) (g : Dev Cert.Gate2RefIdeal.nD → PrngReg), Pre_Gate2RefIdeal m →
    θ_run (Cert.Gate2RefIdeal.defs (F := Ideal)) (onTc (τ := Cert.Gate2RefIdeal.τ) (Cert.Gate2RefIdeal.main (F := Ideal))) ⟨m, fun _ => 0, g⟩ (fun r => (∀ c : Dev Cert.Gate2RefIdeal.nD,
      r.2.mem ((c.tc : Thread Cert.Gate2RefIdeal.nD Cert.Gate2RefIdeal.τ).loc Cert.Gate2RefIdeal.main_arg0) = m ((c.tc : Thread Cert.Gate2RefIdeal.nD Cert.Gate2RefIdeal.τ).loc Cert.Gate2RefIdeal.main_arg0)
      ∧ r.2.mem ((c.tc : Thread Cert.Gate2RefIdeal.nD Cert.Gate2RefIdeal.τ).loc Cert.Gate2RefIdeal.main_arg1) = m ((c.tc : Thread Cert.Gate2RefIdeal.nD Cert.Gate2RefIdeal.τ).loc Cert.Gate2RefIdeal.main_arg1)
      ∧ r.2.mem ((c.tc : Thread Cert.Gate2RefIdeal.nD Cert.Gate2RefIdeal.τ).loc Cert.Gate2RefIdeal.main_arg2) = m ((c.tc : Thread Cert.Gate2RefIdeal.nD Cert.Gate2RefIdeal.τ).loc Cert.Gate2RefIdeal.main_arg2)
      ∧ r.2.mem ((c.tc : Thread Cert.Gate2RefIdeal.nD Cert.Gate2RefIdeal.τ).loc Cert.Gate2RefIdeal.main_arg3) = m ((c.tc : Thread Cert.Gate2RefIdeal.nD Cert.Gate2RefIdeal.τ).loc Cert.Gate2RefIdeal.main_arg3))
      ∧ r.2.sem = fun _ => 0)

def quiescent_Gate2RefIdeal_pre_finite3 [hGate2RefIdeal : Cert.Gate2RefIdeal.Facts] [hPre_finite3 : Cert.Pre_finite3.Facts] : Prop :=
  ∀ (m : (ℓ : Loc Cert.Gate2RefIdeal.nD Cert.Gate2RefIdeal.τ Cert.Gate2RefIdeal.sig) → Buf (Elt Ideal) ℓ) (g : Dev Cert.Gate2RefIdeal.nD → PrngReg), Pre_Gate2RefIdeal_finite3 m →
    θ_run (Cert.Gate2RefIdeal.defs (F := Ideal)) (onTc (τ := Cert.Gate2RefIdeal.τ) (Cert.Gate2RefIdeal.main (F := Ideal))) ⟨m, fun _ => 0, g⟩ (fun r => (∀ c : Dev Cert.Gate2RefIdeal.nD,
      r.2.mem ((c.tc : Thread Cert.Gate2RefIdeal.nD Cert.Gate2RefIdeal.τ).loc Cert.Gate2RefIdeal.main_arg0) = m ((c.tc : Thread Cert.Gate2RefIdeal.nD Cert.Gate2RefIdeal.τ).loc Cert.Gate2RefIdeal.main_arg0)
      ∧ r.2.mem ((c.tc : Thread Cert.Gate2RefIdeal.nD Cert.Gate2RefIdeal.τ).loc Cert.Gate2RefIdeal.main_arg1) = m ((c.tc : Thread Cert.Gate2RefIdeal.nD Cert.Gate2RefIdeal.τ).loc Cert.Gate2RefIdeal.main_arg1)
      ∧ r.2.mem ((c.tc : Thread Cert.Gate2RefIdeal.nD Cert.Gate2RefIdeal.τ).loc Cert.Gate2RefIdeal.main_arg2) = m ((c.tc : Thread Cert.Gate2RefIdeal.nD Cert.Gate2RefIdeal.τ).loc Cert.Gate2RefIdeal.main_arg2)
      ∧ r.2.mem ((c.tc : Thread Cert.Gate2RefIdeal.nD Cert.Gate2RefIdeal.τ).loc Cert.Gate2RefIdeal.main_arg3) = m ((c.tc : Thread Cert.Gate2RefIdeal.nD Cert.Gate2RefIdeal.τ).loc Cert.Gate2RefIdeal.main_arg3))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1))
      ∧ r.2.sem = fun _ => 0)

def quiescent_Gwi2 [hGwi2 : Cert.Gwi2.Facts] : Prop :=
  ∀ (m : (ℓ : Loc Cert.Gwi2.nD Cert.Gwi2.τ Cert.Gwi2.sig) → Buf (Elt Bits) ℓ) (g : Dev Cert.Gwi2.nD → PrngReg), Pre_Gwi2 m →
    θ_run (Cert.Gwi2.defs (F := Bits)) (onTc (τ := Cert.Gwi2.τ) (Cert.Gwi2.main (F := Bits))) ⟨m, fun _ => 0, g⟩ (fun r => (∀ c : Dev Cert.Gwi2.nD,
      r.2.mem ((c.tc : Thread Cert.Gwi2.nD Cert.Gwi2.τ).loc Cert.Gwi2.main_arg0) = m ((c.tc : Thread Cert.Gwi2.nD Cert.Gwi2.τ).loc Cert.Gwi2.main_arg0)
      ∧ r.2.mem ((c.tc : Thread Cert.Gwi2.nD Cert.Gwi2.τ).loc Cert.Gwi2.main_arg1) = m ((c.tc : Thread Cert.Gwi2.nD Cert.Gwi2.τ).loc Cert.Gwi2.main_arg1))
      ∧ r.2.sem = fun _ => 0)

def quiescent_Gwi2Ideal [hGwi2Ideal : Cert.Gwi2Ideal.Facts] : Prop :=
  ∀ (m : (ℓ : Loc Cert.Gwi2Ideal.nD Cert.Gwi2Ideal.τ Cert.Gwi2Ideal.sig) → Buf (Elt Ideal) ℓ) (g : Dev Cert.Gwi2Ideal.nD → PrngReg), Pre_Gwi2Ideal m →
    θ_run (Cert.Gwi2Ideal.defs (F := Ideal)) (onTc (τ := Cert.Gwi2Ideal.τ) (Cert.Gwi2Ideal.main (F := Ideal))) ⟨m, fun _ => 0, g⟩ (fun r => (∀ c : Dev Cert.Gwi2Ideal.nD,
      r.2.mem ((c.tc : Thread Cert.Gwi2Ideal.nD Cert.Gwi2Ideal.τ).loc Cert.Gwi2Ideal.main_arg0) = m ((c.tc : Thread Cert.Gwi2Ideal.nD Cert.Gwi2Ideal.τ).loc Cert.Gwi2Ideal.main_arg0)
      ∧ r.2.mem ((c.tc : Thread Cert.Gwi2Ideal.nD Cert.Gwi2Ideal.τ).loc Cert.Gwi2Ideal.main_arg1) = m ((c.tc : Thread Cert.Gwi2Ideal.nD Cert.Gwi2Ideal.τ).loc Cert.Gwi2Ideal.main_arg1))
      ∧ r.2.sem = fun _ => 0)

def quiescent_Gwi2RefIdeal [hGwi2RefIdeal : Cert.Gwi2RefIdeal.Facts] : Prop :=
  ∀ (m : (ℓ : Loc Cert.Gwi2RefIdeal.nD Cert.Gwi2RefIdeal.τ Cert.Gwi2RefIdeal.sig) → Buf (Elt Ideal) ℓ) (g : Dev Cert.Gwi2RefIdeal.nD → PrngReg), Pre_Gwi2RefIdeal m →
    θ_run (Cert.Gwi2RefIdeal.defs (F := Ideal)) (onTc (τ := Cert.Gwi2RefIdeal.τ) (Cert.Gwi2RefIdeal.main (F := Ideal))) ⟨m, fun _ => 0, g⟩ (fun r => (∀ c : Dev Cert.Gwi2RefIdeal.nD,
      r.2.mem ((c.tc : Thread Cert.Gwi2RefIdeal.nD Cert.Gwi2RefIdeal.τ).loc Cert.Gwi2RefIdeal.main_arg0) = m ((c.tc : Thread Cert.Gwi2RefIdeal.nD Cert.Gwi2RefIdeal.τ).loc Cert.Gwi2RefIdeal.main_arg0)
      ∧ r.2.mem ((c.tc : Thread Cert.Gwi2RefIdeal.nD Cert.Gwi2RefIdeal.τ).loc Cert.Gwi2RefIdeal.main_arg1) = m ((c.tc : Thread Cert.Gwi2RefIdeal.nD Cert.Gwi2RefIdeal.τ).loc Cert.Gwi2RefIdeal.main_arg1))
      ∧ r.2.sem = fun _ => 0)

def quiescent_Gwo2 [hGwo2 : Cert.Gwo2.Facts] : Prop :=
  ∀ (m : (ℓ : Loc Cert.Gwo2.nD Cert.Gwo2.τ Cert.Gwo2.sig) → Buf (Elt Bits) ℓ) (g : Dev Cert.Gwo2.nD → PrngReg), Pre_Gwo2 m →
    θ_run (Cert.Gwo2.defs (F := Bits)) (onTc (τ := Cert.Gwo2.τ) (Cert.Gwo2.main (F := Bits))) ⟨m, fun _ => 0, g⟩ (fun r => (∀ c : Dev Cert.Gwo2.nD,
      r.2.mem ((c.tc : Thread Cert.Gwo2.nD Cert.Gwo2.τ).loc Cert.Gwo2.main_arg0) = m ((c.tc : Thread Cert.Gwo2.nD Cert.Gwo2.τ).loc Cert.Gwo2.main_arg0)
      ∧ r.2.mem ((c.tc : Thread Cert.Gwo2.nD Cert.Gwo2.τ).loc Cert.Gwo2.main_arg1) = m ((c.tc : Thread Cert.Gwo2.nD Cert.Gwo2.τ).loc Cert.Gwo2.main_arg1)
      ∧ r.2.mem ((c.tc : Thread Cert.Gwo2.nD Cert.Gwo2.τ).loc Cert.Gwo2.main_arg2) = m ((c.tc : Thread Cert.Gwo2.nD Cert.Gwo2.τ).loc Cert.Gwo2.main_arg2))
      ∧ r.2.sem = fun _ => 0)

def quiescent_Gwo2Ideal [hGwo2Ideal : Cert.Gwo2Ideal.Facts] : Prop :=
  ∀ (m : (ℓ : Loc Cert.Gwo2Ideal.nD Cert.Gwo2Ideal.τ Cert.Gwo2Ideal.sig) → Buf (Elt Ideal) ℓ) (g : Dev Cert.Gwo2Ideal.nD → PrngReg), Pre_Gwo2Ideal m →
    θ_run (Cert.Gwo2Ideal.defs (F := Ideal)) (onTc (τ := Cert.Gwo2Ideal.τ) (Cert.Gwo2Ideal.main (F := Ideal))) ⟨m, fun _ => 0, g⟩ (fun r => (∀ c : Dev Cert.Gwo2Ideal.nD,
      r.2.mem ((c.tc : Thread Cert.Gwo2Ideal.nD Cert.Gwo2Ideal.τ).loc Cert.Gwo2Ideal.main_arg0) = m ((c.tc : Thread Cert.Gwo2Ideal.nD Cert.Gwo2Ideal.τ).loc Cert.Gwo2Ideal.main_arg0)
      ∧ r.2.mem ((c.tc : Thread Cert.Gwo2Ideal.nD Cert.Gwo2Ideal.τ).loc Cert.Gwo2Ideal.main_arg1) = m ((c.tc : Thread Cert.Gwo2Ideal.nD Cert.Gwo2Ideal.τ).loc Cert.Gwo2Ideal.main_arg1)
      ∧ r.2.mem ((c.tc : Thread Cert.Gwo2Ideal.nD Cert.Gwo2Ideal.τ).loc Cert.Gwo2Ideal.main_arg2) = m ((c.tc : Thread Cert.Gwo2Ideal.nD Cert.Gwo2Ideal.τ).loc Cert.Gwo2Ideal.main_arg2))
      ∧ r.2.sem = fun _ => 0)

def quiescent_Gwo2RefIdeal [hGwo2RefIdeal : Cert.Gwo2RefIdeal.Facts] : Prop :=
  ∀ (m : (ℓ : Loc Cert.Gwo2RefIdeal.nD Cert.Gwo2RefIdeal.τ Cert.Gwo2RefIdeal.sig) → Buf (Elt Ideal) ℓ) (g : Dev Cert.Gwo2RefIdeal.nD → PrngReg), Pre_Gwo2RefIdeal m →
    θ_run (Cert.Gwo2RefIdeal.defs (F := Ideal)) (onTc (τ := Cert.Gwo2RefIdeal.τ) (Cert.Gwo2RefIdeal.main (F := Ideal))) ⟨m, fun _ => 0, g⟩ (fun r => (∀ c : Dev Cert.Gwo2RefIdeal.nD,
      r.2.mem ((c.tc : Thread Cert.Gwo2RefIdeal.nD Cert.Gwo2RefIdeal.τ).loc Cert.Gwo2RefIdeal.main_arg0) = m ((c.tc : Thread Cert.Gwo2RefIdeal.nD Cert.Gwo2RefIdeal.τ).loc Cert.Gwo2RefIdeal.main_arg0)
      ∧ r.2.mem ((c.tc : Thread Cert.Gwo2RefIdeal.nD Cert.Gwo2RefIdeal.τ).loc Cert.Gwo2RefIdeal.main_arg1) = m ((c.tc : Thread Cert.Gwo2RefIdeal.nD Cert.Gwo2RefIdeal.τ).loc Cert.Gwo2RefIdeal.main_arg1)
      ∧ r.2.mem ((c.tc : Thread Cert.Gwo2RefIdeal.nD Cert.Gwo2RefIdeal.τ).loc Cert.Gwo2RefIdeal.main_arg2) = m ((c.tc : Thread Cert.Gwo2RefIdeal.nD Cert.Gwo2RefIdeal.τ).loc Cert.Gwo2RefIdeal.main_arg2))
      ∧ r.2.sem = fun _ => 0)

def quiescent_DhIn [hDhIn : Cert.DhIn.Facts] : Prop :=
  ∀ (m : (ℓ : Loc Cert.DhIn.nD Cert.DhIn.τ Cert.DhIn.sig) → Buf (Elt Bits) ℓ) (g : Dev Cert.DhIn.nD → PrngReg), Pre_DhIn m →
    θ_run (Cert.DhIn.defs (F := Bits)) (onTc (τ := Cert.DhIn.τ) (Cert.DhIn.main (F := Bits))) ⟨m, fun _ => 0, g⟩ (fun r => (∀ c : Dev Cert.DhIn.nD,
      r.2.mem ((c.tc : Thread Cert.DhIn.nD Cert.DhIn.τ).loc Cert.DhIn.main_arg0) = m ((c.tc : Thread Cert.DhIn.nD Cert.DhIn.τ).loc Cert.DhIn.main_arg0)
      ∧ r.2.mem ((c.tc : Thread Cert.DhIn.nD Cert.DhIn.τ).loc Cert.DhIn.main_arg1) = m ((c.tc : Thread Cert.DhIn.nD Cert.DhIn.τ).loc Cert.DhIn.main_arg1))
      ∧ r.2.sem = fun _ => 0)

def quiescent_DhInIdeal [hDhInIdeal : Cert.DhInIdeal.Facts] : Prop :=
  ∀ (m : (ℓ : Loc Cert.DhInIdeal.nD Cert.DhInIdeal.τ Cert.DhInIdeal.sig) → Buf (Elt Ideal) ℓ) (g : Dev Cert.DhInIdeal.nD → PrngReg), Pre_DhInIdeal m →
    θ_run (Cert.DhInIdeal.defs (F := Ideal)) (onTc (τ := Cert.DhInIdeal.τ) (Cert.DhInIdeal.main (F := Ideal))) ⟨m, fun _ => 0, g⟩ (fun r => (∀ c : Dev Cert.DhInIdeal.nD,
      r.2.mem ((c.tc : Thread Cert.DhInIdeal.nD Cert.DhInIdeal.τ).loc Cert.DhInIdeal.main_arg0) = m ((c.tc : Thread Cert.DhInIdeal.nD Cert.DhInIdeal.τ).loc Cert.DhInIdeal.main_arg0)
      ∧ r.2.mem ((c.tc : Thread Cert.DhInIdeal.nD Cert.DhInIdeal.τ).loc Cert.DhInIdeal.main_arg1) = m ((c.tc : Thread Cert.DhInIdeal.nD Cert.DhInIdeal.τ).loc Cert.DhInIdeal.main_arg1))
      ∧ r.2.sem = fun _ => 0)

def quiescent_DhInRefIdeal [hDhInRefIdeal : Cert.DhInRefIdeal.Facts] : Prop :=
  ∀ (m : (ℓ : Loc Cert.DhInRefIdeal.nD Cert.DhInRefIdeal.τ Cert.DhInRefIdeal.sig) → Buf (Elt Ideal) ℓ) (g : Dev Cert.DhInRefIdeal.nD → PrngReg), Pre_DhInRefIdeal m →
    θ_run (Cert.DhInRefIdeal.defs (F := Ideal)) (onTc (τ := Cert.DhInRefIdeal.τ) (Cert.DhInRefIdeal.main (F := Ideal))) ⟨m, fun _ => 0, g⟩ (fun r => (∀ c : Dev Cert.DhInRefIdeal.nD,
      r.2.mem ((c.tc : Thread Cert.DhInRefIdeal.nD Cert.DhInRefIdeal.τ).loc Cert.DhInRefIdeal.main_arg0) = m ((c.tc : Thread Cert.DhInRefIdeal.nD Cert.DhInRefIdeal.τ).loc Cert.DhInRefIdeal.main_arg0)
      ∧ r.2.mem ((c.tc : Thread Cert.DhInRefIdeal.nD Cert.DhInRefIdeal.τ).loc Cert.DhInRefIdeal.main_arg1) = m ((c.tc : Thread Cert.DhInRefIdeal.nD Cert.DhInRefIdeal.τ).loc Cert.DhInRefIdeal.main_arg1))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ r.2.sem = fun _ => 0)

def quiescent_GwInRefIdeal [hGwInRefIdeal : Cert.GwInRefIdeal.Facts] : Prop :=
  ∀ (m : (ℓ : Loc Cert.GwInRefIdeal.nD Cert.GwInRefIdeal.τ Cert.GwInRefIdeal.sig) → Buf (Elt Ideal) ℓ) (g : Dev Cert.GwInRefIdeal.nD → PrngReg), Pre_GwInRefIdeal m →
    θ_run (Cert.GwInRefIdeal.defs (F := Ideal)) (onTc (τ := Cert.GwInRefIdeal.τ) (Cert.GwInRefIdeal.main (F := Ideal))) ⟨m, fun _ => 0, g⟩ (fun r => (∀ c : Dev Cert.GwInRefIdeal.nD,
      r.2.mem ((c.tc : Thread Cert.GwInRefIdeal.nD Cert.GwInRefIdeal.τ).loc Cert.GwInRefIdeal.main_arg0) = m ((c.tc : Thread Cert.GwInRefIdeal.nD Cert.GwInRefIdeal.τ).loc Cert.GwInRefIdeal.main_arg0)
      ∧ r.2.mem ((c.tc : Thread Cert.GwInRefIdeal.nD Cert.GwInRefIdeal.τ).loc Cert.GwInRefIdeal.main_arg1) = m ((c.tc : Thread Cert.GwInRefIdeal.nD Cert.GwInRefIdeal.τ).loc Cert.GwInRefIdeal.main_arg1))
      ∧ r.2.sem = fun _ => 0)

def quiescent_DMix [hDMix : Cert.DMix.Facts] : Prop :=
  ∀ (m : (ℓ : Loc Cert.DMix.nD Cert.DMix.τ Cert.DMix.sig) → Buf (Elt Bits) ℓ) (g : Dev Cert.DMix.nD → PrngReg), Pre_DMix m →
    θ_run (Cert.DMix.defs (F := Bits)) (onTc (τ := Cert.DMix.τ) (Cert.DMix.main (F := Bits))) ⟨m, fun _ => 0, g⟩ (fun r => (∀ c : Dev Cert.DMix.nD,
      r.2.mem ((c.tc : Thread Cert.DMix.nD Cert.DMix.τ).loc Cert.DMix.main_arg0) = m ((c.tc : Thread Cert.DMix.nD Cert.DMix.τ).loc Cert.DMix.main_arg0)
      ∧ r.2.mem ((c.tc : Thread Cert.DMix.nD Cert.DMix.τ).loc Cert.DMix.main_arg1) = m ((c.tc : Thread Cert.DMix.nD Cert.DMix.τ).loc Cert.DMix.main_arg1))
      ∧ r.2.sem = fun _ => 0)

def quiescent_DMixIdeal [hDMixIdeal : Cert.DMixIdeal.Facts] : Prop :=
  ∀ (m : (ℓ : Loc Cert.DMixIdeal.nD Cert.DMixIdeal.τ Cert.DMixIdeal.sig) → Buf (Elt Ideal) ℓ) (g : Dev Cert.DMixIdeal.nD → PrngReg), Pre_DMixIdeal m →
    θ_run (Cert.DMixIdeal.defs (F := Ideal)) (onTc (τ := Cert.DMixIdeal.τ) (Cert.DMixIdeal.main (F := Ideal))) ⟨m, fun _ => 0, g⟩ (fun r => (∀ c : Dev Cert.DMixIdeal.nD,
      r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
      ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ r.2.sem = fun _ => 0)

def quiescent_DMixRefIdeal [hDMixRefIdeal : Cert.DMixRefIdeal.Facts] : Prop :=
  ∀ (m : (ℓ : Loc Cert.DMixRefIdeal.nD Cert.DMixRefIdeal.τ Cert.DMixRefIdeal.sig) → Buf (Elt Ideal) ℓ) (g : Dev Cert.DMixRefIdeal.nD → PrngReg), Pre_DMixRefIdeal m →
    θ_run (Cert.DMixRefIdeal.defs (F := Ideal)) (onTc (τ := Cert.DMixRefIdeal.τ) (Cert.DMixRefIdeal.main (F := Ideal))) ⟨m, fun _ => 0, g⟩ (fun r => (∀ c : Dev Cert.DMixRefIdeal.nD,
      r.2.mem ((c.tc : Thread Cert.DMixRefIdeal.nD Cert.DMixRefIdeal.τ).loc Cert.DMixRefIdeal.main_arg0) = m ((c.tc : Thread Cert.DMixRefIdeal.nD Cert.DMixRefIdeal.τ).loc Cert.DMixRefIdeal.main_arg0)
      ∧ r.2.mem ((c.tc : Thread Cert.DMixRefIdeal.nD Cert.DMixRefIdeal.τ).loc Cert.DMixRefIdeal.main_arg1) = m ((c.tc : Thread Cert.DMixRefIdeal.nD Cert.DMixRefIdeal.τ).loc Cert.DMixRefIdeal.main_arg1))
      ∧ r.2.sem = fun _ => 0)

def quiescent_GwMix [hGwMix : Cert.GwMix.Facts] : Prop :=
  ∀ (m : (ℓ : Loc Cert.GwMix.nD Cert.GwMix.τ Cert.GwMix.sig) → Buf (Elt Bits) ℓ) (g : Dev Cert.GwMix.nD → PrngReg), Pre_GwMix m →
    θ_run (Cert.GwMix.defs (F := Bits)) (onTc (τ := Cert.GwMix.τ) (Cert.GwMix.main (F := Bits))) ⟨m, fun _ => 0, g⟩ (fun r => (∀ c : Dev Cert.GwMix.nD,
      r.2.mem ((c.tc : Thread Cert.GwMix.nD Cert.GwMix.τ).loc Cert.GwMix.main_arg0) = m ((c.tc : Thread Cert.GwMix.nD Cert.GwMix.τ).loc Cert.GwMix.main_arg0)
      ∧ r.2.mem ((c.tc : Thread Cert.GwMix.nD Cert.GwMix.τ).loc Cert.GwMix.main_arg1) = m ((c.tc : Thread Cert.GwMix.nD Cert.GwMix.τ).loc Cert.GwMix.main_arg1))
      ∧ r.2.sem = fun _ => 0)

def quiescent_GwMixIdeal [hGwMixIdeal : Cert.GwMixIdeal.Facts] : Prop :=
  ∀ (m : (ℓ : Loc Cert.GwMixIdeal.nD Cert.GwMixIdeal.τ Cert.GwMixIdeal.sig) → Buf (Elt Ideal) ℓ) (g : Dev Cert.GwMixIdeal.nD → PrngReg), Pre_GwMixIdeal m →
    θ_run (Cert.GwMixIdeal.defs (F := Ideal)) (onTc (τ := Cert.GwMixIdeal.τ) (Cert.GwMixIdeal.main (F := Ideal))) ⟨m, fun _ => 0, g⟩ (fun r => (∀ c : Dev Cert.GwMixIdeal.nD,
      r.2.mem ((c.tc : Thread Cert.GwMixIdeal.nD Cert.GwMixIdeal.τ).loc Cert.GwMixIdeal.main_arg0) = m ((c.tc : Thread Cert.GwMixIdeal.nD Cert.GwMixIdeal.τ).loc Cert.GwMixIdeal.main_arg0)
      ∧ r.2.mem ((c.tc : Thread Cert.GwMixIdeal.nD Cert.GwMixIdeal.τ).loc Cert.GwMixIdeal.main_arg1) = m ((c.tc : Thread Cert.GwMixIdeal.nD Cert.GwMixIdeal.τ).loc Cert.GwMixIdeal.main_arg1))
      ∧ r.2.sem = fun _ => 0)

def quiescent_GwMixRefIdeal [hGwMixRefIdeal : Cert.GwMixRefIdeal.Facts] : Prop :=
  ∀ (m : (ℓ : Loc Cert.GwMixRefIdeal.nD Cert.GwMixRefIdeal.τ Cert.GwMixRefIdeal.sig) → Buf (Elt Ideal) ℓ) (g : Dev Cert.GwMixRefIdeal.nD → PrngReg), Pre_GwMixRefIdeal m →
    θ_run (Cert.GwMixRefIdeal.defs (F := Ideal)) (onTc (τ := Cert.GwMixRefIdeal.τ) (Cert.GwMixRefIdeal.main (F := Ideal))) ⟨m, fun _ => 0, g⟩ (fun r => (∀ c : Dev Cert.GwMixRefIdeal.nD,
      r.2.mem ((c.tc : Thread Cert.GwMixRefIdeal.nD Cert.GwMixRefIdeal.τ).loc Cert.GwMixRefIdeal.main_arg0) = m ((c.tc : Thread Cert.GwMixRefIdeal.nD Cert.GwMixRefIdeal.τ).loc Cert.GwMixRefIdeal.main_arg0)
      ∧ r.2.mem ((c.tc : Thread Cert.GwMixRefIdeal.nD Cert.GwMixRefIdeal.τ).loc Cert.GwMixRefIdeal.main_arg1) = m ((c.tc : Thread Cert.GwMixRefIdeal.nD Cert.GwMixRefIdeal.τ).loc Cert.GwMixRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Down2 [hDown2 : Cert.Down2.Facts] : Prop :=
  ∀ (m : (ℓ : Loc Cert.Down2.nD Cert.Down2.τ Cert.Down2.sig) → Buf (Elt Bits) ℓ) (g : Dev Cert.Down2.nD → PrngReg), Pre_Down2 m →
    θ_run (Cert.Down2.defs (F := Bits)) (onTc (τ := Cert.Down2.τ) (Cert.Down2.main (F := Bits))) ⟨m, fun _ => 0, g⟩ (fun r => (∀ c : Dev Cert.Down2.nD,
      r.2.mem ((c.tc : Thread Cert.Down2.nD Cert.Down2.τ).loc Cert.Down2.main_arg0) = m ((c.tc : Thread Cert.Down2.nD Cert.Down2.τ).loc Cert.Down2.main_arg0)
      ∧ r.2.mem ((c.tc : Thread Cert.Down2.nD Cert.Down2.τ).loc Cert.Down2.main_arg1) = m ((c.tc : Thread Cert.Down2.nD Cert.Down2.τ).loc Cert.Down2.main_arg1))
      ∧ r.2.sem = fun _ => 0)

def quiescent_Down2Ideal [hDown2Ideal : Cert.Down2Ideal.Facts] : Prop :=
  ∀ (m : (ℓ : Loc Cert.Down2Ideal.nD Cert.Down2Ideal.τ Cert.Down2Ideal.sig) → Buf (Elt Ideal) ℓ) (g : Dev Cert.Down2Ideal.nD → PrngReg), Pre_Down2Ideal m →
    θ_run (Cert.Down2Ideal.defs (F := Ideal)) (onTc (τ := Cert.Down2Ideal.τ) (Cert.Down2Ideal.main (F := Ideal))) ⟨m, fun _ => 0, g⟩ (fun r => (∀ c : Dev Cert.Down2Ideal.nD,
      r.2.mem ((c.tc : Thread Cert.Down2Ideal.nD Cert.Down2Ideal.τ).loc Cert.Down2Ideal.main_arg0) = m ((c.tc : Thread Cert.Down2Ideal.nD Cert.Down2Ideal.τ).loc Cert.Down2Ideal.main_arg0)
      ∧ r.2.mem ((c.tc : Thread Cert.Down2Ideal.nD Cert.Down2Ideal.τ).loc Cert.Down2Ideal.main_arg1) = m ((c.tc : Thread Cert.Down2Ideal.nD Cert.Down2Ideal.τ).loc Cert.Down2Ideal.main_arg1))
      ∧ r.2.sem = fun _ => 0)

def quiescent_Down2RefIdeal [hDown2RefIdeal : Cert.Down2RefIdeal.Facts] : Prop :=
  ∀ (m : (ℓ : Loc Cert.Down2RefIdeal.nD Cert.Down2RefIdeal.τ Cert.Down2RefIdeal.sig) → Buf (Elt Ideal) ℓ) (g : Dev Cert.Down2RefIdeal.nD → PrngReg), Pre_Down2RefIdeal m →
    θ_run (Cert.Down2RefIdeal.defs (F := Ideal)) (onTc (τ := Cert.Down2RefIdeal.τ) (Cert.Down2RefIdeal.main (F := Ideal))) ⟨m, fun _ => 0, g⟩ (fun r => (∀ c : Dev Cert.Down2RefIdeal.nD,
      r.2.mem ((c.tc : Thread Cert.Down2RefIdeal.nD Cert.Down2RefIdeal.τ).loc Cert.Down2RefIdeal.main_arg0) = m ((c.tc : Thread Cert.Down2RefIdeal.nD Cert.Down2RefIdeal.τ).loc Cert.Down2RefIdeal.main_arg0)
      ∧ r.2.mem ((c.tc : Thread Cert.Down2RefIdeal.nD Cert.Down2RefIdeal.τ).loc Cert.Down2RefIdeal.main_arg1) = m ((c.tc : Thread Cert.Down2RefIdeal.nD Cert.Down2RefIdeal.τ).loc Cert.Down2RefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Up2 [hUp2 : Cert.Up2.Facts] : Prop :=
  ∀ (m : (ℓ : Loc Cert.Up2.nD Cert.Up2.τ Cert.Up2.sig) → Buf (Elt Bits) ℓ) (g : Dev Cert.Up2.nD → PrngReg), Pre_Up2 m →
    θ_run (Cert.Up2.defs (F := Bits)) (onTc (τ := Cert.Up2.τ) (Cert.Up2.main (F := Bits))) ⟨m, fun _ => 0, g⟩ (fun r => (∀ c : Dev Cert.Up2.nD,
      r.2.mem ((c.tc : Thread Cert.Up2.nD Cert.Up2.τ).loc Cert.Up2.main_arg0) = m ((c.tc : Thread Cert.Up2.nD Cert.Up2.τ).loc Cert.Up2.main_arg0)
      ∧ r.2.mem ((c.tc : Thread Cert.Up2.nD Cert.Up2.τ).loc Cert.Up2.main_arg1) = m ((c.tc : Thread Cert.Up2.nD Cert.Up2.τ).loc Cert.Up2.main_arg1))
      ∧ r.2.sem = fun _ => 0)

def quiescent_Up2Ideal [hUp2Ideal : Cert.Up2Ideal.Facts] : Prop :=
  ∀ (m : (ℓ : Loc Cert.Up2Ideal.nD Cert.Up2Ideal.τ Cert.Up2Ideal.sig) → Buf (Elt Ideal) ℓ) (g : Dev Cert.Up2Ideal.nD → PrngReg), Pre_Up2Ideal m →
    θ_run (Cert.Up2Ideal.defs (F := Ideal)) (onTc (τ := Cert.Up2Ideal.τ) (Cert.Up2Ideal.main (F := Ideal))) ⟨m, fun _ => 0, g⟩ (fun r => (∀ c : Dev Cert.Up2Ideal.nD,
      r.2.mem ((c.tc : Thread Cert.Up2Ideal.nD Cert.Up2Ideal.τ).loc Cert.Up2Ideal.main_arg0) = m ((c.tc : Thread Cert.Up2Ideal.nD Cert.Up2Ideal.τ).loc Cert.Up2Ideal.main_arg0)
      ∧ r.2.mem ((c.tc : Thread Cert.Up2Ideal.nD Cert.Up2Ideal.τ).loc Cert.Up2Ideal.main_arg1) = m ((c.tc : Thread Cert.Up2Ideal.nD Cert.Up2Ideal.τ).loc Cert.Up2Ideal.main_arg1))
      ∧ r.2.sem = fun _ => 0)

def quiescent_Up2RefIdeal [hUp2RefIdeal : Cert.Up2RefIdeal.Facts] : Prop :=
  ∀ (m : (ℓ : Loc Cert.Up2RefIdeal.nD Cert.Up2RefIdeal.τ Cert.Up2RefIdeal.sig) → Buf (Elt Ideal) ℓ) (g : Dev Cert.Up2RefIdeal.nD → PrngReg), Pre_Up2RefIdeal m →
    θ_run (Cert.Up2RefIdeal.defs (F := Ideal)) (onTc (τ := Cert.Up2RefIdeal.τ) (Cert.Up2RefIdeal.main (F := Ideal))) ⟨m, fun _ => 0, g⟩ (fun r => (∀ c : Dev Cert.Up2RefIdeal.nD,
      r.2.mem ((c.tc : Thread Cert.Up2RefIdeal.nD Cert.Up2RefIdeal.τ).loc Cert.Up2RefIdeal.main_arg0) = m ((c.tc : Thread Cert.Up2RefIdeal.nD Cert.Up2RefIdeal.τ).loc Cert.Up2RefIdeal.main_arg0)
      ∧ r.2.mem ((c.tc : Thread Cert.Up2RefIdeal.nD Cert.Up2RefIdeal.τ).loc Cert.Up2RefIdeal.main_arg1) = m ((c.tc : Thread Cert.Up2RefIdeal.nD Cert.Up2RefIdeal.τ).loc Cert.Up2RefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite4 [hAttnIdeal : Cert.AttnIdeal.Facts] [hPre_finite4 : Cert.Pre_finite4.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite4 m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_finite4 [hAttnRefIdeal : Cert.AttnRefIdeal.Facts] [hPre_finite4 : Cert.Pre_finite4.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite4 m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Gate_GateIdeal : Prop :=
  True

def algebraic_GateIdeal_GateRefIdeal_pre_finite2 [hGateIdeal : Cert.GateIdeal.Facts] [hGateRefIdeal : Cert.GateRefIdeal.Facts] [hPre_finite2 : Cert.Pre_finite2.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite2 m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v8)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v8) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v17) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v11) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_Gwi_GwiIdeal : Prop :=
  True

def algebraic_GwiIdeal_GwiRefIdeal [hGwiIdeal : Cert.GwiIdeal.Facts] [hGwiRefIdeal : Cert.GwiRefIdeal.Facts] : Prop :=
  ∀ (m : (ℓ : Loc Cert.GwiIdeal.nD Cert.GwiIdeal.τ Cert.GwiIdeal.sig) → Buf (Elt Ideal) ℓ) (g : Dev Cert.GwiIdeal.nD → PrngReg)
    (m' : (ℓ : Loc Cert.GwiRefIdeal.nD Cert.GwiRefIdeal.τ Cert.GwiRefIdeal.sig) → Buf (Elt Ideal) ℓ) (g' : Dev Cert.GwiRefIdeal.nD → PrngReg), Pre_GwiIdeal m →
    (∀ c : Dev Cert.GwiIdeal.nD,
      m' ((c.tc : Thread Cert.GwiRefIdeal.nD Cert.GwiRefIdeal.τ).loc Cert.GwiRefIdeal.main_arg0) = m ((c.tc : Thread Cert.GwiIdeal.nD Cert.GwiIdeal.τ).loc Cert.GwiIdeal.main_arg0)
      ∧ m' ((c.tc : Thread Cert.GwiRefIdeal.nD Cert.GwiRefIdeal.τ).loc Cert.GwiRefIdeal.main_arg1) = m ((c.tc : Thread Cert.GwiIdeal.nD Cert.GwiIdeal.τ).loc Cert.GwiIdeal.main_arg1)) →
    ∃ (v0 : (c : Dev Cert.GwiIdeal.nD) → Buf (Elt Ideal) ((c.tc : Thread Cert.GwiIdeal.nD Cert.GwiIdeal.τ).loc Cert.GwiIdeal.main_v0)),
      θ_run (Cert.GwiIdeal.defs (F := Ideal)) (onTc (τ := Cert.GwiIdeal.τ) (Cert.GwiIdeal.main (F := Ideal))) ⟨m, fun _ => 0, g⟩ (fun r => ∀ c : Dev Cert.GwiIdeal.nD,
          r.2.mem ((c.tc : Thread Cert.GwiIdeal.nD Cert.GwiIdeal.τ).loc Cert.GwiIdeal.main_v0) = v0 c
          ∧ r.2.mem ((c.tc : Thread Cert.GwiIdeal.nD Cert.GwiIdeal.τ).loc Cert.GwiIdeal.main_arg0) = m ((c.tc : Thread Cert.GwiIdeal.nD Cert.GwiIdeal.τ).loc Cert.GwiIdeal.main_arg0)
          ∧ r.2.mem ((c.tc : Thread Cert.GwiIdeal.nD Cert.GwiIdeal.τ).loc Cert.GwiIdeal.main_arg1) = m ((c.tc : Thread Cert.GwiIdeal.nD Cert.GwiIdeal.τ).loc Cert.GwiIdeal.main_arg1))
      ∧ θ_run (Cert.GwiRefIdeal.defs (F := Ideal)) (onTc (τ := Cert.GwiRefIdeal.τ) (Cert.GwiRefIdeal.main (F := Ideal))) ⟨m', fun _ => 0, g'⟩ (fun r => ∀ c : Dev Cert.GwiRefIdeal.nD,
          r.2.mem ((c.tc : Thread Cert.GwiRefIdeal.nD Cert.GwiRefIdeal.τ).loc Cert.GwiRefIdeal.main_v13) = v0 c
          ∧ r.2.mem ((c.tc : Thread Cert.GwiRefIdeal.nD Cert.GwiRefIdeal.τ).loc Cert.GwiRefIdeal.main_arg0) = m' ((c.tc : Thread Cert.GwiRefIdeal.nD Cert.GwiRefIdeal.τ).loc Cert.GwiRefIdeal.main_arg0)
          ∧ r.2.mem ((c.tc : Thread Cert.GwiRefIdeal.nD Cert.GwiRefIdeal.τ).loc Cert.GwiRefIdeal.main_arg1) = m' ((c.tc : Thread Cert.GwiRefIdeal.nD Cert.GwiRefIdeal.τ).loc Cert.GwiRefIdeal.main_arg1))

def preserves_Gwo_GwoIdeal : Prop :=
  True

def algebraic_GwoIdeal_GwoRefIdeal [hGwoIdeal : Cert.GwoIdeal.Facts] [hGwoRefIdeal : Cert.GwoRefIdeal.Facts] : Prop :=
  ∀ (m : (ℓ : Loc Cert.GwoIdeal.nD Cert.GwoIdeal.τ Cert.GwoIdeal.sig) → Buf (Elt Ideal) ℓ) (g : Dev Cert.GwoIdeal.nD → PrngReg)
    (m' : (ℓ : Loc Cert.GwoRefIdeal.nD Cert.GwoRefIdeal.τ Cert.GwoRefIdeal.sig) → Buf (Elt Ideal) ℓ) (g' : Dev Cert.GwoRefIdeal.nD → PrngReg), Pre_GwoIdeal m →
    (∀ c : Dev Cert.GwoIdeal.nD,
      m' ((c.tc : Thread Cert.GwoRefIdeal.nD Cert.GwoRefIdeal.τ).loc Cert.GwoRefIdeal.main_arg0) = m ((c.tc : Thread Cert.GwoIdeal.nD Cert.GwoIdeal.τ).loc Cert.GwoIdeal.main_arg0)
      ∧ m' ((c.tc : Thread Cert.GwoRefIdeal.nD Cert.GwoRefIdeal.τ).loc Cert.GwoRefIdeal.main_arg1) = m ((c.tc : Thread Cert.GwoIdeal.nD Cert.GwoIdeal.τ).loc Cert.GwoIdeal.main_arg1)
      ∧ m' ((c.tc : Thread Cert.GwoRefIdeal.nD Cert.GwoRefIdeal.τ).loc Cert.GwoRefIdeal.main_arg2) = m ((c.tc : Thread Cert.GwoIdeal.nD Cert.GwoIdeal.τ).loc Cert.GwoIdeal.main_arg2)) →
    ∃ (v0 : (c : Dev Cert.GwoIdeal.nD) → Buf (Elt Ideal) ((c.tc : Thread Cert.GwoIdeal.nD Cert.GwoIdeal.τ).loc Cert.GwoIdeal.main_v8)),
      θ_run (Cert.GwoIdeal.defs (F := Ideal)) (onTc (τ := Cert.GwoIdeal.τ) (Cert.GwoIdeal.main (F := Ideal))) ⟨m, fun _ => 0, g⟩ (fun r => ∀ c : Dev Cert.GwoIdeal.nD,
          r.2.mem ((c.tc : Thread Cert.GwoIdeal.nD Cert.GwoIdeal.τ).loc Cert.GwoIdeal.main_v8) = v0 c
          ∧ r.2.mem ((c.tc : Thread Cert.GwoIdeal.nD Cert.GwoIdeal.τ).loc Cert.GwoIdeal.main_arg0) = m ((c.tc : Thread Cert.GwoIdeal.nD Cert.GwoIdeal.τ).loc Cert.GwoIdeal.main_arg0)
          ∧ r.2.mem ((c.tc : Thread Cert.GwoIdeal.nD Cert.GwoIdeal.τ).loc Cert.GwoIdeal.main_arg1) = m ((c.tc : Thread Cert.GwoIdeal.nD Cert.GwoIdeal.τ).loc Cert.GwoIdeal.main_arg1)
          ∧ r.2.mem ((c.tc : Thread Cert.GwoIdeal.nD Cert.GwoIdeal.τ).loc Cert.GwoIdeal.main_arg2) = m ((c.tc : Thread Cert.GwoIdeal.nD Cert.GwoIdeal.τ).loc Cert.GwoIdeal.main_arg2))
      ∧ θ_run (Cert.GwoRefIdeal.defs (F := Ideal)) (onTc (τ := Cert.GwoRefIdeal.τ) (Cert.GwoRefIdeal.main (F := Ideal))) ⟨m', fun _ => 0, g'⟩ (fun r => ∀ c : Dev Cert.GwoRefIdeal.nD,
          r.2.mem ((c.tc : Thread Cert.GwoRefIdeal.nD Cert.GwoRefIdeal.τ).loc Cert.GwoRefIdeal.main_v12) = v0 c
          ∧ r.2.mem ((c.tc : Thread Cert.GwoRefIdeal.nD Cert.GwoRefIdeal.τ).loc Cert.GwoRefIdeal.main_arg0) = m' ((c.tc : Thread Cert.GwoRefIdeal.nD Cert.GwoRefIdeal.τ).loc Cert.GwoRefIdeal.main_arg0)
          ∧ r.2.mem ((c.tc : Thread Cert.GwoRefIdeal.nD Cert.GwoRefIdeal.τ).loc Cert.GwoRefIdeal.main_arg1) = m' ((c.tc : Thread Cert.GwoRefIdeal.nD Cert.GwoRefIdeal.τ).loc Cert.GwoRefIdeal.main_arg1)
          ∧ r.2.mem ((c.tc : Thread Cert.GwoRefIdeal.nD Cert.GwoRefIdeal.τ).loc Cert.GwoRefIdeal.main_arg2) = m' ((c.tc : Thread Cert.GwoRefIdeal.nD Cert.GwoRefIdeal.τ).loc Cert.GwoRefIdeal.main_arg2))

def preserves_Gate2_Gate2Ideal : Prop :=
  True

def algebraic_Gate2Ideal_Gate2RefIdeal_pre_finite3 [hGate2Ideal : Cert.Gate2Ideal.Facts] [hGate2RefIdeal : Cert.Gate2RefIdeal.Facts] [hPre_finite3 : Cert.Pre_finite3.Facts] : Prop :=
  ∀ (m : (ℓ : Loc Cert.Gate2Ideal.nD Cert.Gate2Ideal.τ Cert.Gate2Ideal.sig) → Buf (Elt Ideal) ℓ) (g : Dev Cert.Gate2Ideal.nD → PrngReg)
    (m' : (ℓ : Loc Cert.Gate2RefIdeal.nD Cert.Gate2RefIdeal.τ Cert.Gate2RefIdeal.sig) → Buf (Elt Ideal) ℓ) (g' : Dev Cert.Gate2RefIdeal.nD → PrngReg), Pre_Gate2Ideal_finite3 m →
    (∀ c : Dev Cert.Gate2Ideal.nD,
      m' ((c.tc : Thread Cert.Gate2RefIdeal.nD Cert.Gate2RefIdeal.τ).loc Cert.Gate2RefIdeal.main_arg0) = m ((c.tc : Thread Cert.Gate2Ideal.nD Cert.Gate2Ideal.τ).loc Cert.Gate2Ideal.main_arg0)
      ∧ m' ((c.tc : Thread Cert.Gate2RefIdeal.nD Cert.Gate2RefIdeal.τ).loc Cert.Gate2RefIdeal.main_arg1) = m ((c.tc : Thread Cert.Gate2Ideal.nD Cert.Gate2Ideal.τ).loc Cert.Gate2Ideal.main_arg1)
      ∧ m' ((c.tc : Thread Cert.Gate2RefIdeal.nD Cert.Gate2RefIdeal.τ).loc Cert.Gate2RefIdeal.main_arg2) = m ((c.tc : Thread Cert.Gate2Ideal.nD Cert.Gate2Ideal.τ).loc Cert.Gate2Ideal.main_arg2)
      ∧ m' ((c.tc : Thread Cert.Gate2RefIdeal.nD Cert.Gate2RefIdeal.τ).loc Cert.Gate2RefIdeal.main_arg3) = m ((c.tc : Thread Cert.Gate2Ideal.nD Cert.Gate2Ideal.τ).loc Cert.Gate2Ideal.main_arg3)) →
    ∃ (v0 : (c : Dev Cert.Gate2Ideal.nD) → Buf (Elt Ideal) ((c.tc : Thread Cert.Gate2Ideal.nD Cert.Gate2Ideal.τ).loc Cert.Gate2Ideal.main_v8)),
      θ_run (Cert.Gate2Ideal.defs (F := Ideal)) (onTc (τ := Cert.Gate2Ideal.τ) (Cert.Gate2Ideal.main (F := Ideal))) ⟨m, fun _ => 0, g⟩ (fun r => ∀ c : Dev Cert.Gate2Ideal.nD,
          r.2.mem ((c.tc : Thread Cert.Gate2Ideal.nD Cert.Gate2Ideal.τ).loc Cert.Gate2Ideal.main_v8) = v0 c
          ∧ r.2.mem ((c.tc : Thread Cert.Gate2Ideal.nD Cert.Gate2Ideal.τ).loc Cert.Gate2Ideal.main_arg0) = m ((c.tc : Thread Cert.Gate2Ideal.nD Cert.Gate2Ideal.τ).loc Cert.Gate2Ideal.main_arg0)
          ∧ r.2.mem ((c.tc : Thread Cert.Gate2Ideal.nD Cert.Gate2Ideal.τ).loc Cert.Gate2Ideal.main_arg1) = m ((c.tc : Thread Cert.Gate2Ideal.nD Cert.Gate2Ideal.τ).loc Cert.Gate2Ideal.main_arg1)
          ∧ r.2.mem ((c.tc : Thread Cert.Gate2Ideal.nD Cert.Gate2Ideal.τ).loc Cert.Gate2Ideal.main_arg2) = m ((c.tc : Thread Cert.Gate2Ideal.nD Cert.Gate2Ideal.τ).loc Cert.Gate2Ideal.main_arg2)
          ∧ r.2.mem ((c.tc : Thread Cert.Gate2Ideal.nD Cert.Gate2Ideal.τ).loc Cert.Gate2Ideal.main_arg3) = m ((c.tc : Thread Cert.Gate2Ideal.nD Cert.Gate2Ideal.τ).loc Cert.Gate2Ideal.main_arg3))
      ∧ θ_run (Cert.Gate2RefIdeal.defs (F := Ideal)) (onTc (τ := Cert.Gate2RefIdeal.τ) (Cert.Gate2RefIdeal.main (F := Ideal))) ⟨m', fun _ => 0, g'⟩ (fun r => ∀ c : Dev Cert.Gate2RefIdeal.nD,
          r.2.mem ((c.tc : Thread Cert.Gate2RefIdeal.nD Cert.Gate2RefIdeal.τ).loc Cert.Gate2RefIdeal.main_v17) = v0 c
          ∧ r.2.mem ((c.tc : Thread Cert.Gate2RefIdeal.nD Cert.Gate2RefIdeal.τ).loc Cert.Gate2RefIdeal.main_arg0) = m' ((c.tc : Thread Cert.Gate2RefIdeal.nD Cert.Gate2RefIdeal.τ).loc Cert.Gate2RefIdeal.main_arg0)
          ∧ r.2.mem ((c.tc : Thread Cert.Gate2RefIdeal.nD Cert.Gate2RefIdeal.τ).loc Cert.Gate2RefIdeal.main_arg1) = m' ((c.tc : Thread Cert.Gate2RefIdeal.nD Cert.Gate2RefIdeal.τ).loc Cert.Gate2RefIdeal.main_arg1)
          ∧ r.2.mem ((c.tc : Thread Cert.Gate2RefIdeal.nD Cert.Gate2RefIdeal.τ).loc Cert.Gate2RefIdeal.main_arg2) = m' ((c.tc : Thread Cert.Gate2RefIdeal.nD Cert.Gate2RefIdeal.τ).loc Cert.Gate2RefIdeal.main_arg2)
          ∧ r.2.mem ((c.tc : Thread Cert.Gate2RefIdeal.nD Cert.Gate2RefIdeal.τ).loc Cert.Gate2RefIdeal.main_arg3) = m' ((c.tc : Thread Cert.Gate2RefIdeal.nD Cert.Gate2RefIdeal.τ).loc Cert.Gate2RefIdeal.main_arg3))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)) →
    ∃ (v0 : (c : Dev Cert.Dh2Ideal.nD) → Buf (Elt Ideal) ((c.tc : Thread Cert.Dh2Ideal.nD Cert.Dh2Ideal.τ).loc Cert.Dh2Ideal.main_v0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v11) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1))

def preserves_Gwi2_Gwi2Ideal : Prop :=
  True

def algebraic_Gwi2Ideal_Gwi2RefIdeal [hGwi2Ideal : Cert.Gwi2Ideal.Facts] [hGwi2RefIdeal : Cert.Gwi2RefIdeal.Facts] : Prop :=
  ∀ (m : (ℓ : Loc Cert.Gwi2Ideal.nD Cert.Gwi2Ideal.τ Cert.Gwi2Ideal.sig) → Buf (Elt Ideal) ℓ) (g : Dev Cert.Gwi2Ideal.nD → PrngReg)
    (m' : (ℓ : Loc Cert.Gwi2RefIdeal.nD Cert.Gwi2RefIdeal.τ Cert.Gwi2RefIdeal.sig) → Buf (Elt Ideal) ℓ) (g' : Dev Cert.Gwi2RefIdeal.nD → PrngReg), Pre_Gwi2Ideal m →
    (∀ c : Dev Cert.Gwi2Ideal.nD,
      m' ((c.tc : Thread Cert.Gwi2RefIdeal.nD Cert.Gwi2RefIdeal.τ).loc Cert.Gwi2RefIdeal.main_arg0) = m ((c.tc : Thread Cert.Gwi2Ideal.nD Cert.Gwi2Ideal.τ).loc Cert.Gwi2Ideal.main_arg0)
      ∧ m' ((c.tc : Thread Cert.Gwi2RefIdeal.nD Cert.Gwi2RefIdeal.τ).loc Cert.Gwi2RefIdeal.main_arg1) = m ((c.tc : Thread Cert.Gwi2Ideal.nD Cert.Gwi2Ideal.τ).loc Cert.Gwi2Ideal.main_arg1)) →
    ∃ (v0 : (c : Dev Cert.Gwi2Ideal.nD) → Buf (Elt Ideal) ((c.tc : Thread Cert.Gwi2Ideal.nD Cert.Gwi2Ideal.τ).loc Cert.Gwi2Ideal.main_v0)),
      θ_run (Cert.Gwi2Ideal.defs (F := Ideal)) (onTc (τ := Cert.Gwi2Ideal.τ) (Cert.Gwi2Ideal.main (F := Ideal))) ⟨m, fun _ => 0, g⟩ (fun r => ∀ c : Dev Cert.Gwi2Ideal.nD,
          r.2.mem ((c.tc : Thread Cert.Gwi2Ideal.nD Cert.Gwi2Ideal.τ).loc Cert.Gwi2Ideal.main_v0) = v0 c
          ∧ r.2.mem ((c.tc : Thread Cert.Gwi2Ideal.nD Cert.Gwi2Ideal.τ).loc Cert.Gwi2Ideal.main_arg0) = m ((c.tc : Thread Cert.Gwi2Ideal.nD Cert.Gwi2Ideal.τ).loc Cert.Gwi2Ideal.main_arg0)
          ∧ r.2.mem ((c.tc : Thread Cert.Gwi2Ideal.nD Cert.Gwi2Ideal.τ).loc Cert.Gwi2Ideal.main_arg1) = m ((c.tc : Thread Cert.Gwi2Ideal.nD Cert.Gwi2Ideal.τ).loc Cert.Gwi2Ideal.main_arg1))
      ∧ θ_run (Cert.Gwi2RefIdeal.defs (F := Ideal)) (onTc (τ := Cert.Gwi2RefIdeal.τ) (Cert.Gwi2RefIdeal.main (F := Ideal))) ⟨m', fun _ => 0, g'⟩ (fun r => ∀ c : Dev Cert.Gwi2RefIdeal.nD,
          r.2.mem ((c.tc : Thread Cert.Gwi2RefIdeal.nD Cert.Gwi2RefIdeal.τ).loc Cert.Gwi2RefIdeal.main_v13) = v0 c
          ∧ r.2.mem ((c.tc : Thread Cert.Gwi2RefIdeal.nD Cert.Gwi2RefIdeal.τ).loc Cert.Gwi2RefIdeal.main_arg0) = m' ((c.tc : Thread Cert.Gwi2RefIdeal.nD Cert.Gwi2RefIdeal.τ).loc Cert.Gwi2RefIdeal.main_arg0)
          ∧ r.2.mem ((c.tc : Thread Cert.Gwi2RefIdeal.nD Cert.Gwi2RefIdeal.τ).loc Cert.Gwi2RefIdeal.main_arg1) = m' ((c.tc : Thread Cert.Gwi2RefIdeal.nD Cert.Gwi2RefIdeal.τ).loc Cert.Gwi2RefIdeal.main_arg1))

def preserves_Gwo2_Gwo2Ideal : Prop :=
  True

def algebraic_Gwo2Ideal_Gwo2RefIdeal [hGwo2Ideal : Cert.Gwo2Ideal.Facts] [hGwo2RefIdeal : Cert.Gwo2RefIdeal.Facts] : Prop :=
  ∀ (m : (ℓ : Loc Cert.Gwo2Ideal.nD Cert.Gwo2Ideal.τ Cert.Gwo2Ideal.sig) → Buf (Elt Ideal) ℓ) (g : Dev Cert.Gwo2Ideal.nD → PrngReg)
    (m' : (ℓ : Loc Cert.Gwo2RefIdeal.nD Cert.Gwo2RefIdeal.τ Cert.Gwo2RefIdeal.sig) → Buf (Elt Ideal) ℓ) (g' : Dev Cert.Gwo2RefIdeal.nD → PrngReg), Pre_Gwo2Ideal m →
    (∀ c : Dev Cert.Gwo2Ideal.nD,
      m' ((c.tc : Thread Cert.Gwo2RefIdeal.nD Cert.Gwo2RefIdeal.τ).loc Cert.Gwo2RefIdeal.main_arg0) = m ((c.tc : Thread Cert.Gwo2Ideal.nD Cert.Gwo2Ideal.τ).loc Cert.Gwo2Ideal.main_arg0)
      ∧ m' ((c.tc : Thread Cert.Gwo2RefIdeal.nD Cert.Gwo2RefIdeal.τ).loc Cert.Gwo2RefIdeal.main_arg1) = m ((c.tc : Thread Cert.Gwo2Ideal.nD Cert.Gwo2Ideal.τ).loc Cert.Gwo2Ideal.main_arg1)
      ∧ m' ((c.tc : Thread Cert.Gwo2RefIdeal.nD Cert.Gwo2RefIdeal.τ).loc Cert.Gwo2RefIdeal.main_arg2) = m ((c.tc : Thread Cert.Gwo2Ideal.nD Cert.Gwo2Ideal.τ).loc Cert.Gwo2Ideal.main_arg2)) →
    ∃ (v0 : (c : Dev Cert.Gwo2Ideal.nD) → Buf (Elt Ideal) ((c.tc : Thread Cert.Gwo2Ideal.nD Cert.Gwo2Ideal.τ).loc Cert.Gwo2Ideal.main_v8)),
      θ_run (Cert.Gwo2Ideal.defs (F := Ideal)) (onTc (τ := Cert.Gwo2Ideal.τ) (Cert.Gwo2Ideal.main (F := Ideal))) ⟨m, fun _ => 0, g⟩ (fun r => ∀ c : Dev Cert.Gwo2Ideal.nD,
          r.2.mem ((c.tc : Thread Cert.Gwo2Ideal.nD Cert.Gwo2Ideal.τ).loc Cert.Gwo2Ideal.main_v8) = v0 c
          ∧ r.2.mem ((c.tc : Thread Cert.Gwo2Ideal.nD Cert.Gwo2Ideal.τ).loc Cert.Gwo2Ideal.main_arg0) = m ((c.tc : Thread Cert.Gwo2Ideal.nD Cert.Gwo2Ideal.τ).loc Cert.Gwo2Ideal.main_arg0)
          ∧ r.2.mem ((c.tc : Thread Cert.Gwo2Ideal.nD Cert.Gwo2Ideal.τ).loc Cert.Gwo2Ideal.main_arg1) = m ((c.tc : Thread Cert.Gwo2Ideal.nD Cert.Gwo2Ideal.τ).loc Cert.Gwo2Ideal.main_arg1)
          ∧ r.2.mem ((c.tc : Thread Cert.Gwo2Ideal.nD Cert.Gwo2Ideal.τ).loc Cert.Gwo2Ideal.main_arg2) = m ((c.tc : Thread Cert.Gwo2Ideal.nD Cert.Gwo2Ideal.τ).loc Cert.Gwo2Ideal.main_arg2))
      ∧ θ_run (Cert.Gwo2RefIdeal.defs (F := Ideal)) (onTc (τ := Cert.Gwo2RefIdeal.τ) (Cert.Gwo2RefIdeal.main (F := Ideal))) ⟨m', fun _ => 0, g'⟩ (fun r => ∀ c : Dev Cert.Gwo2RefIdeal.nD,
          r.2.mem ((c.tc : Thread Cert.Gwo2RefIdeal.nD Cert.Gwo2RefIdeal.τ).loc Cert.Gwo2RefIdeal.main_v12) = v0 c
          ∧ r.2.mem ((c.tc : Thread Cert.Gwo2RefIdeal.nD Cert.Gwo2RefIdeal.τ).loc Cert.Gwo2RefIdeal.main_arg0) = m' ((c.tc : Thread Cert.Gwo2RefIdeal.nD Cert.Gwo2RefIdeal.τ).loc Cert.Gwo2RefIdeal.main_arg0)
          ∧ r.2.mem ((c.tc : Thread Cert.Gwo2RefIdeal.nD Cert.Gwo2RefIdeal.τ).loc Cert.Gwo2RefIdeal.main_arg1) = m' ((c.tc : Thread Cert.Gwo2RefIdeal.nD Cert.Gwo2RefIdeal.τ).loc Cert.Gwo2RefIdeal.main_arg1)
          ∧ r.2.mem ((c.tc : Thread Cert.Gwo2RefIdeal.nD Cert.Gwo2RefIdeal.τ).loc Cert.Gwo2RefIdeal.main_arg2) = m' ((c.tc : Thread Cert.Gwo2RefIdeal.nD Cert.Gwo2RefIdeal.τ).loc Cert.Gwo2RefIdeal.main_arg2))

def preserves_DhIn_DhInIdeal : Prop :=
  True

def algebraic_DhInIdeal_DhInRefIdeal [hDhInIdeal : Cert.DhInIdeal.Facts] [hDhInRefIdeal : Cert.DhInRefIdeal.Facts] : Prop :=
  ∀ (m : (ℓ : Loc Cert.DhInIdeal.nD Cert.DhInIdeal.τ Cert.DhInIdeal.sig) → Buf (Elt Ideal) ℓ) (g : Dev Cert.DhInIdeal.nD → PrngReg)
    (m' : (ℓ : Loc Cert.DhInRefIdeal.nD Cert.DhInRefIdeal.τ Cert.DhInRefIdeal.sig) → Buf (Elt Ideal) ℓ) (g' : Dev Cert.DhInRefIdeal.nD → PrngReg), Pre_DhInIdeal m →
    (∀ c : Dev Cert.DhInIdeal.nD,
      m' ((c.tc : Thread Cert.DhInRefIdeal.nD Cert.DhInRefIdeal.τ).loc Cert.DhInRefIdeal.main_arg0) = m ((c.tc : Thread Cert.DhInIdeal.nD Cert.DhInIdeal.τ).loc Cert.DhInIdeal.main_arg0)
      ∧ m' ((c.tc : Thread Cert.DhInRefIdeal.nD Cert.DhInRefIdeal.τ).loc Cert.DhInRefIdeal.main_arg1) = m ((c.tc : Thread Cert.DhInIdeal.nD Cert.DhInIdeal.τ).loc Cert.DhInIdeal.main_arg1)) →
    ∃ (v0 : (c : Dev Cert.DhInIdeal.nD) → Buf (Elt Ideal) ((c.tc : Thread Cert.DhInIdeal.nD Cert.DhInIdeal.τ).loc Cert.DhInIdeal.main_v0)),
      θ_run (Cert.DhInIdeal.defs (F := Ideal)) (onTc (τ := Cert.DhInIdeal.τ) (Cert.DhInIdeal.main (F := Ideal))) ⟨m, fun _ => 0, g⟩ (fun r => ∀ c : Dev Cert.DhInIdeal.nD,
          r.2.mem ((c.tc : Thread Cert.DhInIdeal.nD Cert.DhInIdeal.τ).loc Cert.DhInIdeal.main_v0) = v0 c
          ∧ r.2.mem ((c.tc : Thread Cert.DhInIdeal.nD Cert.DhInIdeal.τ).loc Cert.DhInIdeal.main_arg0) = m ((c.tc : Thread Cert.DhInIdeal.nD Cert.DhInIdeal.τ).loc Cert.DhInIdeal.main_arg0)
          ∧ r.2.mem ((c.tc : Thread Cert.DhInIdeal.nD Cert.DhInIdeal.τ).loc Cert.DhInIdeal.main_arg1) = m ((c.tc : Thread Cert.DhInIdeal.nD Cert.DhInIdeal.τ).loc Cert.DhInIdeal.main_arg1))
      ∧ θ_run (Cert.DhInRefIdeal.defs (F := Ideal)) (onTc (τ := Cert.DhInRefIdeal.τ) (Cert.DhInRefIdeal.main (F := Ideal))) ⟨m', fun _ => 0, g'⟩ (fun r => ∀ c : Dev Cert.DhInRefIdeal.nD,
          r.2.mem ((c.tc : Thread Cert.DhInRefIdeal.nD Cert.DhInRefIdeal.τ).loc Cert.DhInRefIdeal.main_v4) = v0 c
          ∧ r.2.mem ((c.tc : Thread Cert.DhInRefIdeal.nD Cert.DhInRefIdeal.τ).loc Cert.DhInRefIdeal.main_arg0) = m' ((c.tc : Thread Cert.DhInRefIdeal.nD Cert.DhInRefIdeal.τ).loc Cert.DhInRefIdeal.main_arg0)
          ∧ r.2.mem ((c.tc : Thread Cert.DhInRefIdeal.nD Cert.DhInRefIdeal.τ).loc Cert.DhInRefIdeal.main_arg1) = m' ((c.tc : Thread Cert.DhInRefIdeal.nD Cert.DhInRefIdeal.τ).loc Cert.DhInRefIdeal.main_arg1))

def preserves_GwIn_GwInIdeal : Prop :=
  True

def algebraic_GwInIdeal_GwInRefIdeal [hGwInIdeal : Cert.GwInIdeal.Facts] [hGwInRefIdeal : Cert.GwInRefIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.GwInRefIdeal.nD Cert.GwInRefIdeal.τ Cert.GwInRefIdeal.sig) → Buf (Elt Ideal) ℓ) (g' : Dev Cert.GwInRefIdeal.nD → PrngReg), Pre_GwInIdeal m →
    (∀ c : Dev Cert.GwInIdeal.nD,
      m' ((c.tc : Thread Cert.GwInRefIdeal.nD Cert.GwInRefIdeal.τ).loc Cert.GwInRefIdeal.main_arg0) = m ((c.tc : Thread Cert.GwInIdeal.nD Cert.GwInIdeal.τ).loc Cert.GwInIdeal.main_arg0)
      ∧ m' ((c.tc : Thread Cert.GwInRefIdeal.nD Cert.GwInRefIdeal.τ).loc Cert.GwInRefIdeal.main_arg1) = m ((c.tc : Thread Cert.GwInIdeal.nD Cert.GwInIdeal.τ).loc Cert.GwInIdeal.main_arg1)) →
    ∃ (v0 : (c : Dev Cert.GwInIdeal.nD) → Buf (Elt Ideal) ((c.tc : Thread Cert.GwInIdeal.nD Cert.GwInIdeal.τ).loc Cert.GwInIdeal.main_v0)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v0) = v0 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ θ_run (Cert.GwInRefIdeal.defs (F := Ideal)) (onTc (τ := Cert.GwInRefIdeal.τ) (Cert.GwInRefIdeal.main (F := Ideal))) ⟨m', fun _ => 0, g'⟩ (fun r => ∀ c : Dev Cert.GwInRefIdeal.nD,
          r.2.mem ((c.tc : Thread Cert.GwInRefIdeal.nD Cert.GwInRefIdeal.τ).loc Cert.GwInRefIdeal.main_v6) = v0 c
          ∧ r.2.mem ((c.tc : Thread Cert.GwInRefIdeal.nD Cert.GwInRefIdeal.τ).loc Cert.GwInRefIdeal.main_arg0) = m' ((c.tc : Thread Cert.GwInRefIdeal.nD Cert.GwInRefIdeal.τ).loc Cert.GwInRefIdeal.main_arg0)
          ∧ r.2.mem ((c.tc : Thread Cert.GwInRefIdeal.nD Cert.GwInRefIdeal.τ).loc Cert.GwInRefIdeal.main_arg1) = m' ((c.tc : Thread Cert.GwInRefIdeal.nD Cert.GwInRefIdeal.τ).loc Cert.GwInRefIdeal.main_arg1))

def preserves_DMix_DMixIdeal : Prop :=
  True

def algebraic_DMixIdeal_DMixRefIdeal [hDMixIdeal : Cert.DMixIdeal.Facts] [hDMixRefIdeal : Cert.DMixRefIdeal.Facts] : Prop :=
  ∀ (m : (ℓ : Loc Cert.DMixIdeal.nD Cert.DMixIdeal.τ Cert.DMixIdeal.sig) → Buf (Elt Ideal) ℓ) (g : Dev Cert.DMixIdeal.nD → PrngReg)
    (m' : (ℓ : Loc Cert.DMixRefIdeal.nD Cert.DMixRefIdeal.τ Cert.DMixRefIdeal.sig) → Buf (Elt Ideal) ℓ) (g' : Dev Cert.DMixRefIdeal.nD → PrngReg), Pre_DMixIdeal m →
    (∀ c : Dev Cert.DMixIdeal.nD,
      m' ((c.tc : Thread Cert.DMixRefIdeal.nD Cert.DMixRefIdeal.τ).loc Cert.DMixRefIdeal.main_arg0) = m ((c.tc : Thread Cert.DMixIdeal.nD Cert.DMixIdeal.τ).loc Cert.DMixIdeal.main_arg0)
      ∧ m' ((c.tc : Thread Cert.DMixRefIdeal.nD Cert.DMixRefIdeal.τ).loc Cert.DMixRefIdeal.main_arg1) = m ((c.tc : Thread Cert.DMixIdeal.nD Cert.DMixIdeal.τ).loc Cert.DMixIdeal.main_arg1)) →
    ∃ (v0 : (c : Dev Cert.DMixIdeal.nD) → Buf (Elt Ideal) ((c.tc : Thread Cert.DMixIdeal.nD Cert.DMixIdeal.τ).loc Cert.DMixIdeal.main_v0)),
      θ_run (Cert.DMixIdeal.defs (F := Ideal)) (onTc (τ := Cert.DMixIdeal.τ) (Cert.DMixIdeal.main (F := Ideal))) ⟨m, fun _ => 0, g⟩ (fun r => ∀ c : Dev Cert.DMixIdeal.nD,
          r.2.mem ((c.tc : Thread Cert.DMixIdeal.nD Cert.DMixIdeal.τ).loc Cert.DMixIdeal.main_v0) = v0 c
          ∧ r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
          ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ θ_run (Cert.DMixRefIdeal.defs (F := Ideal)) (onTc (τ := Cert.DMixRefIdeal.τ) (Cert.DMixRefIdeal.main (F := Ideal))) ⟨m', fun _ => 0, g'⟩ (fun r => ∀ c : Dev Cert.DMixRefIdeal.nD,
          r.2.mem ((c.tc : Thread Cert.DMixRefIdeal.nD Cert.DMixRefIdeal.τ).loc Cert.DMixRefIdeal.main_v5) = v0 c
          ∧ r.2.mem ((c.tc : Thread Cert.DMixRefIdeal.nD Cert.DMixRefIdeal.τ).loc Cert.DMixRefIdeal.main_arg0) = m' ((c.tc : Thread Cert.DMixRefIdeal.nD Cert.DMixRefIdeal.τ).loc Cert.DMixRefIdeal.main_arg0)
          ∧ r.2.mem ((c.tc : Thread Cert.DMixRefIdeal.nD Cert.DMixRefIdeal.τ).loc Cert.DMixRefIdeal.main_arg1) = m' ((c.tc : Thread Cert.DMixRefIdeal.nD Cert.DMixRefIdeal.τ).loc Cert.DMixRefIdeal.main_arg1))

def preserves_GwMix_GwMixIdeal : Prop :=
  True

def algebraic_GwMixIdeal_GwMixRefIdeal [hGwMixIdeal : Cert.GwMixIdeal.Facts] [hGwMixRefIdeal : Cert.GwMixRefIdeal.Facts] : Prop :=
  ∀ (m : (ℓ : Loc Cert.GwMixIdeal.nD Cert.GwMixIdeal.τ Cert.GwMixIdeal.sig) → Buf (Elt Ideal) ℓ) (g : Dev Cert.GwMixIdeal.nD → PrngReg)
    (m' : (ℓ : Loc Cert.GwMixRefIdeal.nD Cert.GwMixRefIdeal.τ Cert.GwMixRefIdeal.sig) → Buf (Elt Ideal) ℓ) (g' : Dev Cert.GwMixRefIdeal.nD → PrngReg), Pre_GwMixIdeal m →
    (∀ c : Dev Cert.GwMixIdeal.nD,
      m' ((c.tc : Thread Cert.GwMixRefIdeal.nD Cert.GwMixRefIdeal.τ).loc Cert.GwMixRefIdeal.main_arg0) = m ((c.tc : Thread Cert.GwMixIdeal.nD Cert.GwMixIdeal.τ).loc Cert.GwMixIdeal.main_arg0)
      ∧ m' ((c.tc : Thread Cert.GwMixRefIdeal.nD Cert.GwMixRefIdeal.τ).loc Cert.GwMixRefIdeal.main_arg1) = m ((c.tc : Thread Cert.GwMixIdeal.nD Cert.GwMixIdeal.τ).loc Cert.GwMixIdeal.main_arg1)) →
    ∃ (v0 : (c : Dev Cert.GwMixIdeal.nD) → Buf (Elt Ideal) ((c.tc : Thread Cert.GwMixIdeal.nD Cert.GwMixIdeal.τ).loc Cert.GwMixIdeal.main_v0)),
      θ_run (Cert.GwMixIdeal.defs (F := Ideal)) (onTc (τ := Cert.GwMixIdeal.τ) (Cert.GwMixIdeal.main (F := Ideal))) ⟨m, fun _ => 0, g⟩ (fun r => ∀ c : Dev Cert.GwMixIdeal.nD,
          r.2.mem ((c.tc : Thread Cert.GwMixIdeal.nD Cert.GwMixIdeal.τ).loc Cert.GwMixIdeal.main_v0) = v0 c
          ∧ r.2.mem ((c.tc : Thread Cert.GwMixIdeal.nD Cert.GwMixIdeal.τ).loc Cert.GwMixIdeal.main_arg0) = m ((c.tc : Thread Cert.GwMixIdeal.nD Cert.GwMixIdeal.τ).loc Cert.GwMixIdeal.main_arg0)
          ∧ r.2.mem ((c.tc : Thread Cert.GwMixIdeal.nD Cert.GwMixIdeal.τ).loc Cert.GwMixIdeal.main_arg1) = m ((c.tc : Thread Cert.GwMixIdeal.nD Cert.GwMixIdeal.τ).loc Cert.GwMixIdeal.main_arg1))
      ∧ θ_run (Cert.GwMixRefIdeal.defs (F := Ideal)) (onTc (τ := Cert.GwMixRefIdeal.τ) (Cert.GwMixRefIdeal.main (F := Ideal))) ⟨m', fun _ => 0, g'⟩ (fun r => ∀ c : Dev Cert.GwMixRefIdeal.nD,
          r.2.mem ((c.tc : Thread Cert.GwMixRefIdeal.nD Cert.GwMixRefIdeal.τ).loc Cert.GwMixRefIdeal.main_v6) = v0 c
          ∧ r.2.mem ((c.tc : Thread Cert.GwMixRefIdeal.nD Cert.GwMixRefIdeal.τ).loc Cert.GwMixRefIdeal.main_arg0) = m' ((c.tc : Thread Cert.GwMixRefIdeal.nD Cert.GwMixRefIdeal.τ).loc Cert.GwMixRefIdeal.main_arg0)
          ∧ r.2.mem ((c.tc : Thread Cert.GwMixRefIdeal.nD Cert.GwMixRefIdeal.τ).loc Cert.GwMixRefIdeal.main_arg1) = m' ((c.tc : Thread Cert.GwMixRefIdeal.nD Cert.GwMixRefIdeal.τ).loc Cert.GwMixRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v3) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Down2_Down2Ideal : Prop :=
  True

def algebraic_Down2Ideal_Down2RefIdeal [hDown2Ideal : Cert.Down2Ideal.Facts] [hDown2RefIdeal : Cert.Down2RefIdeal.Facts] : Prop :=
  ∀ (m : (ℓ : Loc Cert.Down2Ideal.nD Cert.Down2Ideal.τ Cert.Down2Ideal.sig) → Buf (Elt Ideal) ℓ) (g : Dev Cert.Down2Ideal.nD → PrngReg)
    (m' : (ℓ : Loc Cert.Down2RefIdeal.nD Cert.Down2RefIdeal.τ Cert.Down2RefIdeal.sig) → Buf (Elt Ideal) ℓ) (g' : Dev Cert.Down2RefIdeal.nD → PrngReg), Pre_Down2Ideal m →
    (∀ c : Dev Cert.Down2Ideal.nD,
      m' ((c.tc : Thread Cert.Down2RefIdeal.nD Cert.Down2RefIdeal.τ).loc Cert.Down2RefIdeal.main_arg0) = m ((c.tc : Thread Cert.Down2Ideal.nD Cert.Down2Ideal.τ).loc Cert.Down2Ideal.main_arg0)
      ∧ m' ((c.tc : Thread Cert.Down2RefIdeal.nD Cert.Down2RefIdeal.τ).loc Cert.Down2RefIdeal.main_arg1) = m ((c.tc : Thread Cert.Down2Ideal.nD Cert.Down2Ideal.τ).loc Cert.Down2Ideal.main_arg1)) →
    ∃ (v0 : (c : Dev Cert.Down2Ideal.nD) → Buf (Elt Ideal) ((c.tc : Thread Cert.Down2Ideal.nD Cert.Down2Ideal.τ).loc Cert.Down2Ideal.main_v0)),
      θ_run (Cert.Down2Ideal.defs (F := Ideal)) (onTc (τ := Cert.Down2Ideal.τ) (Cert.Down2Ideal.main (F := Ideal))) ⟨m, fun _ => 0, g⟩ (fun r => ∀ c : Dev Cert.Down2Ideal.nD,
          r.2.mem ((c.tc : Thread Cert.Down2Ideal.nD Cert.Down2Ideal.τ).loc Cert.Down2Ideal.main_v0) = v0 c
          ∧ r.2.mem ((c.tc : Thread Cert.Down2Ideal.nD Cert.Down2Ideal.τ).loc Cert.Down2Ideal.main_arg0) = m ((c.tc : Thread Cert.Down2Ideal.nD Cert.Down2Ideal.τ).loc Cert.Down2Ideal.main_arg0)
          ∧ r.2.mem ((c.tc : Thread Cert.Down2Ideal.nD Cert.Down2Ideal.τ).loc Cert.Down2Ideal.main_arg1) = m ((c.tc : Thread Cert.Down2Ideal.nD Cert.Down2Ideal.τ).loc Cert.Down2Ideal.main_arg1))
      ∧ θ_run (Cert.Down2RefIdeal.defs (F := Ideal)) (onTc (τ := Cert.Down2RefIdeal.τ) (Cert.Down2RefIdeal.main (F := Ideal))) ⟨m', fun _ => 0, g'⟩ (fun r => ∀ c : Dev Cert.Down2RefIdeal.nD,
          r.2.mem ((c.tc : Thread Cert.Down2RefIdeal.nD Cert.Down2RefIdeal.τ).loc Cert.Down2RefIdeal.main_v2) = v0 c
          ∧ r.2.mem ((c.tc : Thread Cert.Down2RefIdeal.nD Cert.Down2RefIdeal.τ).loc Cert.Down2RefIdeal.main_arg0) = m' ((c.tc : Thread Cert.Down2RefIdeal.nD Cert.Down2RefIdeal.τ).loc Cert.Down2RefIdeal.main_arg0)
          ∧ r.2.mem ((c.tc : Thread Cert.Down2RefIdeal.nD Cert.Down2RefIdeal.τ).loc Cert.Down2RefIdeal.main_arg1) = m' ((c.tc : Thread Cert.Down2RefIdeal.nD Cert.Down2RefIdeal.τ).loc Cert.Down2RefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_v10) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Up2_Up2Ideal : Prop :=
  True

def algebraic_Up2Ideal_Up2RefIdeal [hUp2Ideal : Cert.Up2Ideal.Facts] [hUp2RefIdeal : Cert.Up2RefIdeal.Facts] : Prop :=
  ∀ (m : (ℓ : Loc Cert.Up2Ideal.nD Cert.Up2Ideal.τ Cert.Up2Ideal.sig) → Buf (Elt Ideal) ℓ) (g : Dev Cert.Up2Ideal.nD → PrngReg)
    (m' : (ℓ : Loc Cert.Up2RefIdeal.nD Cert.Up2RefIdeal.τ Cert.Up2RefIdeal.sig) → Buf (Elt Ideal) ℓ) (g' : Dev Cert.Up2RefIdeal.nD → PrngReg), Pre_Up2Ideal m →
    (∀ c : Dev Cert.Up2Ideal.nD,
      m' ((c.tc : Thread Cert.Up2RefIdeal.nD Cert.Up2RefIdeal.τ).loc Cert.Up2RefIdeal.main_arg0) = m ((c.tc : Thread Cert.Up2Ideal.nD Cert.Up2Ideal.τ).loc Cert.Up2Ideal.main_arg0)
      ∧ m' ((c.tc : Thread Cert.Up2RefIdeal.nD Cert.Up2RefIdeal.τ).loc Cert.Up2RefIdeal.main_arg1) = m ((c.tc : Thread Cert.Up2Ideal.nD Cert.Up2Ideal.τ).loc Cert.Up2Ideal.main_arg1)) →
    ∃ (v0 : (c : Dev Cert.Up2Ideal.nD) → Buf (Elt Ideal) ((c.tc : Thread Cert.Up2Ideal.nD Cert.Up2Ideal.τ).loc Cert.Up2Ideal.main_v0_0)) (v1 : (c : Dev Cert.Up2Ideal.nD) → Buf (Elt Ideal) ((c.tc : Thread Cert.Up2Ideal.nD Cert.Up2Ideal.τ).loc Cert.Up2Ideal.main_v0_1)),
      θ_run (Cert.Up2Ideal.defs (F := Ideal)) (onTc (τ := Cert.Up2Ideal.τ) (Cert.Up2Ideal.main (F := Ideal))) ⟨m, fun _ => 0, g⟩ (fun r => ∀ c : Dev Cert.Up2Ideal.nD,
          r.2.mem ((c.tc : Thread Cert.Up2Ideal.nD Cert.Up2Ideal.τ).loc Cert.Up2Ideal.main_v0_0) = v0 c
          ∧ r.2.mem ((c.tc : Thread Cert.Up2Ideal.nD Cert.Up2Ideal.τ).loc Cert.Up2Ideal.main_v0_1) = v1 c
          ∧ r.2.mem ((c.tc : Thread Cert.Up2Ideal.nD Cert.Up2Ideal.τ).loc Cert.Up2Ideal.main_arg0) = m ((c.tc : Thread Cert.Up2Ideal.nD Cert.Up2Ideal.τ).loc Cert.Up2Ideal.main_arg0)
          ∧ r.2.mem ((c.tc : Thread Cert.Up2Ideal.nD Cert.Up2Ideal.τ).loc Cert.Up2Ideal.main_arg1) = m ((c.tc : Thread Cert.Up2Ideal.nD Cert.Up2Ideal.τ).loc Cert.Up2Ideal.main_arg1))
      ∧ θ_run (Cert.Up2RefIdeal.defs (F := Ideal)) (onTc (τ := Cert.Up2RefIdeal.τ) (Cert.Up2RefIdeal.main (F := Ideal))) ⟨m', fun _ => 0, g'⟩ (fun r => ∀ c : Dev Cert.Up2RefIdeal.nD,
          r.2.mem ((c.tc : Thread Cert.Up2RefIdeal.nD Cert.Up2RefIdeal.τ).loc Cert.Up2RefIdeal.main_v7) = v0 c
          ∧ r.2.mem ((c.tc : Thread Cert.Up2RefIdeal.nD Cert.Up2RefIdeal.τ).loc Cert.Up2RefIdeal.main_v10) = v1 c
          ∧ r.2.mem ((c.tc : Thread Cert.Up2RefIdeal.nD Cert.Up2RefIdeal.τ).loc Cert.Up2RefIdeal.main_arg0) = m' ((c.tc : Thread Cert.Up2RefIdeal.nD Cert.Up2RefIdeal.τ).loc Cert.Up2RefIdeal.main_arg0)
          ∧ r.2.mem ((c.tc : Thread Cert.Up2RefIdeal.nD Cert.Up2RefIdeal.τ).loc Cert.Up2RefIdeal.main_arg1) = m' ((c.tc : Thread Cert.Up2RefIdeal.nD Cert.Up2RefIdeal.τ).loc Cert.Up2RefIdeal.main_arg1))

def preserves_Attn_AttnIdeal : Prop :=
  IdealRules.named_const.Statement Cert.AttnIdeal.κ "scale_log2e" .f32 0x3E0293EE#32 (((11863283 / 134217728) * (Real.log 2)⁻¹ : ℝ) : EReal)

def algebraic_AttnIdeal_AttnRefIdeal_pre_finite4 [hAttnIdeal : Cert.AttnIdeal.Facts] [hAttnRefIdeal : Cert.AttnRefIdeal.Facts] [hPre_finite4 : Cert.Pre_finite4.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite4 m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v26) = v0 c
          ∧ r.2.mem ((c.tc : Thread Cert.AttnRefIdeal.nD Cert.AttnRefIdeal.τ).loc Cert.AttnRefIdeal.main_v47) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hDh : Cert.Dh.Facts) (hDhIdeal : Cert.DhIdeal.Facts) (hDhRefIdeal : Cert.DhRefIdeal.Facts) (hGwi : Cert.Gwi.Facts) (hGwiIdeal : Cert.GwiIdeal.Facts) (hGwiRefIdeal : Cert.GwiRefIdeal.Facts) (hGwo : Cert.Gwo.Facts) (hGwoIdeal : Cert.GwoIdeal.Facts) (hGwoRefIdeal : Cert.GwoRefIdeal.Facts) (hGate2 : Cert.Gate2.Facts) (hGate2Ideal : Cert.Gate2Ideal.Facts) (hGate2RefIdeal : Cert.Gate2RefIdeal.Facts) (hDh2 : Cert.Dh2.Facts) (hDh2Ideal : Cert.Dh2Ideal.Facts) (hDh2RefIdeal : Cert.Dh2RefIdeal.Facts) (hGwi2 : Cert.Gwi2.Facts) (hGwi2Ideal : Cert.Gwi2Ideal.Facts) (hGwi2RefIdeal : Cert.Gwi2RefIdeal.Facts) (hGwo2 : Cert.Gwo2.Facts) (hGwo2Ideal : Cert.Gwo2Ideal.Facts) (hGwo2RefIdeal : Cert.Gwo2RefIdeal.Facts) (hDhIn : Cert.DhIn.Facts) (hDhInIdeal : Cert.DhInIdeal.Facts) (hDhInRefIdeal : Cert.DhInRefIdeal.Facts) (hGwIn : Cert.GwIn.Facts) (hGwInIdeal : Cert.GwInIdeal.Facts) (hGwInRefIdeal : Cert.GwInRefIdeal.Facts) (hDMix : Cert.DMix.Facts) (hDMixIdeal : Cert.DMixIdeal.Facts) (hDMixRefIdeal : Cert.DMixRefIdeal.Facts) (hGwMix : Cert.GwMix.Facts) (hGwMixIdeal : Cert.GwMixIdeal.Facts) (hGwMixRefIdeal : Cert.GwMixRefIdeal.Facts) (hMix : Cert.Mix.Facts) (hMixIdeal : Cert.MixIdeal.Facts) (hMixRefIdeal : Cert.MixRefIdeal.Facts) (hOut : Cert.Out.Facts) (hOutIdeal : Cert.OutIdeal.Facts) (hOutRefIdeal : Cert.OutRefIdeal.Facts) (hProj : Cert.Proj.Facts) (hProjIdeal : Cert.ProjIdeal.Facts) (hProjRefIdeal : Cert.ProjRefIdeal.Facts) (hDown : Cert.Down.Facts) (hDownIdeal : Cert.DownIdeal.Facts) (hDownRefIdeal : Cert.DownRefIdeal.Facts) (hDown2 : Cert.Down2.Facts) (hDown2Ideal : Cert.Down2Ideal.Facts) (hDown2RefIdeal : Cert.Down2RefIdeal.Facts) (hUp : Cert.Up.Facts) (hUpIdeal : Cert.UpIdeal.Facts) (hUpRefIdeal : Cert.UpRefIdeal.Facts) (hUp2 : Cert.Up2.Facts) (hUp2Ideal : Cert.Up2Ideal.Facts) (hUp2RefIdeal : Cert.Up2RefIdeal.Facts) (hAttn : Cert.Attn.Facts) (hAttnIdeal : Cert.AttnIdeal.Facts) (hAttnRefIdeal : Cert.AttnRefIdeal.Facts) (hPre_finite : Cert.Pre_finite.Facts) (hPre_finite2 : Cert.Pre_finite2.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gate (hGate := hGate)
    ∧ quiescent_GateIdeal (hGateIdeal := hGateIdeal)
    ∧ quiescent_GateIdeal_pre_finite2 (hGateIdeal := hGateIdeal) (hPre_finite2 := hPre_finite2)
    ∧ quiescent_GateRefIdeal (hGateRefIdeal := hGateRefIdeal)
    ∧ quiescent_GateRefIdeal_pre_finite2 (hGateRefIdeal := hGateRefIdeal) (hPre_finite2 := hPre_finite2)
    ∧ quiescent_Dh (hDh := hDh)
    ∧ quiescent_DhIdeal (hDhIdeal := hDhIdeal)
    ∧ quiescent_DhRefIdeal (hDhRefIdeal := hDhRefIdeal)
    ∧ quiescent_Gwi (hGwi := hGwi)
    ∧ quiescent_GwiIdeal (hGwiIdeal := hGwiIdeal)
    ∧ quiescent_GwiRefIdeal (hGwiRefIdeal := hGwiRefIdeal)
    ∧ quiescent_Gwo (hGwo := hGwo)
    ∧ quiescent_GwoIdeal (hGwoIdeal := hGwoIdeal)
    ∧ quiescent_GwoRefIdeal (hGwoRefIdeal := hGwoRefIdeal)
    ∧ quiescent_Gate2 (hGate2 := hGate2)
    ∧ quiescent_Gate2Ideal (hGate2Ideal := hGate2Ideal)
    ∧ quiescent_Gate2Ideal_pre_finite3 (hGate2Ideal := hGate2Ideal) (hPre_finite3 := hPre_finite3)
    ∧ quiescent_Gate2RefIdeal (hGate2RefIdeal := hGate2RefIdeal)
    ∧ quiescent_Gate2RefIdeal_pre_finite3 (hGate2RefIdeal := hGate2RefIdeal) (hPre_finite3 := hPre_finite3)
    ∧ quiescent_Dh2 (hDh2 := hDh2)
    ∧ quiescent_Dh2Ideal (hDh2Ideal := hDh2Ideal)
    ∧ quiescent_Dh2RefIdeal (hDh2RefIdeal := hDh2RefIdeal)
    ∧ quiescent_Gwi2 (hGwi2 := hGwi2)
    ∧ quiescent_Gwi2Ideal (hGwi2Ideal := hGwi2Ideal)
    ∧ quiescent_Gwi2RefIdeal (hGwi2RefIdeal := hGwi2RefIdeal)
    ∧ quiescent_Gwo2 (hGwo2 := hGwo2)
    ∧ quiescent_Gwo2Ideal (hGwo2Ideal := hGwo2Ideal)
    ∧ quiescent_Gwo2RefIdeal (hGwo2RefIdeal := hGwo2RefIdeal)
    ∧ quiescent_DhIn (hDhIn := hDhIn)
    ∧ quiescent_DhInIdeal (hDhInIdeal := hDhInIdeal)
    ∧ quiescent_DhInRefIdeal (hDhInRefIdeal := hDhInRefIdeal)
    ∧ quiescent_GwIn (hGwIn := hGwIn)
    ∧ quiescent_GwInIdeal (hGwInIdeal := hGwInIdeal)
    ∧ quiescent_GwInRefIdeal (hGwInRefIdeal := hGwInRefIdeal)
    ∧ quiescent_DMix (hDMix := hDMix)
    ∧ quiescent_DMixIdeal (hDMixIdeal := hDMixIdeal)
    ∧ quiescent_DMixRefIdeal (hDMixRefIdeal := hDMixRefIdeal)
    ∧ quiescent_GwMix (hGwMix := hGwMix)
    ∧ quiescent_GwMixIdeal (hGwMixIdeal := hGwMixIdeal)
    ∧ quiescent_GwMixRefIdeal (hGwMixRefIdeal := hGwMixRefIdeal)
    ∧ quiescent_Mix (hMix := hMix)
    ∧ quiescent_MixIdeal (hMixIdeal := hMixIdeal)
    ∧ quiescent_MixRefIdeal (hMixRefIdeal := hMixRefIdeal)
    ∧ quiescent_Out (hOut := hOut)
    ∧ quiescent_OutIdeal (hOutIdeal := hOutIdeal)
    ∧ quiescent_OutRefIdeal (hOutRefIdeal := hOutRefIdeal)
    ∧ quiescent_Proj (hProj := hProj)
    ∧ quiescent_ProjIdeal (hProjIdeal := hProjIdeal)
    ∧ quiescent_ProjRefIdeal (hProjRefIdeal := hProjRefIdeal)
    ∧ quiescent_Down (hDown := hDown)
    ∧ quiescent_DownIdeal (hDownIdeal := hDownIdeal)
    ∧ quiescent_DownRefIdeal (hDownRefIdeal := hDownRefIdeal)
    ∧ quiescent_Down2 (hDown2 := hDown2)
    ∧ quiescent_Down2Ideal (hDown2Ideal := hDown2Ideal)
    ∧ quiescent_Down2RefIdeal (hDown2RefIdeal := hDown2RefIdeal)
    ∧ quiescent_Up (hUp := hUp)
    ∧ quiescent_UpIdeal (hUpIdeal := hUpIdeal)
    ∧ quiescent_UpRefIdeal (hUpRefIdeal := hUpRefIdeal)
    ∧ quiescent_Up2 (hUp2 := hUp2)
    ∧ quiescent_Up2Ideal (hUp2Ideal := hUp2Ideal)
    ∧ quiescent_Up2RefIdeal (hUp2RefIdeal := hUp2RefIdeal)
    ∧ quiescent_Attn (hAttn := hAttn)
    ∧ quiescent_AttnIdeal (hAttnIdeal := hAttnIdeal)
    ∧ quiescent_AttnIdeal_pre_finite4 (hAttnIdeal := hAttnIdeal) (hPre_finite4 := hPre_finite4)
    ∧ quiescent_AttnRefIdeal (hAttnRefIdeal := hAttnRefIdeal)
    ∧ quiescent_AttnRefIdeal_pre_finite4 (hAttnRefIdeal := hAttnRefIdeal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Gate_GateIdeal
    ∧ algebraic_GateIdeal_GateRefIdeal_pre_finite2 (hGateIdeal := hGateIdeal) (hGateRefIdeal := hGateRefIdeal) (hPre_finite2 := hPre_finite2)
    ∧ preserves_Dh_DhIdeal
    ∧ algebraic_DhIdeal_DhRefIdeal (hDhIdeal := hDhIdeal) (hDhRefIdeal := hDhRefIdeal)
    ∧ preserves_Gwi_GwiIdeal
    ∧ algebraic_GwiIdeal_GwiRefIdeal (hGwiIdeal := hGwiIdeal) (hGwiRefIdeal := hGwiRefIdeal)
    ∧ preserves_Gwo_GwoIdeal
    ∧ algebraic_GwoIdeal_GwoRefIdeal (hGwoIdeal := hGwoIdeal) (hGwoRefIdeal := hGwoRefIdeal)
    ∧ preserves_Gate2_Gate2Ideal
    ∧ algebraic_Gate2Ideal_Gate2RefIdeal_pre_finite3 (hGate2Ideal := hGate2Ideal) (hGate2RefIdeal := hGate2RefIdeal) (hPre_finite3 := hPre_finite3)
    ∧ preserves_Dh2_Dh2Ideal
    ∧ algebraic_Dh2Ideal_Dh2RefIdeal (hDh2Ideal := hDh2Ideal) (hDh2RefIdeal := hDh2RefIdeal)
    ∧ preserves_Gwi2_Gwi2Ideal
    ∧ algebraic_Gwi2Ideal_Gwi2RefIdeal (hGwi2Ideal := hGwi2Ideal) (hGwi2RefIdeal := hGwi2RefIdeal)
    ∧ preserves_Gwo2_Gwo2Ideal
    ∧ algebraic_Gwo2Ideal_Gwo2RefIdeal (hGwo2Ideal := hGwo2Ideal) (hGwo2RefIdeal := hGwo2RefIdeal)
    ∧ preserves_DhIn_DhInIdeal
    ∧ algebraic_DhInIdeal_DhInRefIdeal (hDhInIdeal := hDhInIdeal) (hDhInRefIdeal := hDhInRefIdeal)
    ∧ preserves_GwIn_GwInIdeal
    ∧ algebraic_GwInIdeal_GwInRefIdeal (hGwInIdeal := hGwInIdeal) (hGwInRefIdeal := hGwInRefIdeal)
    ∧ preserves_DMix_DMixIdeal
    ∧ algebraic_DMixIdeal_DMixRefIdeal (hDMixIdeal := hDMixIdeal) (hDMixRefIdeal := hDMixRefIdeal)
    ∧ preserves_GwMix_GwMixIdeal
    ∧ algebraic_GwMixIdeal_GwMixRefIdeal (hGwMixIdeal := hGwMixIdeal) (hGwMixRefIdeal := hGwMixRefIdeal)
    ∧ preserves_Mix_MixIdeal
    ∧ algebraic_MixIdeal_MixRefIdeal (hMixIdeal := hMixIdeal) (hMixRefIdeal := hMixRefIdeal)
    ∧ preserves_Out_OutIdeal
    ∧ algebraic_OutIdeal_OutRefIdeal (hOutIdeal := hOutIdeal) (hOutRefIdeal := hOutRefIdeal)
    ∧ preserves_Proj_ProjIdeal
    ∧ algebraic_ProjIdeal_ProjRefIdeal (hProjIdeal := hProjIdeal) (hProjRefIdeal := hProjRefIdeal)
    ∧ preserves_Down_DownIdeal
    ∧ algebraic_DownIdeal_DownRefIdeal (hDownIdeal := hDownIdeal) (hDownRefIdeal := hDownRefIdeal)
    ∧ preserves_Down2_Down2Ideal
    ∧ algebraic_Down2Ideal_Down2RefIdeal (hDown2Ideal := hDown2Ideal) (hDown2RefIdeal := hDown2RefIdeal)
    ∧ preserves_Up_UpIdeal
    ∧ algebraic_UpIdeal_UpRefIdeal (hUpIdeal := hUpIdeal) (hUpRefIdeal := hUpRefIdeal)
    ∧ preserves_Up2_Up2Ideal
    ∧ algebraic_Up2Ideal_Up2RefIdeal (hUp2Ideal := hUp2Ideal) (hUp2RefIdeal := hUp2RefIdeal)
    ∧ preserves_Attn_AttnIdeal
    ∧ algebraic_AttnIdeal_AttnRefIdeal_pre_finite4 (hAttnIdeal := hAttnIdeal) (hAttnRefIdeal := hAttnRefIdeal) (hPre_finite4 := hPre_finite4)
-- ==== Pre_finite.lean ====
abbrev S8448x2560 : Shape := ⟨2, ![8448, 2560]⟩
abbrev S8448x512 : Shape := ⟨2, ![8448, 512]⟩
abbrev S8192x2048 : Shape := ⟨2, ![8192, 2048]⟩
abbrev S_ : Shape := ⟨0, ![]⟩
abbrev S1 : Shape := ⟨1, ![1]⟩
abbrev S3 : Shape := ⟨1, ![3]⟩

class Facts : Prop where
  bitsLt_bf16_f32 : FTy.bits .bf16 < FTy.bits .f32
  bcast_S_S8448x2560 : S_.BroadcastsInDim S8448x2560 (![] : Fin 0 → Fin S8448x2560.rank)
  reducesTo_S8448x2560_S_d0_1 : S8448x2560.ReducesTo [0, 1] S_
  h_S_ : 0 < S_.numel
  bcast_S_S8448x512 : S_.BroadcastsInDim S8448x512 (![] : Fin 0 → Fin S8448x512.rank)
  reducesTo_S8448x512_S_d0_1 : S8448x512.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S1 : S_.BroadcastsInDim S1 (![] : Fin 0 → Fin S1.rank)
  concatenates_S1_S1_S1_S3_d0 : Shape.Concatenates [S1, S1, S1] S3 0

variable [Facts]

def fn_part1 {F : FTy → Type} [FloatOps F] (main_v15 : IVec S1 1) (main_v16 : IVec S1 1) (main_v17 : IVec S1 1) : IVec S3 1 :=
  let main_v18 : IVec S3 1 := concatenate S3 0 [⟨S1, main_v15⟩, ⟨S1, main_v16⟩, ⟨S1, main_v17⟩] concatenates_S1_S1_S1_S3_d0
  main_v18

def fn {F : FTy → Type} [FloatOps F] (main_arg0 : FVec F S8448x2560 .bf16) (main_arg1 : FVec F S8448x512 .bf16) (main_arg2 : FVec F S8192x2048 .bf16) : IVec S3 1 :=
  let main_v0 : FVec F S8448x2560 .f32 := (extf .f32 · bitsLt_bf16_f32) main_arg0
  let main_v1 : FVec F S8448x2560 .f32 := Host.absf main_v0
  let main_cst : FVec F S_ .f32 := constant S_ .f32 0x7F800000#32
  let main_v2 : FVec F S8448x2560 .f32 := broadcastInDim S8448x2560 ![] bcast_S_S8448x2560 main_cst
  let main_v3 : IVec S8448x2560 1 := cmpf .olt main_v1 main_v2
  let main_c : IVec S_ 1 := constantI S_ 1 1#1
  let main_v4 : IVec S_ 1 := (fun x v => Host.reduce IntOp.andi x v reducesTo_S8448x2560_S_d0_1 h_S_) main_v3 main_c
  let main_v5 : FVec F S8448x512 .f32 := (extf .f32 · bitsLt_bf16_f32) main_arg1
  let main_v6 : FVec F S8448x512 .f32 := Host.absf main_v5
  let main_cst_0 : FVec F S_ .f32 := constant S_ .f32 0x7F800000#32
  let main_v7 : FVec F S8448x512 .f32 := broadcastInDim S8448x512 ![] bcast_S_S8448x512 main_cst_0
  let main_v8 : IVec S8448x512 1 := cmpf .olt main_v6 main_v7
  let main_c_1 : IVec S_ 1 := constantI S_ 1 1#1
  let main_v9 : IVec S_ 1 := (fun x v => Host.reduce IntOp.andi x v reducesTo_S8448x512_S_d0_1 h_S_) main_v8 main_c_1
  let main_v10 : FVec F S8192x2048 .f32 := (extf .f32 · bitsLt_bf16_f32) main_arg2
  let main_v11 : FVec F S8192x2048 .f32 := Host.absf main_v10
  let main_cst_2 : FVec F S_ .f32 := constant S_ .f32 0x7F800000#32
  let main_v12 : FVec F S8192x2048 .f32 := broadcastInDim S8192x2048 ![] bcast_S_S8192x2048 main_cst_2
  let main_v13 : IVec S8192x2048 1 := cmpf .olt main_v11 main_v12
  let main_c_3 : IVec S_ 1 := constantI S_ 1 1#1
  let main_v14 : IVec S_ 1 := (fun x v => Host.reduce IntOp.andi x v reducesTo_S8192x2048_S_d0_1 h_S_) main_v13 main_c_3
  let main_v15 : IVec S1 1 := broadcastInDim S1 ![] bcast_S_S1 main_v4
  let main_v16 : IVec S1 1 := broadcastInDim S1 ![] bcast_S_S1 main_v9
  let main_v17 : IVec S1 1 := broadcastInDim S1 ![] bcast_S_S1 main_v14
  fn_part1 (F := F) main_v15 main_v16 main_v17
-- ==== Pre_finite2.lean ====
abbrev S8448x2048 : Shape := ⟨2, ![8448, 2048]⟩
abbrev S2048x11264 : Shape := ⟨2, ![2048, 11264]⟩
abbrev S5632x2048 : Shape := ⟨2, ![5632, 2048]⟩
abbrev S_ : Shape := ⟨0, ![]⟩
abbrev S1 : Shape := ⟨1, ![1]⟩
abbrev S4 : Shape := ⟨1, ![4]⟩

class Facts : Prop where
  bitsLt_bf16_f32 : FTy.bits .bf16 < FTy.bits .f32
  bcast_S_S8448x2048 : S_.BroadcastsInDim S8448x2048 (![] : Fin 0 → Fin S8448x2048.rank)
  reducesTo_S8448x2048_S_d0_1 : S8448x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_
  bcast_S_S5632x2048 : S_.BroadcastsInDim S5632x2048 (![] : Fin 0 → Fin S5632x2048.rank)
  reducesTo_S5632x2048_S_d0_1 : S5632x2048.ReducesTo [0, 1] S_
  bcast_S_S1 : S_.BroadcastsInDim S1 (![] : Fin 0 → Fin S1.rank)
  concatenates_S1_S1_S1_S1_S4_d0 : Shape.Concatenates [S1, S1, S1, S1] S4 0

variable [Facts]

def fn_part1 {F : FTy → Type} [FloatOps F] (main_v4 : IVec S_ 1) (main_v9 : IVec S_ 1) (main_v14 : IVec S_ 1) (main_v16 : FVec F S8448x2048 .f32) (main_cst_4 : FVec F S_ .f32) : IVec S4 1 :=
  let main_v17 : FVec F S8448x2048 .f32 := broadcastInDim S8448x2048 ![] bcast_S_S8448x2048 main_cst_4
  let main_v18 : IVec S8448x2048 1 := cmpf .olt main_v16 main_v17
  let main_c_5 : IVec S_ 1 := constantI S_ 1 1#1
  let main_v19 : IVec S_ 1 := (fun x v => Host.reduce IntOp.andi x v reducesTo_S8448x2048_S_d0_1 h_S_) main_v18 main_c_5
  let main_v20 : IVec S1 1 := broadcastInDim S1 ![] bcast_S_S1 main_v4
  let main_v21 : IVec S1 1 := broadcastInDim S1 ![] bcast_S_S1 main_v9
  let main_v22 : IVec S1 1 := broadcastInDim S1 ![] bcast_S_S1 main_v14
  let main_v23 : IVec S1 1 := broadcastInDim S1 ![] bcast_S_S1 main_v19
  let main_v24 : IVec S4 1 := concatenate S4 0 [⟨S1, main_v20⟩, ⟨S1, main_v21⟩, ⟨S1, main_v22⟩, ⟨S1, main_v23⟩] concatenates_S1_S1_S1_S1_S4_d0
  main_v24

def fn {F : FTy → Type} [FloatOps F] (main_arg0 : FVec F S8448x2048 .bf16) (main_arg1 : FVec F S2048x11264 .bf16) (main_arg2 : FVec F S5632x2048 .bf16) (main_arg3 : FVec F S8448x2048 .bf16) : IVec S4 1 :=
  let main_v0 : FVec F S8448x2048 .f32 := (extf .f32 · bitsLt_bf16_f32) main_arg0
  let main_v1 : FVec F S8448x2048 .f32 := Host.absf main_v0
  let main_cst : FVec F S_ .f32 := constant S_ .f32 0x7F800000#32
  let main_v2 : FVec F S8448x2048 .f32 := broadcastInDim S8448x2048 ![] bcast_S_S8448x2048 main_cst
  let main_v3 : IVec S8448x2048 1 := cmpf .olt main_v1 main_v2
  let main_c : IVec S_ 1 := constantI S_ 1 1#1
  let main_v4 : IVec S_ 1 := (fun x v => Host.reduce IntOp.andi x v reducesTo_S8448x2048_S_d0_1 h_S_) main_v3 main_c
  let main_v5 : FVec F S2048x11264 .f32 := (extf .f32 · bitsLt_bf16_f32) main_arg1
  let main_v6 : FVec F S2048x11264 .f32 := Host.absf main_v5
  let main_cst_0 : FVec F S_ .f32 := constant S_ .f32 0x7F800000#32
  let main_v7 : FVec F S2048x11264 .f32 := broadcastInDim S2048x11264 ![] bcast_S_S2048x11264 main_cst_0
  let main_v8 : IVec S2048x11264 1 := cmpf .olt main_v6 main_v7
  let main_c_1 : IVec S_ 1 := constantI S_ 1 1#1
  let main_v9 : IVec S_ 1 := (fun x v => Host.reduce IntOp.andi x v reducesTo_S2048x11264_S_d0_1 h_S_) main_v8 main_c_1
  let main_v10 : FVec F S5632x2048 .f32 := (extf .f32 · bitsLt_bf16_f32) main_arg2
  let main_v11 : FVec F S5632x2048 .f32 := Host.absf main_v10
  let main_cst_2 : FVec F S_ .f32 := constant S_ .f32 0x7F800000#32
  let main_v12 : FVec F S5632x2048 .f32 := broadcastInDim S5632x2048 ![] bcast_S_S5632x2048 main_cst_2
  let main_v13 : IVec S5632x2048 1 := cmpf .olt main_v11 main_v12
  let main_c_3 : IVec S_ 1 := constantI S_ 1 1#1
  let main_v14 : IVec S_ 1 := (fun x v => Host.reduce IntOp.andi x v reducesTo_S5632x2048_S_d0_1 h_S_) main_v13 main_c_3
  let main_v15 : FVec F S8448x2048 .f32 := (extf .f32 · bitsLt_bf16_f32) main_arg3
  let main_v16 : FVec F S8448x2048 .f32 := Host.absf main_v15
  let main_cst_4 : FVec F S_ .f32 := constant S_ .f32 0x7F800000#32
  fn_part1 (F := F) main_v4 main_v9 main_v14 main_v16 main_cst_4
-- ==== Pre_finite3.lean ====
abbrev S8192x2048 : Shape := ⟨2, ![8192, 2048]⟩
abbrev S2048x11264 : Shape := ⟨2, ![2048, 11264]⟩
abbrev S5632x2048 : Shape := ⟨2, ![5632, 2048]⟩
abbrev S_ : Shape := ⟨0, ![]⟩
abbrev S1 : Shape := ⟨1, ![1]⟩
abbrev S4 : Shape := ⟨1, ![4]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_
  bcast_S_S5632x2048 : S_.BroadcastsInDim S5632x2048 (![] : Fin 0 → Fin S5632x2048.rank)
  reducesTo_S5632x2048_S_d0_1 : S5632x2048.ReducesTo [0, 1] S_
  bcast_S_S1 : S_.BroadcastsInDim S1 (![] : Fin 0 → Fin S1.rank)
  concatenates_S1_S1_S1_S1_S4_d0 : Shape.Concatenates [S1, S1, S1, S1] S4 0

variable [Facts]

def fn_part1 {F : FTy → Type} [FloatOps F] (main_v4 : IVec S_ 1) (main_v9 : IVec S_ 1) (main_v14 : IVec S_ 1) (main_v16 : FVec F S8192x2048 .f32) (main_cst_4 : FVec F S_ .f32) : IVec S4 1 :=
  let main_v17 : FVec F S8192x2048 .f32 := broadcastInDim S8192x2048 ![] bcast_S_S8192x2048 main_cst_4
  let main_v18 : IVec S8192x2048 1 := cmpf .olt main_v16 main_v17
  let main_c_5 : IVec S_ 1 := constantI S_ 1 1#1
  let main_v19 : IVec S_ 1 := (fun x v => Host.reduce IntOp.andi x v reducesTo_S8192x2048_S_d0_1 h_S_) main_v18 main_c_5
  let main_v20 : IVec S1 1 := broadcastInDim S1 ![] bcast_S_S1 main_v4
  let main_v21 : IVec S1 1 := broadcastInDim S1 ![] bcast_S_S1 main_v9
  let main_v22 : IVec S1 1 := broadcastInDim S1 ![] bcast_S_S1 main_v14
  let main_v23 : IVec S1 1 := broadcastInDim S1 ![] bcast_S_S1 main_v19
  let main_v24 : IVec S4 1 := concatenate S4 0 [⟨S1, main_v20⟩, ⟨S1, main_v21⟩, ⟨S1, main_v22⟩, ⟨S1, main_v23⟩] concatenates_S1_S1_S1_S1_S4_d0
  main_v24

def fn {F : FTy → Type} [FloatOps F] (main_arg0 : FVec F S8192x2048 .bf16) (main_arg1 : FVec F S2048x11264 .bf16) (main_arg2 : FVec F S5632x2048 .bf16) (main_arg3 : FVec F S8192x2048 .bf16) : IVec S4 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S2048x11264 .f32 := (extf .f32 · bitsLt_bf16_f32) main_arg1
  let main_v6 : FVec F S2048x11264 .f32 := Host.absf main_v5
  let main_cst_0 : FVec F S_ .f32 := constant S_ .f32 0x7F800000#32
  let main_v7 : FVec F S2048x11264 .f32 := broadcastInDim S2048x11264 ![] bcast_S_S2048x11264 main_cst_0
  let main_v8 : IVec S2048x11264 1 := cmpf .olt main_v6 main_v7
  let main_c_1 : IVec S_ 1 := constantI S_ 1 1#1
  let main_v9 : IVec S_ 1 := (fun x v => Host.reduce IntOp.andi x v reducesTo_S2048x11264_S_d0_1 h_S_) main_v8 main_c_1
  let main_v10 : FVec F S5632x2048 .f32 := (extf .f32 · bitsLt_bf16_f32) main_arg2
  let main_v11 : FVec F S5632x2048 .f32 := Host.absf main_v10
  let main_cst_2 : FVec F S_ .f32 := constant S_ .f32 0x7F800000#32
  let main_v12 : FVec F S5632x2048 .f32 := broadcastInDim S5632x2048 ![] bcast_S_S5632x2048 main_cst_2
  let main_v13 : IVec S5632x2048 1 := cmpf .olt main_v11 main_v12
  let main_c_3 : IVec S_ 1 := constantI S_ 1 1#1
  let main_v14 : IVec S_ 1 := (fun x v => Host.reduce IntOp.andi x v reducesTo_S5632x2048_S_d0_1 h_S_) main_v13 main_c_3
  let main_v15 : FVec F S8192x2048 .f32 := (extf .f32 · bitsLt_bf16_f32) main_arg3
  let main_v16 : FVec F S8192x2048 .f32 := Host.absf main_v15
  let main_cst_4 : FVec F S_ .f32 := constant S_ .f32 0x7F800000#32
  fn_part1 (F := F) main_v4 main_v9 main_v14 main_v16 main_cst_4
-- ==== Pre_finite4.lean ====
abbrev S8448x2560 : Shape := ⟨2, ![8448, 2560]⟩
abbrev S8448x512 : Shape := ⟨2, ![8448, 512]⟩
abbrev S_ : Shape := ⟨0, ![]⟩

class Facts : Prop where
  bitsLt_bf16_f32 : FTy.bits .bf16 < FTy.bits .f32
  bcast_S_S8448x2560 : S_.BroadcastsInDim S8448x2560 (![] : Fin 0 → Fin S8448x2560.rank)
  reducesTo_S8448x2560_S_d0_1 : S8448x2560.ReducesTo [0, 1] S_
  h_S_ : 0 < S_.numel

variable [Facts]

def fn {F : FTy → Type} [FloatOps F] (main_arg0 : FVec F S8448x2560 .bf16) (main_arg1 : FVec F S8448x512 .bf16) : IVec S_ 1 :=
  let main_v0 : FVec F S8448x2560 .f32 := (extf .f32 · bitsLt_bf16_f32) main_arg0
  let main_v1 : FVec F S8448x2560 .f32 := Host.absf main_v0
  let main_cst : FVec F S_ .f32 := constant S_ .f32 0x7F800000#32
  let main_v2 : FVec F S8448x2560 .f32 := broadcastInDim S8448x2560 ![] bcast_S_S8448x2560 main_cst
  let main_v3 : IVec S8448x2560 1 := cmpf .olt main_v1 main_v2
  let main_c : IVec S_ 1 := constantI S_ 1 1#1
  let main_v4 : IVec S_ 1 := (fun x v => Host.reduce IntOp.andi x v reducesTo_S8448x2560_S_d0_1 h_S_) main_v3 main_c
  main_v4
-- ==== Kernel.lean ====
abbrev S8448x2560 : Shape := ⟨2, ![8448, 2560]⟩
abbrev S8448x512 : Shape := ⟨2, ![8448, 512]⟩
abbrev S8192x2048 : Shape := ⟨2, ![8192, 2048]⟩
abbrev S8192x4x4x128 : Shape := ⟨4, ![8192, 4, 4, 128]⟩
abbrev S8448x4x128 : Shape := ⟨3, ![8448, 4, 128]⟩
abbrev S4x8448x8192x4 : Shape := ⟨4, ![4, 8448, 8192, 4]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x128x4x8192 : Shape := ⟨4, ![4, 128, 4, 8192]⟩
abbrev S8192x4x4 : Shape := ⟨3, ![8192, 4, 4]⟩
abbrev S8192x16 : Shape := ⟨2, ![8192, 16]⟩
abbrev S8192x16x1 : Shape := ⟨3, ![8192, 16, 1]⟩
abbrev S8192x16x128 : Shape := ⟨3, ![8192, 16, 128]⟩
abbrev S512x128 : Shape := ⟨2, ![512, 128]⟩
abbrev S8448x128 : Shape := ⟨2, ![8448, 128]⟩
abbrev S512x1 : Shape := ⟨2, ![512, 1]⟩
abbrev S512 : Shape := ⟨1, ![512]⟩
abbrev S1408x128 : Shape := ⟨2, ![1408, 128]⟩
abbrev S512x1408 : Shape := ⟨2, ![512, 1408]⟩

abbrev nBuf : Space → Nat
  | .hbm => 42
  | .vmem => 18
  | .smem => 0
  | _ => 0

abbrev bufTy : (tb : Table) → Fin (tcTables nBuf tb) → BufTy
  | .hbm, ⟨0, _⟩ => ⟨S8448x2560, .bf16⟩
  | .hbm, ⟨1, _⟩ => ⟨S8448x512, .bf16⟩
  | .hbm, ⟨2, _⟩ => ⟨S8192x2048, .bf16⟩
  | .hbm, ⟨3, _⟩ => ⟨S8192x2048, .bf16⟩
  | .hbm, ⟨4, _⟩ => ⟨S8448x512, .bf16⟩
  | .hbm, ⟨5, _⟩ => ⟨S8192x2048, .f32⟩
  | .hbm, ⟨6, _⟩ => ⟨S8192x4x4x128, .f32⟩
  | .hbm, ⟨7, _⟩ => ⟨S8448x512, .f32⟩
  | .hbm, ⟨8, _⟩ => ⟨S8448x4x128, .f32⟩
  | .hbm, ⟨9, _⟩ => ⟨S8448x512, .f32⟩
  | .hbm, ⟨10, _⟩ => ⟨S8448x4x128, .f32⟩
  | .hbm, ⟨11, _⟩ => ⟨S4x8448x8192x4, .f32⟩
  | .hbm, ⟨12, _⟩ => ⟨S4x4x8192x8448, .f32⟩
  | .hbm, ⟨13, _⟩ => ⟨S_, .f32⟩
  | .hbm, ⟨14, _⟩ => ⟨S4x4x8192x8448, .f32⟩
  | .hbm, ⟨15, _⟩ => ⟨S4x4x8192x8448, .f32⟩
  | .hbm, ⟨16, _⟩ => ⟨S_, .f32⟩
  | .hbm, ⟨17, _⟩ => ⟨S4x4x8192, .f32⟩
  | .hbm, ⟨18, _⟩ => ⟨S4x4x8192x1, .f32⟩
  | .hbm, ⟨19, _⟩ => ⟨S4x4x8192x8448, .f32⟩
  | .hbm, ⟨20, _⟩ => ⟨S4x4x8192x8448, .f32⟩
  | .hbm, ⟨21, _⟩ => ⟨S4x4x8192x8448, .f32⟩
  | .hbm, ⟨22, _⟩ => ⟨S_, .f32⟩
  | .hbm, ⟨23, _⟩ => ⟨S4x4x8192, .f32⟩
  | .hbm, ⟨24, _⟩ => ⟨S4x4x8192x1, .f32⟩
  | .hbm, ⟨25, _⟩ => ⟨S4x4x8192x8448, .f32⟩
  | .hbm, ⟨26, _⟩ => ⟨S4x4x8192x8448, .f32⟩
  | .hbm, ⟨27, _⟩ => ⟨S4x128x4x8192, .f32⟩
  | .hbm, ⟨28, _⟩ => ⟨S8192x4x4x128, .f32⟩
  | .hbm, ⟨29, _⟩ => ⟨S8192x2048, .f32⟩
  | .hbm, ⟨30, _⟩ => ⟨S8192x2048, .bf16⟩
  | .hbm, ⟨31, _⟩ => ⟨S4x4x8192x1, .f32⟩
  | .hbm, ⟨32, _⟩ => ⟨S4x4x8192x1, .f32⟩
  | .hbm, ⟨33, _⟩ => ⟨S4x4x8192, .f32⟩
  | .hbm, ⟨34, _⟩ => ⟨S8192x4x4, .f32⟩
  | .hbm, ⟨35, _⟩ => ⟨S8192x16, .f32⟩
  | .hbm, ⟨36, _⟩ => ⟨S8192x16x1, .f32⟩
  | .hbm, ⟨37, _⟩ => ⟨S8192x16x128, .f32⟩
  | .hbm, ⟨38, _⟩ => ⟨S8192x2048, .f32⟩
  | .hbm, ⟨39, _⟩ => ⟨S8192x2048, .f32⟩
  | .hbm, ⟨40, _⟩ => ⟨S8448x512, .f32⟩
  | .hbm, ⟨41, _⟩ => ⟨S8448x512, .f32⟩
  | .local _ .vmem, ⟨0, _⟩ => ⟨S512x128, .bf16⟩
  | .local _ .vmem, ⟨1, _⟩ => ⟨S512x128, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S512x128, .f32⟩
  | .local _ .vmem, ⟨13, _⟩ => ⟨S512x128, .f32⟩
  | .local _ .vmem, ⟨14, _⟩ => ⟨S8448x128, .f32⟩
  | .local _ .vmem, ⟨15, _⟩ => ⟨S8448x128, .f32⟩
  | .local _ .vmem, ⟨16, _⟩ => ⟨S8448x128, .f32⟩
  | .local _ .vmem, ⟨17, _⟩ => ⟨S8448x128, .f32⟩
  | _, _ => ⟨S8448x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33_0 : Ref sig .tc := ⟨.hbm, 39, rfl⟩
abbrev main_v33_1 : Ref sig .tc := ⟨.hbm, 40, rfl⟩
abbrev main_v33_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S8448x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S8448x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== KernelIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== ReferenceIdeal.lean ====
abbrev S8448x2560 : Shape := ⟨2, ![8448, 2560]⟩
abbrev S8448x512 : Shape := ⟨2, ![8448, 512]⟩
abbrev S8192x2048 : Shape := ⟨2, ![8192, 2048]⟩
abbrev S8192x4x4x128 : Shape := ⟨4, ![8192, 4, 4, 128]⟩
abbrev S8448x4x128 : Shape := ⟨3, ![8448, 4, 128]⟩
abbrev S4x8448x8192x4 : Shape := ⟨4, ![4, 8448, 8192, 4]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x128x4x8192 : Shape := ⟨4, ![4, 128, 4, 8192]⟩
abbrev S4x128x8448 : Shape := ⟨3, ![4, 128, 8448]⟩
abbrev S4x8192x4x128 : Shape := ⟨4, ![4, 8192, 4, 128]⟩
abbrev S4x8448x128 : Shape := ⟨3, ![4, 8448, 128]⟩

abbrev nBuf : Space → Nat
  | .hbm => 88
  | .vmem => 0
  | .smem => 0
  | _ => 0

abbrev bufTy : (tb : Table) → Fin (tcTables nBuf tb) → BufTy
  | .hbm, ⟨0, _⟩ => ⟨S8448x2560, .bf16⟩
  | .hbm, ⟨1, _⟩ => ⟨S8448x512, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S8448x512, .bf16⟩
  | .hbm, ⟨6, _⟩ => ⟨S8448x512, .f32⟩
  | .hbm, ⟨7, _⟩ => ⟨S8448x512, .f32⟩
  | .hbm, ⟨8, _⟩ => ⟨S8192x4x4x128, .f32⟩
  | .hbm, ⟨9, _⟩ => ⟨S8448x4x128, .f32⟩
  | .hbm, ⟨10, _⟩ => ⟨S8448x4x128, .f32⟩
  | .hbm, ⟨11, _⟩ => ⟨S4x8448x8192x4, .f32⟩
  | .hbm, ⟨12, _⟩ => ⟨S4x4x8192x8448, .f32⟩
  | .hbm, ⟨13, _⟩ => ⟨S_, .f32⟩
  | .hbm, ⟨14, _⟩ => ⟨S4x4x8192x8448, .f32⟩
  | .hbm, ⟨15, _⟩ => ⟨S4x4x8192x8448, .f32⟩
  | .hbm, ⟨16, _⟩ => ⟨S_, .f32⟩
  | .hbm, ⟨17, _⟩ => ⟨S4x4x8192, .f32⟩
  | .hbm, ⟨18, _⟩ => ⟨S4x4x8192x1, .f32⟩
  | .hbm, ⟨19, _⟩ => ⟨S4x4x8192x8448, .f32⟩
  | .hbm, ⟨20, _⟩ => ⟨S4x4x8192x8448, .i1⟩
  | .hbm, ⟨21, _⟩ => ⟨S4x4x8192x8448, .f32⟩
  | .hbm, ⟨22, _⟩ => ⟨S_, .f32⟩
  | .hbm, ⟨23, _⟩ => ⟨S4x4x8192, .f32⟩
  | .hbm, ⟨24, _⟩ => ⟨S_, .f32⟩
  | .hbm, ⟨25, _⟩ => ⟨S4x4x8192, .f32⟩
  | .hbm, ⟨26, _⟩ => ⟨S4x4x8192, .f32⟩
  | .hbm, ⟨27, _⟩ => ⟨S_, .f32⟩
  | .hbm, ⟨28, _⟩ => ⟨S4x4x8192, .f32⟩
  | .hbm, ⟨29, _⟩ => ⟨S4x4x8192, .i1⟩
  | .hbm, ⟨30, _⟩ => ⟨S_, .f32⟩
  | .hbm, ⟨31, _⟩ => ⟨S4x4x8192, .f32⟩
  | .hbm, ⟨32, _⟩ => ⟨S4x4x8192, .i1⟩
  | .hbm, ⟨33, _⟩ => ⟨S_, .f32⟩
  | .hbm, ⟨34, _⟩ => ⟨S4x4x8192, .f32⟩
  | .hbm, ⟨35, _⟩ => ⟨S_, .f32⟩
  | .hbm, ⟨36, _⟩ => ⟨S4x4x8192, .f32⟩
  | .hbm, ⟨37, _⟩ => ⟨S_, .f32⟩
  | .hbm, ⟨38, _⟩ => ⟨S4x4x8192, .f32⟩
  | .hbm, ⟨39, _⟩ => ⟨S4x4x8192, .f32⟩
  | .hbm, ⟨40, _⟩ => ⟨S4x4x8192, .f32⟩
  | .hbm, ⟨41, _⟩ => ⟨S4x4x8192x1, .f32⟩
  | .hbm, ⟨42, _⟩ => ⟨S4x4x8192x8448, .f32⟩
  | .hbm, ⟨43, _⟩ => ⟨S4x4x8192x8448, .f32⟩
  | .hbm, ⟨44, _⟩ => ⟨S4x4x8192x8448, .f32⟩
  | .hbm, ⟨45, _⟩ => ⟨S_, .f32⟩
  | .hbm, ⟨46, _⟩ => ⟨S4x4x8192, .f32⟩
  | .hbm, ⟨47, _⟩ => ⟨S4x4x8192x1, .f32⟩
  | .hbm, ⟨48, _⟩ => ⟨S4x4x8192x8448, .f32⟩
  | .hbm, ⟨49, _⟩ => ⟨S4x4x8192x8448, .f32⟩
  | .hbm, ⟨50, _⟩ => ⟨S4x4x8192x1, .f32⟩
  | .hbm, ⟨51, _⟩ => ⟨S_, .f32⟩
  | .hbm, ⟨52, _⟩ => ⟨S4x4x8192x1, .f32⟩
  | .hbm, ⟨53, _⟩ => ⟨S4x4x8192x1, .f32⟩
  | .hbm, ⟨54, _⟩ => ⟨S4x128x4x8192, .f32⟩
  | .hbm, ⟨55, _⟩ => ⟨S8192x4x4x128, .f32⟩
  | .hbm, ⟨56, _⟩ => ⟨S8192x2048, .f32⟩
  | .hbm, ⟨57, _⟩ => ⟨S8192x2048, .f32⟩
  | .hbm, ⟨58, _⟩ => ⟨S8192x4x4x128, .f32⟩
  | .hbm, ⟨59, _⟩ => ⟨S4x128x4x8192, .f32⟩
  | .hbm, ⟨60, _⟩ => ⟨S4x4x8192x8448, .f32⟩
  | .hbm, ⟨61, _⟩ => ⟨S4x128x8448, .f32⟩
  | .hbm, ⟨62, _⟩ => ⟨S8448x4x128, .f32⟩
  | .hbm, ⟨63, _⟩ => ⟨S4x4x8192x8448, .f32⟩
  | .hbm, ⟨64, _⟩ => ⟨S4x4x8192x8448, .f32⟩
  | .hbm, ⟨65, _⟩ => ⟨S4x4x8192x8448, .f32⟩
  | .hbm, ⟨66, _⟩ => ⟨S_, .f32⟩
  | .hbm, ⟨67, _⟩ => ⟨S4x4x8192, .f32⟩
  | .hbm, ⟨68, _⟩ => ⟨S4x4x8192x1, .f32⟩
  | .hbm, ⟨69, _⟩ => ⟨S4x4x8192x1, .f32⟩
  | .hbm, ⟨70, _⟩ => ⟨S4x4x8192x8448, .f32⟩
  | .hbm, ⟨71, _⟩ => ⟨S4x4x8192x8448, .f32⟩
  | .hbm, ⟨72, _⟩ => ⟨S_, .f32⟩
  | .hbm, ⟨73, _⟩ => ⟨S4x4x8192, .f32⟩
  | .hbm, ⟨74, _⟩ => ⟨S4x4x8192x8448, .f32⟩
  | .hbm, ⟨75, _⟩ => ⟨S4x4x8192x8448, .f32⟩
  | .hbm, ⟨76, _⟩ => ⟨S4x4x8192x8448, .f32⟩
  | .hbm, ⟨77, _⟩ => ⟨S_, .f32⟩
  | .hbm, ⟨78, _⟩ => ⟨S4x4x8192x8448, .f32⟩
  | .hbm, ⟨79, _⟩ => ⟨S4x4x8192x8448, .f32⟩
  | .hbm, ⟨80, _⟩ => ⟨S4x8448x8192x4, .f32⟩
  | .hbm, ⟨81, _⟩ => ⟨S4x8192x4x128, .f32⟩
  | .hbm, ⟨82, _⟩ => ⟨S8192x4x4x128, .f32⟩
  | .hbm, ⟨83, _⟩ => ⟨S4x8448x128, .f32⟩
  | .hbm, ⟨84, _⟩ => ⟨S8448x4x128, .f32⟩
  | .hbm, ⟨85, _⟩ => ⟨S8448x512, .f32⟩
  | .hbm, ⟨86, _⟩ => ⟨S8448x512, .f32⟩
  | .hbm, ⟨87, _⟩ => ⟨S8192x2048, .f32⟩
  | _, _ => ⟨S8448x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Gate.lean ====
abbrev S8448x2048 : Shape := ⟨2, ![8448, 2048]⟩
abbrev S2048x11264 : Shape := ⟨2, ![2048, 11264]⟩
abbrev S5632x2048 : Shape := ⟨2, ![5632, 2048]⟩
abbrev S8448x11264 : Shape := ⟨2, ![8448, 11264]⟩
abbrev S8448x5632 : Shape := ⟨2, ![8448, 5632]⟩
abbrev S1x8448x5632 : Shape := ⟨3, ![1, 8448, 5632]⟩
abbrev S2x8448x5632 : Shape := ⟨3, ![2, 8448, 5632]⟩
abbrev S1408x2048 : Shape := ⟨2, ![1408, 2048]⟩
abbrev S512x2048 : Shape := ⟨2, ![512, 2048]⟩
abbrev S2x1408x512 : Shape := ⟨3, ![2, 1408, 512]⟩
abbrev S256x2048 : Shape := ⟨2, ![256, 2048]⟩
abbrev S1408x256 : Shape := ⟨2, ![1408, 256]⟩
abbrev S1x1408x256 : Shape := ⟨3, ![1, 1408, 256]⟩

abbrev nBuf : Space → Nat
  | .hbm => 13
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S2048x11264, .bf16⟩
  | .hbm, ⟨2, _⟩ => ⟨S5632x2048, .bf16⟩
  | .hbm, ⟨3, _⟩ => ⟨S8448x2048, .bf16⟩
  | .hbm, ⟨4, _⟩ => ⟨S8448x2048, .f32⟩
  | .hbm, ⟨5, _⟩ => ⟨S2048x11264, .f32⟩
  | .hbm, ⟨6, _⟩ => ⟨S8448x11264, .f32⟩
  | .hbm, ⟨7, _⟩ => ⟨S8448x5632, .f32⟩
  | .hbm, ⟨8, _⟩ => ⟨S8448x5632, .f32⟩
  | .hbm, ⟨9, _⟩ => ⟨S1x8448x5632, .f32⟩
  | .hbm, ⟨10, _⟩ => ⟨S1x8448x5632, .f32⟩
  | .hbm, ⟨11, _⟩ => ⟨S2x8448x5632, .f32⟩
  | .hbm, ⟨12, _⟩ => ⟨S2x8448x5632, .bf16⟩
  | .local _ .vmem, ⟨0, _⟩ => ⟨S1408x2048, .bf16⟩
  | .local _ .vmem, ⟨1, _⟩ => ⟨S1408x2048, .bf16⟩
  | .local _ .vmem, ⟨2, _⟩ => ⟨S512x2048, .bf16⟩
  | .local _ .vmem, ⟨3, _⟩ => ⟨S512x2048, .bf16⟩
  | .local _ .vmem, ⟨4, _⟩ => ⟨S2x1408x512, .f32⟩
  | .local _ .vmem, ⟨5, _⟩ => ⟨S2x1408x512, .f32⟩
  | .local _ .vmem, ⟨6, _⟩ => ⟨S2x1408x512, .bf16⟩
  | .local _ .vmem, ⟨7, _⟩ => ⟨S2x1408x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateRefIdeal.lean ====
abbrev S8448x2048 : Shape := ⟨2, ![8448, 2048]⟩
abbrev S2048x11264 : Shape := ⟨2, ![2048, 11264]⟩
abbrev S5632x2048 : Shape := ⟨2, ![5632, 2048]⟩
abbrev S8448x11264 : Shape := ⟨2, ![8448, 11264]⟩
abbrev S8448x5632 : Shape := ⟨2, ![8448, 5632]⟩
abbrev S_ : Shape := ⟨0, ![]⟩
abbrev S1x8448x5632 : Shape := ⟨3, ![1, 8448, 5632]⟩
abbrev S2x8448x5632 : Shape := ⟨3, ![2, 8448, 5632]⟩

abbrev nBuf : Space → Nat
  | .hbm => 37
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x11264, .bf16⟩
  | .hbm, ⟨2, _⟩ => ⟨S5632x2048, .bf16⟩
  | .hbm, ⟨3, _⟩ => ⟨S8448x2048, .bf16⟩
  | .hbm, ⟨4, _⟩ => ⟨S8448x2048, .f32⟩
  | .hbm, ⟨5, _⟩ => ⟨S2048x11264, .f32⟩
  | .hbm, ⟨6, _⟩ => ⟨S8448x11264, .f32⟩
  | .hbm, ⟨7, _⟩ => ⟨S8448x5632, .f32⟩
  | .hbm, ⟨8, _⟩ => ⟨S8448x5632, .f32⟩
  | .hbm, ⟨9, _⟩ => ⟨S5632x2048, .f32⟩
  | .hbm, ⟨10, _⟩ => ⟨S8448x5632, .f32⟩
  | .hbm, ⟨11, _⟩ => ⟨S8448x5632, .f32⟩
  | .hbm, ⟨12, _⟩ => ⟨S_, .f32⟩
  | .hbm, ⟨13, _⟩ => ⟨S8448x5632, .f32⟩
  | .hbm, ⟨14, _⟩ => ⟨S8448x5632, .f32⟩
  | .hbm, ⟨15, _⟩ => ⟨S_, .f32⟩
  | .hbm, ⟨16, _⟩ => ⟨S8448x5632, .f32⟩
  | .hbm, ⟨17, _⟩ => ⟨S8448x5632, .f32⟩
  | .hbm, ⟨18, _⟩ => ⟨S_, .f32⟩
  | .hbm, ⟨19, _⟩ => ⟨S8448x5632, .f32⟩
  | .hbm, ⟨20, _⟩ => ⟨S8448x5632, .f32⟩
  | .hbm, ⟨21, _⟩ => ⟨S8448x5632, .f32⟩
  | .hbm, ⟨22, _⟩ => ⟨S8448x5632, .f32⟩
  | .hbm, ⟨23, _⟩ => ⟨S8448x5632, .f32⟩
  | .hbm, ⟨24, _⟩ => ⟨S8448x2048, .f32⟩
  | .hbm, ⟨25, _⟩ => ⟨S8448x2048, .f32⟩
  | .hbm, ⟨26, _⟩ => ⟨S8448x5632, .f32⟩
  | .hbm, ⟨27, _⟩ => ⟨S8448x5632, .f32⟩
  | .hbm, ⟨28, _⟩ => ⟨S8448x5632, .f32⟩
  | .hbm, ⟨29, _⟩ => ⟨S8448x5632, .f32⟩
  | .hbm, ⟨30, _⟩ => ⟨S8448x5632, .f32⟩
  | .hbm, ⟨31, _⟩ => ⟨S8448x5632, .f32⟩
  | .hbm, ⟨32, _⟩ => ⟨S8448x5632, .f32⟩
  | .hbm, ⟨33, _⟩ => ⟨S1x8448x5632, .f32⟩
  | .hbm, ⟨34, _⟩ => ⟨S1x8448x5632, .f32⟩
  | .hbm, ⟨35, _⟩ => ⟨S2x8448x5632, .f32⟩
  | .hbm, ⟨36, _⟩ => ⟨S2x8448x5632, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v6_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v6_1 : Ref sig .tc := ⟨.hbm, 21, rfl⟩
abbrev main_v6_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== Dh.lean ====
abbrev S2x8448x5632 : Shape := ⟨3, ![2, 8448, 5632]⟩
abbrev S2048x11264 : Shape := ⟨2, ![2048, 11264]⟩
abbrev S8448x2048 : Shape := ⟨2, ![8448, 2048]⟩
abbrev S1x1408x2816 : Shape := ⟨3, ![1, 1408, 2816]⟩
abbrev S1024x2816 : Shape := ⟨2, ![1024, 2816]⟩
abbrev S1408x1024 : Shape := ⟨2, ![1408, 1024]⟩
abbrev S1408x2816 : Shape := ⟨2, ![1408, 2816]⟩

abbrev nBuf : Space → Nat
  | .hbm => 3
  | .vmem => 7
  | .smem => 0
  | _ => 0

abbrev bufTy : (tb : Table) → Fin (tcTables nBuf tb) → BufTy
  | .hbm, ⟨0, _⟩ => ⟨S2x8448x5632, .bf16⟩
  | .hbm, ⟨1, _⟩ => ⟨S2048x11264, .bf16⟩
  | .hbm, ⟨2, _⟩ => ⟨S8448x2048, .f32⟩
  | .local _ .vmem, ⟨0, _⟩ => ⟨S1x1408x2816, .bf16⟩
  | .local _ .vmem, ⟨1, _⟩ => ⟨S1x1408x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S2x8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1408x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S2x8448x5632 : Shape := ⟨3, ![2, 8448, 5632]⟩
abbrev S2048x11264 : Shape := ⟨2, ![2048, 11264]⟩
abbrev S1x8448x5632 : Shape := ⟨3, ![1, 8448, 5632]⟩
abbrev S8448x5632 : Shape := ⟨2, ![8448, 5632]⟩
abbrev S_ : Shape := ⟨0, ![]⟩
abbrev S8448x2048 : Shape := ⟨2, ![8448, 2048]⟩
abbrev S8448x11264 : Shape := ⟨2, ![8448, 11264]⟩

abbrev nBuf : Space → Nat
  | .hbm => 15
  | .vmem => 0
  | .smem => 0
  | _ => 0

abbrev bufTy : (tb : Table) → Fin (tcTables nBuf tb) → BufTy
  | .hbm, ⟨0, _⟩ => ⟨S2x8448x5632, .bf16⟩
  | .hbm, ⟨1, _⟩ => ⟨S2048x11264, .bf16⟩
  | .hbm, ⟨2, _⟩ => ⟨S2x8448x5632, .f32⟩
  | .hbm, ⟨3, _⟩ => ⟨S1x8448x5632, .f32⟩
  | .hbm, ⟨4, _⟩ => ⟨S8448x5632, .f32⟩
  | .hbm, ⟨5, _⟩ => ⟨S1x8448x5632, .f32⟩
  | .hbm, ⟨6, _⟩ => ⟨S8448x5632, .f32⟩
  | .hbm, ⟨7, _⟩ => ⟨S_, .f32⟩
  | .hbm, ⟨8, _⟩ => ⟨S8448x2048, .f32⟩
  | .hbm, ⟨9, _⟩ => ⟨S2048x11264, .f32⟩
  | .hbm, ⟨10, _⟩ => ⟨S8448x11264, .f32⟩
  | .hbm, ⟨11, _⟩ => ⟨S8448x5632, .f32⟩
  | .hbm, ⟨12, _⟩ => ⟨S8448x5632, .f32⟩
  | .hbm, ⟨13, _⟩ => ⟨S8448x11264, .f32⟩
  | .hbm, ⟨14, _⟩ => ⟨S8448x2048, .f32⟩
  | _, _ => ⟨S2x8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Gwi.lean ====
abbrev S8448x2048 : Shape := ⟨2, ![8448, 2048]⟩
abbrev S2x8448x5632 : Shape := ⟨3, ![2, 8448, 5632]⟩
abbrev S2048x11264 : Shape := ⟨2, ![2048, 11264]⟩
abbrev S2816x1024 : Shape := ⟨2, ![2816, 1024]⟩
abbrev S1x2816x1408 : Shape := ⟨3, ![1, 2816, 1408]⟩
abbrev S1024x1408 : Shape := ⟨2, ![1024, 1408]⟩
abbrev S2816x1408 : Shape := ⟨2, ![2816, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S2x8448x5632, .bf16⟩
  | .hbm, ⟨2, _⟩ => ⟨S2048x11264, .bf16⟩
  | .local _ .vmem, ⟨0, _⟩ => ⟨S2816x1024, .bf16⟩
  | .local _ .vmem, ⟨1, _⟩ => ⟨S2816x1024, .bf16⟩
  | .local _ .vmem, ⟨2, _⟩ => ⟨S1x2816x1408, .bf16⟩
  | .local _ .vmem, ⟨3, _⟩ => ⟨S1x2816x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 3], ![false, false, false]⟩

def k0_cond3 (i : grid0.Coords) : BitVec 1 :=
  let arg2 : BitVec 32 := BitVec.ofNat 32 (i 2).val
  let c2_i32_7 : BitVec 32 := 2#32
  let v12 : BitVec 1 := Scalar.cmpi .eq arg2 c2_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwiRefIdeal.lean ====
abbrev S8448x2048 : Shape := ⟨2, ![8448, 2048]⟩
abbrev S2x8448x5632 : Shape := ⟨3, ![2, 8448, 5632]⟩
abbrev S1x8448x5632 : Shape := ⟨3, ![1, 8448, 5632]⟩
abbrev S8448x5632 : Shape := ⟨2, ![8448, 5632]⟩
abbrev S_ : Shape := ⟨0, ![]⟩
abbrev S2048x11264 : Shape := ⟨2, ![2048, 11264]⟩
abbrev S8448x11264 : Shape := ⟨2, ![8448, 11264]⟩
abbrev S11264x2048 : Shape := ⟨2, ![11264, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2x8448x5632, .bf16⟩
  | .hbm, ⟨2, _⟩ => ⟨S2x8448x5632, .f32⟩
  | .hbm, ⟨3, _⟩ => ⟨S1x8448x5632, .f32⟩
  | .hbm, ⟨4, _⟩ => ⟨S8448x5632, .f32⟩
  | .hbm, ⟨5, _⟩ => ⟨S1x8448x5632, .f32⟩
  | .hbm, ⟨6, _⟩ => ⟨S8448x5632, .f32⟩
  | .hbm, ⟨7, _⟩ => ⟨S_, .f32⟩
  | .hbm, ⟨8, _⟩ => ⟨S2048x11264, .f32⟩
  | .hbm, ⟨9, _⟩ => ⟨S8448x2048, .f32⟩
  | .hbm, ⟨10, _⟩ => ⟨S8448x11264, .f32⟩
  | .hbm, ⟨11, _⟩ => ⟨S8448x5632, .f32⟩
  | .hbm, ⟨12, _⟩ => ⟨S8448x5632, .f32⟩
  | .hbm, ⟨13, _⟩ => ⟨S8448x11264, .f32⟩
  | .hbm, ⟨14, _⟩ => ⟨S11264x2048, .f32⟩
  | .hbm, ⟨15, _⟩ => ⟨S2048x11264, .f32⟩
  | .hbm, ⟨16, _⟩ => ⟨S2048x11264, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Gwo.lean ====
abbrev S8448x2048 : Shape := ⟨2, ![8448, 2048]⟩
abbrev S2048x11264 : Shape := ⟨2, ![2048, 11264]⟩
abbrev S8448x11264 : Shape := ⟨2, ![8448, 11264]⟩
abbrev S8448x5632 : Shape := ⟨2, ![8448, 5632]⟩
abbrev S_ : Shape := ⟨0, ![]⟩
abbrev S5632x2048 : Shape := ⟨2, ![5632, 2048]⟩
abbrev S2816x1408 : Shape := ⟨2, ![2816, 1408]⟩
abbrev S2816x1024 : Shape := ⟨2, ![2816, 1024]⟩
abbrev S1408x1024 : Shape := ⟨2, ![1408, 1024]⟩

abbrev nBuf : Space → Nat
  | .hbm => 20
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S2048x11264, .bf16⟩
  | .hbm, ⟨2, _⟩ => ⟨S8448x2048, .bf16⟩
  | .hbm, ⟨3, _⟩ => ⟨S8448x2048, .f32⟩
  | .hbm, ⟨4, _⟩ => ⟨S2048x11264, .f32⟩
  | .hbm, ⟨5, _⟩ => ⟨S8448x11264, .f32⟩
  | .hbm, ⟨6, _⟩ => ⟨S8448x5632, .f32⟩
  | .hbm, ⟨7, _⟩ => ⟨S8448x5632, .f32⟩
  | .hbm, ⟨8, _⟩ => ⟨S8448x5632, .f32⟩
  | .hbm, ⟨9, _⟩ => ⟨S8448x5632, .f32⟩
  | .hbm, ⟨10, _⟩ => ⟨S_, .f32⟩
  | .hbm, ⟨11, _⟩ => ⟨S8448x5632, .f32⟩
  | .hbm, ⟨12, _⟩ => ⟨S8448x5632, .f32⟩
  | .hbm, ⟨13, _⟩ => ⟨S_, .f32⟩
  | .hbm, ⟨14, _⟩ => ⟨S8448x5632, .f32⟩
  | .hbm, ⟨15, _⟩ => ⟨S8448x5632, .f32⟩
  | .hbm, ⟨16, _⟩ => ⟨S8448x5632, .f32⟩
  | .hbm, ⟨17, _⟩ => ⟨S8448x5632, .f32⟩
  | .hbm, ⟨18, _⟩ => ⟨S8448x5632, .bf16⟩
  | .hbm, ⟨19, _⟩ => ⟨S5632x2048, .bf16⟩
  | .local _ .vmem, ⟨0, _⟩ => ⟨S2816x1408, .bf16⟩
  | .local _ .vmem, ⟨1, _⟩ => ⟨S2816x1408, .bf16⟩
  | .local _ .vmem, ⟨2, _⟩ => ⟨S2816x1024, .bf16⟩
  | .local _ .vmem, ⟨3, _⟩ => ⟨S2816x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_6 : BitVec 32 := 2#32
  let v12 : BitVec 1 := Scalar.cmpi .eq arg2 c2_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwoRefIdeal.lean ====
abbrev S8448x2048 : Shape := ⟨2, ![8448, 2048]⟩
abbrev S2048x11264 : Shape := ⟨2, ![2048, 11264]⟩
abbrev S8448x11264 : Shape := ⟨2, ![8448, 11264]⟩
abbrev S8448x5632 : Shape := ⟨2, ![8448, 5632]⟩
abbrev S_ : Shape := ⟨0, ![]⟩
abbrev S5632x2048 : Shape := ⟨2, ![5632, 2048]⟩
abbrev S2048x5632 : Shape := ⟨2, ![2048, 5632]⟩

abbrev nBuf : Space → Nat
  | .hbm => 25
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x11264, .bf16⟩
  | .hbm, ⟨2, _⟩ => ⟨S8448x2048, .bf16⟩
  | .hbm, ⟨3, _⟩ => ⟨S8448x2048, .f32⟩
  | .hbm, ⟨4, _⟩ => ⟨S2048x11264, .f32⟩
  | .hbm, ⟨5, _⟩ => ⟨S8448x11264, .f32⟩
  | .hbm, ⟨6, _⟩ => ⟨S8448x5632, .f32⟩
  | .hbm, ⟨7, _⟩ => ⟨S8448x5632, .f32⟩
  | .hbm, ⟨8, _⟩ => ⟨S_, .f32⟩
  | .hbm, ⟨9, _⟩ => ⟨S5632x2048, .f32⟩
  | .hbm, ⟨10, _⟩ => ⟨S8448x5632, .f32⟩
  | .hbm, ⟨11, _⟩ => ⟨S8448x5632, .f32⟩
  | .hbm, ⟨12, _⟩ => ⟨S_, .f32⟩
  | .hbm, ⟨13, _⟩ => ⟨S8448x5632, .f32⟩
  | .hbm, ⟨14, _⟩ => ⟨S8448x5632, .f32⟩
  | .hbm, ⟨15, _⟩ => ⟨S_, .f32⟩
  | .hbm, ⟨16, _⟩ => ⟨S8448x5632, .f32⟩
  | .hbm, ⟨17, _⟩ => ⟨S8448x5632, .f32⟩
  | .hbm, ⟨18, _⟩ => ⟨S8448x5632, .f32⟩
  | .hbm, ⟨19, _⟩ => ⟨S8448x5632, .f32⟩
  | .hbm, ⟨20, _⟩ => ⟨S8448x2048, .f32⟩
  | .hbm, ⟨21, _⟩ => ⟨S8448x2048, .f32⟩
  | .hbm, ⟨22, _⟩ => ⟨S2048x5632, .f32⟩
  | .hbm, ⟨23, _⟩ => ⟨S5632x2048, .f32⟩
  | .hbm, ⟨24, _⟩ => ⟨S5632x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Gate2.lean ====
abbrev S8192x2048 : Shape := ⟨2, ![8192, 2048]⟩
abbrev S2048x11264 : Shape := ⟨2, ![2048, 11264]⟩
abbrev S5632x2048 : Shape := ⟨2, ![5632, 2048]⟩
abbrev S8192x11264 : Shape := ⟨2, ![8192, 11264]⟩
abbrev S8192x5632 : Shape := ⟨2, ![8192, 5632]⟩
abbrev S1x8192x5632 : Shape := ⟨3, ![1, 8192, 5632]⟩
abbrev S2x8192x5632 : Shape := ⟨3, ![2, 8192, 5632]⟩
abbrev S1024x2048 : Shape := ⟨2, ![1024, 2048]⟩
abbrev S512x2048 : Shape := ⟨2, ![512, 2048]⟩
abbrev S2x1024x512 : Shape := ⟨3, ![2, 1024, 512]⟩
abbrev S256x2048 : Shape := ⟨2, ![256, 2048]⟩
abbrev S1024x256 : Shape := ⟨2, ![1024, 256]⟩
abbrev S1x1024x256 : Shape := ⟨3, ![1, 1024, 256]⟩

abbrev nBuf : Space → Nat
  | .hbm => 13
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S5632x2048, .bf16⟩
  | .hbm, ⟨3, _⟩ => ⟨S8192x2048, .bf16⟩
  | .hbm, ⟨4, _⟩ => ⟨S8192x2048, .f32⟩
  | .hbm, ⟨5, _⟩ => ⟨S2048x11264, .f32⟩
  | .hbm, ⟨6, _⟩ => ⟨S8192x11264, .f32⟩
  | .hbm, ⟨7, _⟩ => ⟨S8192x5632, .f32⟩
  | .hbm, ⟨8, _⟩ => ⟨S8192x5632, .f32⟩
  | .hbm, ⟨9, _⟩ => ⟨S1x8192x5632, .f32⟩
  | .hbm, ⟨10, _⟩ => ⟨S1x8192x5632, .f32⟩
  | .hbm, ⟨11, _⟩ => ⟨S2x8192x5632, .f32⟩
  | .hbm, ⟨12, _⟩ => ⟨S2x8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S2x1024x512, .f32⟩
  | .local _ .vmem, ⟨5, _⟩ => ⟨S2x1024x512, .f32⟩
  | .local _ .vmem, ⟨6, _⟩ => ⟨S2x1024x512, .bf16⟩
  | .local _ .vmem, ⟨7, _⟩ => ⟨S2x1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Gate2RefIdeal.lean ====
abbrev S8192x2048 : Shape := ⟨2, ![8192, 2048]⟩
abbrev S2048x11264 : Shape := ⟨2, ![2048, 11264]⟩
abbrev S5632x2048 : Shape := ⟨2, ![5632, 2048]⟩
abbrev S8192x11264 : Shape := ⟨2, ![8192, 11264]⟩
abbrev S8192x5632 : Shape := ⟨2, ![8192, 5632]⟩
abbrev S_ : Shape := ⟨0, ![]⟩
abbrev S1x8192x5632 : Shape := ⟨3, ![1, 8192, 5632]⟩
abbrev S2x8192x5632 : Shape := ⟨3, ![2, 8192, 5632]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S5632x2048, .bf16⟩
  | .hbm, ⟨3, _⟩ => ⟨S8192x2048, .bf16⟩
  | .hbm, ⟨4, _⟩ => ⟨S8192x2048, .f32⟩
  | .hbm, ⟨5, _⟩ => ⟨S2048x11264, .f32⟩
  | .hbm, ⟨6, _⟩ => ⟨S8192x11264, .f32⟩
  | .hbm, ⟨7, _⟩ => ⟨S8192x5632, .f32⟩
  | .hbm, ⟨8, _⟩ => ⟨S8192x5632, .f32⟩
  | .hbm, ⟨9, _⟩ => ⟨S5632x2048, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S_, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x2048, .f32⟩
  | .hbm, ⟨25, _⟩ => ⟨S8192x2048, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S1x8192x5632, .f32⟩
  | .hbm, ⟨34, _⟩ => ⟨S1x8192x5632, .f32⟩
  | .hbm, ⟨35, _⟩ => ⟨S2x8192x5632, .f32⟩
  | .hbm, ⟨36, _⟩ => ⟨S2x8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v6_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v6_1 : Ref sig .tc := ⟨.hbm, 21, rfl⟩
abbrev main_v6_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== Dh2.lean ====
abbrev S2x8192x5632 : Shape := ⟨3, ![2, 8192, 5632]⟩
abbrev S2048x11264 : Shape := ⟨2, ![2048, 11264]⟩
abbrev S8192x2048 : Shape := ⟨2, ![8192, 2048]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x5632, .bf16⟩
  | .hbm, ⟨1, _⟩ => ⟨S2048x11264, .bf16⟩
  | .hbm, ⟨2, _⟩ => ⟨S8192x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2RefIdeal.lean ====
abbrev S2x8192x5632 : Shape := ⟨3, ![2, 8192, 5632]⟩
abbrev S2048x11264 : Shape := ⟨2, ![2048, 11264]⟩
abbrev S1x8192x5632 : Shape := ⟨3, ![1, 8192, 5632]⟩
abbrev S8192x5632 : Shape := ⟨2, ![8192, 5632]⟩
abbrev S_ : Shape := ⟨0, ![]⟩
abbrev S8192x2048 : Shape := ⟨2, ![8192, 2048]⟩
abbrev S8192x11264 : Shape := ⟨2, ![8192, 11264]⟩

abbrev nBuf : Space → Nat
  | .hbm => 15
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S2048x11264, .bf16⟩
  | .hbm, ⟨2, _⟩ => ⟨S2x8192x5632, .f32⟩
  | .hbm, ⟨3, _⟩ => ⟨S1x8192x5632, .f32⟩
  | .hbm, ⟨4, _⟩ => ⟨S8192x5632, .f32⟩
  | .hbm, ⟨5, _⟩ => ⟨S1x8192x5632, .f32⟩
  | .hbm, ⟨6, _⟩ => ⟨S8192x5632, .f32⟩
  | .hbm, ⟨7, _⟩ => ⟨S_, .f32⟩
  | .hbm, ⟨8, _⟩ => ⟨S8192x2048, .f32⟩
  | .hbm, ⟨9, _⟩ => ⟨S2048x11264, .f32⟩
  | .hbm, ⟨10, _⟩ => ⟨S8192x11264, .f32⟩
  | .hbm, ⟨11, _⟩ => ⟨S8192x5632, .f32⟩
  | .hbm, ⟨12, _⟩ => ⟨S8192x5632, .f32⟩
  | .hbm, ⟨13, _⟩ => ⟨S8192x11264, .f32⟩
  | .hbm, ⟨14, _⟩ => ⟨S8192x2048, .f32⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Gwi2.lean ====
abbrev S8192x2048 : Shape := ⟨2, ![8192, 2048]⟩
abbrev S2x8192x5632 : Shape := ⟨3, ![2, 8192, 5632]⟩
abbrev S2048x11264 : Shape := ⟨2, ![2048, 11264]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Gwi2RefIdeal.lean ====
abbrev S8192x2048 : Shape := ⟨2, ![8192, 2048]⟩
abbrev S2x8192x5632 : Shape := ⟨3, ![2, 8192, 5632]⟩
abbrev S1x8192x5632 : Shape := ⟨3, ![1, 8192, 5632]⟩
abbrev S8192x5632 : Shape := ⟨2, ![8192, 5632]⟩
abbrev S_ : Shape := ⟨0, ![]⟩
abbrev S2048x11264 : Shape := ⟨2, ![2048, 11264]⟩
abbrev S8192x11264 : Shape := ⟨2, ![8192, 11264]⟩
abbrev S11264x2048 : Shape := ⟨2, ![11264, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S2x8192x5632, .f32⟩
  | .hbm, ⟨3, _⟩ => ⟨S1x8192x5632, .f32⟩
  | .hbm, ⟨4, _⟩ => ⟨S8192x5632, .f32⟩
  | .hbm, ⟨5, _⟩ => ⟨S1x8192x5632, .f32⟩
  | .hbm, ⟨6, _⟩ => ⟨S8192x5632, .f32⟩
  | .hbm, ⟨7, _⟩ => ⟨S_, .f32⟩
  | .hbm, ⟨8, _⟩ => ⟨S2048x11264, .f32⟩
  | .hbm, ⟨9, _⟩ => ⟨S8192x2048, .f32⟩
  | .hbm, ⟨10, _⟩ => ⟨S8192x11264, .f32⟩
  | .hbm, ⟨11, _⟩ => ⟨S8192x5632, .f32⟩
  | .hbm, ⟨12, _⟩ => ⟨S8192x5632, .f32⟩
  | .hbm, ⟨13, _⟩ => ⟨S8192x11264, .f32⟩
  | .hbm, ⟨14, _⟩ => ⟨S11264x2048, .f32⟩
  | .hbm, ⟨15, _⟩ => ⟨S2048x11264, .f32⟩
  | .hbm, ⟨16, _⟩ => ⟨S2048x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Gwo2.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 20
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .bf16⟩
  | .hbm, ⟨3, _⟩ => ⟨S8192x2048, .f32⟩
  | .hbm, ⟨4, _⟩ => ⟨S2048x11264, .f32⟩
  | .hbm, ⟨5, _⟩ => ⟨S8192x11264, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .bf16⟩
  | .hbm, ⟨19, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Gwo2RefIdeal.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩
abbrev S5632x2048 : Shape := ⟨2, ![5632, 2048]⟩
abbrev S2048x5632 : Shape := ⟨2, ![2048, 5632]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .bf16⟩
  | .hbm, ⟨3, _⟩ => ⟨S8192x2048, .f32⟩
  | .hbm, ⟨4, _⟩ => ⟨S2048x11264, .f32⟩
  | .hbm, ⟨5, _⟩ => ⟨S8192x11264, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S5632x2048, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x2048, .f32⟩
  | .hbm, ⟨21, _⟩ => ⟨S8192x2048, .f32⟩
  | .hbm, ⟨22, _⟩ => ⟨S2048x5632, .f32⟩
  | .hbm, ⟨23, _⟩ => ⟨S5632x2048, .f32⟩
  | .hbm, ⟨24, _⟩ => ⟨S5632x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== DhIn.lean ====
abbrev S8448x11264 : Shape := ⟨2, ![8448, 11264]⟩
abbrev S2048x11264 : Shape := ⟨2, ![2048, 11264]⟩
abbrev S8448x2048 : Shape := ⟨2, ![8448, 2048]⟩
abbrev S1408x2816 : Shape := ⟨2, ![1408, 2816]⟩
abbrev S1024x2816 : Shape := ⟨2, ![1024, 2816]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x11264, .bf16⟩
  | .hbm, ⟨1, _⟩ => ⟨S2048x11264, .bf16⟩
  | .hbm, ⟨2, _⟩ => ⟨S8448x2048, .f32⟩
  | .local _ .vmem, ⟨0, _⟩ => ⟨S1408x2816, .bf16⟩
  | .local _ .vmem, ⟨1, _⟩ => ⟨S1408x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhInRefIdeal.lean ====
abbrev S8448x11264 : Shape := ⟨2, ![8448, 11264]⟩
abbrev S2048x11264 : Shape := ⟨2, ![2048, 11264]⟩
abbrev S_ : Shape := ⟨0, ![]⟩
abbrev S8448x2048 : Shape := ⟨2, ![8448, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8448x11264, .bf16⟩
  | .hbm, ⟨1, _⟩ => ⟨S2048x11264, .bf16⟩
  | .hbm, ⟨2, _⟩ => ⟨S_, .f32⟩
  | .hbm, ⟨3, _⟩ => ⟨S8448x2048, .f32⟩
  | .hbm, ⟨4, _⟩ => ⟨S2048x11264, .f32⟩
  | .hbm, ⟨5, _⟩ => ⟨S8448x11264, .f32⟩
  | .hbm, ⟨6, _⟩ => ⟨S8448x11264, .f32⟩
  | .hbm, ⟨7, _⟩ => ⟨S8448x2048, .f32⟩
  | _, _ => ⟨S8448x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GwIn.lean ====
abbrev S8448x2048 : Shape := ⟨2, ![8448, 2048]⟩
abbrev S8448x11264 : Shape := ⟨2, ![8448, 11264]⟩
abbrev S2048x11264 : Shape := ⟨2, ![2048, 11264]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x11264, .bf16⟩
  | .hbm, ⟨2, _⟩ => ⟨S2048x11264, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwInRefIdeal.lean ====
abbrev S8448x2048 : Shape := ⟨2, ![8448, 2048]⟩
abbrev S8448x11264 : Shape := ⟨2, ![8448, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x11264, .bf16⟩
  | .hbm, ⟨2, _⟩ => ⟨S_, .f32⟩
  | .hbm, ⟨3, _⟩ => ⟨S2048x11264, .f32⟩
  | .hbm, ⟨4, _⟩ => ⟨S8448x2048, .f32⟩
  | .hbm, ⟨5, _⟩ => ⟨S8448x11264, .f32⟩
  | .hbm, ⟨6, _⟩ => ⟨S8448x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DMix.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GwMix.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwMixRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Mix.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proj.lean ====
abbrev S8448x2048 : Shape := ⟨2, ![8448, 2048]⟩
abbrev S2048x11264 : Shape := ⟨2, ![2048, 11264]⟩
abbrev S8448x11264 : Shape := ⟨2, ![8448, 11264]⟩
abbrev S1408x2048 : Shape := ⟨2, ![1408, 2048]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x11264, .bf16⟩
  | .hbm, ⟨2, _⟩ => ⟨S8448x11264, .bf16⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S8448x2048 : Shape := ⟨2, ![8448, 2048]⟩
abbrev S2048x11264 : Shape := ⟨2, ![2048, 11264]⟩
abbrev S8448x11264 : Shape := ⟨2, ![8448, 11264]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x11264, .bf16⟩
  | .hbm, ⟨2, _⟩ => ⟨S8448x2048, .f32⟩
  | .hbm, ⟨3, _⟩ => ⟨S2048x11264, .f32⟩
  | .hbm, ⟨4, _⟩ => ⟨S8448x11264, .f32⟩
  | .hbm, ⟨5, _⟩ => ⟨S8448x11264, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S8448x5632 : Shape := ⟨2, ![8448, 5632]⟩
abbrev S5632x2048 : Shape := ⟨2, ![5632, 2048]⟩
abbrev S8448x2048 : Shape := ⟨2, ![8448, 2048]⟩
abbrev S1408x2816 : Shape := ⟨2, ![1408, 2816]⟩
abbrev S2816x1024 : Shape := ⟨2, ![2816, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x2048, .f32⟩
  | .local _ .vmem, ⟨0, _⟩ => ⟨S1408x2816, .bf16⟩
  | .local _ .vmem, ⟨1, _⟩ => ⟨S1408x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8448x5632 : Shape := ⟨2, ![8448, 5632]⟩
abbrev S5632x2048 : Shape := ⟨2, ![5632, 2048]⟩
abbrev S8448x2048 : Shape := ⟨2, ![8448, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x5632, .f32⟩
  | .hbm, ⟨3, _⟩ => ⟨S5632x2048, .f32⟩
  | .hbm, ⟨4, _⟩ => ⟨S8448x2048, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down2.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Down2RefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S8448x2048 : Shape := ⟨2, ![8448, 2048]⟩
abbrev S2048x11264 : Shape := ⟨2, ![2048, 11264]⟩
abbrev S2x8448x5632 : Shape := ⟨3, ![2, 8448, 5632]⟩
abbrev S8448x5632 : Shape := ⟨2, ![8448, 5632]⟩
abbrev S1408x2048 : Shape := ⟨2, ![1408, 2048]⟩
abbrev S2048x512 : Shape := ⟨2, ![2048, 512]⟩
abbrev S2x1408x512 : Shape := ⟨3, ![2, 1408, 512]⟩
abbrev S1408x512 : Shape := ⟨2, ![1408, 512]⟩
abbrev S2048x256 : Shape := ⟨2, ![2048, 256]⟩
abbrev S1408x256 : Shape := ⟨2, ![1408, 256]⟩
abbrev S1x1408x256 : Shape := ⟨3, ![1, 1408, 256]⟩

abbrev nBuf : Space → Nat
  | .hbm => 4
  | .vmem => 10
  | .smem => 0
  | _ => 0

abbrev bufTy : (tb : Table) → Fin (tcTables nBuf tb) → BufTy
  | .hbm, ⟨0, _⟩ => ⟨S8448x2048, .bf16⟩
  | .hbm, ⟨1, _⟩ => ⟨S2048x11264, .bf16⟩
  | .hbm, ⟨2, _⟩ => ⟨S2x8448x5632, .f32⟩
  | .hbm, ⟨3, _⟩ => ⟨S8448x5632, .bf16⟩
  | .local _ .vmem, ⟨0, _⟩ => ⟨S1408x2048, .bf16⟩
  | .local _ .vmem, ⟨1, _⟩ => ⟨S1408x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2x1408x512, .f32⟩
  | .local _ .vmem, ⟨7, _⟩ => ⟨S2x1408x512, .f32⟩
  | .local _ .vmem, ⟨8, _⟩ => ⟨S1408x512, .bf16⟩
  | .local _ .vmem, ⟨9, _⟩ => ⟨S1408x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1408x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpRefIdeal.lean ====
abbrev S8448x2048 : Shape := ⟨2, ![8448, 2048]⟩
abbrev S2048x11264 : Shape := ⟨2, ![2048, 11264]⟩
abbrev S8448x11264 : Shape := ⟨2, ![8448, 11264]⟩
abbrev S8448x5632 : Shape := ⟨2, ![8448, 5632]⟩
abbrev S1x8448x5632 : Shape := ⟨3, ![1, 8448, 5632]⟩
abbrev S2x8448x5632 : Shape := ⟨3, ![2, 8448, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x11264, .bf16⟩
  | .hbm, ⟨2, _⟩ => ⟨S8448x2048, .f32⟩
  | .hbm, ⟨3, _⟩ => ⟨S2048x11264, .f32⟩
  | .hbm, ⟨4, _⟩ => ⟨S8448x11264, .f32⟩
  | .hbm, ⟨5, _⟩ => ⟨S8448x5632, .f32⟩
  | .hbm, ⟨6, _⟩ => ⟨S8448x5632, .f32⟩
  | .hbm, ⟨7, _⟩ => ⟨S1x8448x5632, .f32⟩
  | .hbm, ⟨8, _⟩ => ⟨S1x8448x5632, .f32⟩
  | .hbm, ⟨9, _⟩ => ⟨S2x8448x5632, .f32⟩
  | .hbm, ⟨10, _⟩ => ⟨S8448x5632, .f32⟩
  | .hbm, ⟨11, _⟩ => ⟨S8448x5632, .f32⟩
  | .hbm, ⟨12, _⟩ => ⟨S_, .f32⟩
  | .hbm, ⟨13, _⟩ => ⟨S8448x5632, .f32⟩
  | .hbm, ⟨14, _⟩ => ⟨S8448x5632, .f32⟩
  | .hbm, ⟨15, _⟩ => ⟨S_, .f32⟩
  | .hbm, ⟨16, _⟩ => ⟨S8448x5632, .f32⟩
  | .hbm, ⟨17, _⟩ => ⟨S8448x5632, .f32⟩
  | .hbm, ⟨18, _⟩ => ⟨S8448x5632, .f32⟩
  | .hbm, ⟨19, _⟩ => ⟨S8448x5632, .f32⟩
  | .hbm, ⟨20, _⟩ => ⟨S8448x5632, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Up2.lean ====
abbrev S8192x2048 : Shape := ⟨2, ![8192, 2048]⟩
abbrev S2048x11264 : Shape := ⟨2, ![2048, 11264]⟩
abbrev S2x8192x5632 : Shape := ⟨3, ![2, 8192, 5632]⟩
abbrev S8192x5632 : Shape := ⟨2, ![8192, 5632]⟩
abbrev S1024x2048 : Shape := ⟨2, ![1024, 2048]⟩
abbrev S2048x512 : Shape := ⟨2, ![2048, 512]⟩
abbrev S2x1024x512 : Shape := ⟨3, ![2, 1024, 512]⟩
abbrev S1024x512 : Shape := ⟨2, ![1024, 512]⟩
abbrev S2048x256 : Shape := ⟨2, ![2048, 256]⟩
abbrev S1024x256 : Shape := ⟨2, ![1024, 256]⟩
abbrev S1x1024x256 : Shape := ⟨3, ![1, 1024, 256]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S2x8192x5632, .f32⟩
  | .hbm, ⟨3, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2x1024x512, .f32⟩
  | .local _ .vmem, ⟨7, _⟩ => ⟨S2x1024x512, .f32⟩
  | .local _ .vmem, ⟨8, _⟩ => ⟨S1024x512, .bf16⟩
  | .local _ .vmem, ⟨9, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Up2RefIdeal.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S1x8192x5632 : Shape := ⟨3, ![1, 8192, 5632]⟩
abbrev S2x8192x5632 : Shape := ⟨3, ![2, 8192, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | .hbm, ⟨5, _⟩ => ⟨S8192x5632, .f32⟩
  | .hbm, ⟨6, _⟩ => ⟨S8192x5632, .f32⟩
  | .hbm, ⟨7, _⟩ => ⟨S1x8192x5632, .f32⟩
  | .hbm, ⟨8, _⟩ => ⟨S1x8192x5632, .f32⟩
  | .hbm, ⟨9, _⟩ => ⟨S2x8192x5632, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Attn.lean ====
abbrev S8448x2560 : Shape := ⟨2, ![8448, 2560]⟩
abbrev S8448x512 : Shape := ⟨2, ![8448, 512]⟩
abbrev S8192x2048 : Shape := ⟨2, ![8192, 2048]⟩
abbrev S512x512 : Shape := ⟨2, ![512, 512]⟩
abbrev S8448x128 : Shape := ⟨2, ![8448, 128]⟩
abbrev S512x128 : Shape := ⟨2, ![512, 128]⟩
abbrev S2816x128 : Shape := ⟨2, ![2816, 128]⟩
abbrev S512x2816 : Shape := ⟨2, ![512, 2816]⟩
abbrev S512 : Shape := ⟨1, ![512]⟩
abbrev S512x1 : Shape := ⟨2, ![512, 1]⟩

abbrev nBuf : Space → Nat
  | .hbm => 4
  | .vmem => 10
  | .smem => 0
  | _ => 0

abbrev bufTy : (tb : Table) → Fin (tcTables nBuf tb) → BufTy
  | .hbm, ⟨0, _⟩ => ⟨S8448x2560, .bf16⟩
  | .hbm, ⟨1, _⟩ => ⟨S8448x512, .bf16⟩
  | .hbm, ⟨2, _⟩ => ⟨S8192x2048, .bf16⟩
  | .hbm, ⟨3, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | _, _ => ⟨S8448x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnIdeal.lean ====
variable {F : FTy → Type} [FloatOps F] [Named F]
def κ : String → Option EReal := fun
  | "scale_log2e" => some (((11863283 / 134217728) * (Real.log 2)⁻¹ : ℝ) : EReal)
  | _ => none
-- ==== AttnRefIdeal.lean ====
abbrev S8448x2560 : Shape := ⟨2, ![8448, 2560]⟩
abbrev S8448x512 : Shape := ⟨2, ![8448, 512]⟩
abbrev S8192x2048 : Shape := ⟨2, ![8192, 2048]⟩
abbrev S8192x4x4x128 : Shape := ⟨4, ![8192, 4, 4, 128]⟩
abbrev S8448x4x128 : Shape := ⟨3, ![8448, 4, 128]⟩
abbrev S4x8448x8192x4 : Shape := ⟨4, ![4, 8448, 8192, 4]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x128x4x8192 : Shape := ⟨4, ![4, 128, 4, 8192]⟩
abbrev S8192x4x4 : Shape := ⟨3, ![8192, 4, 4]⟩
abbrev S8192x16 : Shape := ⟨2, ![8192, 16]⟩
abbrev S8192x16x1 : Shape := ⟨3, ![8192, 16, 1]⟩
abbrev S8192x16x128 : Shape := ⟨3, ![8192, 16, 128]⟩

abbrev nBuf : Space → Nat
  | .hbm => 57
  | .vmem => 0
  | .smem => 0
  | _ => 0

abbrev bufTy : (tb : Table) → Fin (tcTables nBuf tb) → BufTy
  | .hbm, ⟨0, _⟩ => ⟨S8448x2560, .bf16⟩
  | .hbm, ⟨1, _⟩ => ⟨S8448x512, .bf16⟩
  | .hbm, ⟨2, _⟩ => ⟨S8192x2048, .bf16⟩
  | .hbm, ⟨3, _⟩ => ⟨S8192x2048, .f32⟩
  | .hbm, ⟨4, _⟩ => ⟨S8448x512, .bf16⟩
  | .hbm, ⟨5, _⟩ => ⟨S8448x512, .f32⟩
  | .hbm, ⟨6, _⟩ => ⟨S8448x512, .f32⟩
  | .hbm, ⟨7, _⟩ => ⟨S8192x4x4x128, .f32⟩
  | .hbm, ⟨8, _⟩ => ⟨S8448x4x128, .f32⟩
  | .hbm, ⟨9, _⟩ => ⟨S8448x4x128, .f32⟩
  | .hbm, ⟨10, _⟩ => ⟨S4x8448x8192x4, .f32⟩
  | .hbm, ⟨11, _⟩ => ⟨S4x4x8192x8448, .f32⟩
  | .hbm, ⟨12, _⟩ => ⟨S_, .f32⟩
  | .hbm, ⟨13, _⟩ => ⟨S4x4x8192x8448, .f32⟩
  | .hbm, ⟨14, _⟩ => ⟨S4x4x8192x8448, .f32⟩
  | .hbm, ⟨15, _⟩ => ⟨S_, .f32⟩
  | .hbm, ⟨16, _⟩ => ⟨S4x4x8192, .f32⟩
  | .hbm, ⟨17, _⟩ => ⟨S_, .f32⟩
  | .hbm, ⟨18, _⟩ => ⟨S4x4x8192, .f32⟩
  | .hbm, ⟨19, _⟩ => ⟨S4x4x8192, .f32⟩
  | .hbm, ⟨20, _⟩ => ⟨S4x4x8192x1, .f32⟩
  | .hbm, ⟨21, _⟩ => ⟨S4x4x8192x8448, .f32⟩
  | .hbm, ⟨22, _⟩ => ⟨S4x4x8192x8448, .f32⟩
  | .hbm, ⟨23, _⟩ => ⟨S4x4x8192x8448, .f32⟩
  | .hbm, ⟨24, _⟩ => ⟨S_, .f32⟩
  | .hbm, ⟨25, _⟩ => ⟨S4x4x8192, .f32⟩
  | .hbm, ⟨26, _⟩ => ⟨S4x4x8192x1, .f32⟩
  | .hbm, ⟨27, _⟩ => ⟨S4x4x8192x8448, .f32⟩
  | .hbm, ⟨28, _⟩ => ⟨S4x4x8192x8448, .f32⟩
  | .hbm, ⟨29, _⟩ => ⟨S4x128x4x8192, .f32⟩
  | .hbm, ⟨30, _⟩ => ⟨S8192x4x4x128, .f32⟩
  | .hbm, ⟨31, _⟩ => ⟨S8192x2048, .f32⟩
  | .hbm, ⟨32, _⟩ => ⟨S8192x2048, .bf16⟩
  | .hbm, ⟨33, _⟩ => ⟨S8192x4x4x128, .f32⟩
  | .hbm, ⟨34, _⟩ => ⟨S8448x4x128, .f32⟩
  | .hbm, ⟨35, _⟩ => ⟨S4x8448x8192x4, .f32⟩
  | .hbm, ⟨36, _⟩ => ⟨S4x4x8192x8448, .f32⟩
  | .hbm, ⟨37, _⟩ => ⟨S_, .f32⟩
  | .hbm, ⟨38, _⟩ => ⟨S4x4x8192x8448, .f32⟩
  | .hbm, ⟨39, _⟩ => ⟨S4x4x8192x8448, .f32⟩
  | .hbm, ⟨40, _⟩ => ⟨S_, .f32⟩
  | .hbm, ⟨41, _⟩ => ⟨S4x4x8192, .f32⟩
  | .hbm, ⟨42, _⟩ => ⟨S4x4x8192x1, .f32⟩
  | .hbm, ⟨43, _⟩ => ⟨S4x4x8192x8448, .f32⟩
  | .hbm, ⟨44, _⟩ => ⟨S4x4x8192x8448, .f32⟩
  | .hbm, ⟨45, _⟩ => ⟨S4x4x8192x8448, .f32⟩
  | .hbm, ⟨46, _⟩ => ⟨S_, .f32⟩
  | .hbm, ⟨47, _⟩ => ⟨S4x4x8192, .f32⟩
  | .hbm, ⟨48, _⟩ => ⟨S4x4x8192x1, .f32⟩
  | .hbm, ⟨49, _⟩ => ⟨S4x4x8192x1, .f32⟩
  | .hbm, ⟨50, _⟩ => ⟨S4x4x8192x1, .f32⟩
  | .hbm, ⟨51, _⟩ => ⟨S4x4x8192, .f32⟩
  | .hbm, ⟨52, _⟩ => ⟨S8192x4x4, .f32⟩
  | .hbm, ⟨53, _⟩ => ⟨S8192x16, .f32⟩
  | .hbm, ⟨54, _⟩ => ⟨S8192x16x1, .f32⟩
  | .hbm, ⟨55, _⟩ => ⟨S8192x16x128, .f32⟩
  | .hbm, ⟨56, _⟩ => ⟨S8192x2048, .f32⟩
  | _, _ => ⟨S8448x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_3 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_5 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Proof.Payload.lean ====
/- What one block of keys contributes: the stored vectors of the backward kernel's body, all six blocks written with
   the same four functions, and those functions read at an index. -/
module

public import proofs.«01_k».proof.Proof.Gen.KernelIdeal.Skeleton
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe

/-- 1 / log 2, the factor of the saved log-sum-exp. -/
abbrev cLog : EReal := Named.named (F := Ideal) (φ := .f32) κ "log2e" 0x3FB8AA3B#32
/-- scale / log 2, the factor of the scores. -/
abbrev cScl : EReal := Named.named (F := Ideal) (φ := .f32) κ "scale_log2e" 0x3E0293EE#32
/-- The scale of the scores. -/
abbrev cS : EReal := Ideal.ofBits .f32 0x3DB504F3#32

section Same
variable {F : FTy → Type} [FloatOps F] [Named F]
variable (q g : Vec F S512x128 .bf16) (l : Vec F S512x1 .f32) (l' dl : FVec F S512x1 .f32)
  (kc vc : Vec F S1408x128 .bf16) (acc : Vec F S1408x128 .f32) (dq : FVec F S512x128 .f32)

theorem pay10_eq : k0_pay10 q l kc = k0_pay15 q (k0_pay7 l) kc := rfl
theorem pay20_eq : k0_pay20 q l' kc = k0_pay15 q l' kc := rfl
theorem pay25_eq : k0_pay25 q l' kc = k0_pay15 q l' kc := rfl
theorem pay30_eq : k0_pay30 q l' kc (constant S512x1408 .f32 0x00000000#32) = k0_pay15 q l' kc := rfl
theorem pay35_eq : k0_pay35 q l' kc = k0_pay15 q l' kc := rfl

theorem pay11_eq : k0_pay11 q g l kc acc = k0_pay1 g (k0_pay15 q (k0_pay7 l) kc) (k0_pay36 acc) := rfl
theorem pay16_eq : k0_pay16 q g l' kc acc = k0_pay1 g (k0_pay15 q l' kc) (k0_pay36 acc) := rfl
theorem pay21_eq : k0_pay21 q g l' kc acc = k0_pay1 g (k0_pay15 q l' kc) (k0_pay36 acc) := rfl
theorem pay26_eq : k0_pay26 q g l' kc acc = k0_pay1 g (k0_pay15 q l' kc) (k0_pay36 acc) := rfl
theorem pay31_eq : k0_pay31 q g l' kc (constant S512x1408 .f32 0x00000000#32) acc
    = k0_pay1 g (k0_pay15 q l' kc) (k0_pay36 acc) := rfl

theorem pay14_eq (p : FVec F S512x1408 .f32) : k0_pay14 q g dl vc p acc = k0_pay4 q g dl vc p acc := rfl
theorem pay19_eq : k0_pay19 q (k0_pay17 q g l' dl kc vc) acc = k0_pay4 q g dl vc (k0_pay15 q l' kc) acc := rfl
theorem pay24_eq : k0_pay24 q g l' dl kc vc acc = k0_pay4 q g dl vc (k0_pay15 q l' kc) acc := rfl
theorem pay29_eq : k0_pay29 q g l' dl kc vc acc = k0_pay4 q g dl vc (k0_pay15 q l' kc) acc := rfl
theorem pay34_eq : k0_pay34 q g l' dl kc vc (constant S512x1408 .f32 0x00000000#32) acc
    = k0_pay4 q g dl vc (k0_pay15 q l' kc) acc := rfl

theorem pay13_eq (p : FVec F S512x1408 .f32) : k0_pay13 g dl dq kc vc p = k0_pay3 g dl dq kc vc p := rfl
theorem pay23_eq (kd vd : Vec F S1408x128 .bf16) :
    k0_pay23 q g l' dl dq kc (k0_pay17 q g l' dl kc vc) kd vd
      = k0_pay3 g dl (k0_pay3 g dl dq kc vc (k0_pay15 q l' kc)) kd vd (k0_pay15 q l' kd) := rfl
theorem pay28_eq : k0_pay28 q g l' dl dq kc vc = k0_pay3 g dl dq kc vc (k0_pay15 q l' kc) := rfl
theorem pay33_eq : k0_pay33 q g l' dl dq kc vc (constant S512x1408 .f32 0x00000000#32)
    = k0_pay3 g dl dq kc vc (k0_pay15 q l' kc) := rfl
end Same

variable (q g o : Vec Ideal S512x128 .bf16) (l : Vec Ideal S512x1 .f32) (l' dl : FVec Ideal S512x1 .f32)
  (kc vc : Vec Ideal S1408x128 .bf16) (acc : Vec Ideal S1408x128 .f32) (dq : FVec Ideal S512x128 .f32)
  (p : FVec Ideal S512x1408 .f32)

/-- The probability of one query row and one key of the block. -/
theorem pay15_apply (r : Fin 512) (s : Fin 1408) :
    k0_pay15 (F := Ideal) q l' kc (ix2 r s)
      = Ideal.exp2 ((∑ d : Fin 128, q (ix2 r d) * kc (ix2 s d)) * cScl - l' (ix2 r 0)) := by
  pointwise [k0_pay15]; rfl

/-- The scaled log-sum-exp of one query row. -/
theorem pay7_apply (r : Fin 512) : k0_pay7 (F := Ideal) l (ix2 r 0) = l (ix2 r 0) * cLog := by
  pointwise [k0_pay7]

/-- The row sum of the output times its cotangent. -/
theorem pay8_apply (r : Fin 512) :
    k0_pay8 (F := Ideal) g o (ix2 r 0) = ∑ d : Fin 128, g (ix2 r d) * o (ix2 r d) := by
  pointwise [k0_pay8]

/-- The derivative of the score of one query row and one key of the block. -/
theorem pay2_apply (r : Fin 512) (s : Fin 1408) :
    k0_pay2 (F := Ideal) g dl vc p (ix2 r s)
      = p (ix2 r s) * ((∑ d : Fin 128, g (ix2 r d) * vc (ix2 s d)) - dl (ix2 r 0)) * cS := by
  pointwise [k0_pay2]

/-- The values' gradient: what was there plus the block's product. -/
theorem pay1_apply (s : Fin 1408) (d : Fin 128) :
    k0_pay1 (F := Ideal) g p (k0_pay36 acc) (ix2 s d)
      = acc (ix2 s d) + ∑ r : Fin 512, p (ix2 r s) * g (ix2 r d) := by
  pointwise [k0_pay1, k0_pay36]

/-- The keys' gradient: what was there plus the block's product. -/
theorem pay4_apply (s : Fin 1408) (d : Fin 128) :
    k0_pay4 (F := Ideal) q g dl vc p acc (ix2 s d)
      = acc (ix2 s d) + ∑ r : Fin 512, k0_pay2 (F := Ideal) g dl vc p (ix2 r s) * q (ix2 r d) := by
  pointwise [k0_pay4]

/-- The queries' gradient: what was there plus the block's product. -/
theorem pay3_apply (r : Fin 512) (d : Fin 128) :
    k0_pay3 (F := Ideal) g dl dq kc vc p (ix2 r d)
      = dq (ix2 r d) + ∑ s : Fin 1408, k0_pay2 (F := Ideal) g dl vc p (ix2 r s) * kc (ix2 s d) := by
  pointwise [k0_pay3]

theorem pay9_apply (j : S512x128.Idx) : k0_pay9 (F := Ideal) j = 0 := by
  pointwise [k0_pay9]
theorem pay5_apply (j : S8448x128.Idx) : k0_pay5 (F := Ideal) j = 0 := by
  pointwise [k0_pay5]
theorem pay6_apply (j : S8448x128.Idx) : k0_pay6 (F := Ideal) j = 0 := by
  pointwise [k0_pay6]

end Cert.KernelIdeal.Hand

end
-- ==== Proof.Block.lean ====
/- What one grid point leaves in its three output blocks, as functions of the input blocks: the queries' gradient
   afresh, the keys' and the values' gradients added to what was there (to zero at the first point of a head group). -/
module

public import proofs.«01_k».proof.Proof.Gen.KernelIdeal.Frame
public import proofs.«01_k».proof.Proof.Payload
public import Idealize.ShloMosaic.Lib.Pipeline.Value
public import Idealize.ShloMosaic.Lib.Pipeline.CanonAppend
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe

/-- A sum over all keys, block by block. -/
theorem sum_keys (f : Fin 8448 → EReal) :
    ∑ s : Fin 8448, f s = ∑ k : Fin 6, ∑ s : Fin 1408, f ⟨1408 * k.val + s.val, by omega⟩ := by
  rw [← (finProdFinEquiv (m := 6) (n := 1408)).sum_comp f, Fintype.sum_prod_type]
  refine Finset.sum_congr rfl fun k _ => Finset.sum_congr rfl fun s _ => ?_
  congr 1
  apply Fin.ext
  show s.val + 1408 * k.val = 1408 * k.val + s.val
  omega

section Values
variable (x0 : Vec Ideal S512x128 .bf16) (x1 x2 : Vec Ideal S8448x128 .bf16) (x3 : Vec Ideal S512x128 .bf16)
  (x4 : Vec Ideal S512x128 .f32) (x5 : Vec Ideal S512x128 .bf16) (acc : Vec Ideal S8448x128 .f32)

/-- The probability of a query row and a key. -/
def pB (r : Fin 512) (s : Fin 8448) : EReal :=
  Ideal.exp2 ((∑ d : Fin 128, x0 (ix2 r d) * x1 (ix2 s d)) * cScl - x4 (ix2 r 0) * cLog)

/-- The score's derivative of a query row and a key. -/
def dsB (r : Fin 512) (s : Fin 8448) : EReal :=
  pB x0 x1 x4 r s * ((∑ d : Fin 128, x5 (ix2 r d) * x2 (ix2 s d)) - ∑ d : Fin 128, x5 (ix2 r d) * x3 (ix2 r d)) * cS

/-- The block's keys' gradient over what was there. -/
def dkB : Vec Ideal S8448x128 .f32 := fun y => acc y + ∑ r : Fin 512, dsB x0 x1 x2 x3 x4 x5 r (y 0) * x0 (ix2 r (y 1))

/-- The block's values' gradient over what was there. -/
def dvB : Vec Ideal S8448x128 .f32 := fun y => acc y + ∑ r : Fin 512, pB x0 x1 x4 r (y 0) * x5 (ix2 r (y 1))

/-- The block's queries' gradient. -/
def dqB : Vec Ideal S512x128 .f32 := fun y => ∑ s : Fin 8448, dsB x0 x1 x2 x3 x4 x5 (y 0) s * x1 (ix2 s (y 1))

variable (off : Nat) (inb : ∀ a, ![off, 0] a + ![1408, 128] a ≤ S8448x128.size a)

theorem off_le (inb : ∀ a, ![off, 0] a + ![1408, 128] a ≤ S8448x128.size a) : off + 1408 ≤ 8448 := inb 0

/-- A block of keys sits `off` rows down. -/
theorem emb_eq (x : S1408x128.Idx) :
    (Rect.unit (s := S8448x128) ![off, 0] ![1408, 128] inb).emb x
      = ix2 ⟨off + (x 0).val, by have := off_le off inb; have := (x 0).isLt; simp at this; omega⟩ (x 1) := by
  funext a
  fin_cases a
  · apply Fin.ext
    show off + 1 * (x 0).val = _
    simp
  · apply Fin.ext
    show 0 + 1 * (x 1).val = _
    simp

/-- A block of keys. -/
def ldK (X : Vec Ideal S8448x128 .bf16) : Vec Ideal S1408x128 .bf16 :=
  View.ld X (Rect.unit (s := S8448x128) ![off, 0] ![1408, 128] inb)

theorem ldK_apply (X : Vec Ideal S8448x128 .bf16) (s : Fin 1408) (d : Fin 128) :
    ldK off inb X (ix2 s d) = X (ix2 ⟨off + s.val, by have := off_le off inb; omega⟩ d) :=
  congrArg X (emb_eq off inb (ix2 s d))

theorem ld_acc (X : Vec Ideal S8448x128 .f32) (x : S1408x128.Idx) :
    View.ld X (Rect.unit (s := S8448x128) ![off, 0] ![1408, 128] inb) x
      = X ((Rect.unit (s := S8448x128) ![off, 0] ![1408, 128] inb).emb x) := rfl

/-- The log-sum-exp the body reads, scaled. -/
def lseB : FVec Ideal S512x1 .f32 :=
  k0_pay7 (F := Ideal) (View.ld x4 (Rect.unit (s := S512x128) ![0, 0] ![512, 1] inb_S512x128_S512x1_0_0))

theorem lseB_apply (r : Fin 512) : lseB x4 (ix2 r 0) = x4 (ix2 r 0) * cLog := by
  refine (pay7_apply _ r).trans (congrArg (· * cLog) (congrArg x4 ?_))
  funext a
  fin_cases a
  · apply Fin.ext
    show 0 + 1 * r.val = r.val
    simp
  · rfl

theorem pay15_key (r : Fin 512) (s : Fin 1408) :
    k0_pay15 (F := Ideal) x0 (lseB x4) (ldK off inb x1) (ix2 r s)
      = pB x0 x1 x4 r ⟨off + s.val, by have := off_le off inb; omega⟩ := by
  rw [pay15_apply]
  simp only [ldK_apply, lseB_apply]
  rfl

theorem pay2_key (r : Fin 512) (s : Fin 1408) :
    k0_pay2 (F := Ideal) x5 (k0_pay8 x5 x3) (ldK off inb x2) (k0_pay15 (F := Ideal) x0 (lseB x4) (ldK off inb x1)) (ix2 r s)
      = dsB x0 x1 x2 x3 x4 x5 r ⟨off + s.val, by have := off_le off inb; omega⟩ := by
  rw [pay2_apply, pay15_key, pay8_apply]
  simp only [ldK_apply]
  rfl

/-- One stored block of the keys' gradient is the rows `off …` of `dkB`. -/
theorem dk_piece (x : S1408x128.Idx) :
    k0_pay4 (F := Ideal) x0 x5 (k0_pay8 x5 x3) (ldK off inb x2) (k0_pay15 (F := Ideal) x0 (lseB x4) (ldK off inb x1))
        (View.ld acc (Rect.unit (s := S8448x128) ![off, 0] ![1408, 128] inb)) x
      = dkB x0 x1 x2 x3 x4 x5 acc ((Rect.unit (s := S8448x128) ![off, 0] ![1408, 128] inb).emb x) := by
  rw [emb_eq]
  idx_vars x
  rw [pay4_apply, ld_acc, emb_eq]
  simp only [pay2_key]
  rfl

/-- One stored block of the values' gradient is the rows `off …` of `dvB`. -/
theorem dv_piece (x : S1408x128.Idx) :
    k0_pay1 (F := Ideal) x5 (k0_pay15 (F := Ideal) x0 (lseB x4) (ldK off inb x1))
        (k0_pay36 (View.ld acc (Rect.unit (s := S8448x128) ![off, 0] ![1408, 128] inb))) x
      = dvB x0 x1 x4 x5 acc ((Rect.unit (s := S8448x128) ![off, 0] ![1408, 128] inb).emb x) := by
  rw [emb_eq]
  idx_vars x
  rw [pay1_apply, ld_acc, emb_eq]
  simp only [pay15_key]
  rfl

/-- One block's step of the queries' gradient. -/
theorem dq_piece (dq : FVec Ideal S512x128 .f32) (r : Fin 512) (d : Fin 128) :
    k0_pay3 (F := Ideal) x5 (k0_pay8 x5 x3) dq (ldK off inb x1) (ldK off inb x2)
        (k0_pay15 (F := Ideal) x0 (lseB x4) (ldK off inb x1)) (ix2 r d)
      = dq (ix2 r d) + ∑ s : Fin 1408, dsB x0 x1 x2 x3 x4 x5 r ⟨off + s.val, by have := off_le off inb; omega⟩
          * x1 (ix2 ⟨off + s.val, by have := off_le off inb; omega⟩ d) := by
  rw [pay3_apply]
  simp only [pay2_key, ldK_apply]

/-- The six stored blocks of the keys' gradient, the last first. -/
def dkL : List (View.Piece (Elt Ideal) S8448x128 .f32) := [
    ⟨Rect.unit (s := S8448x128) ![7040, 0] S1408x128.size inb_S8448x128_S1408x128_7040_0,
      k0_pay4 (F := Ideal) x0 x5 (k0_pay8 x5 x3) (ldK 7040 inb_S8448x128_S1408x128_7040_0 x2) (k0_pay15 (F := Ideal) x0 (lseB x4) (ldK 7040 inb_S8448x128_S1408x128_7040_0 x1)) (View.ld acc (Rect.unit (s := S8448x128) ![7040, 0] S1408x128.size inb_S8448x128_S1408x128_7040_0))⟩,
    ⟨Rect.unit (s := S8448x128) ![5632, 0] S1408x128.size inb_S8448x128_S1408x128_5632_0,
      k0_pay4 (F := Ideal) x0 x5 (k0_pay8 x5 x3) (ldK 5632 inb_S8448x128_S1408x128_5632_0 x2) (k0_pay15 (F := Ideal) x0 (lseB x4) (ldK 5632 inb_S8448x128_S1408x128_5632_0 x1)) (View.ld acc (Rect.unit (s := S8448x128) ![5632, 0] S1408x128.size inb_S8448x128_S1408x128_5632_0))⟩,
    ⟨Rect.unit (s := S8448x128) ![4224, 0] S1408x128.size inb_S8448x128_S1408x128_4224_0,
      k0_pay4 (F := Ideal) x0 x5 (k0_pay8 x5 x3) (ldK 4224 inb_S8448x128_S1408x128_4224_0 x2) (k0_pay15 (F := Ideal) x0 (lseB x4) (ldK 4224 inb_S8448x128_S1408x128_4224_0 x1)) (View.ld acc (Rect.unit (s := S8448x128) ![4224, 0] S1408x128.size inb_S8448x128_S1408x128_4224_0))⟩,
    ⟨Rect.unit (s := S8448x128) ![2816, 0] S1408x128.size inb_S8448x128_S1408x128_2816_0,
      k0_pay4 (F := Ideal) x0 x5 (k0_pay8 x5 x3) (ldK 2816 inb_S8448x128_S1408x128_2816_0 x2) (k0_pay15 (F := Ideal) x0 (lseB x4) (ldK 2816 inb_S8448x128_S1408x128_2816_0 x1)) (View.ld acc (Rect.unit (s := S8448x128) ![2816, 0] S1408x128.size inb_S8448x128_S1408x128_2816_0))⟩,
    ⟨Rect.unit (s := S8448x128) ![1408, 0] S1408x128.size inb_S8448x128_S1408x128_1408_0,
      k0_pay4 (F := Ideal) x0 x5 (k0_pay8 x5 x3) (ldK 1408 inb_S8448x128_S1408x128_1408_0 x2) (k0_pay15 (F := Ideal) x0 (lseB x4) (ldK 1408 inb_S8448x128_S1408x128_1408_0 x1)) (View.ld acc (Rect.unit (s := S8448x128) ![1408, 0] S1408x128.size inb_S8448x128_S1408x128_1408_0))⟩,
    ⟨Rect.unit (s := S8448x128) ![0, 0] S1408x128.size inb_S8448x128_S1408x128_0_0,
      k0_pay4 (F := Ideal) x0 x5 (k0_pay8 x5 x3) (ldK 0 inb_S8448x128_S1408x128_0_0 x2) (k0_pay15 (F := Ideal) x0 (lseB x4) (ldK 0 inb_S8448x128_S1408x128_0_0 x1)) (View.ld acc (Rect.unit (s := S8448x128) ![0, 0] S1408x128.size inb_S8448x128_S1408x128_0_0))⟩]

/-- The six stored blocks of the values' gradient, the last first. -/
def dvL : List (View.Piece (Elt Ideal) S8448x128 .f32) := [
    ⟨Rect.unit (s := S8448x128) ![7040, 0] S1408x128.size inb_S8448x128_S1408x128_7040_0,
      k0_pay1 (F := Ideal) x5 (k0_pay15 (F := Ideal) x0 (lseB x4) (ldK 7040 inb_S8448x128_S1408x128_7040_0 x1)) (k0_pay36 (View.ld acc (Rect.unit (s := S8448x128) ![7040, 0] S1408x128.size inb_S8448x128_S1408x128_7040_0)))⟩,
    ⟨Rect.unit (s := S8448x128) ![5632, 0] S1408x128.size inb_S8448x128_S1408x128_5632_0,
      k0_pay1 (F := Ideal) x5 (k0_pay15 (F := Ideal) x0 (lseB x4) (ldK 5632 inb_S8448x128_S1408x128_5632_0 x1)) (k0_pay36 (View.ld acc (Rect.unit (s := S8448x128) ![5632, 0] S1408x128.size inb_S8448x128_S1408x128_5632_0)))⟩,
    ⟨Rect.unit (s := S8448x128) ![4224, 0] S1408x128.size inb_S8448x128_S1408x128_4224_0,
      k0_pay1 (F := Ideal) x5 (k0_pay15 (F := Ideal) x0 (lseB x4) (ldK 4224 inb_S8448x128_S1408x128_4224_0 x1)) (k0_pay36 (View.ld acc (Rect.unit (s := S8448x128) ![4224, 0] S1408x128.size inb_S8448x128_S1408x128_4224_0)))⟩,
    ⟨Rect.unit (s := S8448x128) ![2816, 0] S1408x128.size inb_S8448x128_S1408x128_2816_0,
      k0_pay1 (F := Ideal) x5 (k0_pay15 (F := Ideal) x0 (lseB x4) (ldK 2816 inb_S8448x128_S1408x128_2816_0 x1)) (k0_pay36 (View.ld acc (Rect.unit (s := S8448x128) ![2816, 0] S1408x128.size inb_S8448x128_S1408x128_2816_0)))⟩,
    ⟨Rect.unit (s := S8448x128) ![1408, 0] S1408x128.size inb_S8448x128_S1408x128_1408_0,
      k0_pay1 (F := Ideal) x5 (k0_pay15 (F := Ideal) x0 (lseB x4) (ldK 1408 inb_S8448x128_S1408x128_1408_0 x1)) (k0_pay36 (View.ld acc (Rect.unit (s := S8448x128) ![1408, 0] S1408x128.size inb_S8448x128_S1408x128_1408_0)))⟩,
    ⟨Rect.unit (s := S8448x128) ![0, 0] S1408x128.size inb_S8448x128_S1408x128_0_0,
      k0_pay1 (F := Ideal) x5 (k0_pay15 (F := Ideal) x0 (lseB x4) (ldK 0 inb_S8448x128_S1408x128_0_0 x1)) (k0_pay36 (View.ld acc (Rect.unit (s := S8448x128) ![0, 0] S1408x128.size inb_S8448x128_S1408x128_0_0)))⟩]

theorem dkL_canon (L' : List (View.Piece (Elt Ideal) S8448x128 .f32)) :
    View.canon (dkL x0 x1 x2 x3 x4 x5 acc ++ L') = dkB x0 x1 x2 x3 x4 x5 acc := by
  funext y
  refine View.canon_append_of_pieces _ _ _ ?_ y (View.cover_of_tiledBy _ ![1408, 128] (by sl_kernel_rfl) y)
  refine List.forall_mem_cons.mpr ⟨dk_piece x0 x1 x2 x3 x4 x5 acc 7040 _, ?_⟩
  refine List.forall_mem_cons.mpr ⟨dk_piece x0 x1 x2 x3 x4 x5 acc 5632 _, ?_⟩
  refine List.forall_mem_cons.mpr ⟨dk_piece x0 x1 x2 x3 x4 x5 acc 4224 _, ?_⟩
  refine List.forall_mem_cons.mpr ⟨dk_piece x0 x1 x2 x3 x4 x5 acc 2816 _, ?_⟩
  refine List.forall_mem_cons.mpr ⟨dk_piece x0 x1 x2 x3 x4 x5 acc 1408 _, ?_⟩
  refine List.forall_mem_cons.mpr ⟨dk_piece x0 x1 x2 x3 x4 x5 acc 0 _, ?_⟩
  exact List.forall_mem_nil _

theorem dvL_canon (L' : List (View.Piece (Elt Ideal) S8448x128 .f32)) :
    View.canon (dvL x0 x1 x4 x5 acc ++ L') = dvB x0 x1 x4 x5 acc := by
  funext y
  refine View.canon_append_of_pieces _ _ _ ?_ y (View.cover_of_tiledBy _ ![1408, 128] (by sl_kernel_rfl) y)
  refine List.forall_mem_cons.mpr ⟨dv_piece x0 x1 x4 x5 acc 7040 _, ?_⟩
  refine List.forall_mem_cons.mpr ⟨dv_piece x0 x1 x4 x5 acc 5632 _, ?_⟩
  refine List.forall_mem_cons.mpr ⟨dv_piece x0 x1 x4 x5 acc 4224 _, ?_⟩
  refine List.forall_mem_cons.mpr ⟨dv_piece x0 x1 x4 x5 acc 2816 _, ?_⟩
  refine List.forall_mem_cons.mpr ⟨dv_piece x0 x1 x4 x5 acc 1408 _, ?_⟩
  refine List.forall_mem_cons.mpr ⟨dv_piece x0 x1 x4 x5 acc 0 _, ?_⟩
  exact List.forall_mem_nil _

/-- The six steps of the queries' gradient are the sum over all keys. -/
theorem dq_steps (A0 A1 A2 A3 A4 A5 A6 : FVec Ideal S512x128 .f32) (h0 : A0 = k0_pay9 (F := Ideal))
    (h1 : A1 = k0_pay3 (F := Ideal) x5 (k0_pay8 x5 x3) A0 (ldK 0 inb_S8448x128_S1408x128_0_0 x1)
      (ldK 0 inb_S8448x128_S1408x128_0_0 x2) (k0_pay15 (F := Ideal) x0 (lseB x4) (ldK 0 inb_S8448x128_S1408x128_0_0 x1)))
    (h2 : A2 = k0_pay3 (F := Ideal) x5 (k0_pay8 x5 x3) A1 (ldK 1408 inb_S8448x128_S1408x128_1408_0 x1)
      (ldK 1408 inb_S8448x128_S1408x128_1408_0 x2) (k0_pay15 (F := Ideal) x0 (lseB x4) (ldK 1408 inb_S8448x128_S1408x128_1408_0 x1)))
    (h3 : A3 = k0_pay3 (F := Ideal) x5 (k0_pay8 x5 x3) A2 (ldK 2816 inb_S8448x128_S1408x128_2816_0 x1)
      (ldK 2816 inb_S8448x128_S1408x128_2816_0 x2) (k0_pay15 (F := Ideal) x0 (lseB x4) (ldK 2816 inb_S8448x128_S1408x128_2816_0 x1)))
    (h4 : A4 = k0_pay3 (F := Ideal) x5 (k0_pay8 x5 x3) A3 (ldK 4224 inb_S8448x128_S1408x128_4224_0 x1)
      (ldK 4224 inb_S8448x128_S1408x128_4224_0 x2) (k0_pay15 (F := Ideal) x0 (lseB x4) (ldK 4224 inb_S8448x128_S1408x128_4224_0 x1)))
    (h5 : A5 = k0_pay3 (F := Ideal) x5 (k0_pay8 x5 x3) A4 (ldK 5632 inb_S8448x128_S1408x128_5632_0 x1)
      (ldK 5632 inb_S8448x128_S1408x128_5632_0 x2) (k0_pay15 (F := Ideal) x0 (lseB x4) (ldK 5632 inb_S8448x128_S1408x128_5632_0 x1)))
    (h6 : A6 = k0_pay3 (F := Ideal) x5 (k0_pay8 x5 x3) A5 (ldK 7040 inb_S8448x128_S1408x128_7040_0 x1)
      (ldK 7040 inb_S8448x128_S1408x128_7040_0 x2) (k0_pay15 (F := Ideal) x0 (lseB x4) (ldK 7040 inb_S8448x128_S1408x128_7040_0 x1))) :
    A6 = dqB x0 x1 x2 x3 x4 x5 := by
  funext y
  idx_vars y
  show A6 _ = ∑ s : Fin 8448, dsB x0 x1 x2 x3 x4 x5 _ s * x1 (ix2 s _)
  rw [sum_keys, Fin.sum_univ_six]
  rw [h6, dq_piece]
  rw [h5, dq_piece]
  rw [h4, dq_piece]
  rw [h3, dq_piece]
  rw [h2, dq_piece]
  rw [h1, dq_piece]
  rw [h0, pay9_apply, zero_add]
  rfl

end Values

theorem hz2 : (![0, 0] : Fin 2 → Nat) = fun _ => 0 := by decide

section Runs
variable (c : Dev nD) (i : grid0.Coords) (arg3 : Memref sig .tc .vmem S512x128 .bf16) (harg3 : arg3.IsWhole)
  (arg4 : Memref sig .tc .vmem S8448x128 .bf16) (harg4 : arg4.IsWhole) (arg5 : Memref sig .tc .vmem S8448x128 .bf16)
  (harg5 : arg5.IsWhole) (arg6 : Memref sig .tc .vmem S512x128 .bf16) (harg6 : arg6.IsWhole)
  (arg7 : Memref sig .tc .vmem S512x128 .f32) (harg7 : arg7.IsWhole) (arg8 : Memref sig .tc .vmem S512x128 .bf16)
  (harg8 : arg8.IsWhole) (arg9 : Memref sig .tc .vmem S512x128 .f32) (harg9 : arg9.IsWhole)
  (arg10 : Memref sig .tc .vmem S8448x128 .f32) (harg10 : arg10.IsWhole) (arg11 : Memref sig .tc .vmem S8448x128 .f32)
  (harg11 : arg11.IsWhole) (x0 : Vec Ideal S512x128 .bf16) (x1 x2 : Vec Ideal S8448x128 .bf16)
  (x3 : Vec Ideal S512x128 .bf16) (x4 : Vec Ideal S512x128 .f32) (x5 : Vec Ideal S512x128 .bf16)
  (xo7 xo8 : Vec Ideal S8448x128 .f32)

theorem out_B_7 (hc0 : ¬cond0_0 i) :
    out0_B_7 (F := Ideal) c i arg3 harg3 arg4 harg4 arg5 harg5 arg6 harg6 arg7 harg7 arg8 harg8 arg9 harg9 arg10 harg10 arg11 harg11 hc0 x0 x1 x2 x3 x4 x5 xo7 xo8
      = dkB x0 x1 x2 x3 x4 x5 xo7 := by
  unfold out0_B_7
  rw [View.read_writes_eq_canon _ _ _ (cover0_B_7 c i arg3 harg3 arg4 harg4 arg5 harg5 arg6 harg6 arg7 harg7 arg8 harg8 arg9 harg9 arg10 harg10 arg11 harg11 hc0 x0 x1 x2 x3 x4 x5 xo7 xo8)]
  unfold kernelRun0_B
  dsimp only
  sl_unfold_words
  simp only [View.readAt_eq_ld, harg3.read_unread, harg4.read_unread, harg5.read_unread, harg6.read_unread,
    harg7.read_unread, harg8.read_unread, harg10.read_unread, harg11.read_unread]
  simp only [View.ld_unit_zero (S := S512x128) hz2, pay35_eq, pay34_eq, pay29_eq, pay24_eq, pay19_eq, pay14_eq, pay10_eq]
  exact dkL_canon x0 x1 x2 x3 x4 x5 xo7 []

theorem out_A_7 (hc0 : cond0_0 i) :
    out0_A_7 (F := Ideal) c i arg3 harg3 arg4 harg4 arg5 harg5 arg6 harg6 arg7 harg7 arg8 harg8 arg9 harg9 arg10 harg10 arg11 harg11 hc0 x0 x1 x2 x3 x4 x5
      = dkB x0 x1 x2 x3 x4 x5 (k0_pay5 (F := Ideal)) := by
  unfold out0_A_7
  rw [View.read_writes_eq_canon _ _ _ (cover0_A_7 c i arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  simp only [View.readAt_eq_ld, harg3.read_unread, harg4.read_unread, harg5.read_unread, harg6.read_unread,
    harg7.read_unread, harg8.read_unread, harg10.read_unread, harg11.read_unread]
  simp (disch := decide) only [View.readCov_skip]
  simp (disch := decide) only [View.readCov_fill]
  simp only [View.ld_unit_zero (S := S512x128) hz2, pay35_eq, pay34_eq, pay29_eq, pay24_eq, pay19_eq, pay14_eq, pay10_eq]
  exact dkL_canon x0 x1 x2 x3 x4 x5 (k0_pay5 (F := Ideal)) [⟨Rect.unit (s := S8448x128) ![0, 0] S8448x128.size inb_S8448x128_S8448x128_0_0, k0_pay5 (F := Ideal)⟩]

theorem out_B_8 (hc0 : ¬cond0_0 i) :
    out0_B_8 (F := Ideal) c i arg3 harg3 arg4 harg4 arg5 harg5 arg6 harg6 arg7 harg7 arg8 harg8 arg9 harg9 arg10 harg10 arg11 harg11 hc0 x0 x1 x2 x3 x4 x5 xo7 xo8
      = dvB x0 x1 x4 x5 xo8 := by
  unfold out0_B_8
  rw [View.read_writes_eq_canon _ _ _ (cover0_B_8 c i arg3 harg3 arg4 harg4 arg5 harg5 arg6 harg6 arg7 harg7 arg8 harg8 arg9 harg9 arg10 harg10 arg11 harg11 hc0 x0 x1 x2 x3 x4 x5 xo7 xo8)]
  unfold kernelRun0_B
  dsimp only
  sl_unfold_words
  simp only [View.readAt_eq_ld, harg3.read_unread, harg4.read_unread, harg5.read_unread, harg6.read_unread,
    harg7.read_unread, harg8.read_unread, harg10.read_unread, harg11.read_unread]
  simp only [View.ld_unit_zero (S := S512x128) hz2, pay35_eq, pay31_eq, pay26_eq, pay21_eq, pay16_eq, pay11_eq]
  exact dvL_canon x0 x1 x4 x5 xo8 []

theorem out_A_8 (hc0 : cond0_0 i) :
    out0_A_8 (F := Ideal) c i arg3 harg3 arg4 harg4 arg5 harg5 arg6 harg6 arg7 harg7 arg8 harg8 arg9 harg9 arg10 harg10 arg11 harg11 hc0 x0 x1 x2 x3 x4 x5
      = dvB x0 x1 x4 x5 (k0_pay6 (F := Ideal)) := by
  unfold out0_A_8
  rw [View.read_writes_eq_canon _ _ _ (cover0_A_8 c i arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  simp only [View.readAt_eq_ld, harg3.read_unread, harg4.read_unread, harg5.read_unread, harg6.read_unread,
    harg7.read_unread, harg8.read_unread, harg10.read_unread, harg11.read_unread]
  simp (disch := decide) only [View.readCov_skip]
  simp (disch := decide) only [View.readCov_fill]
  simp only [View.ld_unit_zero (S := S512x128) hz2, pay35_eq, pay31_eq, pay26_eq, pay21_eq, pay16_eq, pay11_eq]
  exact dvL_canon x0 x1 x4 x5 (k0_pay6 (F := Ideal)) [⟨Rect.unit (s := S8448x128) ![0, 0] S8448x128.size inb_S8448x128_S8448x128_0_0, k0_pay6 (F := Ideal)⟩]

theorem out_B_6 (hc0 : ¬cond0_0 i) :
    out0_B_6 (F := Ideal) c i arg3 harg3 arg4 harg4 arg5 harg5 arg6 harg6 arg7 harg7 arg8 harg8 arg9 harg9 arg10 harg10 arg11 harg11 hc0 x0 x1 x2 x3 x4 x5 xo7 xo8
      = dqB x0 x1 x2 x3 x4 x5 := by
  unfold out0_B_6
  rw [View.read_writes_eq_canon _ _ _ (cover0_B_6 c i arg3 harg3 arg4 harg4 arg5 harg5 arg6 harg6 arg7 harg7 arg8 harg8 arg9 harg9 arg10 harg10 arg11 harg11 hc0 x0 x1 x2 x3 x4 x5 xo7 xo8)]
  unfold kernelRun0_B
  dsimp only
  sl_unfold_words
  simp only [View.readAt_eq_ld, harg3.read_unread, harg4.read_unread, harg5.read_unread, harg6.read_unread,
    harg7.read_unread, harg8.read_unread, harg10.read_unread, harg11.read_unread]
  rw [View.canon_unit_zero (S := S512x128) hz2]
  simp only [View.ld_unit_zero (S := S512x128) hz2, pay35_eq, pay33_eq, pay28_eq, pay23_eq, pay13_eq, pay10_eq]
  exact dq_steps x0 x1 x2 x3 x4 x5 _ _ _ _ _ _ _ rfl rfl rfl rfl rfl rfl rfl

theorem out_A_6 (hc0 : cond0_0 i) :
    out0_A_6 (F := Ideal) c i arg3 harg3 arg4 harg4 arg5 harg5 arg6 harg6 arg7 harg7 arg8 harg8 arg9 harg9 arg10 harg10 arg11 harg11 hc0 x0 x1 x2 x3 x4 x5
      = dqB x0 x1 x2 x3 x4 x5 := by
  unfold out0_A_6
  rw [View.read_writes_eq_canon _ _ _ (cover0_A_6 c i arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  simp only [View.readAt_eq_ld, harg3.read_unread, harg4.read_unread, harg5.read_unread, harg6.read_unread,
    harg7.read_unread, harg8.read_unread, harg10.read_unread, harg11.read_unread]
  rw [View.canon_unit_zero (S := S512x128) hz2]
  simp only [View.ld_unit_zero (S := S512x128) hz2, pay35_eq, pay33_eq, pay28_eq, pay23_eq, pay13_eq, pay10_eq]
  exact dq_steps x0 x1 x2 x3 x4 x5 _ _ _ _ _ _ _ rfl rfl rfl rfl rfl rfl rfl

end Runs

end Cert.KernelIdeal.Hand

end
-- ==== Proof.Arrays.lean ====
/- The three result arrays after the run, as functions of the six arrays the kernel reads: what each staged block is of
   its array, the gradients' sums over the grid points of a head group, and the arrays the write-backs leave. -/
module

public import proofs.«01_k».proof.Proof.Gen.KernelIdeal.Value
public import proofs.«01_k».proof.Proof.Block
public import Idealize.ShloMosaic.Lib.Pipeline.ValueKit.Geometry

@[expose] public section

set_option maxRecDepth 16384

noncomputable section

namespace Cert.KernelIdeal.Hand

open Cert.KernelIdeal Cert.KernelIdeal.Gen Idealize.ShloMosaic Idealize.ShloMosaic.TcCoe
open Idealize.ShloMosaic.Pipeline (Dat)

variable (m : (ℓ : Loc nD τ sig) → Buf (Elt Ideal) ℓ) (c : Dev nD)

/-- The packed queries and keys, the values, the output, the log-sum-exp and the cotangent as the kernel finds them. -/
abbrev aQ : S8448x2560.Idx → EReal := V m c main_arg0
abbrev aV : S8448x512.Idx → EReal := V m c main_arg1
abbrev aO : S8192x2048.Idx → EReal := V m c main_v24
abbrev aL : S8192x2048.Idx → EReal := V m c main_v32
abbrev aG : S8192x2048.Idx → EReal := V m c main_arg2

theorem idx_q : ∀ t : Fin cfg0.N, win0_0.index t = ![t.val % 16, t.val / 16] :=
  (by decide +kernel : ∀ t : Fin grid0.N, _)
theorem idx_k : ∀ t : Fin cfg0.N, win0_1.index t = ![0, 16 + t.val / 64] :=
  (by decide +kernel : ∀ t : Fin grid0.N, _)
theorem idx_v : ∀ t : Fin cfg0.N, win0_2.index t = ![0, t.val / 64] :=
  (by decide +kernel : ∀ t : Fin grid0.N, _)
theorem idx_o : ∀ t : Fin cfg0.N, win0_3.index t = ![t.val % 16, t.val / 16] :=
  (by decide +kernel : ∀ t : Fin grid0.N, _)
theorem idx_l : ∀ t : Fin cfg0.N, win0_4.index t = ![t.val % 16, t.val / 16] :=
  (by decide +kernel : ∀ t : Fin grid0.N, _)
theorem idx_g : ∀ t : Fin cfg0.N, win0_5.index t = ![t.val % 16, t.val / 16] :=
  (by decide +kernel : ∀ t : Fin grid0.N, _)
theorem idx_dq : ∀ t : Fin cfg0.N, win0_6.index t = ![t.val % 16, t.val / 16] :=
  (by decide +kernel : ∀ t : Fin grid0.N, _)
theorem idx_dk : ∀ t : Fin cfg0.N, win0_7.index t = ![0, t.val / 64] :=
  (by decide +kernel : ∀ t : Fin grid0.N, _)
theorem idx_dv : ∀ t : Fin cfg0.N, win0_8.index t = ![0, t.val / 64] :=
  (by decide +kernel : ∀ t : Fin grid0.N, _)

theorem tlt (t : Fin cfg0.N) : t.val < 256 := N_0 ▸ t.isLt

/-- The head of a point, and a query row of its block. -/
def hd (t : Fin cfg0.N) : Fin 16 := ⟨t.val / 16, by have := tlt t; omega⟩
def rw' (t : Fin cfg0.N) (r : Fin 512) : Fin 8192 := ⟨512 * (t.val % 16) + r.val, by omega⟩

/-- The column of a head's lane, among the queries; of its key head's lane, among the keys and among the values. -/
def cq (e : Fin 16) (d : Fin 128) : Fin 2048 := ⟨128 * e.val + d.val, by omega⟩
def cq' (e : Fin 16) (d : Fin 128) : Fin 2560 := ⟨128 * e.val + d.val, by omega⟩
def ck (e : Fin 16) (d : Fin 128) : Fin 2560 := ⟨128 * (16 + e.val / 4) + d.val, by omega⟩
def cv (e : Fin 16) (d : Fin 128) : Fin 512 := ⟨128 * (e.val / 4) + d.val, by omega⟩
/-- A latent row among all rows. -/
def up (n : Fin 8192) : Fin 8448 := ⟨n.val, by omega⟩

theorem q_rd (X : Buf (Elt Ideal) ((c : Thread nD τ).loc main_arg0)) (t : Fin cfg0.N) (r : Fin 512) (d : Fin 128) :
    (cfg0.win 0).fill (cfg0.grid.coords t) dflt0_0 (((cfg0.win 0).blk t).view.read (Elt Ideal) X) (ix2 r d)
      = X (ix2 (up (rw' t r)) (cq' (hd t) d)) := by
  unfold Pipeline.Window.fill
  rw [dif_pos (moved0_0 t _), View.read_apply]
  refine congrArg X ?_
  funext a
  apply Fin.ext
  match a with
  | ⟨0, _⟩ => show win0_0.index t 0 * 512 + 1 * r.val = 512 * (t.val % 16) + r.val; rw [idx_q]; show (t.val % 16) * 512 + 1 * r.val = _; omega
  | ⟨1, _⟩ => show win0_0.index t 1 * 128 + 1 * d.val = 128 * (t.val / 16) + d.val; rw [idx_q]; show (t.val / 16) * 128 + 1 * d.val = _; omega

theorem q_blk (t : Fin cfg0.N) (r : Fin 512) (d : Fin 128) :
    X0_0 m c t (ix2 r d) = V m c main_arg0 (ix2 (up (rw' t r)) (cq' (hd t) d)) :=
  q_rd c (V m c main_arg0) t r d

theorem k_rd (X : Buf (Elt Ideal) ((c : Thread nD τ).loc main_arg0)) (t : Fin cfg0.N) (s : Fin 8448) (d : Fin 128) :
    (((cfg0.win 1).blk t).view.read (Elt Ideal) X : Vec Ideal S8448x128 .bf16) (ix2 s d) = X (ix2 s (ck (hd t) d)) := by
  rw [View.read_apply]
  refine congrArg X ?_
  funext a
  apply Fin.ext
  match a with
  | ⟨0, _⟩ => show win0_1.index t 0 * 8448 + 1 * s.val = s.val; rw [idx_k]; show (0) * 8448 + 1 * s.val = _; omega
  | ⟨1, _⟩ => show win0_1.index t 1 * 128 + 1 * d.val = 128 * (16 + t.val / 16 / 4) + d.val; rw [idx_k]; show (16 + t.val / 64) * 128 + 1 * d.val = _; omega

theorem k_blk (t : Fin cfg0.N) (s : Fin 8448) (d : Fin 128) :
    (iblk m c 1 t : Vec Ideal S8448x128 .bf16) (ix2 s d) = V m c main_arg0 (ix2 s (ck (hd t) d)) :=
  k_rd c (V m c main_arg0) t s d

theorem v_rd (X : Buf (Elt Ideal) ((c : Thread nD τ).loc main_arg1)) (t : Fin cfg0.N) (s : Fin 8448) (d : Fin 128) :
    (((cfg0.win 2).blk t).view.read (Elt Ideal) X : Vec Ideal S8448x128 .bf16) (ix2 s d) = X (ix2 s (cv (hd t) d)) := by
  rw [View.read_apply]
  refine congrArg X ?_
  funext a
  apply Fin.ext
  match a with
  | ⟨0, _⟩ => show win0_2.index t 0 * 8448 + 1 * s.val = s.val; rw [idx_v]; show (0) * 8448 + 1 * s.val = _; omega
  | ⟨1, _⟩ => show win0_2.index t 1 * 128 + 1 * d.val = 128 * (t.val / 16 / 4) + d.val; rw [idx_v]; show (t.val / 64) * 128 + 1 * d.val = _; omega

theorem v_blk (t : Fin cfg0.N) (s : Fin 8448) (d : Fin 128) :
    (iblk m c 2 t : Vec Ideal S8448x128 .bf16) (ix2 s d) = V m c main_arg1 (ix2 s (cv (hd t) d)) :=
  v_rd c (V m c main_arg1) t s d

theorem o_rd (X : Buf (Elt Ideal) ((c : Thread nD τ).loc main_v24)) (t : Fin cfg0.N) (r : Fin 512) (d : Fin 128) :
    (((cfg0.win 3).blk t).view.read (Elt Ideal) X : Vec Ideal S512x128 .bf16) (ix2 r d) = X (ix2 (rw' t r) (cq (hd t) d)) := by
  rw [View.read_apply]
  refine congrArg X ?_
  funext a
  apply Fin.ext
  match a with
  | ⟨0, _⟩ => show win0_3.index t 0 * 512 + 1 * r.val = 512 * (t.val % 16) + r.val; rw [idx_o]; show (t.val % 16) * 512 + 1 * r.val = _; omega
  | ⟨1, _⟩ => show win0_3.index t 1 * 128 + 1 * d.val = 128 * (t.val / 16) + d.val; rw [idx_o]; show (t.val / 16) * 128 + 1 * d.val = _; omega

theorem o_blk (t : Fin cfg0.N) (r : Fin 512) (d : Fin 128) :
    (iblk m c 3 t : Vec Ideal S512x128 .bf16) (ix2 r d) = V m c main_v24 (ix2 (rw' t r) (cq (hd t) d)) :=
  o_rd c (V m c main_v24) t r d

theorem l_rd (X : Buf (Elt Ideal) ((c : Thread nD τ).loc main_v32)) (t : Fin cfg0.N) (r : Fin 512) (d : Fin 128) :
    (((cfg0.win 4).blk t).view.read (Elt Ideal) X : Vec Ideal S512x128 .f32) (ix2 r d) = X (ix2 (rw' t r) (cq (hd t) d)) := by
  rw [View.read_apply]
  refine congrArg X ?_
  funext a
  apply Fin.ext
  match a with
  | ⟨0, _⟩ => show win0_4.index t 0 * 512 + 1 * r.val = 512 * (t.val % 16) + r.val; rw [idx_l]; show (t.val % 16) * 512 + 1 * r.val = _; omega
  | ⟨1, _⟩ => show win0_4.index t 1 * 128 + 1 * d.val = 128 * (t.val / 16) + d.val; rw [idx_l]; show (t.val / 16) * 128 + 1 * d.val = _; omega

theorem l_blk (t : Fin cfg0.N) (r : Fin 512) (d : Fin 128) :
    (iblk m c 4 t : Vec Ideal S512x128 .f32) (ix2 r d) = V m c main_v32 (ix2 (rw' t r) (cq (hd t) d)) :=
  l_rd c (V m c main_v32) t r d

theorem g_rd (X : Buf (Elt Ideal) ((c : Thread nD τ).loc main_arg2)) (t : Fin cfg0.N) (r : Fin 512) (d : Fin 128) :
    (((cfg0.win 5).blk t).view.read (Elt Ideal) X : Vec Ideal S512x128 .bf16) (ix2 r d) = X (ix2 (rw' t r) (cq (hd t) d)) := by
  rw [View.read_apply]
  refine congrArg X ?_
  funext a
  apply Fin.ext
  match a with
  | ⟨0, _⟩ => show win0_5.index t 0 * 512 + 1 * r.val = 512 * (t.val % 16) + r.val; rw [idx_g]; show (t.val % 16) * 512 + 1 * r.val = _; omega
  | ⟨1, _⟩ => show win0_5.index t 1 * 128 + 1 * d.val = 128 * (t.val / 16) + d.val; rw [idx_g]; show (t.val / 16) * 128 + 1 * d.val = _; omega

theorem g_blk (t : Fin cfg0.N) (r : Fin 512) (d : Fin 128) :
    (iblk m c 5 t : Vec Ideal S512x128 .bf16) (ix2 r d) = V m c main_arg2 (ix2 (rw' t r) (cq (hd t) d)) :=
  g_rd c (V m c main_arg2) t r d

/-! ## Probabilities and score derivatives over the arrays -/

/-- The probability of head `e`, query row `n` and key `s`. -/
def eP (e : Fin 16) (n : Fin 8192) (s : Fin 8448) : EReal :=
  Ideal.exp2 ((∑ d : Fin 128, aQ m c (ix2 (up n) (cq' e d)) * aQ m c (ix2 s (ck e d))) * cScl
    - aL m c (ix2 n (cq e 0)) * cLog)

/-- The score's derivative of head `e`, query row `n` and key `s`. -/
def eDS (e : Fin 16) (n : Fin 8192) (s : Fin 8448) : EReal :=
  eP m c e n s * ((∑ d : Fin 128, aG m c (ix2 n (cq e d)) * aV m c (ix2 s (cv e d)))
    - ∑ d : Fin 128, aG m c (ix2 n (cq e d)) * aO m c (ix2 n (cq e d))) * cS

theorem pB_blk (t : Fin cfg0.N) (r : Fin 512) (s : Fin 8448) :
    pB (X0_0 m c t) (iblk m c 1 t) (iblk m c 4 t) r s = eP m c (hd t) (rw' t r) s := by
  unfold pB eP
  simp only [q_blk, k_blk, l_blk]

theorem dsB_blk (t : Fin cfg0.N) (r : Fin 512) (s : Fin 8448) :
    dsB (X0_0 m c t) (iblk m c 1 t) (iblk m c 2 t) (iblk m c 3 t) (iblk m c 4 t) (iblk m c 5 t) r s
      = eDS m c (hd t) (rw' t r) s := by
  unfold dsB eDS
  rw [pB_blk]
  simp only [v_blk, o_blk, g_blk]

/-- What one point adds to the keys' gradient, and to the values'. -/
def addK (t : Fin cfg0.N) (s : Fin 8448) (d : Fin 128) : EReal :=
  ∑ r : Fin 512, eDS m c (hd t) (rw' t r) s * aQ m c (ix2 (up (rw' t r)) (cq' (hd t) d))
def addV (t : Fin cfg0.N) (s : Fin 8448) (d : Fin 128) : EReal :=
  ∑ r : Fin 512, eP m c (hd t) (rw' t r) s * aG m c (ix2 (rw' t r) (cq (hd t) d))

theorem dkB_blk (t : Fin cfg0.N) (acc : Vec Ideal S8448x128 .f32) (s : Fin 8448) (d : Fin 128) :
    dkB (X0_0 m c t) (iblk m c 1 t) (iblk m c 2 t) (iblk m c 3 t) (iblk m c 4 t) (iblk m c 5 t) acc (ix2 s d)
      = acc (ix2 s d) + addK m c t s d := by
  unfold dkB addK
  show _ + ∑ r : Fin 512, dsB (X0_0 m c t) (iblk m c 1 t) (iblk m c 2 t) (iblk m c 3 t) (iblk m c 4 t) (iblk m c 5 t) r s
    * X0_0 m c t (ix2 r d) = _
  simp only [dsB_blk, q_blk]

theorem dvB_blk (t : Fin cfg0.N) (acc : Vec Ideal S8448x128 .f32) (s : Fin 8448) (d : Fin 128) :
    dvB (X0_0 m c t) (iblk m c 1 t) (iblk m c 4 t) (iblk m c 5 t) acc (ix2 s d) = acc (ix2 s d) + addV m c t s d := by
  unfold dvB addV
  show _ + ∑ r : Fin 512, pB (X0_0 m c t) (iblk m c 1 t) (iblk m c 4 t) r s
    * (iblk m c 5 t : Vec Ideal S512x128 .bf16) (ix2 r d) = _
  simp only [pB_blk, g_blk]

theorem dqB_blk (t : Fin cfg0.N) (r : Fin 512) (d : Fin 128) :
    dqB (X0_0 m c t) (iblk m c 1 t) (iblk m c 2 t) (iblk m c 3 t) (iblk m c 4 t) (iblk m c 5 t) (ix2 r d)
      = ∑ s : Fin 8448, eDS m c (hd t) (rw' t r) s * aQ m c (ix2 s (ck (hd t) d)) := by
  unfold dqB
  show ∑ s : Fin 8448, dsB (X0_0 m c t) (iblk m c 1 t) (iblk m c 2 t) (iblk m c 3 t) (iblk m c 4 t) (iblk m c 5 t) r s
    * (iblk m c 1 t : Vec Ideal S8448x128 .bf16) (ix2 s d) = _
  simp only [dsB_blk, k_blk]

/-! ## What the output blocks hold after each point -/

theorem outs_dq (t : Fin cfg0.N) (r : Fin 512) (d : Fin 128) :
    (outsAt0 m c t.val t.isLt).1 (ix2 r d)
      = ∑ s : Fin 8448, eDS m c (hd t) (rw' t r) s * aQ m c (ix2 s (ck (hd t) d)) := by
  by_cases h0 : t.val % 64 = 0
  · rw [outsAt0_A m c t h0]
    dsimp only
    rw [out_A_6, dqB_blk]
  · rw [outsAt0_B m c t h0]
    dsimp only
    rw [out_B_6, dqB_blk]

/-- `addK` and `addV` at a number, zero past the grid. -/
def addK' (n : ℕ) (s : Fin 8448) (d : Fin 128) : EReal := if h : n < cfg0.N then addK m c ⟨n, h⟩ s d else 0
def addV' (n : ℕ) (s : Fin 8448) (d : Fin 128) : EReal := if h : n < cfg0.N then addV m c ⟨n, h⟩ s d else 0

theorem addK'_of (n : ℕ) (h : n < cfg0.N) (s : Fin 8448) (d : Fin 128) : addK' m c n s d = addK m c ⟨n, h⟩ s d := dif_pos h
theorem addV'_of (n : ℕ) (h : n < cfg0.N) (s : Fin 8448) (d : Fin 128) : addV' m c n s d = addV m c ⟨n, h⟩ s d := dif_pos h

theorem outs_kv (s : Fin 8448) (d : Fin 128) : ∀ (n : ℕ) (h : n < cfg0.N),
    (outsAt0 m c n h).2.1 (ix2 s d) = ∑ u ∈ Finset.range (n % 64 + 1), addK' m c (64 * (n / 64) + u) s d
    ∧ (outsAt0 m c n h).2.2 (ix2 s d) = ∑ u ∈ Finset.range (n % 64 + 1), addV' m c (64 * (n / 64) + u) s d := by
  intro n
  induction n with
  | zero =>
    intro h
    have e := outsAt0_A m c ⟨0, h⟩ rfl
    dsimp only at e
    rw [e]
    dsimp only
    rw [out_A_7, out_A_8, dkB_blk, dvB_blk, pay5_apply, pay6_apply, zero_add, zero_add]
    constructor
    · rw [Finset.sum_range_one]
      exact (addK'_of m c _ h s d).symm
    · rw [Finset.sum_range_one]
      exact (addV'_of m c _ h s d).symm
  | succ n ih =>
    intro h
    have hn : n < cfg0.N := Nat.lt_of_succ_lt h
    by_cases h0 : (n + 1) % 64 = 0
    · have e := outsAt0_A m c ⟨n + 1, h⟩ h0
      dsimp only at e
      rw [e]
      dsimp only
      rw [out_A_7, out_A_8, dkB_blk, dvB_blk, pay5_apply, pay6_apply, zero_add, zero_add, h0]
      have e1 : 64 * ((n + 1) / 64) + 0 = n + 1 := by omega
      constructor
      · rw [Finset.sum_range_one, e1]
        exact (addK'_of m c _ h s d).symm
      · rw [Finset.sum_range_one, e1]
        exact (addV'_of m c _ h s d).symm
    · have e := outsAt0_B m c ⟨n + 1, h⟩ h0
      dsimp only at e
      rw [e]
      dsimp only
      rw [out_B_7, out_B_8, dkB_blk, dvB_blk]
      have e1 : (n + 1) % 64 = n % 64 + 1 := by omega
      have e2 : (n + 1) / 64 = n / 64 := by omega
      have e3 : 64 * (n / 64) + (n % 64 + 1) = n + 1 := by omega
      rw [e1, e2, Finset.sum_range_succ _ (n % 64 + 1), Finset.sum_range_succ _ (n % 64 + 1), e3]
      constructor
      · exact congrArg₂ (· + ·) (ih hn).1 (addK'_of m c _ h s d).symm
      · exact congrArg₂ (· + ·) (ih hn).2 (addV'_of m c _ h s d).symm

/-! ## The arrays after the run -/

/-- The head of a query column and its lane; the first head of a key column's group and its lane. -/
def ec (j : Fin 2048) : Fin 16 := ⟨j.val / 128, by omega⟩
def lc (j : Fin 2048) : Fin 128 := ⟨j.val % 128, by omega⟩
def lk (j : Fin 512) : Fin 128 := ⟨j.val % 128, by omega⟩

def resQ : S8192x2048.Idx → EReal := fun i =>
  ∑ s : Fin 8448, eDS m c (ec (i 1)) (i 0) s * aQ m c (ix2 s (ck (ec (i 1)) (lc (i 1))))
def resK : S8448x512.Idx → EReal := fun i =>
  ∑ u ∈ Finset.range 64, addK' m c (64 * ((i 1).val / 128) + u) (i 0) (lk (i 1))
def resV : S8448x512.Idx → EReal := fun i =>
  ∑ u ∈ Finset.range 64, addV' m c (64 * ((i 1).val / 128) + u) (i 0) (lk (i 1))

end Cert.KernelIdeal.Hand

end
-- ==== Proof.Final.lean ====
/- The three result arrays the write-backs leave. -/
module

public import proofs.«01_k».proof.Proof.Arrays

@[expose] public section

set_option maxRecDepth 16384

noncomputable section

namespace Cert.KernelIdeal.Hand

open Cert.KernelIdeal Cert.KernelIdeal.Gen Idealize.ShloMosaic Idealize.ShloMosaic.TcCoe
open Idealize.ShloMosaic.Pipeline (Dat)

variable (m : (ℓ : Loc nD τ sig) → Buf (Elt Ideal) ℓ) (c : Dev nD)

theorem emb_dq (t : Fin cfg0.N) (y : S512x128.Idx) : ((cfg0.win 6).blk t).view.emb y = ix2 (rw' t (y 0)) (cq (hd t) (y 1)) := by
  funext a
  apply Fin.ext
  match a with
  | ⟨0, _⟩ => show win0_6.index t 0 * 512 + 1 * (y 0).val = 512 * (t.val % 16) + (y 0).val; rw [idx_dq]; show (t.val % 16) * 512 + 1 * (y 0).val = _; omega
  | ⟨1, _⟩ => show win0_6.index t 1 * 128 + 1 * (y 1).val = 128 * (t.val / 16) + (y 1).val; rw [idx_dq]; show (t.val / 16) * 128 + 1 * (y 1).val = _; omega

theorem emb_dk (t : Fin cfg0.N) (y : S8448x128.Idx) : ((cfg0.win 7).blk t).view.emb y = ix2 (y 0) (cv (hd t) (y 1)) := by
  funext a
  apply Fin.ext
  match a with
  | ⟨0, _⟩ => show win0_7.index t 0 * 8448 + 1 * (y 0).val = (y 0).val; rw [idx_dk]; show 0 * 8448 + 1 * (y 0).val = _; omega
  | ⟨1, _⟩ => show win0_7.index t 1 * 128 + 1 * (y 1).val = 128 * (t.val / 16 / 4) + (y 1).val; rw [idx_dk]; show (t.val / 64) * 128 + 1 * (y 1).val = _; omega

theorem emb_dv (t : Fin cfg0.N) (y : S8448x128.Idx) : ((cfg0.win 8).blk t).view.emb y = ix2 (y 0) (cv (hd t) (y 1)) := by
  funext a
  apply Fin.ext
  match a with
  | ⟨0, _⟩ => show win0_8.index t 0 * 8448 + 1 * (y 0).val = (y 0).val; rw [idx_dv]; show 0 * 8448 + 1 * (y 0).val = _; omega
  | ⟨1, _⟩ => show win0_8.index t 1 * 128 + 1 * (y 1).val = 128 * (t.val / 16 / 4) + (y 1).val; rw [idx_dv]; show (t.val / 64) * 128 + 1 * (y 1).val = _; omega

theorem cv_div (t : Fin cfg0.N) (d : Fin 128) : (cv (hd t) d).val / 128 = t.val / 64 := by
  show (128 * (t.val / 16 / 4) + d.val) / 128 = t.val / 64
  omega

theorem lk_cv (t : Fin cfg0.N) (d : Fin 128) : lk (cv (hd t) d) = d :=
  Fin.ext (by show (128 * (t.val / 16 / 4) + d.val) % 128 = d.val; omega)

theorem ec_cq (t : Fin cfg0.N) (d : Fin 128) : ec (cq (hd t) d) = hd t :=
  Fin.ext (by show (128 * (t.val / 16) + d.val) / 128 = t.val / 16; omega)

theorem lc_cq (t : Fin cfg0.N) (d : Fin 128) : lc (cq (hd t) d) = d :=
  Fin.ext (by show (128 * (t.val / 16) + d.val) % 128 = d.val; omega)

theorem resQ_at (t : Fin cfg0.N) (r : Fin 512) (d : Fin 128) :
    resQ m c (ix2 (rw' t r) (cq (hd t) d)) = (outsAt0 m c t.val t.isLt).1 (ix2 r d) := by
  rw [outs_dq]
  show ∑ s : Fin 8448, eDS m c (ec (cq (hd t) d)) (rw' t r) s * aQ m c (ix2 s (ck (ec (cq (hd t) d)) (lc (cq (hd t) d)))) = _
  rw [ec_cq, lc_cq]

theorem resK_at (t : Fin cfg0.N) (hm : t.val % 64 = 63) (s : Fin 8448) (d : Fin 128) :
    resK m c (ix2 s (cv (hd t) d)) = (outsAt0 m c t.val t.isLt).2.1 (ix2 s d) := by
  rw [(outs_kv m c s d t.val t.isLt).1, hm]
  show ∑ u ∈ Finset.range 64, addK' m c (64 * ((cv (hd t) d).val / 128) + u) s (lk (cv (hd t) d)) = _
  rw [cv_div, lk_cv]

theorem resV_at (t : Fin cfg0.N) (hm : t.val % 64 = 63) (s : Fin 8448) (d : Fin 128) :
    resV m c (ix2 s (cv (hd t) d)) = (outsAt0 m c t.val t.isLt).2.2 (ix2 s d) := by
  rw [(outs_kv m c s d t.val t.isLt).2, hm]
  show ∑ u ∈ Finset.range 64, addV' m c (64 * ((cv (hd t) d).val / 128) + u) s (lk (cv (hd t) d)) = _
  rw [cv_div, lk_cv]

theorem final_q : (dats m 0 c).arrAt 6 cfg0.N = resQ m c := by
  refine (dats m 0 c).arrAt_eq_of_covers 6 _ (by decide +kernel) fun t hf y => ?_
  rw [after0_6]
  refine Eq.trans ?_ ((congrArg (resQ m c) (emb_dq t y)).trans (resQ_at m c t (y 0) (y 1))).symm
  refine congrArg (outsAt0 m c t.val t.isLt).1 ?_
  funext a
  match a with
  | ⟨0, _⟩ => rfl
  | ⟨1, _⟩ => rfl

theorem final_k : (dats m 0 c).arrAt 7 cfg0.N = resK m c := by
  refine (dats m 0 c).arrAt_eq_of_covers 7 _ (by decide +kernel) fun t hf y => ?_
  rw [after0_7]
  refine Eq.trans ?_ ((congrArg (resK m c) (emb_dk t y)).trans (resK_at m c t ((flush0_7 t).mp hf) (y 0) (y 1))).symm
  refine congrArg (outsAt0 m c t.val t.isLt).2.1 ?_
  funext a
  match a with
  | ⟨0, _⟩ => rfl
  | ⟨1, _⟩ => rfl

theorem final_v : (dats m 0 c).arrAt 8 cfg0.N = resV m c := by
  refine (dats m 0 c).arrAt_eq_of_covers 8 _ (by decide +kernel) fun t hf y => ?_
  rw [after0_8]
  refine Eq.trans ?_ ((congrArg (resV m c) (emb_dv t y)).trans (resV_at m c t ((flush0_8 t).mp hf) (y 0) (y 1))).symm
  refine congrArg (outsAt0 m c t.val t.isLt).2.2 ?_
  funext a
  match a with
  | ⟨0, _⟩ => rfl
  | ⟨1, _⟩ => rfl

end Cert.KernelIdeal.Hand

end
-- ==== Proof.Finite.lean ====
/- The precondition read back: every entry of the three arguments is a real. -/
module

public import proofs.«01_k».proof.Proof.Gen.Pre_finite
public import Idealize.ShloMosaic.Lib.Pointwise
public import Idealize.ShloMosaic.Lib.ReduceAll

@[expose] public section

set_option maxRecDepth 16384

noncomputable section

namespace Cert.Pre_finite.Hand

open Cert.Pre_finite Cert.Pre_finite.Gen Idealize.ShloMosaic

theorem bits_inf : Ideal.ofBits .f32 0x7F800000#32 = ⊤ := by simp [Ideal.ofBits, Ideal.ieee]

theorem real_of_lt (x : EReal) (h : FloatOps.cmpf (F := Ideal) (φ := .f32) .olt (max x (-x)) (Ideal.ofBits .f32 0x7F800000#32) = 1#1) :
    ∃ r : ℝ, x = (r : EReal) := by
  rw [bits_inf] at h
  induction x using EReal.rec with
  | bot => exfalso; revert h; simp [Ideal.cmpf_def, Ideal.cmp]
  | top => exfalso; revert h; simp [Ideal.cmpf_def, Ideal.cmp]
  | coe r => exact ⟨r, rfl⟩

variable (x : FVec Ideal S8448x2560 .bf16) (v : FVec Ideal S8448x512 .bf16) (u : FVec Ideal S8192x2048 .bf16)

theorem arr_x (i : S8448x2560.Idx) (h : (cmpf .olt (Host.absf (extf .f32 x bitsLt_bf16_f32 : FVec Ideal S8448x2560 .f32))
    (broadcastInDim S8448x2560 ![] bcast_S_S8448x2560 (constant S_ .f32 0x7F800000#32)) : IVec S8448x2560 1) i = 1#1) : ∃ r : ℝ, x i = (r : EReal) :=
  real_of_lt (x i) h

theorem arr_v (i : S8448x512.Idx) (h : (cmpf .olt (Host.absf (extf .f32 v bitsLt_bf16_f32 : FVec Ideal S8448x512 .f32))
    (broadcastInDim S8448x512 ![] bcast_S_S8448x512 (constant S_ .f32 0x7F800000#32)) : IVec S8448x512 1) i = 1#1) : ∃ r : ℝ, v i = (r : EReal) :=
  real_of_lt (v i) h

theorem arr_u (i : S8192x2048.Idx) (h : (cmpf .olt (Host.absf (extf .f32 u bitsLt_bf16_f32 : FVec Ideal S8192x2048 .f32))
    (broadcastInDim S8192x2048 ![] bcast_S_S8192x2048 (constant S_ .f32 0x7F800000#32)) : IVec S8192x2048 1) i = 1#1) : ∃ r : ℝ, u i = (r : EReal) :=
  real_of_lt (u i) h

theorem cat0 (a b c : IVec S1 1) : fn_part1 (F := Ideal) a b c (ix1 0) = a (ix1 0) := by
  pointwise [fn_part1]
theorem cat1 (a b c : IVec S1 1) : fn_part1 (F := Ideal) a b c (ix1 1) = b (ix1 0) := by
  pointwise [fn_part1]
theorem cat2 (a b c : IVec S1 1) : fn_part1 (F := Ideal) a b c (ix1 2) = c (ix1 0) := by
  pointwise [fn_part1]

instance : Subsingleton S_.Idx := ⟨fun _ _ => funext fun a => a.elim0⟩

theorem fn_eq (h : fn x v u = fun _ => 1#1) :
    (∀ i, ∃ r : ℝ, x i = (r : EReal)) ∧ (∀ i, ∃ r : ℝ, v i = (r : EReal)) ∧ (∀ i, ∃ r : ℝ, u i = (r : EReal)) := by
  have h0 := congrFun h (ix1 0)
  have h1 := congrFun h (ix1 1)
  have h2 := congrFun h (ix1 2)
  unfold fn at h0 h1 h2
  rw [cat0] at h0
  rw [cat1] at h1
  rw [cat2] at h2
  exact ⟨fun i => arr_x x i (Host.reduce_andi_all _ _ _ _ _ h0 i), fun i => arr_v v i (Host.reduce_andi_all _ _ _ _ _ h1 i),
    fun i => arr_u u i (Host.reduce_andi_all _ _ _ _ _ h2 i)⟩

end Cert.Pre_finite.Hand

end
-- ==== Proof.Host.lean ====
/- What the host prepares for the kernel: the attention's output and the log-sum-exp of the scores, index by index. -/
module

public import proofs.«01_k».proof.Proof.Arrays
public import Idealize.ShloMosaic.Lib.Pointwise
public import Idealize.ShloMosaic.Lib.StableHlo.Run

@[expose] public section

set_option maxRecDepth 16384

noncomputable section

namespace Cert.KernelIdeal.Hand

open Cert.KernelIdeal Cert.KernelIdeal.Gen Idealize.ShloMosaic Idealize.ShloMosaic.TcCoe

/-- The queries and the keys, one head a row. -/
def hQ (x : FVec Ideal S8448x2560 .bf16) : FVec Ideal S8192x4x4x128 .f32 :=
  shapeCast S8192x4x4x128 (extf .f32 (extractStridedSlice S8192x2048 ![0, 0] x slices_S8448x2560_S8192x2048_0_0) bitsLt_bf16_f32) shapeCasts_S8192x2048_S8192x4x4x128
def hK (x : FVec Ideal S8448x2560 .bf16) : FVec Ideal S8448x4x128 .f32 :=
  shapeCast S8448x4x128 (extf .f32 (extractStridedSlice S8448x512 ![0, 2048] x slices_S8448x2560_S8448x512_0_2048) bitsLt_bf16_f32) shapeCasts_S8448x512_S8448x4x128
def hV (x : FVec Ideal S8448x512 .bf16) : FVec Ideal S8448x4x128 .f32 :=
  shapeCast S8448x4x128 (extf .f32 x bitsLt_bf16_f32) shapeCasts_S8448x512_S8448x4x128

/-- The scaled scores. -/
def hS (x : FVec Ideal S8448x2560 .bf16) : FVec Ideal S4x4x8192x8448 .f32 :=
  mulf (transpose S4x4x8192x8448 [0, 3, 2, 1] (Host.dotGeneral dot_S8448x4x128_S8192x4x4x128_S4x8448x8192x4_2_3_0_02_1_1 none (hK x) (hQ x))
    transposes_S4x8448x8192x4_S4x4x8192x8448_0_3_2_1) (broadcastInDim S4x4x8192x8448 ![] bcast_S_S4x4x8192x8448 (constant S_ .f32 0x3DB504F3#32))

/-- The greatest score of a query. -/
def hM (x : FVec Ideal S8448x2560 .bf16) : FVec Ideal S4x4x8192 .f32 :=
  Host.reduce FloatOps.maximumf (hS x) (constant S_ .f32 0xFF800000#32) reducesTo_S4x4x8192x8448_S4x4x8192_d3 h_S_
def hM1 (x : FVec Ideal S8448x2560 .bf16) : FVec Ideal S4x4x8192x1 .f32 :=
  broadcastInDim S4x4x8192x1 ![0, 1, 2] bcast_S4x4x8192_S4x4x8192x1_0_1_2 (hM x)

/-- The exponentials of the shifted scores, and their sum. -/
def hE (x : FVec Ideal S8448x2560 .bf16) : FVec Ideal S4x4x8192x8448 .f32 :=
  Host.exp (subf (hS x) (broadcastInDim S4x4x8192x8448 ![0, 1, 2, 3] bcast_S4x4x8192x1_S4x4x8192x8448_0_1_2_3 (hM1 x)))
def hL (x : FVec Ideal S8448x2560 .bf16) : FVec Ideal S4x4x8192x1 .f32 :=
  broadcastInDim S4x4x8192x1 ![0, 1, 2] bcast_S4x4x8192_S4x4x8192x1_0_1_2
    (Host.reduceAdd (hE x) (constant S_ .f32 0x00000000#32) reducesTo_S4x4x8192x8448_S4x4x8192_d3 h_S_)

/-- The output. -/
def hO (x : FVec Ideal S8448x2560 .bf16) (v : FVec Ideal S8448x512 .bf16) : FVec Ideal S8192x2048 .bf16 :=
  truncf .bf16 (shapeCast S8192x2048 (transpose S8192x4x4x128 [3, 0, 2, 1]
    (Host.dotGeneral dot_S8448x4x128_S4x4x8192x8448_S4x128x4x8192_0_3_2_12_1_0 none (hV v)
      (Host.divf (hE x) (broadcastInDim S4x4x8192x8448 ![0, 1, 2, 3] bcast_S4x4x8192x1_S4x4x8192x8448_0_1_2_3 (hL x))))
    transposes_S4x128x4x8192_S8192x4x4x128_3_0_2_1) shapeCasts_S8192x4x4x128_S8192x2048) bitsLt_bf16_f32

/-- The log-sum-exp, over the lanes of its head. -/
def hLse (x : FVec Ideal S8448x2560 .bf16) : FVec Ideal S8192x2048 .f32 :=
  shapeCast S8192x2048 (broadcastInDim S8192x16x128 ![0, 1, 2] bcast_S8192x16x1_S8192x16x128_0_1_2 (broadcastInDim S8192x16x1 ![0, 1] bcast_S8192x16_S8192x16x1_0_1
    (shapeCast S8192x16 (transpose S8192x4x4 [2, 0, 1] (shapeCast S4x4x8192 (addf (hM1 x) (Host.log (hL x))) shapeCasts_S4x4x8192x1_S4x4x8192)
      transposes_S4x4x8192_S8192x4x4_2_0_1) shapeCasts_S8192x4x4_S8192x16))) shapeCasts_S8192x16x128_S8192x2048

/-- The columns of a key head and of a query head of its group. -/
def kq (g h : Fin 4) (d : Fin 128) : Fin 2560 := ⟨g.val * 512 + h.val * 128 + d.val, by omega⟩
def kk (g : Fin 4) (d : Fin 128) : Fin 2560 := ⟨2048 + (g.val * 128 + d.val), by omega⟩
def kv (g : Fin 4) (d : Fin 128) : Fin 512 := ⟨g.val * 128 + d.val, by omega⟩
/-- The key head of a query head, and its place in the group. -/
def ge (e : Fin 16) : Fin 4 := ⟨e.val / 4, by omega⟩
def he (e : Fin 16) : Fin 4 := ⟨e.val % 4, by omega⟩

theorem hQ_apply (x : FVec Ideal S8448x2560 .bf16) (n : Fin 8192) (g h : Fin 4) (d : Fin 128) :
    hQ x (ix4 n g h d) = x (ix2 (up n) (kq g h d)) := by
  pointwise [hQ]
  rfl

theorem hK_apply (x : FVec Ideal S8448x2560 .bf16) (s : Fin 8448) (g : Fin 4) (d : Fin 128) :
    hK x (ix3 s g d) = x (ix2 s (kk g d)) := by
  pointwise [hK]
  rfl

theorem hV_apply (x : FVec Ideal S8448x512 .bf16) (s : Fin 8448) (g : Fin 4) (d : Fin 128) :
    hV x (ix3 s g d) = x (ix2 s (kv g d)) := by
  pointwise [hV]
  rfl

theorem hS_apply (x : FVec Ideal S8448x2560 .bf16) (g h : Fin 4) (n : Fin 8192) (s : Fin 8448) :
    hS x (ix4 g h n s) = (∑ d : Fin 128, hK x (ix3 s g d) * hQ x (ix4 n g h d)) * cS := by
  pointwise [hS]

theorem hE_apply (x : FVec Ideal S8448x2560 .bf16) (g h : Fin 4) (n : Fin 8192) (s : Fin 8448) :
    hE x (ix4 g h n s) = Ideal.exp (hS x (ix4 g h n s) - hM x (ix3 g h n)) := by
  pointwise [hE, hM1]

theorem hL_apply (x : FVec Ideal S8448x2560 .bf16) (g h : Fin 4) (n : Fin 8192) (j : Fin 1) :
    hL x (ix4 g h n j) = ∑ s : Fin 8448, hE x (ix4 g h n s) := by
  pointwise [hL]

theorem o_row (Y : FVec Ideal S8192x4x4x128 .f32) (n : Fin 8192) (k : Fin 2048) :
    (truncf .bf16 (shapeCast S8192x2048 Y shapeCasts_S8192x4x4x128_S8192x2048) bitsLt_bf16_f32 : FVec Ideal S8192x2048 .bf16) (ix2 n k)
      = Y (ix4 n ⟨k.val / 512, by omega⟩ ⟨k.val / 128 % 4, by omega⟩ ⟨k.val % 128, by omega⟩) := by
  pointwise []

theorem o_dot (Y : FVec Ideal S8448x4x128 .f32) (Z : FVec Ideal S4x4x8192x8448 .f32) (n : Fin 8192) (g h : Fin 4) (d : Fin 128) :
    (transpose S8192x4x4x128 [3, 0, 2, 1]
      (Host.dotGeneral dot_S8448x4x128_S4x4x8192x8448_S4x128x4x8192_0_3_2_12_1_0 none Y Z)
      transposes_S4x128x4x8192_S8192x4x4x128_3_0_2_1) (ix4 n g h d) = ∑ s : Fin 8448, Y (ix3 s g d) * Z (ix4 g h n s) := by
  pointwise []

theorem w_apply (Y : FVec Ideal S4x4x8192x8448 .f32) (Z : FVec Ideal S4x4x8192x1 .f32) (n : Fin 8192) (g h : Fin 4) (s : Fin 8448) :
    (Host.divf Y (broadcastInDim S4x4x8192x8448 ![0, 1, 2, 3] bcast_S4x4x8192x1_S4x4x8192x8448_0_1_2_3 Z)) (ix4 g h n s)
      = Ideal.div (Y (ix4 g h n s)) (Z (ix4 g h n 0)) := by
  pointwise []

theorem hO_apply (x : FVec Ideal S8448x2560 .bf16) (v : FVec Ideal S8448x512 .bf16) (n : Fin 8192) (e : Fin 16) (d : Fin 128) :
    hO x v (ix2 n (cq e d)) = ∑ s : Fin 8448, hV v (ix3 s (ge e) d)
      * Ideal.div (hE x (ix4 (ge e) (he e) n s)) (hL x (ix4 (ge e) (he e) n 0)) := by
  have h1 : (⟨(cq e d).val / 512, by omega⟩ : Fin 4) = ge e := Fin.ext (by show (128 * e.val + d.val) / 512 = e.val / 4; omega)
  have h2 : (⟨(cq e d).val / 128 % 4, by omega⟩ : Fin 4) = he e := Fin.ext (by show (128 * e.val + d.val) / 128 % 4 = e.val % 4; omega)
  have h3 : (⟨(cq e d).val % 128, by omega⟩ : Fin 128) = d := Fin.ext (by show (128 * e.val + d.val) % 128 = d.val; omega)
  unfold hO
  rw [o_row, h1, h2, h3, o_dot]
  exact Finset.sum_congr rfl fun s _ => congrArg _ (w_apply _ _ _ _ _ _)

theorem l_row (Y : FVec Ideal S8192x16x128 .f32) (n : Fin 8192) (k : Fin 2048) :
    (shapeCast S8192x2048 Y shapeCasts_S8192x16x128_S8192x2048) (ix2 n k)
      = Y (ix3 n ⟨k.val / 128, by omega⟩ ⟨k.val % 128, by omega⟩) := by
  pointwise []

theorem l_lane (Y : FVec Ideal S8192x16 .f32) (n : Fin 8192) (e : Fin 16) (d : Fin 128) :
    (broadcastInDim S8192x16x128 ![0, 1, 2] bcast_S8192x16x1_S8192x16x128_0_1_2 (broadcastInDim S8192x16x1 ![0, 1] bcast_S8192x16_S8192x16x1_0_1
      Y)) (ix3 n e d) = Y (ix2 n e) := by
  pointwise []

theorem l_head (Y : FVec Ideal S8192x4x4 .f32) (n : Fin 8192) (e : Fin 16) :
    shapeCast S8192x16 Y shapeCasts_S8192x4x4_S8192x16 (ix2 n e) = Y (ix3 n (ge e) (he e)) := by
  pointwise []
  rfl

theorem l_tr (Y : FVec Ideal S4x4x8192x1 .f32) (n : Fin 8192) (g h : Fin 4) :
    transpose S8192x4x4 [2, 0, 1] (shapeCast S4x4x8192 Y shapeCasts_S4x4x8192x1_S4x4x8192)
      transposes_S4x4x8192_S8192x4x4_2_0_1 (ix3 n g h) = Y (ix4 g h n 0) := by
  pointwise []

theorem l_unit (Y : FVec Ideal S4x4x8192 .f32) (n : Fin 8192) (g h : Fin 4) (j : Fin 1) :
    (broadcastInDim S4x4x8192x1 ![0, 1, 2] bcast_S4x4x8192_S4x4x8192x1_0_1_2 Y) (ix4 g h n j) = Y (ix3 g h n) := by
  pointwise []

theorem l_sum (Y Z : FVec Ideal S4x4x8192x1 .f32) (i : S4x4x8192x1.Idx) : (addf Y (Host.log Z)) i = Y i + Ideal.log (Z i) := rfl

theorem hLse_apply (x : FVec Ideal S8448x2560 .bf16) (n : Fin 8192) (e : Fin 16) (d : Fin 128) :
    hLse x (ix2 n (cq e d)) = hM x (ix3 (ge e) (he e) n) + Ideal.log (hL x (ix4 (ge e) (he e) n 0)) := by
  have h2 : (⟨(cq e d).val / 128, by omega⟩ : Fin 16) = e := Fin.ext (by show (128 * e.val + d.val) / 128 = e.val; omega)
  unfold hLse
  rw [l_row, h2, l_lane, l_head, l_tr, l_sum]
  unfold hM1
  rw [l_unit]

variable (m : (ℓ : Loc nD τ sig) → Buf (Elt Ideal) ℓ) (c : Dev nD)

open StableHlo in
theorem V_o : V m c main_v24 = hO (m ((c : Thread nD τ).loc main_arg0)) (m ((c : Thread nD τ).loc main_arg1)) := by
  unfold V hostOps0
  after_results_simp <;> rfl

open StableHlo in
theorem V_lse : V m c main_v32 = hLse (m ((c : Thread nD τ).loc main_arg0)) := by
  unfold V hostOps0
  after_results_simp <;> rfl

end Cert.KernelIdeal.Hand

end
-- ==== Proof.Softmax.lean ====
/- The mathematics of one query row: the softmax's weights and the gradient of its scores, on the reals, and the two ways in
   which the kernel and the reference come to them on the extended reals. -/
module

public import Idealize.ShloMosaic.PureOps.Ideal

@[expose] public section

noncomputable section

namespace Cert.Softmax

open Idealize.ShloMosaic

theorem coe_sum {ι : Type} (t : Finset ι) (f : ι → ℝ) : ((∑ i ∈ t, f i : ℝ) : EReal) = ∑ i ∈ t, (f i : EReal) := by
  classical
  refine Finset.induction_on t (by simp) fun a t ha ih => ?_
  rw [Finset.sum_insert ha, Finset.sum_insert ha, EReal.coe_add, ih]

/-- The greatest of finitely many reals, from −∞, is a real if there is one. -/
theorem fold_max {ι : Type} [Fintype ι] [Nonempty ι] (f : ι → ℝ) :
    ∃ M : ℝ, Finset.univ.fold max (⊥ : EReal) (fun i => (f i : EReal)) = (M : EReal) := by
  classical
  have H : ∀ t : Finset ι, t = ∅ ∨ ∃ M : ℝ, t.fold max (⊥ : EReal) (fun i => (f i : EReal)) = (M : EReal) := by
    intro t
    refine Finset.induction_on t (Or.inl rfl) fun a t ha ih => Or.inr ?_
    rw [Finset.fold_insert ha]
    rcases ih with h | ⟨M, h⟩
    · rw [h]
      exact ⟨f a, by simp⟩
    · rw [h]
      exact ⟨max (f a) M, (EReal.coe_strictMono.monotone.map_max).symm⟩
  rcases H Finset.univ with h | h
  · exact absurd h Finset.univ_nonempty.ne_empty
  · exact h

variable {ι : Type} [Fintype ι] [Nonempty ι] (S D : ι → ℝ)

/-- The sum of the exponentials, the weights, and the scores' gradient, of the scores `S` and the weights' gradient `D`. -/
def Z : ℝ := ∑ s, Real.exp (S s)
def W (s : ι) : ℝ := Real.exp (S s) / Z S
def G (c : ℝ) (s : ι) : ℝ := W S s * (D s - ∑ t, W S t * D t) * c

theorem Z_pos : 0 < Z S := Finset.sum_pos (fun s _ => Real.exp_pos _) Finset.univ_nonempty

/-- The sum of the exponentials shifted by `M`. -/
theorem Z_shift (M : ℝ) : ∑ s, Real.exp (S s - M) = Z S * Real.exp (-M) := by
  rw [Z, Finset.sum_mul]
  exact Finset.sum_congr rfl fun s _ => by rw [← Real.exp_add, sub_eq_add_neg]

theorem eS (M : ℝ) (s : ι) : Ideal.exp ((S s : EReal) - (M : EReal)) = ((Real.exp (S s - M) : ℝ) : EReal) := by
  rw [← EReal.coe_sub, Ideal.exp_coe]

theorem eL (M : ℝ) : ∑ s, Ideal.exp ((S s : EReal) - (M : EReal)) = ((Z S * Real.exp (-M) : ℝ) : EReal) := by
  rw [← Z_shift, coe_sum]
  exact Finset.sum_congr rfl fun s _ => eS S M s

theorem Zs_ne (M : ℝ) : Z S * Real.exp (-M) ≠ 0 := (mul_pos (Z_pos S) (Real.exp_pos _)).ne'

theorem div_real (x y : ℝ) (h : y ≠ 0) : Ideal.div (x : EReal) (y : EReal) = ((x / y : ℝ) : EReal) := by
  rw [Ideal.div_coe h, ← EReal.coe_mul, mul_one_div]

/-- A weight, as a quotient of shifted exponentials. -/
theorem weight (M : ℝ) (s : ι) :
    Ideal.div (Ideal.exp ((S s : EReal) - (M : EReal))) (∑ t, Ideal.exp ((S t : EReal) - (M : EReal))) = (W S s : EReal) := by
  rw [eS, eL, div_real _ _ (Zs_ne S M), W, sub_eq_add_neg, Real.exp_add, mul_div_mul_right _ _ (Real.exp_pos _).ne']

/-- A weight, as a power of two under the log-sum-exp. -/
theorem weight_two (M c : ℝ) (q : ι → ℝ) (hq : ∀ s, S s = q s * c) (s : ι) :
    Ideal.exp2 ((q s : EReal) * ((c * (Real.log 2)⁻¹ : ℝ) : EReal)
      - ((M : EReal) + Ideal.log (∑ t, Ideal.exp ((S t : EReal) - (M : EReal)))) * (((Real.log 2)⁻¹ : ℝ) : EReal)) = (W S s : EReal) := by
  have h2 : Real.log 2 ≠ 0 := (Real.log_pos (by norm_num)).ne'
  have hp : 0 < Z S * Real.exp (-M) := mul_pos (Z_pos S) (Real.exp_pos _)
  rw [eL, Ideal.log_coe, if_neg (not_le.mpr hp), ← EReal.coe_add, ← EReal.coe_mul, ← EReal.coe_mul, ← EReal.coe_sub, Ideal.exp2_coe,
    Real.log_mul (Z_pos S).ne' (Real.exp_pos _).ne', Real.log_exp]
  refine congrArg _ ?_
  show (2 : ℝ) ^ (q s * (c * (Real.log 2)⁻¹) - (M + (Real.log (Z S) + -M)) * (Real.log 2)⁻¹ : ℝ) = _
  rw [Real.rpow_def_of_pos (by norm_num), W]
  have e : Real.log 2 * (q s * (c * (Real.log 2)⁻¹) - (M + (Real.log (Z S) + -M)) * (Real.log 2)⁻¹) = S s - Real.log (Z S) := by
    rw [hq]
    field_simp
    ring
  rw [e, Real.exp_sub, Real.exp_log (Z_pos S)]

/-- The gradient of a score as the reference comes to it. -/
theorem grad (M c : ℝ) (s : ι) :
    (Ideal.div (D s : EReal) (∑ t, Ideal.exp ((S t : EReal) - (M : EReal)))
      + -∑ r, (D r : EReal) * Ideal.div 1 ((∑ t, Ideal.exp ((S t : EReal) - (M : EReal))) * (∑ t, Ideal.exp ((S t : EReal) - (M : EReal))))
          * Ideal.exp ((S r : EReal) - (M : EReal)))
      * Ideal.exp ((S s : EReal) - (M : EReal)) * (c : EReal) = (G S D c s : EReal) := by
  have hz := Zs_ne S M
  have e1 : Ideal.div 1 ((∑ t, Ideal.exp ((S t : EReal) - (M : EReal))) * (∑ t, Ideal.exp ((S t : EReal) - (M : EReal))))
      = ((1 / (Z S * Real.exp (-M) * (Z S * Real.exp (-M))) : ℝ) : EReal) := by
    rw [eL, ← EReal.coe_mul, ← EReal.coe_one, div_real _ _ (mul_ne_zero hz hz)]
  have e2 : ∑ r, (D r : EReal) * Ideal.div 1 ((∑ t, Ideal.exp ((S t : EReal) - (M : EReal))) * (∑ t, Ideal.exp ((S t : EReal) - (M : EReal))))
          * Ideal.exp ((S r : EReal) - (M : EReal))
      = ((∑ r, D r * (1 / (Z S * Real.exp (-M) * (Z S * Real.exp (-M)))) * Real.exp (S r - M) : ℝ) : EReal) := by
    rw [coe_sum]
    refine Finset.sum_congr rfl fun r _ => ?_
    rw [e1, eS, EReal.coe_mul, EReal.coe_mul]
  rw [e2, eL, eS, div_real _ _ hz, ← EReal.coe_neg, ← EReal.coe_add, ← EReal.coe_mul, ← EReal.coe_mul]
  refine congrArg _ ?_
  have hZ := (Z_pos S).ne'
  have hM := (Real.exp_pos (-M)).ne'
  have e3 : ∑ r, D r * (1 / (Z S * Real.exp (-M) * (Z S * Real.exp (-M)))) * Real.exp (S r - M)
      = (∑ t, W S t * D t) / (Z S * Real.exp (-M)) := by
    rw [Finset.sum_div]
    refine Finset.sum_congr rfl fun r _ => ?_
    rw [W, sub_eq_add_neg, Real.exp_add]
    field_simp
  rw [e3, G, W, sub_eq_add_neg, Real.exp_add]
  field_simp
  try ring

/-- The gradient of a score as the kernel comes to it: from the weight and the row's sum of gradient times output. -/
theorem grad_rows {κ : Type} [Fintype κ] (c : ℝ) (g : κ → ℝ) (v : ι → κ → ℝ) (hD : ∀ s, D s = ∑ d, g d * v s d) (s : ι) :
    (W S s : EReal) * ((∑ d, (g d : EReal) * (v s d : EReal)) - ∑ d, (g d : EReal) * ∑ t, (v t d : EReal) * (W S t : EReal)) * (c : EReal)
      = (G S D c s : EReal) := by
  have e1 : ∑ d, (g d : EReal) * (v s d : EReal) = (D s : EReal) := by
    rw [hD, coe_sum]
    exact Finset.sum_congr rfl fun d _ => (EReal.coe_mul _ _).symm
  have e2 : ∑ d, (g d : EReal) * ∑ t, (v t d : EReal) * (W S t : EReal) = ((∑ t, W S t * D t : ℝ) : EReal) := by
    have e3 : ∑ t, W S t * D t = ∑ d, g d * ∑ t, v t d * W S t := by
      simp only [hD, Finset.mul_sum]
      rw [Finset.sum_comm]
      exact Finset.sum_congr rfl fun d _ => Finset.sum_congr rfl fun t _ => by ring
    rw [e3, coe_sum]
    refine Finset.sum_congr rfl fun d _ => ?_
    rw [EReal.coe_mul, coe_sum]
    exact congrArg _ (Finset.sum_congr rfl fun t _ => (EReal.coe_mul _ _).symm)
  rw [e1, e2, ← EReal.coe_sub, ← EReal.coe_mul, ← EReal.coe_mul]
  rfl

end Cert.Softmax

end
-- ==== Proof.Scores.lean ====
/- The attention's real scores and its weights' real gradient, by key head, place in the group, query and key; the three constants;
   and the split of a key head's queries into the blocks in which the kernel takes them. -/
module

public import proofs.«01_k».proof.Proof.Softmax

@[expose] public section

noncomputable section

namespace Cert.Softmax

open Idealize.ShloMosaic

/-- The columns of a query head among the queries' gradients and among the packed queries, of a key head among the packed keys and
    among the values; a latent row among all rows. -/
def kq (g h : Fin 4) (d : Fin 128) : Fin 2048 := ⟨g.val * 512 + h.val * 128 + d.val, by omega⟩
def kq' (g h : Fin 4) (d : Fin 128) : Fin 2560 := ⟨g.val * 512 + h.val * 128 + d.val, by omega⟩
def kk (g : Fin 4) (d : Fin 128) : Fin 2560 := ⟨2048 + (g.val * 128 + d.val), by omega⟩
def kv (g : Fin 4) (d : Fin 128) : Fin 512 := ⟨g.val * 128 + d.val, by omega⟩
def up (n : Fin 8192) : Fin 8448 := ⟨n.val, by omega⟩

/-- The scale, the f32 nearest to one over the root of 128. -/
def cR : ℝ := 11863283 / 134217728

theorem bits_scale : Ideal.ofBits .f32 0x3DB504F3#32 = (cR : EReal) := by
  simp [Ideal.ofBits, Ideal.ieee, cR, -EReal.coe_mul]
  norm_num

theorem bits_neg_inf : Ideal.ofBits .f32 0xFF800000#32 = ⊥ := by simp [Ideal.ofBits, Ideal.ieee]

variable (X : Fin 8448 → Fin 2560 → ℝ) (V : Fin 8448 → Fin 512 → ℝ) (U : Fin 8192 → Fin 2048 → ℝ)

/-- The product of a query and a key, the score, and the gradient of the weight. -/
def sQ (g h : Fin 4) (n : Fin 8192) (s : Fin 8448) : ℝ := ∑ d : Fin 128, X s (kk g d) * X (up n) (kq' g h d)
def sS (g h : Fin 4) (n : Fin 8192) (s : Fin 8448) : ℝ := sQ X g h n s * cR
def sD (g h : Fin 4) (n : Fin 8192) (s : Fin 8448) : ℝ := ∑ d : Fin 128, U n (kq g h d) * V s (kv g d)

/-- A sum over 64 blocks of 512, the blocks by place in the group and by sixteenth of the queries, is the sum over both. -/
theorem sum_blocks (F : Fin 4 → Fin 8192 → EReal) :
    ∑ u : Fin 64, ∑ r : Fin 512, F ⟨u.val / 16, by omega⟩ ⟨512 * (u.val % 16) + r.val, by omega⟩ = ∑ h : Fin 4, ∑ n : Fin 8192, F h n := by
  have e1 : ∀ f : Fin 64 → EReal, ∑ u : Fin 64, f u = ∑ h : Fin 4, ∑ i : Fin 16, f ⟨i.val + 16 * h.val, by omega⟩ := by
    intro f
    rw [← Fintype.sum_prod_type']
    exact ((finProdFinEquiv : Fin 4 × Fin 16 ≃ Fin (4 * 16)).sum_comp f).symm
  have e2 : ∀ f : Fin 8192 → EReal, ∑ n : Fin 8192, f n = ∑ i : Fin 16, ∑ r : Fin 512, f ⟨r.val + 512 * i.val, by omega⟩ := by
    intro f
    rw [← Fintype.sum_prod_type']
    exact ((finProdFinEquiv : Fin 16 × Fin 512 ≃ Fin (16 * 512)).sum_comp f).symm
  rw [e1]
  refine Finset.sum_congr rfl fun h _ => ?_
  rw [e2]
  refine Finset.sum_congr rfl fun i _ => Finset.sum_congr rfl fun r _ => ?_
  have a1 : (⟨(i.val + 16 * h.val) / 16, by omega⟩ : Fin 4) = h := Fin.ext (by show (i.val + 16 * h.val) / 16 = h.val; omega)
  have a2 : (⟨512 * ((i.val + 16 * h.val) % 16) + r.val, by omega⟩ : Fin 8192) = ⟨r.val + 512 * i.val, by omega⟩ :=
    Fin.ext (by show 512 * ((i.val + 16 * h.val) % 16) + r.val = r.val + 512 * i.val; omega)
  show F ⟨(i.val + 16 * h.val) / 16, _⟩ ⟨512 * ((i.val + 16 * h.val) % 16) + r.val, _⟩ = _
  rw [a1, a2]

end Cert.Softmax

end
-- ==== Proof.KernelValue.lean ====
/- The kernel's weights and scores' gradient where the arguments are real: the real ones. -/
module

public import proofs.«01_k».proof.Proof.Host
public import proofs.«01_k».proof.Proof.Final
public import proofs.«01_k».proof.Proof.Scores

@[expose] public section

set_option maxRecDepth 16384

noncomputable section

namespace Cert.KernelIdeal.Hand

open Cert.KernelIdeal Cert.KernelIdeal.Gen Idealize.ShloMosaic Idealize.ShloMosaic.TcCoe
open Cert.Softmax (cR sQ sS sD coe_sum)

theorem max_fold (Y : FVec Ideal S4x4x8192x8448 .f32) (g h : Fin 4) (n : Fin 8192) :
    Host.reduce FloatOps.maximumf Y (constant S_ .f32 0xFF800000#32) reducesTo_S4x4x8192x8448_S4x4x8192_d3 h_S_ (ix3 g h n)
      = Finset.univ.fold max (Ideal.ofBits .f32 0xFF800000#32) fun s : Fin 8448 => Y (ix4 g h n s) := by
  pointwise []

theorem cLog_eq : cLog = (((Real.log 2)⁻¹ : ℝ) : EReal) := IdealRules.named_const.ideal_named_scalar κ "log2e" _ _ rfl
theorem cScl_eq : cScl = ((cR * (Real.log 2)⁻¹ : ℝ) : EReal) := IdealRules.named_const.ideal_named_scalar κ "scale_log2e" _ _ rfl

theorem cS_eq : cS = (cR : EReal) := Cert.Softmax.bits_scale

/-! The columns of a head, by its key head and its place in the group. -/

theorem cq_eq (e : Fin 16) (d : Fin 128) : cq e d = Cert.Softmax.kq (ge e) (he e) d :=
  Fin.ext (by show 128 * e.val + d.val = e.val / 4 * 512 + e.val % 4 * 128 + d.val; omega)
theorem cq'_eq (e : Fin 16) (d : Fin 128) : cq' e d = Cert.Softmax.kq' (ge e) (he e) d :=
  Fin.ext (by show 128 * e.val + d.val = e.val / 4 * 512 + e.val % 4 * 128 + d.val; omega)
theorem ck_eq (e : Fin 16) (d : Fin 128) : ck e d = Cert.Softmax.kk (ge e) d :=
  Fin.ext (by show 128 * (16 + e.val / 4) + d.val = 2048 + (e.val / 4 * 128 + d.val); omega)
theorem cv_eq (e : Fin 16) (d : Fin 128) : cv e d = Cert.Softmax.kv (ge e) d :=
  Fin.ext (by show 128 * (e.val / 4) + d.val = e.val / 4 * 128 + d.val; omega)

section
variable (x : FVec Ideal S8448x2560 .bf16) (X : Fin 8448 → Fin 2560 → ℝ)

theorem hS_real (hx : ∀ i j, x (ix2 i j) = (X i j : EReal)) (g h : Fin 4) (n : Fin 8192) (s : Fin 8448) :
    hS x (ix4 g h n s) = (sS X g h n s : EReal) := by
  rw [hS_apply, cS_eq, sS, EReal.coe_mul, sQ, coe_sum]
  refine congrArg (· * (cR : EReal)) (Finset.sum_congr rfl fun d _ => ?_)
  rw [hK_apply, hQ_apply, hx, hx, EReal.coe_mul]
  rfl

theorem hM_real (hx : ∀ i j, x (ix2 i j) = (X i j : EReal)) (g h : Fin 4) (n : Fin 8192) : ∃ M : ℝ, hM x (ix3 g h n) = (M : EReal) := by
  obtain ⟨M, hM'⟩ := Cert.Softmax.fold_max (sS X g h n)
  refine ⟨M, ?_⟩
  unfold hM
  rw [max_fold, Cert.Softmax.bits_neg_inf, ← hM']
  simp only [hS_real x X hx]
end

variable (m : (ℓ : Loc nD τ sig) → Buf (Elt Ideal) ℓ) (c : Dev nD)
variable (X : Fin 8448 → Fin 2560 → ℝ) (V' : Fin 8448 → Fin 512 → ℝ) (U : Fin 8192 → Fin 2048 → ℝ)

/-- The three arguments. -/
abbrev xx : FVec Ideal S8448x2560 .bf16 := m ((c : Thread nD τ).loc main_arg0)
abbrev vv : FVec Ideal S8448x512 .bf16 := m ((c : Thread nD τ).loc main_arg1)
abbrev uu : FVec Ideal S8192x2048 .bf16 := m ((c : Thread nD τ).loc main_arg2)

theorem aQ_at (i : Fin 8448) (j : Fin 2560) : aQ m c (ix2 i j) = xx m c (ix2 i j) := congrFun (V_main_arg0 m c) _
theorem aV_at (i : Fin 8448) (j : Fin 512) : aV m c (ix2 i j) = vv m c (ix2 i j) := congrFun (V_main_arg1 m c) _
theorem aG_at (i : Fin 8192) (j : Fin 2048) : aG m c (ix2 i j) = uu m c (ix2 i j) := congrFun (V_main_arg2 m c) _
theorem aO_at (i : Fin 8192) (j : Fin 2048) : aO m c (ix2 i j) = hO (xx m c) (vv m c) (ix2 i j) := congrFun (V_o m c) _
theorem aL_at (i : Fin 8192) (j : Fin 2048) : aL m c (ix2 i j) = hLse (xx m c) (ix2 i j) := congrFun (V_lse m c) _

theorem eP_real (hx : ∀ i j, xx m c (ix2 i j) = (X i j : EReal)) (e : Fin 16) (n : Fin 8192) (s : Fin 8448) :
    eP m c e n s = (Cert.Softmax.W (sS X (ge e) (he e) n) s : EReal) := by
  obtain ⟨M, hM'⟩ := hM_real (xx m c) X hx (ge e) (he e) n
  have eq : ∑ d : Fin 128, aQ m c (ix2 (up n) (cq' e d)) * aQ m c (ix2 s (ck e d)) = (sQ X (ge e) (he e) n s : EReal) := by
    rw [sQ, coe_sum]
    refine Finset.sum_congr rfl fun d _ => ?_
    rw [aQ_at, aQ_at, hx, hx, cq'_eq, ck_eq, EReal.coe_mul, mul_comm]
    rfl
  unfold eP
  rw [eq, cScl_eq, cLog_eq, aL_at, hLse_apply, hL_apply]
  simp only [hE_apply, hS_real (xx m c) X hx, hM']
  exact Cert.Softmax.weight_two (sS X (ge e) (he e) n) M cR (sQ X (ge e) (he e) n) (fun _ => rfl) s

theorem eDS_real (hx : ∀ i j, xx m c (ix2 i j) = (X i j : EReal)) (hv : ∀ i j, vv m c (ix2 i j) = (V' i j : EReal))
    (hu : ∀ i j, uu m c (ix2 i j) = (U i j : EReal)) (e : Fin 16) (n : Fin 8192) (s : Fin 8448) :
    eDS m c e n s = (Cert.Softmax.G (sS X (ge e) (he e) n) (sD V' U (ge e) (he e) n) cR s : EReal) := by
  obtain ⟨M, hM'⟩ := hM_real (xx m c) X hx (ge e) (he e) n
  have eo : ∀ d : Fin 128, aO m c (ix2 n (cq e d))
      = ∑ t : Fin 8448, (V' t (Cert.Softmax.kv (ge e) d) : EReal) * (Cert.Softmax.W (sS X (ge e) (he e) n) t : EReal) := by
    intro d
    rw [aO_at, hO_apply, hL_apply]
    refine Finset.sum_congr rfl fun t _ => ?_
    simp only [hE_apply, hS_real (xx m c) X hx, hM']
    rw [Cert.Softmax.weight, hV_apply, hv]
    rfl
  have e1 : ∀ d : Fin 128, aG m c (ix2 n (cq e d)) = (U n (Cert.Softmax.kq (ge e) (he e) d) : EReal) := fun d => by
    rw [aG_at, hu, cq_eq]
  have e2 : ∀ d : Fin 128, aV m c (ix2 s (cv e d)) = (V' s (Cert.Softmax.kv (ge e) d) : EReal) := fun d => by
    rw [aV_at, hv, cv_eq]
  have e3 : ∑ d : Fin 128, aG m c (ix2 n (cq e d)) * aV m c (ix2 s (cv e d))
      = ∑ d : Fin 128, (U n (Cert.Softmax.kq (ge e) (he e) d) : EReal) * (V' s (Cert.Softmax.kv (ge e) d) : EReal) :=
    Finset.sum_congr rfl fun d _ => by rw [e1, e2]
  have e4 : ∑ d : Fin 128, aG m c (ix2 n (cq e d)) * aO m c (ix2 n (cq e d))
      = ∑ d : Fin 128, (U n (Cert.Softmax.kq (ge e) (he e) d) : EReal)
        * ∑ t : Fin 8448, (V' t (Cert.Softmax.kv (ge e) d) : EReal) * (Cert.Softmax.W (sS X (ge e) (he e) n) t : EReal) :=
    Finset.sum_congr rfl fun d _ => by rw [e1, eo]
  unfold eDS
  rw [eP_real m c X hx, e3, e4, cS_eq]
  exact Cert.Softmax.grad_rows (sS X (ge e) (he e) n) (sD V' U (ge e) (he e) n) cR (fun d => U n (Cert.Softmax.kq (ge e) (he e) d))
    (fun t d => V' t (Cert.Softmax.kv (ge e) d)) (fun _ => rfl) s

end Cert.KernelIdeal.Hand

end
-- ==== Proof.Ref.lean ====
/- The reference at an index: the scores, the weights, the gradients of the queries, keys and values. -/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen Idealize.ShloMosaic Idealize.ShloMosaic.TcCoe

/-- The queries, the keys and the values, one head a row. -/
def rQ (x : FVec Ideal S8448x2560 .bf16) : FVec Ideal S8192x4x4x128 .f32 :=
  shapeCast S8192x4x4x128 (extf .f32 (extractStridedSlice S8192x2048 ![0, 0] x slices_S8448x2560_S8192x2048_0_0) bitsLt_bf16_f32) shapeCasts_S8192x2048_S8192x4x4x128
def rK (x : FVec Ideal S8448x2560 .bf16) : FVec Ideal S8448x4x128 .f32 :=
  shapeCast S8448x4x128 (extf .f32 (extractStridedSlice S8448x512 ![0, 2048] x slices_S8448x2560_S8448x512_0_2048) bitsLt_bf16_f32) shapeCasts_S8448x512_S8448x4x128
def rV (v : FVec Ideal S8448x512 .bf16) : FVec Ideal S8448x4x128 .f32 :=
  shapeCast S8448x4x128 (extf .f32 v bitsLt_bf16_f32) shapeCasts_S8448x512_S8448x4x128
/-- The cotangent, one head a row, and turned about. -/
def rG0 (u : FVec Ideal S8192x2048 .bf16) : FVec Ideal S8192x4x4x128 .f32 :=
  shapeCast S8192x4x4x128 (extf .f32 u bitsLt_bf16_f32) shapeCasts_S8192x2048_S8192x4x4x128
def rG (u : FVec Ideal S8192x2048 .bf16) : FVec Ideal S4x128x4x8192 .f32 :=
  transpose S4x128x4x8192 [1, 3, 2, 0] (rG0 u) transposes_S8192x4x4x128_S4x128x4x8192_1_3_2_0

/-- The scaled scores. -/
def rS (x : FVec Ideal S8448x2560 .bf16) : FVec Ideal S4x4x8192x8448 .f32 :=
  mulf (transpose S4x4x8192x8448 [0, 3, 2, 1] (Host.dotGeneral dot_S8448x4x128_S8192x4x4x128_S4x8448x8192x4_2_3_0_02_1_1 none (rK x) (rQ x))
    transposes_S4x8448x8192x4_S4x4x8192x8448_0_3_2_1) (broadcastInDim S4x4x8192x8448 ![] bcast_S_S4x4x8192x8448 (constant S_ .f32 0x3DB504F3#32))

/-- The greatest score of a query, and what the softmax subtracts. -/
def rM (x : FVec Ideal S8448x2560 .bf16) : FVec Ideal S4x4x8192 .f32 :=
  Host.reduce FloatOps.maximumf (rS x) (constant S_ .f32 0xFF800000#32) reducesTo_S4x4x8192x8448_S4x4x8192_d3 h_S_
def rM' (x : FVec Ideal S8448x2560 .bf16) : FVec Ideal S4x4x8192 .f32 :=
  maximumf (broadcastInDim S4x4x8192 ![] bcast_S_S4x4x8192 (constant S_ .f32 0xFF800000#32)) (rM x)

/-- An array of the queries over the unit axis, and over the keys. -/
def rUnit (Y : FVec Ideal S4x4x8192 .f32) : FVec Ideal S4x4x8192x1 .f32 :=
  broadcastInDim S4x4x8192x1 ![0, 1, 2] bcast_S4x4x8192_S4x4x8192x1_0_1_2 Y
def rKeys (Y : FVec Ideal S4x4x8192x1 .f32) : FVec Ideal S4x4x8192x8448 .f32 :=
  broadcastInDim S4x4x8192x8448 ![0, 1, 2, 3] bcast_S4x4x8192x1_S4x4x8192x8448_0_1_2_3 Y
def rSum (Y : FVec Ideal S4x4x8192x8448 .f32) : FVec Ideal S4x4x8192 .f32 :=
  Host.reduceAdd Y (constant S_ .f32 0x00000000#32) reducesTo_S4x4x8192x8448_S4x4x8192_d3 h_S_
def rSum1 (Y : FVec Ideal S4x4x8192x1 .f32) : FVec Ideal S4x4x8192 .f32 :=
  Host.reduceAdd Y (constant S_ .f32 0x00000000#32) reducesTo_S4x4x8192x1_S4x4x8192_d3 h_S_

/-- The exponentials of the shifted scores, their sum, and the weights. -/
def rE (x : FVec Ideal S8448x2560 .bf16) : FVec Ideal S4x4x8192x8448 .f32 := Host.exp (subf (rS x) (rKeys (rUnit (rM' x))))
def rL (x : FVec Ideal S8448x2560 .bf16) : FVec Ideal S4x4x8192x1 .f32 := rUnit (rSum (rE x))
def rW (x : FVec Ideal S8448x2560 .bf16) : FVec Ideal S4x4x8192x8448 .f32 := Host.divf (rE x) (rKeys (rL x))

/-- The gradient of the weights. -/
def rDP (v : FVec Ideal S8448x512 .bf16) (u : FVec Ideal S8192x2048 .bf16) : FVec Ideal S4x4x8192x8448 .f32 :=
  Host.dotGeneral dot_S4x128x4x8192_S8448x4x128_S4x4x8192x8448_1_2_23_0_0_1 none (rG u) (rV v)

/-- One over the squared sum; what the sum's gradient adds to each exponential's. -/
def rI (x : FVec Ideal S8448x2560 .bf16) : FVec Ideal S4x4x8192x1 .f32 :=
  Host.divf (broadcastInDim S4x4x8192x1 ![] bcast_S_S4x4x8192x1 (constant S_ .f32 0x3F800000#32)) (mulf (rL x) (rL x))
def rC0 (x : FVec Ideal S8448x2560 .bf16) (v : FVec Ideal S8448x512 .bf16) (u : FVec Ideal S8192x2048 .bf16) : FVec Ideal S4x4x8192x8448 .f32 :=
  mulf (mulf (rDP v u) (rKeys (rI x))) (rE x)
def rC (x : FVec Ideal S8448x2560 .bf16) (v : FVec Ideal S8448x512 .bf16) (u : FVec Ideal S8192x2048 .bf16) : FVec Ideal S4x4x8192x1 .f32 :=
  Host.negf (shapeCast S4x4x8192x1 (rSum (rC0 x v u)) shapeCasts_S4x4x8192_S4x4x8192x1)

/-- The gradient of the scores, and turned about. -/
def rD (x : FVec Ideal S8448x2560 .bf16) (v : FVec Ideal S8448x512 .bf16) (u : FVec Ideal S8192x2048 .bf16) : FVec Ideal S4x4x8192x8448 .f32 :=
  mulf (mulf (addf (Host.divf (rDP v u) (rKeys (rL x)))
    (broadcastInDim S4x4x8192x8448 ![0, 1, 2] bcast_S4x4x8192_S4x4x8192x8448_0_1_2 (rSum1 (rC x v u)))) (rE x))
    (broadcastInDim S4x4x8192x8448 ![] bcast_S_S4x4x8192x8448 (constant S_ .f32 0x3DB504F3#32))
def rT (D : FVec Ideal S4x4x8192x8448 .f32) : FVec Ideal S4x8448x8192x4 .f32 :=
  transpose S4x8448x8192x4 [0, 3, 2, 1] D transposes_S4x4x8192x8448_S4x8448x8192x4_0_3_2_1

/-- The three gradients, of the scores' gradient or of the weights. -/
def rdq (x : FVec Ideal S8448x2560 .bf16) (D : FVec Ideal S4x4x8192x8448 .f32) : FVec Ideal S8192x4x4x128 .f32 :=
  transpose S8192x4x4x128 [1, 0, 2, 3] (Host.dotGeneral dot_S4x8448x8192x4_S8448x4x128_S4x8192x4x128_1_0_23_2_0_1 none (rT D) (rK x)) transposes_S4x8192x4x128_S8192x4x4x128_1_0_2_3
def rdk (x : FVec Ideal S8448x2560 .bf16) (D : FVec Ideal S4x4x8192x8448 .f32) : FVec Ideal S8448x4x128 .f32 :=
  transpose S8448x4x128 [1, 0, 2] (Host.dotGeneral dot_S4x8448x8192x4_S8192x4x4x128_S4x8448x128_23_02_1_3_0_1 none (rT D) (rQ x)) transposes_S4x8448x128_S8448x4x128_1_0_2
def rdv (u : FVec Ideal S8192x2048 .bf16) (W : FVec Ideal S4x4x8192x8448 .f32) : FVec Ideal S8448x4x128 .f32 :=
  transpose S8448x4x128 [2, 0, 1] (Host.dotGeneral dot_S4x128x4x8192_S4x4x8192x8448_S4x128x8448_23_12_1_3_0_0 none (rG u) W) transposes_S4x128x8448_S8448x4x128_2_0_1

/-- The columns of a key head and of a query head of its group. -/
def kq (g h : Fin 4) (d : Fin 128) : Fin 2048 := ⟨g.val * 512 + h.val * 128 + d.val, by omega⟩
def kq' (g h : Fin 4) (d : Fin 128) : Fin 2560 := ⟨g.val * 512 + h.val * 128 + d.val, by omega⟩
def kk (g : Fin 4) (d : Fin 128) : Fin 2560 := ⟨2048 + (g.val * 128 + d.val), by omega⟩
def kv (g : Fin 4) (d : Fin 128) : Fin 512 := ⟨g.val * 128 + d.val, by omega⟩
def up (n : Fin 8192) : Fin 8448 := ⟨n.val, by omega⟩

theorem rQ_apply (x : FVec Ideal S8448x2560 .bf16) (n : Fin 8192) (g h : Fin 4) (d : Fin 128) :
    rQ x (ix4 n g h d) = x (ix2 (up n) (kq' g h d)) := by
  pointwise [rQ]
  rfl

theorem rK_apply (x : FVec Ideal S8448x2560 .bf16) (s : Fin 8448) (g : Fin 4) (d : Fin 128) :
    rK x (ix3 s g d) = x (ix2 s (kk g d)) := by
  pointwise [rK]
  rfl

theorem rV_apply (x : FVec Ideal S8448x512 .bf16) (s : Fin 8448) (g : Fin 4) (d : Fin 128) :
    rV x (ix3 s g d) = x (ix2 s (kv g d)) := by
  pointwise [rV]
  rfl

theorem rG0_apply (u : FVec Ideal S8192x2048 .bf16) (n : Fin 8192) (g h : Fin 4) (d : Fin 128) :
    rG0 u (ix4 n g h d) = u (ix2 n (kq g h d)) := by
  pointwise [rG0]
  rfl

theorem rG_apply (u : FVec Ideal S8192x2048 .bf16) (n : Fin 8192) (g h : Fin 4) (d : Fin 128) :
    rG u (ix4 g d h n) = u (ix2 n (kq g h d)) := by
  refine Eq.trans ?_ (rG0_apply u n g h d)
  pointwise [rG]

theorem rS_apply (x : FVec Ideal S8448x2560 .bf16) (g h : Fin 4) (n : Fin 8192) (s : Fin 8448) :
    rS x (ix4 g h n s) = (∑ d : Fin 128, rK x (ix3 s g d) * rQ x (ix4 n g h d)) * Ideal.ofBits .f32 0x3DB504F3#32 := by
  pointwise [rS]

theorem max_apply (Y : FVec Ideal S4x4x8192 .f32) (g h : Fin 4) (n : Fin 8192) :
    maximumf (broadcastInDim S4x4x8192 ![] bcast_S_S4x4x8192 (constant S_ .f32 0xFF800000#32)) Y (ix3 g h n)
      = max (Ideal.ofBits .f32 0xFF800000#32) (Y (ix3 g h n)) := by
  pointwise []

theorem rM'_apply (x : FVec Ideal S8448x2560 .bf16) (g h : Fin 4) (n : Fin 8192) :
    rM' x (ix3 g h n) = max (Ideal.ofBits .f32 0xFF800000#32) (rM x (ix3 g h n)) := by
  unfold rM'
  rw [max_apply]

theorem rUnit_apply (Y : FVec Ideal S4x4x8192 .f32) (g h : Fin 4) (n : Fin 8192) (j : Fin 1) : rUnit Y (ix4 g h n j) = Y (ix3 g h n) := by
  pointwise [rUnit]

theorem rKeys_apply (Y : FVec Ideal S4x4x8192x1 .f32) (g h : Fin 4) (n : Fin 8192) (s : Fin 8448) : rKeys Y (ix4 g h n s) = Y (ix4 g h n 0) := by
  pointwise [rKeys]

theorem rSum_apply (Y : FVec Ideal S4x4x8192x8448 .f32) (g h : Fin 4) (n : Fin 8192) : rSum Y (ix3 g h n) = ∑ s : Fin 8448, Y (ix4 g h n s) := by
  pointwise [rSum]

theorem rSum1_apply (Y : FVec Ideal S4x4x8192x1 .f32) (g h : Fin 4) (n : Fin 8192) : rSum1 Y (ix3 g h n) = Y (ix4 g h n 0) := by
  have e : rSum1 Y (ix3 g h n) = ∑ j : Fin 1, Y (ix4 g h n j) := by
    pointwise [rSum1]
  rw [e, Fin.sum_univ_one]

theorem exp_sub (Y Z : FVec Ideal S4x4x8192x8448 .f32) (i : S4x4x8192x8448.Idx) : Host.exp (subf Y Z) i = Ideal.exp (Y i - Z i) := rfl

theorem rE_apply (x : FVec Ideal S8448x2560 .bf16) (g h : Fin 4) (n : Fin 8192) (s : Fin 8448) :
    rE x (ix4 g h n s) = Ideal.exp (rS x (ix4 g h n s) - rM' x (ix3 g h n)) := by
  unfold rE
  rw [exp_sub, rKeys_apply, rUnit_apply]

theorem rL_apply (x : FVec Ideal S8448x2560 .bf16) (g h : Fin 4) (n : Fin 8192) (j : Fin 1) :
    rL x (ix4 g h n j) = ∑ s : Fin 8448, rE x (ix4 g h n s) := by
  unfold rL
  rw [rUnit_apply, rSum_apply]

theorem div_apply (Y Z : FVec Ideal S4x4x8192x8448 .f32) (i : S4x4x8192x8448.Idx) : Host.divf Y Z i = Ideal.div (Y i) (Z i) := rfl

theorem rW_apply (x : FVec Ideal S8448x2560 .bf16) (g h : Fin 4) (n : Fin 8192) (s : Fin 8448) :
    rW x (ix4 g h n s) = Ideal.div (rE x (ix4 g h n s)) (rL x (ix4 g h n 0)) := by
  unfold rW
  rw [div_apply, rKeys_apply]

theorem dp_dot (Y : FVec Ideal S4x128x4x8192 .f32) (Z : FVec Ideal S8448x4x128 .f32) (g h : Fin 4) (n : Fin 8192) (s : Fin 8448) :
    (Host.dotGeneral dot_S4x128x4x8192_S8448x4x128_S4x4x8192x8448_1_2_23_0_0_1 none Y Z : FVec Ideal S4x4x8192x8448 .f32) (ix4 g h n s) = ∑ d : Fin 128, Y (ix4 g d h n) * Z (ix3 s g d) := by
  pointwise []

theorem rDP_apply (v : FVec Ideal S8448x512 .bf16) (u : FVec Ideal S8192x2048 .bf16) (g h : Fin 4) (n : Fin 8192) (s : Fin 8448) :
    rDP v u (ix4 g h n s) = ∑ d : Fin 128, u (ix2 n (kq g h d)) * v (ix2 s (kv g d)) := by
  unfold rDP
  rw [dp_dot]
  exact Finset.sum_congr rfl fun d _ => by rw [rG_apply, rV_apply]

theorem inv_apply (Y : FVec Ideal S4x4x8192x1 .f32) (g h : Fin 4) (n : Fin 8192) (j : Fin 1) :
    Host.divf (broadcastInDim S4x4x8192x1 ![] bcast_S_S4x4x8192x1 (constant S_ .f32 0x3F800000#32)) (mulf Y Y) (ix4 g h n j)
      = Ideal.div (Ideal.ofBits .f32 0x3F800000#32) (Y (ix4 g h n j) * Y (ix4 g h n j)) := by
  pointwise []

theorem rI_apply (x : FVec Ideal S8448x2560 .bf16) (g h : Fin 4) (n : Fin 8192) (j : Fin 1) :
    rI x (ix4 g h n j) = Ideal.div (Ideal.ofBits .f32 0x3F800000#32) (rL x (ix4 g h n j) * rL x (ix4 g h n j)) := by
  unfold rI
  rw [inv_apply]

theorem mul_apply (Y Z : FVec Ideal S4x4x8192x8448 .f32) (i : S4x4x8192x8448.Idx) : mulf Y Z i = Y i * Z i := rfl

theorem rC0_apply (x : FVec Ideal S8448x2560 .bf16) (v : FVec Ideal S8448x512 .bf16) (u : FVec Ideal S8192x2048 .bf16) (g h : Fin 4) (n : Fin 8192) (s : Fin 8448) :
    rC0 x v u (ix4 g h n s) = rDP v u (ix4 g h n s) * rI x (ix4 g h n 0) * rE x (ix4 g h n s) := by
  unfold rC0
  rw [mul_apply, mul_apply, rKeys_apply]

theorem cast_unit (Y : FVec Ideal S4x4x8192 .f32) (g h : Fin 4) (n : Fin 8192) (j : Fin 1) :
    (Host.negf (shapeCast S4x4x8192x1 Y shapeCasts_S4x4x8192_S4x4x8192x1)) (ix4 g h n j) = -Y (ix3 g h n) := by
  pointwise []

theorem rC_apply (x : FVec Ideal S8448x2560 .bf16) (v : FVec Ideal S8448x512 .bf16) (u : FVec Ideal S8192x2048 .bf16) (g h : Fin 4) (n : Fin 8192) (j : Fin 1) :
    rC x v u (ix4 g h n j) = -∑ s : Fin 8448, rC0 x v u (ix4 g h n s) := by
  unfold rC
  rw [cast_unit, rSum_apply]

theorem over_keys (Y : FVec Ideal S4x4x8192 .f32) (g h : Fin 4) (n : Fin 8192) (s : Fin 8448) :
    (broadcastInDim S4x4x8192x8448 ![0, 1, 2] bcast_S4x4x8192_S4x4x8192x8448_0_1_2 Y) (ix4 g h n s) = Y (ix3 g h n) := by
  pointwise []

theorem add_apply (Y Z : FVec Ideal S4x4x8192x8448 .f32) (i : S4x4x8192x8448.Idx) : addf Y Z i = Y i + Z i := rfl

theorem mul_c (Y : FVec Ideal S4x4x8192x8448 .f32) (g h : Fin 4) (n : Fin 8192) (s : Fin 8448) :
    mulf Y (broadcastInDim S4x4x8192x8448 ![] bcast_S_S4x4x8192x8448 (constant S_ .f32 0x3DB504F3#32)) (ix4 g h n s)
      = Y (ix4 g h n s) * Ideal.ofBits .f32 0x3DB504F3#32 := by
  pointwise []

theorem rD_apply (x : FVec Ideal S8448x2560 .bf16) (v : FVec Ideal S8448x512 .bf16) (u : FVec Ideal S8192x2048 .bf16) (g h : Fin 4) (n : Fin 8192) (s : Fin 8448) :
    rD x v u (ix4 g h n s) = (Ideal.div (rDP v u (ix4 g h n s)) (rL x (ix4 g h n 0)) + rC x v u (ix4 g h n 0)) * rE x (ix4 g h n s)
      * Ideal.ofBits .f32 0x3DB504F3#32 := by
  unfold rD
  rw [mul_c, mul_apply, add_apply, div_apply, rKeys_apply, over_keys, rSum1_apply]

theorem rT_apply (D : FVec Ideal S4x4x8192x8448 .f32) (g h : Fin 4) (n : Fin 8192) (s : Fin 8448) :
    rT D (ix4 g s n h) = D (ix4 g h n s) := by
  pointwise [rT]

theorem rdq_apply (x : FVec Ideal S8448x2560 .bf16) (D : FVec Ideal S4x4x8192x8448 .f32) (n : Fin 8192) (g h : Fin 4) (d : Fin 128) :
    rdq x D (ix4 n g h d) = ∑ s : Fin 8448, D (ix4 g h n s) * x (ix2 s (kk g d)) := by
  have e : rdq x D (ix4 n g h d) = ∑ s : Fin 8448, rT D (ix4 g s n h) * rK x (ix3 s g d) := by
    pointwise [rdq]
  rw [e]
  exact Finset.sum_congr rfl fun s _ => by rw [rT_apply, rK_apply]

theorem rdk_apply (x : FVec Ideal S8448x2560 .bf16) (D : FVec Ideal S4x4x8192x8448 .f32) (s : Fin 8448) (g : Fin 4) (d : Fin 128) :
    rdk x D (ix3 s g d) = ∑ n : Fin 8192, ∑ h : Fin 4, D (ix4 g h n s) * x (ix2 (up n) (kq' g h d)) := by
  have e : rdk x D (ix3 s g d) = ∑ n : Fin 8192, ∑ h : Fin 4, rT D (ix4 g s n h) * rQ x (ix4 n g h d) := by
    pointwise [rdk]
  rw [e]
  exact Finset.sum_congr rfl fun n _ => Finset.sum_congr rfl fun h _ => by rw [rT_apply, rQ_apply]

theorem rdv_apply (u : FVec Ideal S8192x2048 .bf16) (W : FVec Ideal S4x4x8192x8448 .f32) (s : Fin 8448) (g : Fin 4) (d : Fin 128) :
    rdv u W (ix3 s g d) = ∑ h : Fin 4, ∑ n : Fin 8192, u (ix2 n (kq g h d)) * W (ix4 g h n s) := by
  have e : rdv u W (ix3 s g d) = ∑ h : Fin 4, ∑ n : Fin 8192, rG u (ix4 g d h n) * W (ix4 g h n s) := by
    pointwise [rdv]
  rw [e]
  exact Finset.sum_congr rfl fun h _ => Finset.sum_congr rfl fun n _ => by rw [rG_apply]

theorem row_q (Y : FVec Ideal S8192x4x4x128 .f32) (n : Fin 8192) (k : Fin 2048) :
    (shapeCast S8192x2048 Y shapeCasts_S8192x4x4x128_S8192x2048 : FVec Ideal S8192x2048 .f32) (ix2 n k)
      = Y (ix4 n ⟨k.val / 512, by omega⟩ ⟨k.val / 128 % 4, by omega⟩ ⟨k.val % 128, by omega⟩) := by
  pointwise []

theorem row_k (Y : FVec Ideal S8448x4x128 .f32) (s : Fin 8448) (k : Fin 512) :
    (shapeCast S8448x512 Y shapeCasts_S8448x4x128_S8448x512 : FVec Ideal S8448x512 .f32) (ix2 s k)
      = Y (ix3 s ⟨k.val / 128, by omega⟩ ⟨k.val % 128, by omega⟩) := by
  pointwise []

variable (m : (ℓ : Loc nD τ sig) → Buf (Elt Ideal) ℓ) (c : Dev nD)

/-- The three arguments. -/
abbrev xx : FVec Ideal S8448x2560 .bf16 := m ((c.tc : Thread nD τ).loc main_arg0)
abbrev vv : FVec Ideal S8448x512 .bf16 := m ((c.tc : Thread nD τ).loc main_arg1)
abbrev uu : FVec Ideal S8192x2048 .bf16 := m ((c.tc : Thread nD τ).loc main_arg2)

theorem res_dq : Value.res_out0 m c = shapeCast S8192x2048 (rdq (xx m c) (rD (xx m c) (vv m c) (uu m c))) shapeCasts_S8192x4x4x128_S8192x2048 := by
  unfold Value.res_out0 Value.res_main_v70 rdq rT rD rDP rC rSum1 rSum rC0 rI rL rE rKeys rUnit rM' rM rS rG rG0 rK rQ rV
  rfl

theorem res_dk : Value.res_out1 m c = shapeCast S8448x512 (rdk (xx m c) (rD (xx m c) (vv m c) (uu m c))) shapeCasts_S8448x4x128_S8448x512 := by
  unfold Value.res_out1 Value.res_main_v69 rdk rT rD rDP rC rSum1 rSum rC0 rI rL rE rKeys rUnit rM' rM rS rG rG0 rK rQ rV
  rfl

theorem res_dv : Value.res_out2 m c = shapeCast S8448x512 (rdv (uu m c) (rW (xx m c))) shapeCasts_S8448x4x128_S8448x512 := by
  unfold Value.res_out2 Value.res_main_v68 rdv rW rL rSum rE rKeys rUnit rM' rM rS rG rG0 rK rQ
  rfl

end Cert.ReferenceIdeal.Hand

end
-- ==== Proof.RefValue.lean ====
/- The reference's weights and scores' gradient where the arguments are real: the real ones. -/
module

public import proofs.«01_k».proof.Proof.Ref
public import proofs.«01_k».proof.Proof.Scores

@[expose] public section

set_option maxRecDepth 16384

noncomputable section

namespace Cert.ReferenceIdeal.Hand

open Cert.ReferenceIdeal Cert.ReferenceIdeal.Gen Idealize.ShloMosaic
open Cert.Softmax (cR sQ sS sD coe_sum)

variable (x : FVec Ideal S8448x2560 .bf16) (v : FVec Ideal S8448x512 .bf16) (u : FVec Ideal S8192x2048 .bf16)
variable (X : Fin 8448 → Fin 2560 → ℝ) (V : Fin 8448 → Fin 512 → ℝ) (U : Fin 8192 → Fin 2048 → ℝ)

theorem max_fold (Y : FVec Ideal S4x4x8192x8448 .f32) (g h : Fin 4) (n : Fin 8192) :
    Host.reduce FloatOps.maximumf Y (constant S_ .f32 0xFF800000#32) reducesTo_S4x4x8192x8448_S4x4x8192_d3 h_S_ (ix3 g h n)
      = Finset.univ.fold max (Ideal.ofBits .f32 0xFF800000#32) fun s : Fin 8448 => Y (ix4 g h n s) := by
  pointwise []

theorem rS_real (hx : ∀ i j, x (ix2 i j) = (X i j : EReal)) (g h : Fin 4) (n : Fin 8192) (s : Fin 8448) :
    rS x (ix4 g h n s) = (sS X g h n s : EReal) := by
  rw [rS_apply, Cert.Softmax.bits_scale, sS, EReal.coe_mul, sQ, coe_sum]
  refine congrArg (· * (cR : EReal)) (Finset.sum_congr rfl fun d _ => ?_)
  rw [rK_apply, rQ_apply, hx, hx, EReal.coe_mul]
  rfl

theorem rM'_real (hx : ∀ i j, x (ix2 i j) = (X i j : EReal)) (g h : Fin 4) (n : Fin 8192) : ∃ M : ℝ, rM' x (ix3 g h n) = (M : EReal) := by
  obtain ⟨M, hM⟩ := Cert.Softmax.fold_max (sS X g h n)
  refine ⟨M, ?_⟩
  rw [rM'_apply]
  unfold rM
  rw [max_fold, Cert.Softmax.bits_neg_inf, ← hM]
  simp only [rS_real x X hx]
  exact max_eq_right bot_le

theorem rDP_real (hv : ∀ i j, v (ix2 i j) = (V i j : EReal)) (hu : ∀ i j, u (ix2 i j) = (U i j : EReal)) (g h : Fin 4) (n : Fin 8192)
    (s : Fin 8448) : rDP v u (ix4 g h n s) = (sD V U g h n s : EReal) := by
  rw [rDP_apply, sD, coe_sum]
  refine Finset.sum_congr rfl fun d _ => ?_
  rw [hu, hv, EReal.coe_mul]
  rfl

theorem rW_real (hx : ∀ i j, x (ix2 i j) = (X i j : EReal)) (g h : Fin 4) (n : Fin 8192) (s : Fin 8448) :
    rW x (ix4 g h n s) = (Cert.Softmax.W (sS X g h n) s : EReal) := by
  obtain ⟨M, hM⟩ := rM'_real x X hx g h n
  rw [rW_apply, rL_apply]
  simp only [rE_apply, rS_real x X hx, hM]
  exact Cert.Softmax.weight (sS X g h n) M s

theorem rD_real (hx : ∀ i j, x (ix2 i j) = (X i j : EReal)) (hv : ∀ i j, v (ix2 i j) = (V i j : EReal))
    (hu : ∀ i j, u (ix2 i j) = (U i j : EReal)) (g h : Fin 4) (n : Fin 8192) (s : Fin 8448) :
    rD x v u (ix4 g h n s) = (Cert.Softmax.G (sS X g h n) (sD V U g h n) cR s : EReal) := by
  obtain ⟨M, hM⟩ := rM'_real x X hx g h n
  rw [rD_apply, rC_apply]
  simp only [rC0_apply, rI_apply, rL_apply, rE_apply, rS_real x X hx, rDP_real v u V U hv hu, hM, Cert.Softmax.bits_scale, Ideal.ofBits_one_f32]
  exact Cert.Softmax.grad (sS X g h n) (sD V U g h n) M cR s

end Cert.ReferenceIdeal.Hand

end
-- ==== Proof.Equation.lean ====
/- The kernel's three result arrays are the reference's, where every entry of the arguments is real. -/
module

public import proofs.«01_k».proof.Proof.KernelValue
public import proofs.«01_k».proof.Proof.RefValue

@[expose] public section

set_option maxRecDepth 16384

noncomputable section

namespace Cert.Equation

open Idealize.ShloMosaic Idealize.ShloMosaic.TcCoe
open Cert.KernelIdeal.Hand (resQ resK resV eP eDS ge he ec lc lk hd rw' eP_real eDS_real aQ_at aG_at aQ aG)
open Cert.Softmax (cR sS sD kq kq' kk kv up)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)
variable (X : Fin 8448 → Fin 2560 → ℝ) (V : Fin 8448 → Fin 512 → ℝ) (U : Fin 8192 → Fin 2048 → ℝ)

abbrev gg (k : Fin 2048) : Fin 4 := ⟨k.val / 512, by omega⟩
abbrev hh (k : Fin 2048) : Fin 4 := ⟨k.val / 128 % 4, by omega⟩
abbrev g5 (k : Fin 512) : Fin 4 := ⟨k.val / 128, by omega⟩

theorem ge_ec (k : Fin 2048) : ge (ec k) = gg k := Fin.ext (by show k.val / 128 / 4 = k.val / 512; omega)
theorem he_ec (k : Fin 2048) : he (ec k) = hh k := rfl

section kernel
variable (hx : ∀ i j, Cert.KernelIdeal.Hand.xx m c (ix2 i j) = (X i j : EReal)) (hv : ∀ i j, Cert.KernelIdeal.Hand.vv m c (ix2 i j) = (V i j : EReal))
variable (hu : ∀ i j, Cert.KernelIdeal.Hand.uu m c (ix2 i j) = (U i j : EReal))

include hx hv hu in
theorem resQ_real (n : Fin 8192) (k : Fin 2048) :
    resQ m c (ix2 n k) = ∑ s : Fin 8448, (Cert.Softmax.G (sS X (gg k) (hh k) n) (sD V U (gg k) (hh k) n) cR s : EReal)
      * (X s (kk (gg k) ⟨k.val % 128, by omega⟩) : EReal) := by
  show ∑ s : Fin 8448, eDS m c (ec k) n s * aQ m c (ix2 s (Cert.KernelIdeal.Hand.ck (ec k) (lc k))) = _
  refine Finset.sum_congr rfl fun s _ => ?_
  rw [eDS_real m c X V U hx hv hu, aQ_at, hx, Cert.KernelIdeal.Hand.ck_eq, ge_ec, he_ec]
  rfl

theorem lt_N (g : Fin 4) (u : Fin 64) : 64 * g.val + u.val < Cert.KernelIdeal.cfg0.N := by
  have h : Cert.KernelIdeal.cfg0.N = 256 := Cert.KernelIdeal.Gen.N_0
  omega

theorem ge_hd (g : Fin 4) (u : Fin 64) : ge (hd ⟨64 * g.val + u.val, lt_N g u⟩) = g :=
  Fin.ext (by show (64 * g.val + u.val) / 16 / 4 = g.val; omega)
theorem he_hd (g : Fin 4) (u : Fin 64) : he (hd ⟨64 * g.val + u.val, lt_N g u⟩) = ⟨u.val / 16, by omega⟩ :=
  Fin.ext (by show (64 * g.val + u.val) / 16 % 4 = u.val / 16; omega)
theorem rw_hd (g : Fin 4) (u : Fin 64) (r : Fin 512) : rw' ⟨64 * g.val + u.val, lt_N g u⟩ r = ⟨512 * (u.val % 16) + r.val, by omega⟩ :=
  Fin.ext (by show 512 * ((64 * g.val + u.val) % 16) + r.val = 512 * (u.val % 16) + r.val; omega)

include hx hv hu in
theorem resK_real (s : Fin 8448) (k : Fin 512) :
    resK m c (ix2 s k) = ∑ h : Fin 4, ∑ n : Fin 8192, (Cert.Softmax.G (sS X (g5 k) h n) (sD V U (g5 k) h n) cR s : EReal)
      * (X (up n) (kq' (g5 k) h (lk k)) : EReal) := by
  rw [← Cert.Softmax.sum_blocks (fun h n => (Cert.Softmax.G (sS X (g5 k) h n) (sD V U (g5 k) h n) cR s : EReal)
      * (X (up n) (kq' (g5 k) h (lk k)) : EReal))]
  show ∑ u ∈ Finset.range 64, Cert.KernelIdeal.Hand.addK' m c (64 * (g5 k).val + u) s (lk k) = _
  rw [Finset.sum_range]
  refine Finset.sum_congr rfl fun u _ => ?_
  rw [Cert.KernelIdeal.Hand.addK'_of m c _ (lt_N (g5 k) u)]
  refine Finset.sum_congr rfl fun r _ => ?_
  rw [eDS_real m c X V U hx hv hu, aQ_at, hx, Cert.KernelIdeal.Hand.cq'_eq, ge_hd, he_hd, rw_hd]
  rfl

include hx hu in
theorem resV_real (s : Fin 8448) (k : Fin 512) :
    resV m c (ix2 s k) = ∑ h : Fin 4, ∑ n : Fin 8192, (Cert.Softmax.W (sS X (g5 k) h n) s : EReal) * (U n (kq (g5 k) h (lk k)) : EReal) := by
  rw [← Cert.Softmax.sum_blocks (fun h n => (Cert.Softmax.W (sS X (g5 k) h n) s : EReal) * (U n (kq (g5 k) h (lk k)) : EReal))]
  show ∑ u ∈ Finset.range 64, Cert.KernelIdeal.Hand.addV' m c (64 * (g5 k).val + u) s (lk k) = _
  rw [Finset.sum_range]
  refine Finset.sum_congr rfl fun u _ => ?_
  rw [Cert.KernelIdeal.Hand.addV'_of m c _ (lt_N (g5 k) u)]
  refine Finset.sum_congr rfl fun r _ => ?_
  rw [eP_real m c X hx, aG_at, hu, Cert.KernelIdeal.Hand.cq_eq, ge_hd, he_hd, rw_hd]

end kernel

section reference
open Cert.ReferenceIdeal Cert.ReferenceIdeal.Gen Cert.ReferenceIdeal.Hand
variable (x : FVec Ideal S8448x2560 .bf16) (v : FVec Ideal S8448x512 .bf16) (u : FVec Ideal S8192x2048 .bf16)
variable (hx : ∀ i j, x (ix2 i j) = (X i j : EReal)) (hv : ∀ i j, v (ix2 i j) = (V i j : EReal)) (hu : ∀ i j, u (ix2 i j) = (U i j : EReal))

include hx hv hu in
theorem refQ_real (n : Fin 8192) (k : Fin 2048) :
    (shapeCast S8192x2048 (rdq x (rD x v u)) shapeCasts_S8192x4x4x128_S8192x2048 : FVec Ideal S8192x2048 .f32) (ix2 n k)
      = ∑ s : Fin 8448, (Cert.Softmax.G (sS X (gg k) (hh k) n) (sD V U (gg k) (hh k) n) cR s : EReal)
        * (X s (Cert.Softmax.kk (gg k) ⟨k.val % 128, by omega⟩) : EReal) := by
  rw [row_q, rdq_apply]
  refine Finset.sum_congr rfl fun s _ => ?_
  rw [rD_real _ _ _ X V U hx hv hu, hx]
  rfl

include hx hv hu in
theorem refK_real (s : Fin 8448) (k : Fin 512) :
    (shapeCast S8448x512 (rdk x (rD x v u)) shapeCasts_S8448x4x128_S8448x512 : FVec Ideal S8448x512 .f32) (ix2 s k)
      = ∑ h : Fin 4, ∑ n : Fin 8192, (Cert.Softmax.G (sS X (g5 k) h n) (sD V U (g5 k) h n) cR s : EReal)
        * (X (Cert.Softmax.up n) (Cert.Softmax.kq' (g5 k) h (lk k)) : EReal) := by
  rw [row_k, rdk_apply, Finset.sum_comm]
  refine Finset.sum_congr rfl fun h _ => Finset.sum_congr rfl fun n _ => ?_
  rw [rD_real _ _ _ X V U hx hv hu, hx]
  rfl

include hx hu in
theorem refV_real (s : Fin 8448) (k : Fin 512) :
    (shapeCast S8448x512 (rdv u (rW x)) shapeCasts_S8448x4x128_S8448x512 : FVec Ideal S8448x512 .f32) (ix2 s k)
      = ∑ h : Fin 4, ∑ n : Fin 8192, (Cert.Softmax.W (sS X (g5 k) h n) s : EReal) * (U n (Cert.Softmax.kq (g5 k) h (lk k)) : EReal) := by
  rw [row_k, rdv_apply]
  refine Finset.sum_congr rfl fun h _ => Finset.sum_congr rfl fun n _ => ?_
  rw [rW_real _ X hx, hu, mul_comm]
  rfl

end reference

variable (e0 : Cert.ReferenceIdeal.Hand.xx m' c = Cert.KernelIdeal.Hand.xx m c) (e1 : Cert.ReferenceIdeal.Hand.vv m' c = Cert.KernelIdeal.Hand.vv m c)
variable (e2 : Cert.ReferenceIdeal.Hand.uu m' c = Cert.KernelIdeal.Hand.uu m c)
variable (fx : ∀ i, ∃ r : ℝ, Cert.KernelIdeal.Hand.xx m c i = (r : EReal)) (fv : ∀ i, ∃ r : ℝ, Cert.KernelIdeal.Hand.vv m c i = (r : EReal))
variable (fu : ∀ i, ∃ r : ℝ, Cert.KernelIdeal.Hand.uu m c i = (r : EReal))

include e0 e1 e2 fx fv fu in
/-- The reference's three gradients are the kernel's. -/
theorem values : Cert.ReferenceIdeal.Value.res_out0 m' c = resQ m c ∧ Cert.ReferenceIdeal.Value.res_out1 m' c = resK m c
    ∧ Cert.ReferenceIdeal.Value.res_out2 m' c = resV m c := by
  choose X hx using fun i j => fx (ix2 i j)
  choose V hv using fun i j => fv (ix2 i j)
  choose U hu using fun i j => fu (ix2 i j)
  have hx' : ∀ i j, Cert.ReferenceIdeal.Hand.xx m' c (ix2 i j) = (X i j : EReal) := fun i j => (congrFun e0 _).trans (hx i j)
  have hv' : ∀ i j, Cert.ReferenceIdeal.Hand.vv m' c (ix2 i j) = (V i j : EReal) := fun i j => (congrFun e1 _).trans (hv i j)
  have hu' : ∀ i j, Cert.ReferenceIdeal.Hand.uu m' c (ix2 i j) = (U i j : EReal) := fun i j => (congrFun e2 _).trans (hu i j)
  refine ⟨(Cert.ReferenceIdeal.Hand.res_dq m' c).trans (funext fun i => ?_), (Cert.ReferenceIdeal.Hand.res_dk m' c).trans (funext fun i => ?_),
    (Cert.ReferenceIdeal.Hand.res_dv m' c).trans (funext fun i => ?_)⟩
  · rw [← ix2_eta i]
    exact (refQ_real X V U _ _ _ hx' hv' hu' _ _).trans (resQ_real m c X V U hx hv hu _ _).symm
  · rw [← ix2_eta i]
    exact (refK_real X V U _ _ _ hx' hv' hu' _ _).trans (resK_real m c X V U hx hv hu _ _).symm
  · rw [← ix2_eta i]
    exact (refV_real X U _ _ hx' hu' _ _).trans (resV_real m c X U hx hu _ _).symm

end Cert.Equation

end
-- ==== Proof.Finite2.lean ====
/- The feed-forward layer's precondition read back: every entry of the four arguments is a real. -/
module

public import proofs.«01_k».proof.Proof.Gen.Pre_finite2
public import proofs.«01_k».proof.Proof.Finite

@[expose] public section

set_option maxRecDepth 16384

noncomputable section

namespace Cert.Pre_finite2.Hand

open Cert.Pre_finite2 Cert.Pre_finite2.Gen Idealize.ShloMosaic
open Cert.Pre_finite.Hand (real_of_lt)

variable (h : FVec Ideal S8448x2048 .bf16) (w : FVec Ideal S2048x11264 .bf16) (o : FVec Ideal S5632x2048 .bf16) (u : FVec Ideal S8448x2048 .bf16)

/-- Four truth values in a row. -/
def four (a b c d : IVec S_ 1) : IVec S4 1 :=
  concatenate S4 0 [⟨S1, broadcastInDim S1 ![] bcast_S_S1 a⟩, ⟨S1, broadcastInDim S1 ![] bcast_S_S1 b⟩, ⟨S1, broadcastInDim S1 ![] bcast_S_S1 c⟩,
    ⟨S1, broadcastInDim S1 ![] bcast_S_S1 d⟩] concatenates_S1_S1_S1_S1_S4_d0

section Parts
variable (a b c d : IVec S_ 1)

theorem four_0 : four a b c d (ix1 0) = a ix0 := by pointwise [four]
theorem four_1 : four a b c d (ix1 1) = b ix0 := by pointwise [four]
theorem four_2 : four a b c d (ix1 2) = c ix0 := by pointwise [four]
theorem four_3 : four a b c d (ix1 3) = d ix0 := by pointwise [four]

end Parts

theorem part_eq (a b c : IVec S_ 1) (x : FVec Ideal S8448x2048 .f32) (k : FVec Ideal S_ .f32) :
    fn_part1 (F := Ideal) a b c x k = four a b c (Host.reduce IntOp.andi (cmpf .olt x (broadcastInDim S8448x2048 ![] bcast_S_S8448x2048 k)) (constantI S_ 1 1#1) reducesTo_S8448x2048_S_d0_1 h_S_) := rfl

instance : Subsingleton S_.Idx := ⟨fun _ _ => funext fun a => a.elim0⟩

theorem fn_eq (e : fn h w o u = fun _ => 1#1) :
    (∀ i, ∃ r : ℝ, h i = (r : EReal)) ∧ (∀ i, ∃ r : ℝ, w i = (r : EReal)) ∧ (∀ i, ∃ r : ℝ, o i = (r : EReal)) ∧ (∀ i, ∃ r : ℝ, u i = (r : EReal)) := by
  have e0 := congrFun e (ix1 0)
  have e1 := congrFun e (ix1 1)
  have e2 := congrFun e (ix1 2)
  have e3 := congrFun e (ix1 3)
  unfold fn at e0 e1 e2 e3
  rw [part_eq, four_0] at e0
  rw [part_eq, four_1] at e1
  rw [part_eq, four_2] at e2
  rw [part_eq, four_3] at e3
  exact ⟨fun i => real_of_lt (h i) (Host.reduce_andi_all _ _ _ _ _ e0 i), fun i => real_of_lt (w i) (Host.reduce_andi_all _ _ _ _ _ e1 i),
    fun i => real_of_lt (o i) (Host.reduce_andi_all _ _ _ _ _ e2 i), fun i => real_of_lt (u i) (Host.reduce_andi_all _ _ _ _ _ e3 i)⟩

end Cert.Pre_finite2.Hand

end
-- ==== Proof.Product.lean ====
/- Matrices read at natural numbers, and a sum taken block by block. -/
module

public import Idealize.ShloMosaic.Lib.Pointwise
public import Idealize.ShloMosaic.Lib.Pipeline.Value

@[expose] public section

noncomputable section

namespace Cert.Product

open Idealize.ShloMosaic

/-- An entry of a matrix of extended reals; zero outside it. -/
def at2 {n0 n1 : Nat} (X : (⟨2, ![n0, n1]⟩ : Shape).Idx → EReal) (i j : Nat) : EReal :=
  if h : i < n0 ∧ j < n1 then X (ix2 ⟨i, h.1⟩ ⟨j, h.2⟩) else 0

/-- An entry of a stack of matrices; zero outside it. -/
def at3 {n0 n1 n2 : Nat} (X : (⟨3, ![n0, n1, n2]⟩ : Shape).Idx → EReal) (i j k : Nat) : EReal :=
  if h : i < n0 ∧ j < n1 ∧ k < n2 then X (ix3 ⟨i, h.1⟩ ⟨j, h.2.1⟩ ⟨k, h.2.2⟩) else 0

theorem at2_fin {n0 n1 : Nat} (X : (⟨2, ![n0, n1]⟩ : Shape).Idx → EReal) (i : Fin n0) (j : Fin n1) :
    at2 X i.val j.val = X (ix2 i j) := dif_pos ⟨i.isLt, j.isLt⟩

theorem at3_fin {n0 n1 n2 : Nat} (X : (⟨3, ![n0, n1, n2]⟩ : Shape).Idx → EReal) (i : Fin n0) (j : Fin n1) (k : Fin n2) :
    at3 X i.val j.val k.val = X (ix3 i j k) := dif_pos ⟨i.isLt, j.isLt, k.isLt⟩

/-- An array at an index whose coordinates are known. -/
theorem eq_at2 {n0 n1 : Nat} (X : (⟨2, ![n0, n1]⟩ : Shape).Idx → EReal) (y : (⟨2, ![n0, n1]⟩ : Shape).Idx) (i j : Nat)
    (h0 : (y 0).val = i) (h1 : (y 1).val = j) : X y = at2 X i j := by
  subst h0; subst h1
  rw [← ix2_eta y]
  exact (at2_fin X _ _).symm

theorem eq_at3 {n0 n1 n2 : Nat} (X : (⟨3, ![n0, n1, n2]⟩ : Shape).Idx → EReal) (y : (⟨3, ![n0, n1, n2]⟩ : Shape).Idx) (i j k : Nat)
    (h0 : (y 0).val = i) (h1 : (y 1).val = j) (h2 : (y 2).val = k) : X y = at3 X i j k := by
  subst h0; subst h1; subst h2
  rw [← ix3_eta y]
  exact (at3_fin X _ _ _).symm

/-- A sum over `n * b` numbers is the sum over `n` blocks of `b`. -/
theorem sum_split (n b : Nat) (f : Nat → EReal) :
    ∑ k : Fin (n * b), f k.val = ∑ j : Fin n, ∑ k : Fin b, f (b * j.val + k.val) := by
  rw [← (finProdFinEquiv (m := n) (n := b)).sum_comp, Fintype.sum_prod_type]
  refine Finset.sum_congr rfl fun j _ => Finset.sum_congr rfl fun k _ => ?_
  show f (k.val + b * j.val) = _
  rw [Nat.add_comm]

/-- Two arrays of 5632 columns side by side. -/
def both {n : Nat} (D : (⟨3, ![2, n, 5632]⟩ : Shape).Idx → EReal) (x k : Nat) : EReal := at3 D (k / 5632) x (k % 5632)

theorem both_eq {n : Nat} (D : (⟨3, ![2, n, 5632]⟩ : Shape).Idx → EReal) (x : Fin n) (k : Fin 11264) :
    (if h : k.val < 5632 then D (ix3 0 x ⟨k.val, h⟩) else D (ix3 1 x ⟨k.val - 5632, by have := k.isLt; omega⟩)) = both D x.val k.val := by
  have hk := k.isLt
  by_cases h : k.val < 5632
  · rw [dif_pos h]
    exact eq_at3 D _ _ _ _ (show 0 = k.val / 5632 by omega) rfl (show k.val = k.val % 5632 by omega)
  · rw [dif_neg h]
    exact eq_at3 D _ _ _ _ (show 1 = k.val / 5632 by omega) rfl (show k.val - 5632 = k.val % 5632 by omega)

end Cert.Product

end
-- ==== Proof.GateBlock.lean ====
/- The gradient of the feed-forward layer's gate: what one grid point leaves, as a function of its three blocks. -/
module

public import proofs.«01_k».proof.Proof.Gen.GateIdeal.Value
public import proofs.«01_k».proof.Proof.Product
public import Idealize.ShloMosaic.Lib.Pipeline.CanonAppend
public import Idealize.ShloMosaic.Lib.Pipeline.ReadBack

@[expose] public section

set_option maxRecDepth 16384

noncomputable section

namespace Cert.GateIdeal.Hand

open Cert.GateIdeal Cert.GateIdeal.Gen Idealize.ShloMosaic Idealize.ShloMosaic.TcCoe

theorem hz2 : (![0, 0] : Fin 2 → Nat) = fun _ => 0 := by decide

theorem one_eq : Ideal.ofBits .f32 0x3F800000#32 = 1 := by
  simp [Ideal.ofBits, Ideal.ieee]
  rw [← EReal.coe_mul]
  norm_num

/-- The gradients of the two gate operands `a` and `b`, from the gradient `g` of `a · logistic a · b`. -/
def gA (g a b : EReal) : EReal := g * b * (Ideal.logistic a * (1 + a * (1 - Ideal.logistic a)))
def gB (g a : EReal) : EReal := g * a * Ideal.logistic a

section Payloads
variable (g a s : FVec Ideal S1408x256 .f32) (v v' : Vec Ideal S1x1408x256 .f32)
  (x0 : Vec Ideal S1408x2048 .bf16) (x1 : Vec Ideal S256x2048 .bf16)

theorem pay1_apply (r : Fin 1408) (k : Fin 256) :
    k0_pay1 (F := Ideal) g a s v (ix3 0 r k)
      = g (ix2 r k) * v (ix3 0 r k) * (s (ix2 r k) * (1 + a (ix2 r k) * (1 - s (ix2 r k)))) := by
  rw [← one_eq]
  pointwise [k0_pay1]

theorem pay2_apply (r : Fin 1408) (k : Fin 256) :
    k0_pay2 (F := Ideal) g a s (ix3 0 r k) = g (ix2 r k) * a (ix2 r k) * s (ix2 r k) := by
  pointwise [k0_pay2]

theorem pay3_apply (r : Fin 1408) (k : Fin 256) :
    k0_pay3 (F := Ideal) x0 x1 (ix2 r k) = ∑ d : Fin 2048, x0 (ix2 r d) * x1 (ix2 k d) := by
  pointwise [k0_pay3]

theorem pay4_apply (r : Fin 1408) (k : Fin 256) : k0_pay4 (F := Ideal) v (ix2 r k) = v (ix3 0 r k) := by
  pointwise [k0_pay4]

theorem pay5_apply (r : Fin 1408) (k : Fin 256) : k0_pay5 (F := Ideal) v (ix2 r k) = Ideal.logistic (v (ix3 0 r k)) :=
  congrArg Ideal.logistic (pay4_apply v r k)

theorem pay6_eq : k0_pay6 (F := Ideal) x0 x1 v v' = k0_pay1 (F := Ideal) (k0_pay3 x0 x1) (k0_pay4 v) (k0_pay5 v) v' := rfl
theorem pay7_eq : k0_pay7 (F := Ideal) x0 x1 v = k0_pay2 (F := Ideal) (k0_pay3 x0 x1) (k0_pay4 v) (k0_pay5 v) := rfl
theorem pay8_eq : k0_pay8 (F := Ideal) x0 x1 = k0_pay3 (F := Ideal) x0 x1 := rfl
theorem pay9_eq : k0_pay9 (F := Ideal) v = k0_pay4 (F := Ideal) v := rfl
theorem pay10_eq : k0_pay10 (F := Ideal) v = k0_pay5 (F := Ideal) v := rfl

end Payloads

variable (x0 : Vec Ideal S1408x2048 .bf16) (x1 : Vec Ideal S512x2048 .bf16) (x2 : Vec Ideal S2x1408x512 .f32)

/-- The gradient of the gated product. -/
def dg (r : Fin 1408) (k : Fin 512) : EReal := ∑ d : Fin 2048, x0 (ix2 r d) * x1 (ix2 k d)

/-- The block's result. -/
def gate : Vec Ideal S2x1408x512 .bf16 := fun y =>
  if (y 0).val = 0 then gA (dg x0 x1 (y 1) (y 2)) (x2 (ix3 0 (y 1) (y 2))) (x2 (ix3 1 (y 1) (y 2)))
  else gB (dg x0 x1 (y 1) (y 2)) (x2 (ix3 0 (y 1) (y 2)))

variable (off : Nat) (h : Fin 2) (inb : ∀ a, ![h.val, 0, off] a + ![1, 1408, 256] a ≤ S2x1408x512.size a)
  (inw : ∀ a, ![off, 0] a + ![256, 2048] a ≤ S512x2048.size a)

theorem off_le (inw : ∀ a, ![off, 0] a + ![256, 2048] a ≤ S512x2048.size a) : off + 256 ≤ 512 := inw 0

/-- A stored block sits `off` columns to the right in half `h`. -/
theorem emb_eq (hoff : off + 256 ≤ 512) (r : Fin 1408) (k : Fin 256) :
    (Rect.unit (s := S2x1408x512) ![h.val, 0, off] ![1, 1408, 256] inb).emb (ix3 0 r k)
      = ix3 h r ⟨off + k.val, by omega⟩ := by
  funext a
  apply Fin.ext
  match a with
  | ⟨0, _⟩ => show h.val + 1 * 0 = h.val; omega
  | ⟨1, _⟩ => show 0 + 1 * r.val = r.val; omega
  | ⟨2, _⟩ => show off + 1 * k.val = off + k.val; omega

theorem ld_x2 (hoff : off + 256 ≤ 512) (r : Fin 1408) (k : Fin 256) :
    View.ld x2 (Rect.unit (s := S2x1408x512) ![h.val, 0, off] ![1, 1408, 256] inb) (ix3 0 r k)
      = x2 (ix3 h r ⟨off + k.val, by omega⟩) := congrArg x2 (emb_eq off h inb hoff r k)

theorem ld_x1 (k : Fin 256) (d : Fin 2048) :
    View.ld x1 (Rect.unit (s := S512x2048) ![off, 0] ![256, 2048] inw) (ix2 k d)
      = x1 (ix2 ⟨off + k.val, by have := off_le off inw; omega⟩ d) := by
  refine congrArg x1 ?_
  funext a
  apply Fin.ext
  match a with
  | ⟨0, _⟩ => show off + 1 * k.val = off + k.val; omega
  | ⟨1, _⟩ => show 0 + 1 * d.val = d.val; omega

theorem dg_ld (r : Fin 1408) (k : Fin 256) :
    k0_pay3 (F := Ideal) x0 (View.ld x1 (Rect.unit (s := S512x2048) ![off, 0] ![256, 2048] inw)) (ix2 r k)
      = dg x0 x1 r ⟨off + k.val, by have := off_le off inw; omega⟩ := by
  rw [pay3_apply]
  exact Finset.sum_congr rfl fun d _ => congrArg _ (ld_x1 x1 off inw k d)

variable (inb0 : ∀ a, ![0, 0, off] a + ![1, 1408, 256] a ≤ S2x1408x512.size a)
  (inb1 : ∀ a, ![1, 0, off] a + ![1, 1408, 256] a ≤ S2x1408x512.size a)

theorem idx_unit (x : S1x1408x256.Idx) : ∃ (r : Fin 1408) (k : Fin 256), x = ix3 0 r k :=
  ⟨x 1, x 2, by
    have e : x 0 = (0 : Fin 1) := Subsingleton.elim (α := Fin 1) _ _
    exact (ix3_eta x).symm.trans (congrArg (fun u : Fin 1 => ix3 u (x 1) (x 2)) e)⟩

/-- The blocks stored in the two halves. -/
theorem piece0 (x : S1x1408x256.Idx) :
    k0_pay1 (F := Ideal) (k0_pay3 x0 (View.ld x1 (Rect.unit (s := S512x2048) ![off, 0] ![256, 2048] inw)))
        (k0_pay4 (View.ld x2 (Rect.unit (s := S2x1408x512) ![0, 0, off] ![1, 1408, 256] inb0)))
        (k0_pay5 (View.ld x2 (Rect.unit (s := S2x1408x512) ![0, 0, off] ![1, 1408, 256] inb0)))
        (View.ld x2 (Rect.unit (s := S2x1408x512) ![1, 0, off] ![1, 1408, 256] inb1)) x
      = gate x0 x1 x2 ((Rect.unit (s := S2x1408x512) ![0, 0, off] ![1, 1408, 256] inb0).emb x) := by
  obtain ⟨r, k, rfl⟩ := idx_unit x
  have ho := off_le off inw
  have a0 := ld_x2 x2 off 0 inb0 ho r k
  have a1 := ld_x2 x2 off 1 inb1 ho r k
  have ee := emb_eq off 0 inb0 ho r k
  rw [pay1_apply, dg_ld, pay4_apply, pay5_apply]
  refine (congrArg₂ (fun a b => gA (dg x0 x1 r ⟨off + k.val, by omega⟩) a b) a0 a1).trans ?_
  exact (congrArg (gate x0 x1 x2) ee).symm

theorem piece1 (x : S1x1408x256.Idx) :
    k0_pay2 (F := Ideal) (k0_pay3 x0 (View.ld x1 (Rect.unit (s := S512x2048) ![off, 0] ![256, 2048] inw)))
        (k0_pay4 (View.ld x2 (Rect.unit (s := S2x1408x512) ![0, 0, off] ![1, 1408, 256] inb0)))
        (k0_pay5 (View.ld x2 (Rect.unit (s := S2x1408x512) ![0, 0, off] ![1, 1408, 256] inb0))) x
      = gate x0 x1 x2 ((Rect.unit (s := S2x1408x512) ![1, 0, off] ![1, 1408, 256] inb1).emb x) := by
  obtain ⟨r, k, rfl⟩ := idx_unit x
  have ho := off_le off inw
  have a0 := ld_x2 x2 off 0 inb0 ho r k
  have ee := emb_eq off 1 inb1 ho r k
  rw [pay2_apply, dg_ld, pay4_apply, pay5_apply]
  refine (congrArg (fun a => gB (dg x0 x1 r ⟨off + k.val, by omega⟩) a) a0).trans ?_
  exact (congrArg (gate x0 x1 x2) ee).symm

/-- What a point leaves. -/
theorem out_eq : out0_3 (F := Ideal) x0 x1 x2 = gate x0 x1 x2 := by
  funext y
  unfold out0_3 k0_pay11 k0_pay12 k0_pay13
  rw [pay6_eq, pay7_eq, pay8_eq, pay9_eq, pay10_eq, View.ld_unit_zero (S := S1408x2048) hz2]
  refine (congrArg (View.canon · y) (List.append_nil _).symm).trans ?_
  refine View.canon_append_of_pieces (gate x0 x1 x2) [] _ ?_ y (cover0_3 _ _ _ _ y)
  refine List.forall_mem_cons.mpr ⟨piece1 x0 x1 x2 256 inb_S512x2048_S256x2048_256_0 inb_S2x1408x512_S1x1408x256_0_0_256 inb_S2x1408x512_S1x1408x256_1_0_256, ?_⟩
  refine List.forall_mem_cons.mpr ⟨piece0 x0 x1 x2 256 inb_S512x2048_S256x2048_256_0 inb_S2x1408x512_S1x1408x256_0_0_256 inb_S2x1408x512_S1x1408x256_1_0_256, ?_⟩
  refine List.forall_mem_cons.mpr ⟨piece1 x0 x1 x2 0 inb_S512x2048_S256x2048_0_0 inb_S2x1408x512_S1x1408x256_0_0_0 inb_S2x1408x512_S1x1408x256_1_0_0, ?_⟩
  refine List.forall_mem_cons.mpr ⟨piece0 x0 x1 x2 0 inb_S512x2048_S256x2048_0_0 inb_S2x1408x512_S1x1408x256_0_0_0 inb_S2x1408x512_S1x1408x256_1_0_0, ?_⟩
  exact List.forall_mem_nil _

end Cert.GateIdeal.Hand

end
-- ==== Proof.GateValue.lean ====
/- The gradient of the feed-forward layer's gate: the array the kernel leaves and the reference's, entry by entry. -/
module

public import proofs.«01_k».proof.Proof.GateBlock
public import proofs.«01_k».proof.Proof.Softmax
public import proofs.«01_k».proof.Proof.Gen.GateRefIdeal.Run
public import Idealize.ShloMosaic.Lib.StableHlo.Run
public import Idealize.ShloMosaic.Lib.Pipeline.ValueKit.Geometry

@[expose] public section

set_option maxRecDepth 16384

noncomputable section

namespace Cert.GateIdeal.Hand

open Cert.GateIdeal Cert.GateIdeal.Gen Idealize.ShloMosaic Idealize.ShloMosaic.TcCoe Cert.Product
open Idealize.ShloMosaic.Pipeline (Dat)

variable (m : (ℓ : Loc nD τ sig) → Buf (Elt Ideal) ℓ) (c : Dev nD)

/-- The output's gradient, the weights and the gate's two operands, as the kernel finds them. -/
abbrev aU : S8448x2048.Idx → EReal := V m c main_arg3
abbrev aO : S5632x2048.Idx → EReal := V m c main_arg2
abbrev aP : S2x8448x5632.Idx → EReal := V m c main_v7

theorem idx_u : ∀ t : Fin cfg0.N, win0_0.index t = ![t.val % 6, 0] :=
  (by decide +kernel : ∀ t : Fin grid0.N, _)
theorem idx_o : ∀ t : Fin cfg0.N, win0_1.index t = ![t.val / 6, 0] :=
  (by decide +kernel : ∀ t : Fin grid0.N, _)
theorem idx_p : ∀ t : Fin cfg0.N, win0_2.index t = ![0, t.val % 6, t.val / 6] :=
  (by decide +kernel : ∀ t : Fin grid0.N, _)
theorem idx_r : ∀ t : Fin cfg0.N, win0_3.index t = ![0, t.val % 6, t.val / 6] :=
  (by decide +kernel : ∀ t : Fin grid0.N, _)

theorem tlt (t : Fin cfg0.N) : t.val < 66 := N_0 ▸ t.isLt

/-- A row and a column of a point's block. -/
def rr (t : Fin cfg0.N) (r : Fin 1408) : Fin 8448 := ⟨1408 * (t.val % 6) + r.val, by omega⟩
def kk (t : Fin cfg0.N) (k : Fin 512) : Fin 5632 := ⟨512 * (t.val / 6) + k.val, by have := tlt t; omega⟩

theorem u_rd (X : Buf (Elt Ideal) ((c : Thread nD τ).loc main_arg3)) (t : Fin cfg0.N) (r : Fin 1408) (d : Fin 2048) :
    (((cfg0.win 0).blk t).view.read (Elt Ideal) X : Vec Ideal S1408x2048 .bf16) (ix2 r d) = X (ix2 (rr t r) d) := by
  rw [View.read_apply]
  refine congrArg X ?_
  funext a
  apply Fin.ext
  match a with
  | ⟨0, _⟩ => show win0_0.index t 0 * 1408 + 1 * r.val = 1408 * (t.val % 6) + r.val; rw [idx_u]; show (t.val % 6) * 1408 + 1 * r.val = _; omega
  | ⟨1, _⟩ => show win0_0.index t 1 * 2048 + 1 * d.val = d.val; rw [idx_u]; show 0 * 2048 + 1 * d.val = _; omega

theorem o_rd (X : Buf (Elt Ideal) ((c : Thread nD τ).loc main_arg2)) (t : Fin cfg0.N) (k : Fin 512) (d : Fin 2048) :
    (((cfg0.win 1).blk t).view.read (Elt Ideal) X : Vec Ideal S512x2048 .bf16) (ix2 k d) = X (ix2 (kk t k) d) := by
  rw [View.read_apply]
  refine congrArg X ?_
  funext a
  apply Fin.ext
  match a with
  | ⟨0, _⟩ => show win0_1.index t 0 * 512 + 1 * k.val = 512 * (t.val / 6) + k.val; rw [idx_o]; show (t.val / 6) * 512 + 1 * k.val = _; omega
  | ⟨1, _⟩ => show win0_1.index t 1 * 2048 + 1 * d.val = d.val; rw [idx_o]; show 0 * 2048 + 1 * d.val = _; omega

theorem p_rd (X : Buf (Elt Ideal) ((c : Thread nD τ).loc main_v7)) (t : Fin cfg0.N) (h : Fin 2) (r : Fin 1408) (k : Fin 512) :
    (((cfg0.win 2).blk t).view.read (Elt Ideal) X : Vec Ideal S2x1408x512 .f32) (ix3 h r k) = X (ix3 h (rr t r) (kk t k)) := by
  rw [View.read_apply]
  refine congrArg X ?_
  funext a
  apply Fin.ext
  match a with
  | ⟨0, _⟩ => show win0_2.index t 0 * 2 + 1 * h.val = h.val; rw [idx_p]; show 0 * 2 + 1 * h.val = _; omega
  | ⟨1, _⟩ => show win0_2.index t 1 * 1408 + 1 * r.val = 1408 * (t.val % 6) + r.val; rw [idx_p]; show (t.val % 6) * 1408 + 1 * r.val = _; omega
  | ⟨2, _⟩ => show win0_2.index t 2 * 512 + 1 * k.val = 512 * (t.val / 6) + k.val; rw [idx_p]; show (t.val / 6) * 512 + 1 * k.val = _; omega

theorem emb_r (t : Fin cfg0.N) (y : S2x1408x512.Idx) : ((cfg0.win 3).blk t).view.emb y = ix3 (y 0) (rr t (y 1)) (kk t (y 2)) := by
  funext a
  apply Fin.ext
  match a with
  | ⟨0, _⟩ => show win0_3.index t 0 * 2 + 1 * (y 0).val = (y 0).val; rw [idx_r]; show 0 * 2 + 1 * (y 0).val = _; omega
  | ⟨1, _⟩ => show win0_3.index t 1 * 1408 + 1 * (y 1).val = 1408 * (t.val % 6) + (y 1).val; rw [idx_r]; show (t.val % 6) * 1408 + 1 * (y 1).val = _; omega
  | ⟨2, _⟩ => show win0_3.index t 2 * 512 + 1 * (y 2).val = 512 * (t.val / 6) + (y 2).val; rw [idx_r]; show (t.val / 6) * 512 + 1 * (y 2).val = _; omega

/-- The gradient of the gated product. -/
def gE (U : S8448x2048.Idx → EReal) (O : S5632x2048.Idx → EReal) (x : Fin 8448) (k : Fin 5632) : EReal :=
  ∑ d : Fin 2048, U (ix2 x d) * O (ix2 k d)

/-- The array the kernel leaves. -/
def res : S2x8448x5632.Idx → EReal := fun i =>
  if (i 0).val = 0 then gA (gE (aU m c) (aO m c) (i 1) (i 2)) (aP m c (ix3 0 (i 1) (i 2))) (aP m c (ix3 1 (i 1) (i 2)))
  else gB (gE (aU m c) (aO m c) (i 1) (i 2)) (aP m c (ix3 0 (i 1) (i 2)))

theorem dg_blk (t : Fin cfg0.N) (r : Fin 1408) (k : Fin 512) :
    dg (iblk m c 0 t) (iblk m c 1 t) r k = gE (aU m c) (aO m c) (rr t r) (kk t k) :=
  Finset.sum_congr rfl fun d _ => congrArg₂ (· * ·) (u_rd c (V m c main_arg3) t r d) (o_rd c (V m c main_arg2) t k d)

theorem gate_blk (t : Fin cfg0.N) (y : S2x1408x512.Idx) :
    gate (iblk m c 0 t) (iblk m c 1 t) (iblk m c 2 t) y = res m c (ix3 (y 0) (rr t (y 1)) (kk t (y 2))) := by
  have p0 := p_rd c (V m c main_v7) t 0 (y 1) (y 2)
  have p1 := p_rd c (V m c main_v7) t 1 (y 1) (y 2)
  show (if (y 0).val = 0 then gA (dg (iblk m c 0 t) (iblk m c 1 t) (y 1) (y 2)) _ _ else gB (dg (iblk m c 0 t) (iblk m c 1 t) (y 1) (y 2)) _) = _
  refine (congrArg (fun g => if (y 0).val = 0 then gA g (iblk m c 2 t (ix3 0 (y 1) (y 2))) (iblk m c 2 t (ix3 1 (y 1) (y 2))) else gB g (iblk m c 2 t (ix3 0 (y 1) (y 2))))
    (dg_blk m c t (y 1) (y 2))).trans ?_
  exact congrArg₂ (fun a b => if (y 0).val = 0 then gA (gE (aU m c) (aO m c) (rr t (y 1)) (kk t (y 2))) a b else gB (gE (aU m c) (aO m c) (rr t (y 1)) (kk t (y 2))) a) p0 p1

theorem final : (dats m 0 c).arrAt 3 cfg0.N = res m c := by
  refine (dats m 0 c).arrAt_eq_of_covers 3 _ (by decide +kernel) fun t hf y => ?_
  rw [after0_3, out_eq]
  refine Eq.trans ?_ ((congrArg (res m c) (emb_r t y)).trans (gate_blk m c t y).symm).symm
  refine congrArg (gate (iblk m c 0 t) (iblk m c 1 t) (iblk m c 2 t)) ?_
  funext a
  match a with
  | ⟨0, _⟩ => rfl
  | ⟨1, _⟩ => rfl
  | ⟨2, _⟩ => rfl

/-- The layer's two halves, side by side. -/
def hP (H : FVec Ideal S8448x2048 .bf16) (W : FVec Ideal S2048x11264 .bf16) : FVec Ideal S8448x11264 .f32 :=
  Host.dotGeneral dot_S8448x2048_S2048x11264_S8448x11264_1_0_0_1_n_n none (extf .f32 H bitsLt_bf16_f32) (extf .f32 W bitsLt_bf16_f32)

theorem hP_apply (H : FVec Ideal S8448x2048 .bf16) (W : FVec Ideal S2048x11264 .bf16) (x : Fin 8448) (k : Fin 11264) :
    hP H W (ix2 x k) = ∑ d : Fin 2048, H (ix2 x d) * W (ix2 d k) := by
  pointwise [hP]

/-- The two halves, one above the other. -/
def hStack (P : FVec Ideal S8448x11264 .f32) : FVec Ideal S2x8448x5632 .f32 :=
  concatenate S2x8448x5632 0 [⟨S1x8448x5632, broadcastInDim S1x8448x5632 ![1, 2] bcast_S8448x5632_S1x8448x5632_1_2 (extractStridedSlice S8448x5632 ![0, 0] P slices_S8448x11264_S8448x5632_0_0)⟩,
    ⟨S1x8448x5632, broadcastInDim S1x8448x5632 ![1, 2] bcast_S8448x5632_S1x8448x5632_1_2 (extractStridedSlice S8448x5632 ![0, 5632] P slices_S8448x11264_S8448x5632_0_5632)⟩] concatenates_S1x8448x5632_S1x8448x5632_S2x8448x5632_d0

/-- The columns of the two halves. -/
def c0 (k : Fin 5632) : Fin 11264 := ⟨k.val, by omega⟩
def c1 (k : Fin 5632) : Fin 11264 := ⟨5632 + k.val, by omega⟩

theorem hStack_0 (P : FVec Ideal S8448x11264 .f32) (x : Fin 8448) (k : Fin 5632) : hStack P (ix3 0 x k) = P (ix2 x (c0 k)) := by
  pointwise [hStack]
  rfl
theorem hStack_1 (P : FVec Ideal S8448x11264 .f32) (x : Fin 8448) (k : Fin 5632) : hStack P (ix3 1 x k) = P (ix2 x (c1 k)) := by
  pointwise [hStack]
  rfl

open StableHlo in
theorem V_p : V m c main_v7 = hStack (hP (m ((c : Thread nD τ).loc main_arg0)) (m ((c : Thread nD τ).loc main_arg1))) := by
  unfold V hostOps0
  after_results_simp <;> rfl

/-- The gradient of the gated product, as the reference forms it. -/
abbrev refG (O : FVec Ideal S5632x2048 .bf16) (U : FVec Ideal S8448x2048 .bf16) : FVec Ideal S8448x5632 .f32 :=
  Host.dotGeneral Cert.GateRefIdeal.dot_S8448x2048_S5632x2048_S8448x5632_1_1_0_0_n_n none (extf .f32 U Cert.GateRefIdeal.Gen.bitsLt_bf16_f32)
    (extf .f32 O Cert.GateRefIdeal.Gen.bitsLt_bf16_f32)

/-- The layer's two halves side by side, and each of them, as the reference forms them. -/
abbrev refP (H : FVec Ideal S8448x2048 .bf16) (W : FVec Ideal S2048x11264 .bf16) : FVec Ideal S8448x11264 .f32 :=
  Host.dotGeneral Cert.GateRefIdeal.dot_S8448x2048_S2048x11264_S8448x11264_1_0_0_1_n_n none (extf .f32 H Cert.GateRefIdeal.Gen.bitsLt_bf16_f32)
    (extf .f32 W Cert.GateRefIdeal.Gen.bitsLt_bf16_f32)
abbrev refA (P : FVec Ideal S8448x11264 .f32) : FVec Ideal S8448x5632 .f32 :=
  extractStridedSlice Cert.GateRefIdeal.S8448x5632 ![0, 0] P Cert.GateRefIdeal.Gen.slices_S8448x11264_S8448x5632_0_0
abbrev refB (P : FVec Ideal S8448x11264 .f32) : FVec Ideal S8448x5632 .f32 :=
  extractStridedSlice Cert.GateRefIdeal.S8448x5632 ![0, 5632] P Cert.GateRefIdeal.Gen.slices_S8448x11264_S8448x5632_0_5632

/-- Ones, and the logistic function written out. -/
abbrev refOne : FVec Ideal S8448x5632 .f32 :=
  broadcastInDim Cert.GateRefIdeal.S8448x5632 ![] Cert.GateRefIdeal.Gen.bcast_S_S8448x5632 (constant Cert.GateRefIdeal.S_ .f32 0x3F800000#32)
abbrev refS (A : FVec Ideal S8448x5632 .f32) : FVec Ideal S8448x5632 .f32 :=
  Host.divf refOne (addf refOne (Host.exp (Host.negf A)))

/-- The gradients of the two halves. -/
abbrev refGA (G A B : FVec Ideal S8448x5632 .f32) : FVec Ideal S8448x5632 .f32 :=
  addf (mulf (mulf G B) (refS A)) (mulf (mulf A (mulf G B)) (mulf (refS A) (subf refOne (refS A))))
abbrev refGB (G A : FVec Ideal S8448x5632 .f32) : FVec Ideal S8448x5632 .f32 := mulf (mulf A (refS A)) G

/-- The two gradients, one above the other, in the arguments' type. -/
abbrev refStack (X Y : FVec Ideal S8448x5632 .f32) : FVec Ideal S2x8448x5632 .bf16 :=
  truncf .bf16 (concatenate Cert.GateRefIdeal.S2x8448x5632 0
    [⟨Cert.GateRefIdeal.S1x8448x5632, (broadcastInDim Cert.GateRefIdeal.S1x8448x5632 ![1, 2] Cert.GateRefIdeal.Gen.bcast_S8448x5632_S1x8448x5632_1_2 X)⟩,
      ⟨Cert.GateRefIdeal.S1x8448x5632, (broadcastInDim Cert.GateRefIdeal.S1x8448x5632 ![1, 2] Cert.GateRefIdeal.Gen.bcast_S8448x5632_S1x8448x5632_1_2 Y)⟩]
    Cert.GateRefIdeal.Gen.concatenates_S1x8448x5632_S1x8448x5632_S2x8448x5632_d0) Cert.GateRefIdeal.Gen.bitsLt_bf16_f32

abbrev refGate (H : FVec Ideal S8448x2048 .bf16) (W : FVec Ideal S2048x11264 .bf16) (O : FVec Ideal S5632x2048 .bf16) (U : FVec Ideal S8448x2048 .bf16) :
    FVec Ideal S2x8448x5632 .bf16 :=
  refStack (refGA (refG O U) (refA (refP H W)) (refB (refP H W))) (refGB (refG O U) (refA (refP H W)))

theorem refG_apply (O : FVec Ideal S5632x2048 .bf16) (U : FVec Ideal S8448x2048 .bf16) (x : Fin 8448) (k : Fin 5632) :
    refG O U (ix2 x k) = gE U O x k := by
  pointwise [refG]
  rfl
theorem refP_apply (H : FVec Ideal S8448x2048 .bf16) (W : FVec Ideal S2048x11264 .bf16) (x : Fin 8448) (k : Fin 11264) :
    refP H W (ix2 x k) = ∑ d : Fin 2048, H (ix2 x d) * W (ix2 d k) := by
  pointwise [refP]
theorem refA_apply (P : FVec Ideal S8448x11264 .f32) (x : Fin 8448) (k : Fin 5632) : refA P (ix2 x k) = P (ix2 x (c0 k)) := by
  pointwise [refA]
  rfl
theorem refB_apply (P : FVec Ideal S8448x11264 .f32) (x : Fin 8448) (k : Fin 5632) : refB P (ix2 x k) = P (ix2 x (c1 k)) := by
  pointwise [refB]
  rfl
theorem refOne_apply (i : S8448x5632.Idx) : refOne i = 1 := one_eq
theorem refS_apply (A : FVec Ideal S8448x5632 .f32) (i : S8448x5632.Idx) : refS A i = Ideal.logistic (A i) := by
  show Ideal.div (refOne i) (refOne i + Ideal.exp (-(A i))) = _
  rw [refOne_apply]
  rfl
theorem refGA_apply (G A B : FVec Ideal S8448x5632 .f32) (i : S8448x5632.Idx) :
    refGA G A B i = G i * B i * Ideal.logistic (A i) + A i * (G i * B i) * (Ideal.logistic (A i) * (1 - Ideal.logistic (A i))) := by
  show G i * B i * refS A i + A i * (G i * B i) * (refS A i * (refOne i - refS A i)) = _
  rw [refS_apply, refOne_apply]
theorem refGB_apply (G A : FVec Ideal S8448x5632 .f32) (i : S8448x5632.Idx) :
    refGB G A i = A i * Ideal.logistic (A i) * G i := by
  show A i * refS A i * G i = _
  rw [refS_apply]
theorem refStack_0 (X Y : FVec Ideal S8448x5632 .f32) (x : Fin 8448) (k : Fin 5632) : refStack X Y (ix3 0 x k) = X (ix2 x k) := by
  pointwise [refStack]
theorem refStack_1 (X Y : FVec Ideal S8448x5632 .f32) (x : Fin 8448) (k : Fin 5632) : refStack X Y (ix3 1 x k) = Y (ix2 x k) := by
  pointwise [refStack]

/-- The logistic function of a real is a real. -/
theorem logistic_coe (a : ℝ) : ∃ s : ℝ, Ideal.logistic (a : EReal) = (s : EReal) := by
  refine ⟨1 / (1 + Real.exp (-a)), ?_⟩
  have h : (1 + Real.exp (-a)) ≠ 0 := by positivity
  have e : Ideal.exp (-(a : EReal)) = ((Real.exp (-a) : ℝ) : EReal) := rfl
  have e1 : (1 : EReal) + ((Real.exp (-a) : ℝ) : EReal) = ((1 + Real.exp (-a) : ℝ) : EReal) := by norm_cast
  rw [Ideal.logistic, e, e1]
  rw [Ideal.div_coe h, one_mul]

theorem gA_real (g a b : ℝ) :
    (g : EReal) * b * Ideal.logistic a + (a : EReal) * (g * b) * (Ideal.logistic a * (1 - Ideal.logistic a)) = gA g a b := by
  obtain ⟨s, hs⟩ := logistic_coe a
  unfold gA
  rw [hs]
  norm_cast
  ring

theorem gB_eq (g a : EReal) : a * Ideal.logistic a * g = gB g a := by
  unfold gB
  rw [mul_comm, mul_assoc]

/-- A sum of products of reals is a real. -/
theorem sum_real {n : Nat} (f g : Fin n → EReal) (hf : ∀ d, ∃ r : ℝ, f d = r) (hg : ∀ d, ∃ r : ℝ, g d = r) :
    ∃ r : ℝ, ∑ d, f d * g d = (r : EReal) := by
  choose f' ef using hf
  choose g' eg using hg
  refine ⟨∑ d, f' d * g' d, ?_⟩
  rw [Cert.Softmax.coe_sum]
  exact Finset.sum_congr rfl fun d _ => by rw [ef, eg, EReal.coe_mul]

section Values
variable (H : FVec Ideal S8448x2048 .bf16) (W : FVec Ideal S2048x11264 .bf16) (O : FVec Ideal S5632x2048 .bf16) (U : FVec Ideal S8448x2048 .bf16)
  (fH : ∀ i, ∃ r : ℝ, H i = (r : EReal)) (fW : ∀ i, ∃ r : ℝ, W i = (r : EReal)) (fO : ∀ i, ∃ r : ℝ, O i = (r : EReal)) (fU : ∀ i, ∃ r : ℝ, U i = (r : EReal))
  (e0 : H = m ((c : Thread nD τ).loc main_arg0)) (e1 : W = m ((c : Thread nD τ).loc main_arg1)) (e2 : O = aO m c) (e3 : U = aU m c)
include fH fW fO fU e0 e1 e2 e3

theorem aP_eq : aP m c = hStack (hP H W) := by rw [e0, e1]; exact V_p m c

theorem values_at (h : Fin 2) (x : Fin 8448) (k : Fin 5632) : refGate H W O U (ix3 h x k) = res m c (ix3 h x k) := by
  have q := aP_eq m c H W O U fH fW fO fU e0 e1 e2 e3
  obtain ⟨g, eg⟩ := sum_real (fun d : Fin 2048 => U (ix2 x d)) (fun d => O (ix2 k d)) (fun _ => fU _) (fun _ => fO _)
  obtain ⟨a, ea⟩ := sum_real (fun d : Fin 2048 => H (ix2 x d)) (fun d => W (ix2 d (c0 k))) (fun _ => fH _) (fun _ => fW _)
  obtain ⟨b, eb⟩ := sum_real (fun d : Fin 2048 => H (ix2 x d)) (fun d => W (ix2 d (c1 k))) (fun _ => fH _) (fun _ => fW _)
  have rg : gE (aU m c) (aO m c) x k = g := by rw [← e2, ← e3]; exact eg
  have ra : aP m c (ix3 0 x k) = a := by rw [q, hStack_0, hP_apply]; exact ea
  have rb : aP m c (ix3 1 x k) = b := by rw [q, hStack_1, hP_apply]; exact eb
  have sg : refG O U (ix2 x k) = g := (refG_apply O U x k).trans eg
  have sa : refA (refP H W) (ix2 x k) = a := by rw [refA_apply, refP_apply]; exact ea
  have sb : refB (refP H W) (ix2 x k) = b := by rw [refB_apply, refP_apply]; exact eb
  match h with
  | ⟨0, _⟩ =>
    refine (refStack_0 _ _ x k).trans ?_
    rw [refGA_apply, sg, sa, sb, gA_real]
    show _ = gA (gE (aU m c) (aO m c) x k) (aP m c (ix3 0 x k)) (aP m c (ix3 1 x k))
    rw [rg, ra, rb]
  | ⟨1, _⟩ =>
    refine (refStack_1 _ _ x k).trans ?_
    rw [refGB_apply, sg, sa, gB_eq]
    show _ = gB (gE (aU m c) (aO m c) x k) (aP m c (ix3 0 x k))
    rw [rg, ra]

/-- The reference's array is the one the kernel leaves. -/
theorem values : refGate H W O U = (dats m 0 c).arrAt 3 cfg0.N := by
  rw [final]
  funext i
  have := values_at m c H W O U fH fW fO fU e0 e1 e2 e3 (i 0) (i 1) (i 2)
  rwa [ix3_eta] at this

end Values

end Cert.GateIdeal.Hand

end
-- ==== Proof.Blocks.lean ====
/- A product accumulated over runs of grid points: the last point of a run leaves the whole sum. -/
module

public import proofs.«01_k».proof.Proof.Product

@[expose] public section

noncomputable section

namespace Cert.Product

/-- Of every `n` points the first stores its part `p` in a scratch entry, the next ones add theirs, and the last adds its
    part and writes the result. Where the parts of the `q`-th run are blocks of one sum, the result is that sum. -/
theorem run_sum (n b N : Nat) (hn : 2 ≤ n) (scr res p : (t : Nat) → t < N → EReal)
    (hA : ∀ t h, t % n = 0 → scr t h = p t h)
    (hB : ∀ t h, 1 ≤ t % n → t % n + 2 ≤ n → scr t h = scr (t - 1) (Nat.lt_of_le_of_lt (Nat.sub_le _ _) h) + p t h)
    (hC : ∀ t h, t % n + 1 = n → res t h = scr (t - 1) (Nat.lt_of_le_of_lt (Nat.sub_le _ _) h) + p t h)
    (f : Nat → EReal) (q t : Nat) (ht : t < N) (et : t = n * q + (n - 1))
    (hp : ∀ j (h : n * q + j < N), j < n → p (n * q + j) h = ∑ k : Fin b, f (b * j + k.val)) :
    res t ht = ∑ k : Fin (n * b), f k.val := by
  subst et
  have md : ∀ j, j < n → (n * q + j) % n = j := fun j hj => by rw [Nat.mul_add_mod, Nat.mod_eq_of_lt hj]
  have step : ∀ j, j + 1 < n → ∀ h : n * q + j < N,
      scr (n * q + j) h = ∑ i ∈ Finset.range (j + 1), ∑ k : Fin b, f (b * i + k.val) := by
    intro j
    induction j with
    | zero =>
      intro _ h
      rw [hA _ h (md 0 (by omega)), hp 0 h (by omega)]
      simp
    | succ j ih =>
      intro hj h
      have e := md (j + 1) (by omega)
      rw [hB _ h (by omega) (by omega), hp (j + 1) h (by omega), Finset.sum_range_succ _ (j + 1)]
      exact congrArg (· + _) (ih (by omega) (by omega))
  obtain ⟨l, rfl⟩ : ∃ l, n = l + 1 + 1 := ⟨n - 2, by omega⟩
  have e := md (l + 1) (by omega)
  rw [sum_split, Finset.sum_range (n := l + 1 + 1) (fun i => ∑ k : Fin b, f (b * i + k.val)) |>.symm]
  refine (hC _ ht (congrArg (· + 1) e)).trans ?_
  rw [Finset.sum_range_succ]
  exact congrArg₂ (· + ·) (step l (by omega) (by omega)) (hp (l + 1) ht (by omega))

end Cert.Product

end
-- ==== Proof.DhValue.lean ====
/- The gradient of the first feed-forward layer's input: the array the kernel leaves and the reference's, entry by entry. -/
module

public import proofs.«01_k».proof.Proof.Gen.DhIdeal.Value
public import proofs.«01_k».proof.Proof.Gen.DhRefIdeal.Run
public import proofs.«01_k».proof.Proof.Blocks
public import Idealize.ShloMosaic.Lib.Pipeline.CanonAppend
public import Idealize.ShloMosaic.Lib.Pipeline.ReadBack

@[expose] public section

set_option maxRecDepth 16384

noncomputable section

namespace Cert.DhIdeal.Hand

open Cert.DhIdeal Cert.DhIdeal.Gen Idealize.ShloMosaic Idealize.ShloMosaic.TcCoe Cert.Product

theorem hz2 : (![0, 0] : Fin 2 → Nat) = fun _ => 0 := by decide
theorem hz3 : (![0, 0, 0] : Fin 3 → Nat) = fun _ => 0 := by decide

section Runs
variable {F : FTy → Type} [FloatOps F]
variable (c : Dev nD) (i : grid0.Coords) (arg3 : Memref sig .tc .vmem S1x1408x2816 .bf16) (harg3 : arg3.IsWhole)
  (arg4 : Memref sig .tc .vmem S1024x2816 .bf16) (harg4 : arg4.IsWhole) (arg5 : Memref sig .tc .vmem S1408x1024 .f32)
  (harg5 : arg5.IsWhole) (arg6 : Memref sig .tc .vmem S1408x1024 .f32) (harg6 : arg6.IsWhole)
  (x0 : Vec F S1x1408x2816 .bf16) (x1 : Vec F S1024x2816 .bf16) (acc : Vec F S1408x1024 .f32)

/-- A run's first point stores its product in the scratch. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread]
  rw [View.canon_unit_zero (S := S1408x1024) hz2]
  simp only [View.ld_unit_zero (S := S1x1408x2816) hz3, View.ld_unit_zero (S := S1024x2816) hz2]

/-- The points between add theirs. -/
theorem sout_B (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  simp only [View.readAt_eq_ld, harg3.read_unread, harg4.read_unread, harg6.read_unread]
  rw [View.canon_unit_zero (S := S1408x1024) hz2]
  simp only [View.ld_unit_zero (S := S1x1408x2816) hz3, View.ld_unit_zero (S := S1024x2816) hz2, View.ld_unit_zero (S := S1408x1024) hz2]

/-- The last writes the sum out. -/
theorem out_C (hc0 : ¬cond0_0 i) (hc1 : ¬cond0_1 i) (hc2 : cond0_2 i) :
    out0_C_2 c i arg3 harg3 arg4 harg4 arg5 harg5 arg6 harg6 hc0 hc1 hc2 x0 x1 acc = k0_pay4 x0 x1 acc := by
  unfold out0_C_2
  rw [View.read_writes_eq_canon _ _ _ (cover0_C_2 c i arg3 harg3 arg4 harg4 arg5 harg5 arg6 harg6 hc0 hc1 hc2 x0 x1 acc)]
  unfold kernelRun0_C
  dsimp only
  sl_unfold_words
  simp only [View.readAt_eq_ld, harg3.read_unread, harg4.read_unread, harg6.read_unread]
  rw [View.canon_unit_zero (S := S1408x1024) hz2]
  simp only [View.ld_unit_zero (S := S1x1408x2816) hz3, View.ld_unit_zero (S := S1024x2816) hz2, View.ld_unit_zero (S := S1408x1024) hz2]

end Runs

section Blocks
variable (x0 : Vec Ideal S1x1408x2816 .bf16) (x1 : Vec Ideal S1024x2816 .bf16) (acc : Vec Ideal S1408x1024 .f32) (r : Fin 1408) (s : Fin 1024)

theorem pay1_apply : k0_pay1 (F := Ideal) x0 x1 (ix2 r s) = ∑ k : Fin 2816, x0 (ix3 0 r k) * x1 (ix2 s k) := by
  pointwise [k0_pay1]

theorem pay2_apply : k0_pay2 (F := Ideal) x0 x1 (ix2 r s) = k0_pay1 (F := Ideal) x0 x1 (ix2 r s) := by
  pointwise [k0_pay2]

theorem pay3_apply : k0_pay3 (F := Ideal) x0 x1 acc (ix2 r s) = acc (ix2 r s) + k0_pay1 (F := Ideal) x0 x1 (ix2 r s) := by
  pointwise [k0_pay3]

theorem pay4_apply : k0_pay4 (F := Ideal) x0 x1 acc (ix2 r s) = acc (ix2 r s) + k0_pay1 (F := Ideal) x0 x1 (ix2 r s) := by
  pointwise [k0_pay4]

end Blocks

variable (m : (ℓ : Loc nD τ sig) → Buf (Elt Ideal) ℓ) (c : Dev nD)

/-- The two halves' gradients and the weights, as the kernel finds them. -/
abbrev aD : S2x8448x5632.Idx → EReal := V m c main_arg0
abbrev aW : S2048x11264.Idx → EReal := V m c main_arg1

theorem idx_d : ∀ t : Fin cfg0.N, win0_0.index t = ![t.val % 4 / 2, t.val / 8, t.val % 2] :=
  (by decide +kernel : ∀ t : Fin grid0.N, _)

theorem d_rd (X : Buf (Elt Ideal) ((c : Thread nD τ).loc main_arg0)) (t : Fin cfg0.N) (r : Fin 1408) (k : Fin 2816) :
    (((cfg0.win 0).blk t).view.read (Elt Ideal) X : Vec Ideal S1x1408x2816 .bf16) (ix3 0 r k)
      = both (n := 8448) X (1408 * (t.val / 8) + r.val) (2816 * (t.val % 4) + k.val) := by
  have hb := k.isLt
  rw [View.read_apply]
  refine eq_at3 (n0 := 2) (n1 := 8448) (n2 := 5632) X _ _ _ _ ?_ ?_ ?_
  · show win0_0.index t 0 * 1 + 1 * 0 = _; rw [idx_d]; show (t.val % 4 / 2) * 1 + 1 * 0 = _; omega
  · show win0_0.index t 1 * 1408 + 1 * r.val = _; rw [idx_d]; show (t.val / 8) * 1408 + 1 * r.val = _; omega
  · show win0_0.index t 2 * 2816 + 1 * k.val = _; rw [idx_d]; show (t.val % 2) * 2816 + 1 * k.val = _; omega

theorem idx_w : ∀ t : Fin cfg0.N, win0_1.index t = ![t.val / 4 % 2, t.val % 4] :=
  (by decide +kernel : ∀ t : Fin grid0.N, _)

theorem w_rd (X : Buf (Elt Ideal) ((c : Thread nD τ).loc main_arg1)) (t : Fin cfg0.N) (s : Fin 1024) (k : Fin 2816) :
    (((cfg0.win 1).blk t).view.read (Elt Ideal) X : Vec Ideal S1024x2816 .bf16) (ix2 s k)
      = at2 (n0 := 2048) (n1 := 11264) X (1024 * (t.val / 4 % 2) + s.val) (2816 * (t.val % 4) + k.val) := by
  rw [View.read_apply]
  refine eq_at2 (n0 := 2048) (n1 := 11264) X _ _ _ ?_ ?_
  · show win0_1.index t 0 * 1024 + 1 * s.val = _; rw [idx_w]; show (t.val / 4 % 2) * 1024 + 1 * s.val = _; omega
  · show win0_1.index t 1 * 2816 + 1 * k.val = _; rw [idx_w]; show (t.val % 4) * 2816 + 1 * k.val = _; omega

/-- An entry of a point's product. -/
theorem pay_blk (t : Fin cfg0.N) (r : Fin 1408) (s : Fin 1024) :
    k0_pay1 (F := Ideal) (iblk m c 0 t) (iblk m c 1 t) (ix2 r s)
      = ∑ k : Fin 2816, both (aD m c) (1408 * (t.val / 8) + r.val) (2816 * (t.val % 4) + k.val) * at2 (aW m c) (1024 * (t.val / 4 % 2) + s.val) (2816 * (t.val % 4) + k.val) :=
  (pay1_apply _ _ r s).trans (Finset.sum_congr rfl fun k _ =>
    congrArg₂ (· * ·) (d_rd c (V m c main_arg0) t r k) (w_rd c (V m c main_arg1) t s k))

/-- What a point leaves, over what the point before left in the scratch. -/
theorem scr_A (t : Fin cfg0.N) (h0 : t.val % 4 = 0) :
    (outsAt0 m c t.val t.isLt).2 = k0_pay2 (iblk m c 0 t) (iblk m c 1 t) := by
  rw [outsAt0_A m c t h0 (by omega) (by omega)]
  dsimp only
  rw [sout_A]

theorem scr_B (t : Fin cfg0.N) (h1 : 1 ≤ t.val % 4 ∧ t.val % 4 ≤ 2) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h1 (by omega)]
  dsimp only
  rw [sout_B]

theorem res_C (t : Fin cfg0.N) (h2 : t.val % 4 = 3) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h2]
  dsimp only
  rw [out_C]

/-- An entry of the kernel's result. -/
theorem G_apply (x : Fin 8448) (y : Fin 2048) :
    (Value.G2 m c : S8448x2048.Idx → EReal) (ix2 x y) = ∑ k : Fin 11264, both (aD m c) x.val k.val * at2 (aW m c) y.val k.val := by
  have hx := x.isLt
  have hy := y.isLt
  have hp : Value.pt2Of (ix2 x y) = 4 * (2 * (x.val / 1408) + y.val / 1024) + (4 - 1) := by
    show 4 * (2 * (x.val / 1408 - 0) + 1 * (y.val / 1024 - 0)) + 3 = _
    omega
  have hlt : Value.pt2Of (ix2 x y) < cfg0.N := by
    rw [hp]; exact lt_of_lt_of_eq (by omega : _ < 48) N_0.symm
  have hl : Value.loc2Of (ix2 x y) = ix2 (⟨x.val % 1408, Nat.mod_lt _ (by norm_num)⟩ : Fin 1408) (⟨y.val % 1024, Nat.mod_lt _ (by norm_num)⟩ : Fin 1024) := by
    funext a; apply Fin.ext
    match a with
    | ⟨0, _⟩ => rfl
    | ⟨1, _⟩ => rfl
  have e : (Value.G2 m c : S8448x2048.Idx → EReal) (ix2 x y)
      = ((outsAt0 m c (Value.pt2Of (ix2 x y)) hlt).1 : Vec Ideal S1408x1024 .f32) (Value.loc2Of (ix2 x y)) := by
    rw [Value.outsAt0_sweep]
    exact dif_pos hlt
  rw [e, hl]
  refine run_sum 4 2816 cfg0.N (by norm_num) (fun t h => ((outsAt0 m c t h).2 : Vec Ideal S1408x1024 .f32) (ix2 _ _))
    (fun t h => ((outsAt0 m c t h).1 : Vec Ideal S1408x1024 .f32) (ix2 _ _))
    (fun t h => k0_pay1 (F := Ideal) (iblk m c 0 ⟨t, h⟩) (iblk m c 1 ⟨t, h⟩) (ix2 _ _))
    (fun t h h0 => (congrFun (scr_A m c ⟨t, h⟩ h0) _).trans (pay2_apply _ _ _ _))
    (fun t h h1 h2 => (congrFun (scr_B m c ⟨t, h⟩ (by dsimp only; omega)) _).trans (pay3_apply _ _ _ _ _))
    (fun t h h2 => (congrFun (res_C m c ⟨t, h⟩ (by dsimp only; omega)) _).trans (pay4_apply _ _ _ _ _))
    (fun k => both (aD m c) x.val k * at2 (aW m c) y.val k) (2 * (x.val / 1408) + y.val / 1024) _ hlt hp fun j h hj => ?_
  refine (pay_blk m c ⟨_, h⟩ _ _).trans (Finset.sum_congr rfl fun k _ => ?_)
  dsimp only
  have ex : 1408 * ((4 * (2 * (x.val / 1408) + y.val / 1024) + j) / 8) + x.val % 1408 = x.val := by omega
  have ey : 1024 * ((4 * (2 * (x.val / 1408) + y.val / 1024) + j) / 4 % 2) + y.val % 1024 = y.val := by omega
  have ek : (4 * (2 * (x.val / 1408) + y.val / 1024) + j) % 4 = j := by omega
  rw [ex, ey, ek]

section Reference
open Cert.DhRefIdeal Cert.DhRefIdeal.Gen

variable (D : FVec Ideal Cert.DhRefIdeal.S2x8448x5632 .bf16) (W : FVec Ideal Cert.DhRefIdeal.S2048x11264 .bf16)

/-- The reference's two halves, joined. -/
abbrev refBoth : FVec Ideal Cert.DhRefIdeal.S8448x11264 .f32 :=
  concatenate Cert.DhRefIdeal.S8448x11264 1 [⟨Cert.DhRefIdeal.S8448x5632, (shapeCast Cert.DhRefIdeal.S8448x5632 (extractStridedSlice Cert.DhRefIdeal.S1x8448x5632 ![0, 0, 0] (extf .f32 D Cert.DhRefIdeal.Gen.bitsLt_bf16_f32) slices_S2x8448x5632_S1x8448x5632_0_0_0) shapeCasts_S1x8448x5632_S8448x5632)⟩, ⟨Cert.DhRefIdeal.S8448x5632, (shapeCast Cert.DhRefIdeal.S8448x5632 (extractStridedSlice Cert.DhRefIdeal.S1x8448x5632 ![1, 0, 0] (extf .f32 D Cert.DhRefIdeal.Gen.bitsLt_bf16_f32) slices_S2x8448x5632_S1x8448x5632_1_0_0) shapeCasts_S1x8448x5632_S8448x5632)⟩] concatenates_S8448x5632_S8448x5632_S8448x11264_d1

/-- The reference's result. -/
abbrev refDh : FVec Ideal Cert.DhRefIdeal.S8448x2048 .f32 :=
  Host.dotGeneral dot_S8448x11264_S2048x11264_S8448x2048_1_1_0_0_n_n none (refBoth D) (extf .f32 W Cert.DhRefIdeal.Gen.bitsLt_bf16_f32)

theorem ref_both (x : Fin 8448) (k : Fin 11264) : refBoth D (ix2 x k) = both D x.val k.val := by
  refine Eq.trans ?_ (both_eq D x k)
  pointwise

theorem ref_apply (x : Fin 8448) (y : Fin 2048) :
    refDh D W (ix2 x y) = ∑ k : Fin 11264, both D x.val k.val * at2 W y.val k.val := by
  have e : ∀ B : FVec Ideal Cert.DhRefIdeal.S8448x11264 .f32,
      (Host.dotGeneral dot_S8448x11264_S2048x11264_S8448x2048_1_1_0_0_n_n none B (extf .f32 W Cert.DhRefIdeal.Gen.bitsLt_bf16_f32) : FVec Ideal Cert.DhRefIdeal.S8448x2048 .f32) (ix2 x y)
        = ∑ k : Fin 11264, B (ix2 x k) * W (ix2 y k) := fun B => by pointwise
  refine (e _).trans (Finset.sum_congr rfl fun k _ => ?_)
  rw [ref_both, at2_fin]

/-- The reference's array is the kernel's. -/
theorem values (e0 : D = aD m c) (e1 : W = aW m c) : (refDh D W : S8448x2048.Idx → EReal) = Value.G2 m c := by
  subst e0; subst e1
  funext i
  rw [← ix2_eta i]
  exact (ref_apply _ _ _ _).trans (G_apply m c _ _).symm

end Reference

end Cert.DhIdeal.Hand

end
-- ==== Proof.GwiValue.lean ====
/- The gradient of the first feed-forward layer's first weights: the array the kernel leaves and the reference's, entry by entry. -/
module

public import proofs.«01_k».proof.Proof.Gen.GwiIdeal.Value
public import proofs.«01_k».proof.Proof.Gen.GwiRefIdeal.Run
public import proofs.«01_k».proof.Proof.Blocks
public import Idealize.ShloMosaic.Lib.Pipeline.CanonAppend
public import Idealize.ShloMosaic.Lib.Pipeline.ReadBack

@[expose] public section

set_option maxRecDepth 16384

noncomputable section

namespace Cert.GwiIdeal.Hand

open Cert.GwiIdeal Cert.GwiIdeal.Gen Idealize.ShloMosaic Idealize.ShloMosaic.TcCoe Cert.Product

theorem hz2 : (![0, 0] : Fin 2 → Nat) = fun _ => 0 := by decide
theorem hz3 : (![0, 0, 0] : Fin 3 → Nat) = fun _ => 0 := by decide

section Runs
variable {F : FTy → Type} [FloatOps F]
variable (c : Dev nD) (i : grid0.Coords) (arg3 : Memref sig .tc .vmem S2816x1024 .bf16) (harg3 : arg3.IsWhole)
  (arg4 : Memref sig .tc .vmem S1x2816x1408 .bf16) (harg4 : arg4.IsWhole) (arg5 : Memref sig .tc .vmem S1024x1408 .bf16)
  (harg5 : arg5.IsWhole) (arg6 : Memref sig .tc .vmem S1024x1408 .f32) (harg6 : arg6.IsWhole)
  (x0 : Vec F S2816x1024 .bf16) (x1 : Vec F S1x2816x1408 .bf16) (acc : Vec F S1024x1408 .f32)

/-- A run's first point stores its product in the scratch. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread]
  rw [View.canon_unit_zero (S := S1024x1408) hz2]
  simp only [View.ld_unit_zero (S := S2816x1024) hz2, View.ld_unit_zero (S := S1x2816x1408) hz3]

/-- The points between add theirs. -/
theorem sout_B (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  simp only [View.readAt_eq_ld, harg3.read_unread, harg4.read_unread, harg6.read_unread]
  rw [View.canon_unit_zero (S := S1024x1408) hz2]
  simp only [View.ld_unit_zero (S := S2816x1024) hz2, View.ld_unit_zero (S := S1x2816x1408) hz3, View.ld_unit_zero (S := S1024x1408) hz2]

/-- The last writes the sum out. -/
theorem out_C (hc0 : ¬cond0_0 i) (hc1 : ¬cond0_1 i) (hc2 : cond0_2 i) :
    out0_C_2 c i arg3 harg3 arg4 harg4 arg5 harg5 arg6 harg6 hc0 hc1 hc2 x0 x1 acc = k0_pay4 x0 x1 acc := by
  unfold out0_C_2
  rw [View.read_writes_eq_canon _ _ _ (cover0_C_2 c i arg3 harg3 arg4 harg4 arg5 harg5 arg6 harg6 hc0 hc1 hc2 x0 x1 acc)]
  unfold kernelRun0_C
  dsimp only
  sl_unfold_words
  simp only [View.readAt_eq_ld, harg3.read_unread, harg4.read_unread, harg6.read_unread]
  rw [View.canon_unit_zero (S := S1024x1408) hz2]
  simp only [View.ld_unit_zero (S := S2816x1024) hz2, View.ld_unit_zero (S := S1x2816x1408) hz3, View.ld_unit_zero (S := S1024x1408) hz2]

end Runs

section Blocks
variable (x0 : Vec Ideal S2816x1024 .bf16) (x1 : Vec Ideal S1x2816x1408 .bf16) (acc : Vec Ideal S1024x1408 .f32) (r : Fin 1024) (s : Fin 1408)

theorem pay1_apply : k0_pay1 (F := Ideal) x0 x1 (ix2 r s) = ∑ k : Fin 2816, x0 (ix2 k r) * x1 (ix3 0 k s) := by
  pointwise [k0_pay1]

theorem pay2_apply : k0_pay2 (F := Ideal) x0 x1 (ix2 r s) = k0_pay1 (F := Ideal) x0 x1 (ix2 r s) := by
  pointwise [k0_pay2]

theorem pay3_apply : k0_pay3 (F := Ideal) x0 x1 acc (ix2 r s) = acc (ix2 r s) + k0_pay1 (F := Ideal) x0 x1 (ix2 r s) := by
  pointwise [k0_pay3]

theorem pay4_apply : k0_pay4 (F := Ideal) x0 x1 acc (ix2 r s) = acc (ix2 r s) + k0_pay1 (F := Ideal) x0 x1 (ix2 r s) := by
  pointwise [k0_pay4]

end Blocks

variable (m : (ℓ : Loc nD τ sig) → Buf (Elt Ideal) ℓ) (c : Dev nD)

/-- The layer's input and the two halves' gradients, as the kernel finds them. -/
abbrev aH : S8448x2048.Idx → EReal := V m c main_arg0
abbrev aD : S2x8448x5632.Idx → EReal := V m c main_arg1

theorem idx_h : ∀ t : Fin cfg0.N, win0_0.index t = ![t.val % 3, t.val / 24] :=
  (by decide +kernel : ∀ t : Fin grid0.N, _)

theorem h_rd (X : Buf (Elt Ideal) ((c : Thread nD τ).loc main_arg0)) (t : Fin cfg0.N) (k : Fin 2816) (r : Fin 1024) :
    (((cfg0.win 0).blk t).view.read (Elt Ideal) X : Vec Ideal S2816x1024 .bf16) (ix2 k r)
      = at2 (n0 := 8448) (n1 := 2048) X (2816 * (t.val % 3) + k.val) (1024 * (t.val / 24) + r.val) := by
  rw [View.read_apply]
  refine eq_at2 (n0 := 8448) (n1 := 2048) X _ _ _ ?_ ?_
  · show win0_0.index t 0 * 2816 + 1 * k.val = _; rw [idx_h]; show (t.val % 3) * 2816 + 1 * k.val = _; omega
  · show win0_0.index t 1 * 1024 + 1 * r.val = _; rw [idx_h]; show (t.val / 24) * 1024 + 1 * r.val = _; omega

theorem idx_d : ∀ t : Fin cfg0.N, win0_1.index t = ![t.val / 3 % 8 / 4, t.val % 3, t.val / 3 % 8 % 4] :=
  (by decide +kernel : ∀ t : Fin grid0.N, _)

theorem d_rd (X : Buf (Elt Ideal) ((c : Thread nD τ).loc main_arg1)) (t : Fin cfg0.N) (k : Fin 2816) (s : Fin 1408) :
    (((cfg0.win 1).blk t).view.read (Elt Ideal) X : Vec Ideal S1x2816x1408 .bf16) (ix3 0 k s)
      = both (n := 8448) X (2816 * (t.val % 3) + k.val) (1408 * (t.val / 3 % 8) + s.val) := by
  have hb := s.isLt
  rw [View.read_apply]
  refine eq_at3 (n0 := 2) (n1 := 8448) (n2 := 5632) X _ _ _ _ ?_ ?_ ?_
  · show win0_1.index t 0 * 1 + 1 * 0 = _; rw [idx_d]; show (t.val / 3 % 8 / 4) * 1 + 1 * 0 = _; omega
  · show win0_1.index t 1 * 2816 + 1 * k.val = _; rw [idx_d]; show (t.val % 3) * 2816 + 1 * k.val = _; omega
  · show win0_1.index t 2 * 1408 + 1 * s.val = _; rw [idx_d]; show (t.val / 3 % 8 % 4) * 1408 + 1 * s.val = _; omega

/-- An entry of a point's product. -/
theorem pay_blk (t : Fin cfg0.N) (r : Fin 1024) (s : Fin 1408) :
    k0_pay1 (F := Ideal) (iblk m c 0 t) (iblk m c 1 t) (ix2 r s)
      = ∑ k : Fin 2816, at2 (aH m c) (2816 * (t.val % 3) + k.val) (1024 * (t.val / 24) + r.val) * both (aD m c) (2816 * (t.val % 3) + k.val) (1408 * (t.val / 3 % 8) + s.val) :=
  (pay1_apply _ _ r s).trans (Finset.sum_congr rfl fun k _ =>
    congrArg₂ (· * ·) (h_rd c (V m c main_arg0) t k r) (d_rd c (V m c main_arg1) t k s))

/-- What a point leaves, over what the point before left in the scratch. -/
theorem scr_A (t : Fin cfg0.N) (h0 : t.val % 3 = 0) :
    (outsAt0 m c t.val t.isLt).2 = k0_pay2 (iblk m c 0 t) (iblk m c 1 t) := by
  rw [outsAt0_A m c t h0 (by omega) (by omega)]
  dsimp only
  rw [sout_A]

theorem scr_B (t : Fin cfg0.N) (h1 : t.val % 3 = 1) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h1 (by omega)]
  dsimp only
  rw [sout_B]

theorem res_C (t : Fin cfg0.N) (h2 : t.val % 3 = 2) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h2]
  dsimp only
  rw [out_C]

/-- An entry of the kernel's result. -/
theorem G_apply (x : Fin 2048) (y : Fin 11264) :
    (Value.G2 m c : S2048x11264.Idx → EReal) (ix2 x y) = ∑ k : Fin 8448, at2 (aH m c) k.val x.val * both (aD m c) k.val y.val := by
  have hx := x.isLt
  have hy := y.isLt
  have hp : Value.pt2Of (ix2 x y) = 3 * (8 * (x.val / 1024) + y.val / 1408) + (3 - 1) := by
    show 3 * (8 * (x.val / 1024 - 0) + 1 * (y.val / 1408 - 0)) + 2 = _
    omega
  have hlt : Value.pt2Of (ix2 x y) < cfg0.N := by
    rw [hp]; exact lt_of_lt_of_eq (by omega : _ < 48) N_0.symm
  have hl : Value.loc2Of (ix2 x y) = ix2 (⟨x.val % 1024, Nat.mod_lt _ (by norm_num)⟩ : Fin 1024) (⟨y.val % 1408, Nat.mod_lt _ (by norm_num)⟩ : Fin 1408) := by
    funext a; apply Fin.ext
    match a with
    | ⟨0, _⟩ => rfl
    | ⟨1, _⟩ => rfl
  have e : (Value.G2 m c : S2048x11264.Idx → EReal) (ix2 x y)
      = ((outsAt0 m c (Value.pt2Of (ix2 x y)) hlt).1 : Vec Ideal S1024x1408 .bf16) (Value.loc2Of (ix2 x y)) := by
    rw [Value.outsAt0_sweep]
    exact dif_pos hlt
  rw [e, hl]
  refine run_sum 3 2816 cfg0.N (by norm_num) (fun t h => ((outsAt0 m c t h).2 : Vec Ideal S1024x1408 .f32) (ix2 _ _))
    (fun t h => ((outsAt0 m c t h).1 : Vec Ideal S1024x1408 .bf16) (ix2 _ _))
    (fun t h => k0_pay1 (F := Ideal) (iblk m c 0 ⟨t, h⟩) (iblk m c 1 ⟨t, h⟩) (ix2 _ _))
    (fun t h h0 => (congrFun (scr_A m c ⟨t, h⟩ h0) _).trans (pay2_apply _ _ _ _))
    (fun t h h1 h2 => (congrFun (scr_B m c ⟨t, h⟩ (by dsimp only; omega)) _).trans (pay3_apply _ _ _ _ _))
    (fun t h h2 => (congrFun (res_C m c ⟨t, h⟩ (by dsimp only; omega)) _).trans (pay4_apply _ _ _ _ _))
    (fun k => at2 (aH m c) k x.val * both (aD m c) k y.val) (8 * (x.val / 1024) + y.val / 1408) _ hlt hp fun j h hj => ?_
  refine (pay_blk m c ⟨_, h⟩ _ _).trans (Finset.sum_congr rfl fun k _ => ?_)
  dsimp only
  have ex : 1024 * ((3 * (8 * (x.val / 1024) + y.val / 1408) + j) / 24) + x.val % 1024 = x.val := by omega
  have ey : 1408 * ((3 * (8 * (x.val / 1024) + y.val / 1408) + j) / 3 % 8) + y.val % 1408 = y.val := by omega
  have ek : (3 * (8 * (x.val / 1024) + y.val / 1408) + j) % 3 = j := by omega
  rw [ex, ey, ek]

section Reference
open Cert.GwiRefIdeal Cert.GwiRefIdeal.Gen

variable (D : FVec Ideal Cert.GwiRefIdeal.S2x8448x5632 .bf16) (H : FVec Ideal Cert.GwiRefIdeal.S8448x2048 .bf16)

/-- The reference's two halves, joined. -/
abbrev refBoth : FVec Ideal Cert.GwiRefIdeal.S8448x11264 .f32 :=
  concatenate Cert.GwiRefIdeal.S8448x11264 1 [⟨Cert.GwiRefIdeal.S8448x5632, (shapeCast Cert.GwiRefIdeal.S8448x5632 (extractStridedSlice Cert.GwiRefIdeal.S1x8448x5632 ![0, 0, 0] (extf .f32 D Cert.GwiRefIdeal.Gen.bitsLt_bf16_f32) slices_S2x8448x5632_S1x8448x5632_0_0_0) shapeCasts_S1x8448x5632_S8448x5632)⟩, ⟨Cert.GwiRefIdeal.S8448x5632, (shapeCast Cert.GwiRefIdeal.S8448x5632 (extractStridedSlice Cert.GwiRefIdeal.S1x8448x5632 ![1, 0, 0] (extf .f32 D Cert.GwiRefIdeal.Gen.bitsLt_bf16_f32) slices_S2x8448x5632_S1x8448x5632_1_0_0) shapeCasts_S1x8448x5632_S8448x5632)⟩] concatenates_S8448x5632_S8448x5632_S8448x11264_d1

/-- The reference's result. -/
abbrev refGw : FVec Ideal Cert.GwiRefIdeal.S2048x11264 .bf16 :=
  truncf .bf16 (transpose Cert.GwiRefIdeal.S2048x11264 [1, 0] (Host.dotGeneral dot_S8448x11264_S8448x2048_S11264x2048_0_0_1_1_n_n none (refBoth D) (extf .f32 H Cert.GwiRefIdeal.Gen.bitsLt_bf16_f32)) transposes_S11264x2048_S2048x11264_1_0) Cert.GwiRefIdeal.Gen.bitsLt_bf16_f32

theorem ref_both (x : Fin 8448) (k : Fin 11264) : refBoth D (ix2 x k) = both D x.val k.val := by
  refine Eq.trans ?_ (both_eq D x k)
  pointwise

theorem ref_apply (x : Fin 2048) (y : Fin 11264) :
    refGw D H (ix2 x y) = ∑ k : Fin 8448, at2 H k.val x.val * both D k.val y.val := by
  have e : ∀ B : FVec Ideal Cert.GwiRefIdeal.S8448x11264 .f32,
      (truncf .bf16 (transpose Cert.GwiRefIdeal.S2048x11264 [1, 0] (Host.dotGeneral dot_S8448x11264_S8448x2048_S11264x2048_0_0_1_1_n_n none B (extf .f32 H Cert.GwiRefIdeal.Gen.bitsLt_bf16_f32)) transposes_S11264x2048_S2048x11264_1_0) Cert.GwiRefIdeal.Gen.bitsLt_bf16_f32 : FVec Ideal Cert.GwiRefIdeal.S2048x11264 .bf16) (ix2 x y)
        = ∑ k : Fin 8448, B (ix2 k y) * H (ix2 k x) := fun B => by pointwise
  refine (e _).trans (Finset.sum_congr rfl fun k _ => ?_)
  rw [ref_both, at2_fin, mul_comm]

/-- The reference's array is the kernel's. -/
theorem values (e0 : D = aD m c) (e1 : H = aH m c) : (refGw D H : S2048x11264.Idx → EReal) = Value.G2 m c := by
  subst e0; subst e1
  funext i
  rw [← ix2_eta i]
  exact (ref_apply _ _ _ _).trans (G_apply m c _ _).symm

end Reference

end Cert.GwiIdeal.Hand

end
-- ==== Proof.GwoValue.lean ====
/- The gradient of the first feed-forward layer's last weights: the array the kernel leaves and the reference's, entry by entry. -/
module

public import proofs.«01_k».proof.Proof.Gen.GwoIdeal.Value
public import proofs.«01_k».proof.Proof.Gen.GwoRefIdeal.Run
public import proofs.«01_k».proof.Proof.Blocks
public import Idealize.ShloMosaic.Lib.Pipeline.CanonAppend
public import Idealize.ShloMosaic.Lib.Pipeline.ReadBack
public import Idealize.ShloMosaic.Lib.StableHlo.Run

@[expose] public section

set_option maxRecDepth 16384

noncomputable section

namespace Cert.GwoIdeal.Hand

open Cert.GwoIdeal Cert.GwoIdeal.Gen Idealize.ShloMosaic Idealize.ShloMosaic.TcCoe Cert.Product

theorem hz2 : (![0, 0] : Fin 2 → Nat) = fun _ => 0 := by decide

section Runs
variable {F : FTy → Type} [FloatOps F]
variable (c : Dev nD) (i : grid0.Coords) (arg3 : Memref sig .tc .vmem S2816x1408 .bf16) (harg3 : arg3.IsWhole)
  (arg4 : Memref sig .tc .vmem S2816x1024 .bf16) (harg4 : arg4.IsWhole) (arg5 : Memref sig .tc .vmem S1408x1024 .bf16)
  (harg5 : arg5.IsWhole) (arg6 : Memref sig .tc .vmem S1408x1024 .f32) (harg6 : arg6.IsWhole)
  (x0 : Vec F S2816x1408 .bf16) (x1 : Vec F S2816x1024 .bf16) (acc : Vec F S1408x1024 .f32)

/-- A run's first point stores its product in the scratch. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread]
  rw [View.canon_unit_zero (S := S1408x1024) hz2]
  simp only [View.ld_unit_zero (S := S2816x1408) hz2, View.ld_unit_zero (S := S2816x1024) hz2]

/-- The points between add theirs. -/
theorem sout_B (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  simp only [View.readAt_eq_ld, harg3.read_unread, harg4.read_unread, harg6.read_unread]
  rw [View.canon_unit_zero (S := S1408x1024) hz2]
  simp only [View.ld_unit_zero (S := S2816x1408) hz2, View.ld_unit_zero (S := S2816x1024) hz2, View.ld_unit_zero (S := S1408x1024) hz2]

/-- The last writes the sum out. -/
theorem out_C (hc0 : ¬cond0_0 i) (hc1 : ¬cond0_1 i) (hc2 : cond0_2 i) :
    out0_C_2 c i arg3 harg3 arg4 harg4 arg5 harg5 arg6 harg6 hc0 hc1 hc2 x0 x1 acc = k0_pay4 x0 x1 acc := by
  unfold out0_C_2
  rw [View.read_writes_eq_canon _ _ _ (cover0_C_2 c i arg3 harg3 arg4 harg4 arg5 harg5 arg6 harg6 hc0 hc1 hc2 x0 x1 acc)]
  unfold kernelRun0_C
  dsimp only
  sl_unfold_words
  simp only [View.readAt_eq_ld, harg3.read_unread, harg4.read_unread, harg6.read_unread]
  rw [View.canon_unit_zero (S := S1408x1024) hz2]
  simp only [View.ld_unit_zero (S := S2816x1408) hz2, View.ld_unit_zero (S := S2816x1024) hz2, View.ld_unit_zero (S := S1408x1024) hz2]

end Runs

section Blocks
variable (x0 : Vec Ideal S2816x1408 .bf16) (x1 : Vec Ideal S2816x1024 .bf16) (acc : Vec Ideal S1408x1024 .f32) (r : Fin 1408) (s : Fin 1024)

theorem pay1_apply : k0_pay1 (F := Ideal) x0 x1 (ix2 r s) = ∑ k : Fin 2816, x0 (ix2 k r) * x1 (ix2 k s) := by
  pointwise [k0_pay1]

theorem pay2_apply : k0_pay2 (F := Ideal) x0 x1 (ix2 r s) = k0_pay1 (F := Ideal) x0 x1 (ix2 r s) := by
  pointwise [k0_pay2]

theorem pay3_apply : k0_pay3 (F := Ideal) x0 x1 acc (ix2 r s) = acc (ix2 r s) + k0_pay1 (F := Ideal) x0 x1 (ix2 r s) := by
  pointwise [k0_pay3]

theorem pay4_apply : k0_pay4 (F := Ideal) x0 x1 acc (ix2 r s) = acc (ix2 r s) + k0_pay1 (F := Ideal) x0 x1 (ix2 r s) := by
  pointwise [k0_pay4]

end Blocks

variable (m : (ℓ : Loc nD τ sig) → Buf (Elt Ideal) ℓ) (c : Dev nD)

/-- The gated activations and the output's gradient, as the kernel finds them. -/
abbrev aG : S8448x5632.Idx → EReal := V m c main_v7
abbrev aO : S8448x2048.Idx → EReal := V m c main_arg2

theorem idx_g : ∀ t : Fin cfg0.N, win0_0.index t = ![t.val % 3, t.val / 6] :=
  (by decide +kernel : ∀ t : Fin grid0.N, _)

theorem g_rd (X : Buf (Elt Ideal) ((c : Thread nD τ).loc main_v7)) (t : Fin cfg0.N) (k : Fin 2816) (r : Fin 1408) :
    (((cfg0.win 0).blk t).view.read (Elt Ideal) X : Vec Ideal S2816x1408 .bf16) (ix2 k r)
      = at2 (n0 := 8448) (n1 := 5632) X (2816 * (t.val % 3) + k.val) (1408 * (t.val / 6) + r.val) := by
  rw [View.read_apply]
  refine eq_at2 (n0 := 8448) (n1 := 5632) X _ _ _ ?_ ?_
  · show win0_0.index t 0 * 2816 + 1 * k.val = _; rw [idx_g]; show (t.val % 3) * 2816 + 1 * k.val = _; omega
  · show win0_0.index t 1 * 1408 + 1 * r.val = _; rw [idx_g]; show (t.val / 6) * 1408 + 1 * r.val = _; omega

theorem idx_o : ∀ t : Fin cfg0.N, win0_1.index t = ![t.val % 3, t.val / 3 % 2] :=
  (by decide +kernel : ∀ t : Fin grid0.N, _)

theorem o_rd (X : Buf (Elt Ideal) ((c : Thread nD τ).loc main_arg2)) (t : Fin cfg0.N) (k : Fin 2816) (s : Fin 1024) :
    (((cfg0.win 1).blk t).view.read (Elt Ideal) X : Vec Ideal S2816x1024 .bf16) (ix2 k s)
      = at2 (n0 := 8448) (n1 := 2048) X (2816 * (t.val % 3) + k.val) (1024 * (t.val / 3 % 2) + s.val) := by
  rw [View.read_apply]
  refine eq_at2 (n0 := 8448) (n1 := 2048) X _ _ _ ?_ ?_
  · show win0_1.index t 0 * 2816 + 1 * k.val = _; rw [idx_o]; show (t.val % 3) * 2816 + 1 * k.val = _; omega
  · show win0_1.index t 1 * 1024 + 1 * s.val = _; rw [idx_o]; show (t.val / 3 % 2) * 1024 + 1 * s.val = _; omega

/-- An entry of a point's product. -/
theorem pay_blk (t : Fin cfg0.N) (r : Fin 1408) (s : Fin 1024) :
    k0_pay1 (F := Ideal) (iblk m c 0 t) (iblk m c 1 t) (ix2 r s)
      = ∑ k : Fin 2816, at2 (aG m c) (2816 * (t.val % 3) + k.val) (1408 * (t.val / 6) + r.val) * at2 (aO m c) (2816 * (t.val % 3) + k.val) (1024 * (t.val / 3 % 2) + s.val) :=
  (pay1_apply _ _ r s).trans (Finset.sum_congr rfl fun k _ =>
    congrArg₂ (· * ·) (g_rd c (V m c main_v7) t k r) (o_rd c (V m c main_arg2) t k s))

/-- What a point leaves, over what the point before left in the scratch. -/
theorem scr_A (t : Fin cfg0.N) (h0 : t.val % 3 = 0) :
    (outsAt0 m c t.val t.isLt).2 = k0_pay2 (iblk m c 0 t) (iblk m c 1 t) := by
  rw [outsAt0_A m c t h0 (by omega) (by omega)]
  dsimp only
  rw [sout_A]

theorem scr_B (t : Fin cfg0.N) (h1 : t.val % 3 = 1) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h1 (by omega)]
  dsimp only
  rw [sout_B]

theorem res_C (t : Fin cfg0.N) (h2 : t.val % 3 = 2) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h2]
  dsimp only
  rw [out_C]

/-- An entry of the kernel's result. -/
theorem G_apply (x : Fin 5632) (y : Fin 2048) :
    (Value.G2 m c : S5632x2048.Idx → EReal) (ix2 x y) = ∑ k : Fin 8448, at2 (aG m c) k.val x.val * at2 (aO m c) k.val y.val := by
  have hx := x.isLt
  have hy := y.isLt
  have hp : Value.pt2Of (ix2 x y) = 3 * (2 * (x.val / 1408) + y.val / 1024) + (3 - 1) := by
    show 3 * (2 * (x.val / 1408 - 0) + 1 * (y.val / 1024 - 0)) + 2 = _
    omega
  have hlt : Value.pt2Of (ix2 x y) < cfg0.N := by
    rw [hp]; exact lt_of_lt_of_eq (by omega : _ < 24) N_0.symm
  have hl : Value.loc2Of (ix2 x y) = ix2 (⟨x.val % 1408, Nat.mod_lt _ (by norm_num)⟩ : Fin 1408) (⟨y.val % 1024, Nat.mod_lt _ (by norm_num)⟩ : Fin 1024) := by
    funext a; apply Fin.ext
    match a with
    | ⟨0, _⟩ => rfl
    | ⟨1, _⟩ => rfl
  have e : (Value.G2 m c : S5632x2048.Idx → EReal) (ix2 x y)
      = ((outsAt0 m c (Value.pt2Of (ix2 x y)) hlt).1 : Vec Ideal S1408x1024 .bf16) (Value.loc2Of (ix2 x y)) := by
    rw [Value.outsAt0_sweep]
    exact dif_pos hlt
  rw [e, hl]
  refine run_sum 3 2816 cfg0.N (by norm_num) (fun t h => ((outsAt0 m c t h).2 : Vec Ideal S1408x1024 .f32) (ix2 _ _))
    (fun t h => ((outsAt0 m c t h).1 : Vec Ideal S1408x1024 .bf16) (ix2 _ _))
    (fun t h => k0_pay1 (F := Ideal) (iblk m c 0 ⟨t, h⟩) (iblk m c 1 ⟨t, h⟩) (ix2 _ _))
    (fun t h h0 => (congrFun (scr_A m c ⟨t, h⟩ h0) _).trans (pay2_apply _ _ _ _))
    (fun t h h1 h2 => (congrFun (scr_B m c ⟨t, h⟩ (by dsimp only; omega)) _).trans (pay3_apply _ _ _ _ _))
    (fun t h h2 => (congrFun (res_C m c ⟨t, h⟩ (by dsimp only; omega)) _).trans (pay4_apply _ _ _ _ _))
    (fun k => at2 (aG m c) k x.val * at2 (aO m c) k y.val) (2 * (x.val / 1408) + y.val / 1024) _ hlt hp fun j h hj => ?_
  refine (pay_blk m c ⟨_, h⟩ _ _).trans (Finset.sum_congr rfl fun k _ => ?_)
  dsimp only
  have ex : 1408 * ((3 * (2 * (x.val / 1408) + y.val / 1024) + j) / 6) + x.val % 1408 = x.val := by omega
  have ey : 1024 * ((3 * (2 * (x.val / 1408) + y.val / 1024) + j) / 3 % 2) + y.val % 1024 = y.val := by omega
  have ek : (3 * (2 * (x.val / 1408) + y.val / 1024) + j) % 3 = j := by omega
  rw [ex, ey, ek]

/-- The gated activations, as the host forms them. -/
def hG (H : FVec Ideal S8448x2048 .bf16) (W : FVec Ideal S2048x11264 .bf16) : FVec Ideal S8448x5632 .f32 :=
  mulf (mulf (extractStridedSlice S8448x5632 ![0, 0] (Host.dotGeneral dot_S8448x2048_S2048x11264_S8448x11264_1_0_0_1_n_n none (extf .f32 H bitsLt_bf16_f32) (extf .f32 W bitsLt_bf16_f32)) slices_S8448x11264_S8448x5632_0_0) (Host.divf (broadcastInDim S8448x5632 ![] bcast_S_S8448x5632 (constant S_ .f32 0x3F800000#32)) (addf (broadcastInDim S8448x5632 ![] bcast_S_S8448x5632 (constant S_ .f32 0x3F800000#32)) (Host.exp (Host.negf (extractStridedSlice S8448x5632 ![0, 0] (Host.dotGeneral dot_S8448x2048_S2048x11264_S8448x11264_1_0_0_1_n_n none (extf .f32 H bitsLt_bf16_f32) (extf .f32 W bitsLt_bf16_f32)) slices_S8448x11264_S8448x5632_0_0)))))) (extractStridedSlice S8448x5632 ![0, 5632] (Host.dotGeneral dot_S8448x2048_S2048x11264_S8448x11264_1_0_0_1_n_n none (extf .f32 H bitsLt_bf16_f32) (extf .f32 W bitsLt_bf16_f32)) slices_S8448x11264_S8448x5632_0_5632)

open StableHlo in
theorem V_g : V m c main_v7 = truncf .bf16 (hG (m ((c : Thread nD τ).loc main_arg0)) (m ((c : Thread nD τ).loc main_arg1))) bitsLt_bf16_f32 := by
  unfold V hostOps0 hostOps0_1 hostOps0_2
  after_results_simp <;> rfl

section Reference
open Cert.GwoRefIdeal Cert.GwoRefIdeal.Gen

variable (H : FVec Ideal Cert.GwoRefIdeal.S8448x2048 .bf16) (W : FVec Ideal Cert.GwoRefIdeal.S2048x11264 .bf16) (O : FVec Ideal Cert.GwoRefIdeal.S8448x2048 .bf16)

/-- The reference's gated activations. -/
abbrev refG : FVec Ideal Cert.GwoRefIdeal.S8448x5632 .f32 :=
  mulf (mulf (extractStridedSlice Cert.GwoRefIdeal.S8448x5632 ![0, 0] (Host.dotGeneral Cert.GwoRefIdeal.dot_S8448x2048_S2048x11264_S8448x11264_1_0_0_1_n_n none (extf .f32 H Cert.GwoRefIdeal.Gen.bitsLt_bf16_f32) (extf .f32 W Cert.GwoRefIdeal.Gen.bitsLt_bf16_f32)) Cert.GwoRefIdeal.Gen.slices_S8448x11264_S8448x5632_0_0) (Host.divf (broadcastInDim Cert.GwoRefIdeal.S8448x5632 ![] Cert.GwoRefIdeal.Gen.bcast_S_S8448x5632 (constant Cert.GwoRefIdeal.S_ .f32 0x3F800000#32)) (addf (broadcastInDim Cert.GwoRefIdeal.S8448x5632 ![] Cert.GwoRefIdeal.Gen.bcast_S_S8448x5632 (constant Cert.GwoRefIdeal.S_ .f32 0x3F800000#32)) (Host.exp (Host.negf (extractStridedSlice Cert.GwoRefIdeal.S8448x5632 ![0, 0] (Host.dotGeneral Cert.GwoRefIdeal.dot_S8448x2048_S2048x11264_S8448x11264_1_0_0_1_n_n none (extf .f32 H Cert.GwoRefIdeal.Gen.bitsLt_bf16_f32) (extf .f32 W Cert.GwoRefIdeal.Gen.bitsLt_bf16_f32)) Cert.GwoRefIdeal.Gen.slices_S8448x11264_S8448x5632_0_0)))))) (extractStridedSlice Cert.GwoRefIdeal.S8448x5632 ![0, 5632] (Host.dotGeneral Cert.GwoRefIdeal.dot_S8448x2048_S2048x11264_S8448x11264_1_0_0_1_n_n none (extf .f32 H Cert.GwoRefIdeal.Gen.bitsLt_bf16_f32) (extf .f32 W Cert.GwoRefIdeal.Gen.bitsLt_bf16_f32)) Cert.GwoRefIdeal.Gen.slices_S8448x11264_S8448x5632_0_5632)

/-- The reference's result. -/
abbrev refGw : FVec Ideal Cert.GwoRefIdeal.S5632x2048 .bf16 :=
  truncf .bf16 (transpose Cert.GwoRefIdeal.S5632x2048 [1, 0] (Host.dotGeneral dot_S8448x2048_S8448x5632_S2048x5632_0_0_1_1_n_n none (extf .f32 O Cert.GwoRefIdeal.Gen.bitsLt_bf16_f32) (refG H W)) transposes_S2048x5632_S5632x2048_1_0) Cert.GwoRefIdeal.Gen.bitsLt_bf16_f32

/-- The reference's activations are the host's. -/
theorem refG_eq : (refG H W : S8448x5632.Idx → EReal) = hG H W := by
  unfold refG hG
  rfl

theorem ref_apply (x : Fin 5632) (y : Fin 2048) :
    refGw H W O (ix2 x y) = ∑ k : Fin 8448, at2 (refG H W) k.val x.val * at2 O k.val y.val := by
  have e : ∀ B : FVec Ideal Cert.GwoRefIdeal.S8448x5632 .f32,
      (truncf .bf16 (transpose Cert.GwoRefIdeal.S5632x2048 [1, 0] (Host.dotGeneral dot_S8448x2048_S8448x5632_S2048x5632_0_0_1_1_n_n none (extf .f32 O Cert.GwoRefIdeal.Gen.bitsLt_bf16_f32) B) transposes_S2048x5632_S5632x2048_1_0) Cert.GwoRefIdeal.Gen.bitsLt_bf16_f32 : FVec Ideal Cert.GwoRefIdeal.S5632x2048 .bf16) (ix2 x y)
        = ∑ k : Fin 8448, O (ix2 k y) * B (ix2 k x) := fun B => by pointwise
  refine (e _).trans (Finset.sum_congr rfl fun k _ => ?_)
  rw [at2_fin, at2_fin, mul_comm]

/-- The reference's array is the kernel's. -/
theorem values (e0 : H = m ((c : Thread nD τ).loc main_arg0)) (e1 : W = m ((c : Thread nD τ).loc main_arg1)) (e2 : O = aO m c) :
    (refGw H W O : S5632x2048.Idx → EReal) = Value.G2 m c := by
  have eg : aG m c = refG H W := by
    rw [refG_eq, e0, e1]
    exact V_g m c
  subst e2
  funext i
  rw [← ix2_eta i]
  refine (ref_apply _ _ _ _ _).trans ?_
  rw [← eg]
  exact (G_apply m c _ _).symm

end Reference

end Cert.GwoIdeal.Hand

end
-- ==== Proof.Finite3.lean ====
/- The second feed-forward layer's precondition read back: every entry of the four arguments is a real. -/
module

public import proofs.«01_k».proof.Proof.Gen.Pre_finite3
public import proofs.«01_k».proof.Proof.Finite

@[expose] public section

set_option maxRecDepth 16384

noncomputable section

namespace Cert.Pre_finite3.Hand

open Cert.Pre_finite3 Cert.Pre_finite3.Gen Idealize.ShloMosaic
open Cert.Pre_finite.Hand (real_of_lt)

variable (h : FVec Ideal S8192x2048 .bf16) (w : FVec Ideal S2048x11264 .bf16) (o : FVec Ideal S5632x2048 .bf16) (u : FVec Ideal S8192x2048 .bf16)

/-- Four truth values in a row. -/
def four (a b c d : IVec S_ 1) : IVec S4 1 :=
  concatenate S4 0 [⟨S1, broadcastInDim S1 ![] bcast_S_S1 a⟩, ⟨S1, broadcastInDim S1 ![] bcast_S_S1 b⟩, ⟨S1, broadcastInDim S1 ![] bcast_S_S1 c⟩,
    ⟨S1, broadcastInDim S1 ![] bcast_S_S1 d⟩] concatenates_S1_S1_S1_S1_S4_d0

section Parts
variable (a b c d : IVec S_ 1)

theorem four_0 : four a b c d (ix1 0) = a ix0 := by pointwise [four]
theorem four_1 : four a b c d (ix1 1) = b ix0 := by pointwise [four]
theorem four_2 : four a b c d (ix1 2) = c ix0 := by pointwise [four]
theorem four_3 : four a b c d (ix1 3) = d ix0 := by pointwise [four]

end Parts

theorem part_eq (a b c : IVec S_ 1) (x : FVec Ideal S8192x2048 .f32) (k : FVec Ideal S_ .f32) :
    fn_part1 (F := Ideal) a b c x k = four a b c (Host.reduce IntOp.andi (cmpf .olt x (broadcastInDim S8192x2048 ![] bcast_S_S8192x2048 k)) (constantI S_ 1 1#1) reducesTo_S8192x2048_S_d0_1 h_S_) := rfl

instance : Subsingleton S_.Idx := ⟨fun _ _ => funext fun a => a.elim0⟩

theorem fn_eq (e : fn h w o u = fun _ => 1#1) :
    (∀ i, ∃ r : ℝ, h i = (r : EReal)) ∧ (∀ i, ∃ r : ℝ, w i = (r : EReal)) ∧ (∀ i, ∃ r : ℝ, o i = (r : EReal)) ∧ (∀ i, ∃ r : ℝ, u i = (r : EReal)) := by
  have e0 := congrFun e (ix1 0)
  have e1 := congrFun e (ix1 1)
  have e2 := congrFun e (ix1 2)
  have e3 := congrFun e (ix1 3)
  unfold fn at e0 e1 e2 e3
  rw [part_eq, four_0] at e0
  rw [part_eq, four_1] at e1
  rw [part_eq, four_2] at e2
  rw [part_eq, four_3] at e3
  exact ⟨fun i => real_of_lt (h i) (Host.reduce_andi_all _ _ _ _ _ e0 i), fun i => real_of_lt (w i) (Host.reduce_andi_all _ _ _ _ _ e1 i),
    fun i => real_of_lt (o i) (Host.reduce_andi_all _ _ _ _ _ e2 i), fun i => real_of_lt (u i) (Host.reduce_andi_all _ _ _ _ _ e3 i)⟩

end Cert.Pre_finite3.Hand

end
-- ==== Proof.Gate2Block.lean ====
/- The gradient of the second feed-forward layer's gate: what one grid point leaves, as a function of its three blocks. -/
module

public import proofs.«01_k».proof.Proof.Gen.Gate2Ideal.Value
public import proofs.«01_k».proof.Proof.GateValue
public import Idealize.ShloMosaic.Lib.Pipeline.CanonAppend
public import Idealize.ShloMosaic.Lib.Pipeline.ReadBack

@[expose] public section

set_option maxRecDepth 16384

noncomputable section

namespace Cert.Gate2Ideal.Hand

open Cert.Gate2Ideal Cert.Gate2Ideal.Gen Idealize.ShloMosaic Idealize.ShloMosaic.TcCoe
open Cert.GateIdeal.Hand (gA gB one_eq)

theorem hz2 : (![0, 0] : Fin 2 → Nat) = fun _ => 0 := by decide

section Payloads
variable (g a s : FVec Ideal S1024x256 .f32) (v v' : Vec Ideal S1x1024x256 .f32)
  (x0 : Vec Ideal S1024x2048 .bf16) (x1 : Vec Ideal S256x2048 .bf16)

theorem pay1_apply (r : Fin 1024) (k : Fin 256) :
    k0_pay1 (F := Ideal) g a s v (ix3 0 r k)
      = g (ix2 r k) * v (ix3 0 r k) * (s (ix2 r k) * (1 + a (ix2 r k) * (1 - s (ix2 r k)))) := by
  rw [← one_eq]
  pointwise [k0_pay1]

theorem pay2_apply (r : Fin 1024) (k : Fin 256) :
    k0_pay2 (F := Ideal) g a s (ix3 0 r k) = g (ix2 r k) * a (ix2 r k) * s (ix2 r k) := by
  pointwise [k0_pay2]

theorem pay3_apply (r : Fin 1024) (k : Fin 256) :
    k0_pay3 (F := Ideal) x0 x1 (ix2 r k) = ∑ d : Fin 2048, x0 (ix2 r d) * x1 (ix2 k d) := by
  pointwise [k0_pay3]

theorem pay4_apply (r : Fin 1024) (k : Fin 256) : k0_pay4 (F := Ideal) v (ix2 r k) = v (ix3 0 r k) := by
  pointwise [k0_pay4]

theorem pay5_apply (r : Fin 1024) (k : Fin 256) : k0_pay5 (F := Ideal) v (ix2 r k) = Ideal.logistic (v (ix3 0 r k)) :=
  congrArg Ideal.logistic (pay4_apply v r k)

theorem pay6_eq : k0_pay6 (F := Ideal) x0 x1 v v' = k0_pay1 (F := Ideal) (k0_pay3 x0 x1) (k0_pay4 v) (k0_pay5 v) v' := rfl
theorem pay7_eq : k0_pay7 (F := Ideal) x0 x1 v = k0_pay2 (F := Ideal) (k0_pay3 x0 x1) (k0_pay4 v) (k0_pay5 v) := rfl
theorem pay8_eq : k0_pay8 (F := Ideal) x0 x1 = k0_pay3 (F := Ideal) x0 x1 := rfl
theorem pay9_eq : k0_pay9 (F := Ideal) v = k0_pay4 (F := Ideal) v := rfl
theorem pay10_eq : k0_pay10 (F := Ideal) v = k0_pay5 (F := Ideal) v := rfl

end Payloads

variable (x0 : Vec Ideal S1024x2048 .bf16) (x1 : Vec Ideal S512x2048 .bf16) (x2 : Vec Ideal S2x1024x512 .f32)

/-- The gradient of the gated product. -/
def dg (r : Fin 1024) (k : Fin 512) : EReal := ∑ d : Fin 2048, x0 (ix2 r d) * x1 (ix2 k d)

/-- The block's result. -/
def gate : Vec Ideal S2x1024x512 .bf16 := fun y =>
  if (y 0).val = 0 then gA (dg x0 x1 (y 1) (y 2)) (x2 (ix3 0 (y 1) (y 2))) (x2 (ix3 1 (y 1) (y 2)))
  else gB (dg x0 x1 (y 1) (y 2)) (x2 (ix3 0 (y 1) (y 2)))

variable (off : Nat) (h : Fin 2) (inb : ∀ a, ![h.val, 0, off] a + ![1, 1024, 256] a ≤ S2x1024x512.size a)
  (inw : ∀ a, ![off, 0] a + ![256, 2048] a ≤ S512x2048.size a)

theorem off_le (inw : ∀ a, ![off, 0] a + ![256, 2048] a ≤ S512x2048.size a) : off + 256 ≤ 512 := inw 0

/-- A stored block sits `off` columns to the right in half `h`. -/
theorem emb_eq (hoff : off + 256 ≤ 512) (r : Fin 1024) (k : Fin 256) :
    (Rect.unit (s := S2x1024x512) ![h.val, 0, off] ![1, 1024, 256] inb).emb (ix3 0 r k)
      = ix3 h r ⟨off + k.val, by omega⟩ := by
  funext a
  apply Fin.ext
  match a with
  | ⟨0, _⟩ => show h.val + 1 * 0 = h.val; omega
  | ⟨1, _⟩ => show 0 + 1 * r.val = r.val; omega
  | ⟨2, _⟩ => show off + 1 * k.val = off + k.val; omega

theorem ld_x2 (hoff : off + 256 ≤ 512) (r : Fin 1024) (k : Fin 256) :
    View.ld x2 (Rect.unit (s := S2x1024x512) ![h.val, 0, off] ![1, 1024, 256] inb) (ix3 0 r k)
      = x2 (ix3 h r ⟨off + k.val, by omega⟩) := congrArg x2 (emb_eq off h inb hoff r k)

theorem ld_x1 (k : Fin 256) (d : Fin 2048) :
    View.ld x1 (Rect.unit (s := S512x2048) ![off, 0] ![256, 2048] inw) (ix2 k d)
      = x1 (ix2 ⟨off + k.val, by have := off_le off inw; omega⟩ d) := by
  refine congrArg x1 ?_
  funext a
  apply Fin.ext
  match a with
  | ⟨0, _⟩ => show off + 1 * k.val = off + k.val; omega
  | ⟨1, _⟩ => show 0 + 1 * d.val = d.val; omega

theorem dg_ld (r : Fin 1024) (k : Fin 256) :
    k0_pay3 (F := Ideal) x0 (View.ld x1 (Rect.unit (s := S512x2048) ![off, 0] ![256, 2048] inw)) (ix2 r k)
      = dg x0 x1 r ⟨off + k.val, by have := off_le off inw; omega⟩ := by
  rw [pay3_apply]
  exact Finset.sum_congr rfl fun d _ => congrArg _ (ld_x1 x1 off inw k d)

variable (inb0 : ∀ a, ![0, 0, off] a + ![1, 1024, 256] a ≤ S2x1024x512.size a)
  (inb1 : ∀ a, ![1, 0, off] a + ![1, 1024, 256] a ≤ S2x1024x512.size a)

theorem idx_unit (x : S1x1024x256.Idx) : ∃ (r : Fin 1024) (k : Fin 256), x = ix3 0 r k :=
  ⟨x 1, x 2, by
    have e : x 0 = (0 : Fin 1) := Subsingleton.elim (α := Fin 1) _ _
    exact (ix3_eta x).symm.trans (congrArg (fun u : Fin 1 => ix3 u (x 1) (x 2)) e)⟩

/-- The blocks stored in the two halves. -/
theorem piece0 (x : S1x1024x256.Idx) :
    k0_pay1 (F := Ideal) (k0_pay3 x0 (View.ld x1 (Rect.unit (s := S512x2048) ![off, 0] ![256, 2048] inw)))
        (k0_pay4 (View.ld x2 (Rect.unit (s := S2x1024x512) ![0, 0, off] ![1, 1024, 256] inb0)))
        (k0_pay5 (View.ld x2 (Rect.unit (s := S2x1024x512) ![0, 0, off] ![1, 1024, 256] inb0)))
        (View.ld x2 (Rect.unit (s := S2x1024x512) ![1, 0, off] ![1, 1024, 256] inb1)) x
      = gate x0 x1 x2 ((Rect.unit (s := S2x1024x512) ![0, 0, off] ![1, 1024, 256] inb0).emb x) := by
  obtain ⟨r, k, rfl⟩ := idx_unit x
  have ho := off_le off inw
  have a0 := ld_x2 x2 off 0 inb0 ho r k
  have a1 := ld_x2 x2 off 1 inb1 ho r k
  have ee := emb_eq off 0 inb0 ho r k
  rw [pay1_apply, dg_ld, pay4_apply, pay5_apply]
  refine (congrArg₂ (fun a b => gA (dg x0 x1 r ⟨off + k.val, by omega⟩) a b) a0 a1).trans ?_
  exact (congrArg (gate x0 x1 x2) ee).symm

theorem piece1 (x : S1x1024x256.Idx) :
    k0_pay2 (F := Ideal) (k0_pay3 x0 (View.ld x1 (Rect.unit (s := S512x2048) ![off, 0] ![256, 2048] inw)))
        (k0_pay4 (View.ld x2 (Rect.unit (s := S2x1024x512) ![0, 0, off] ![1, 1024, 256] inb0)))
        (k0_pay5 (View.ld x2 (Rect.unit (s := S2x1024x512) ![0, 0, off] ![1, 1024, 256] inb0))) x
      = gate x0 x1 x2 ((Rect.unit (s := S2x1024x512) ![1, 0, off] ![1, 1024, 256] inb1).emb x) := by
  obtain ⟨r, k, rfl⟩ := idx_unit x
  have ho := off_le off inw
  have a0 := ld_x2 x2 off 0 inb0 ho r k
  have ee := emb_eq off 1 inb1 ho r k
  rw [pay2_apply, dg_ld, pay4_apply, pay5_apply]
  refine (congrArg (fun a => gB (dg x0 x1 r ⟨off + k.val, by omega⟩) a) a0).trans ?_
  exact (congrArg (gate x0 x1 x2) ee).symm

/-- What a point leaves. -/
theorem out_eq : out0_3 (F := Ideal) x0 x1 x2 = gate x0 x1 x2 := by
  funext y
  unfold out0_3 k0_pay11 k0_pay12 k0_pay13
  rw [pay6_eq, pay7_eq, pay8_eq, pay9_eq, pay10_eq, View.ld_unit_zero (S := S1024x2048) hz2]
  refine (congrArg (View.canon · y) (List.append_nil _).symm).trans ?_
  refine View.canon_append_of_pieces (gate x0 x1 x2) [] _ ?_ y (cover0_3 _ _ _ _ y)
  refine List.forall_mem_cons.mpr ⟨piece1 x0 x1 x2 256 inb_S512x2048_S256x2048_256_0 inb_S2x1024x512_S1x1024x256_0_0_256 inb_S2x1024x512_S1x1024x256_1_0_256, ?_⟩
  refine List.forall_mem_cons.mpr ⟨piece0 x0 x1 x2 256 inb_S512x2048_S256x2048_256_0 inb_S2x1024x512_S1x1024x256_0_0_256 inb_S2x1024x512_S1x1024x256_1_0_256, ?_⟩
  refine List.forall_mem_cons.mpr ⟨piece1 x0 x1 x2 0 inb_S512x2048_S256x2048_0_0 inb_S2x1024x512_S1x1024x256_0_0_0 inb_S2x1024x512_S1x1024x256_1_0_0, ?_⟩
  refine List.forall_mem_cons.mpr ⟨piece0 x0 x1 x2 0 inb_S512x2048_S256x2048_0_0 inb_S2x1024x512_S1x1024x256_0_0_0 inb_S2x1024x512_S1x1024x256_1_0_0, ?_⟩
  exact List.forall_mem_nil _

end Cert.Gate2Ideal.Hand

end
-- ==== Proof.Gate2Value.lean ====
/- The gradient of the second feed-forward layer's gate: the array the kernel leaves and the reference's, entry by entry. -/
module

public import proofs.«01_k».proof.Proof.Gate2Block
public import proofs.«01_k».proof.Proof.Softmax
public import proofs.«01_k».proof.Proof.Gen.Gate2RefIdeal.Run
public import Idealize.ShloMosaic.Lib.StableHlo.Run
public import Idealize.ShloMosaic.Lib.Pipeline.ValueKit.Geometry

@[expose] public section

set_option maxRecDepth 16384

noncomputable section

namespace Cert.Gate2Ideal.Hand

open Cert.Gate2Ideal Cert.Gate2Ideal.Gen Idealize.ShloMosaic Idealize.ShloMosaic.TcCoe Cert.Product
open Idealize.ShloMosaic.Pipeline (Dat)
open Cert.GateIdeal.Hand (gA gB one_eq c0 c1 gA_real gB_eq sum_real)

variable (m : (ℓ : Loc nD τ sig) → Buf (Elt Ideal) ℓ) (c : Dev nD)

/-- The output's gradient, the weights and the gate's two operands, as the kernel finds them. -/
abbrev aU : S8192x2048.Idx → EReal := V m c main_arg3
abbrev aO : S5632x2048.Idx → EReal := V m c main_arg2
abbrev aP : S2x8192x5632.Idx → EReal := V m c main_v7

theorem idx_u : ∀ t : Fin cfg0.N, win0_0.index t = ![t.val % 8, 0] :=
  (by decide +kernel : ∀ t : Fin grid0.N, _)
theorem idx_o : ∀ t : Fin cfg0.N, win0_1.index t = ![t.val / 8, 0] :=
  (by decide +kernel : ∀ t : Fin grid0.N, _)
theorem idx_p : ∀ t : Fin cfg0.N, win0_2.index t = ![0, t.val % 8, t.val / 8] :=
  (by decide +kernel : ∀ t : Fin grid0.N, _)
theorem idx_r : ∀ t : Fin cfg0.N, win0_3.index t = ![0, t.val % 8, t.val / 8] :=
  (by decide +kernel : ∀ t : Fin grid0.N, _)

theorem tlt (t : Fin cfg0.N) : t.val < 88 := N_0 ▸ t.isLt

/-- A row and a column of a point's block. -/
def rr (t : Fin cfg0.N) (r : Fin 1024) : Fin 8192 := ⟨1024 * (t.val % 8) + r.val, by omega⟩
def kk (t : Fin cfg0.N) (k : Fin 512) : Fin 5632 := ⟨512 * (t.val / 8) + k.val, by have := tlt t; omega⟩

theorem u_rd (X : Buf (Elt Ideal) ((c : Thread nD τ).loc main_arg3)) (t : Fin cfg0.N) (r : Fin 1024) (d : Fin 2048) :
    (((cfg0.win 0).blk t).view.read (Elt Ideal) X : Vec Ideal S1024x2048 .bf16) (ix2 r d) = X (ix2 (rr t r) d) := by
  rw [View.read_apply]
  refine congrArg X ?_
  funext a
  apply Fin.ext
  match a with
  | ⟨0, _⟩ => show win0_0.index t 0 * 1024 + 1 * r.val = 1024 * (t.val % 8) + r.val; rw [idx_u]; show (t.val % 8) * 1024 + 1 * r.val = _; omega
  | ⟨1, _⟩ => show win0_0.index t 1 * 2048 + 1 * d.val = d.val; rw [idx_u]; show 0 * 2048 + 1 * d.val = _; omega

theorem o_rd (X : Buf (Elt Ideal) ((c : Thread nD τ).loc main_arg2)) (t : Fin cfg0.N) (k : Fin 512) (d : Fin 2048) :
    (((cfg0.win 1).blk t).view.read (Elt Ideal) X : Vec Ideal S512x2048 .bf16) (ix2 k d) = X (ix2 (kk t k) d) := by
  rw [View.read_apply]
  refine congrArg X ?_
  funext a
  apply Fin.ext
  match a with
  | ⟨0, _⟩ => show win0_1.index t 0 * 512 + 1 * k.val = 512 * (t.val / 8) + k.val; rw [idx_o]; show (t.val / 8) * 512 + 1 * k.val = _; omega
  | ⟨1, _⟩ => show win0_1.index t 1 * 2048 + 1 * d.val = d.val; rw [idx_o]; show 0 * 2048 + 1 * d.val = _; omega

theorem p_rd (X : Buf (Elt Ideal) ((c : Thread nD τ).loc main_v7)) (t : Fin cfg0.N) (h : Fin 2) (r : Fin 1024) (k : Fin 512) :
    (((cfg0.win 2).blk t).view.read (Elt Ideal) X : Vec Ideal S2x1024x512 .f32) (ix3 h r k) = X (ix3 h (rr t r) (kk t k)) := by
  rw [View.read_apply]
  refine congrArg X ?_
  funext a
  apply Fin.ext
  match a with
  | ⟨0, _⟩ => show win0_2.index t 0 * 2 + 1 * h.val = h.val; rw [idx_p]; show 0 * 2 + 1 * h.val = _; omega
  | ⟨1, _⟩ => show win0_2.index t 1 * 1024 + 1 * r.val = 1024 * (t.val % 8) + r.val; rw [idx_p]; show (t.val % 8) * 1024 + 1 * r.val = _; omega
  | ⟨2, _⟩ => show win0_2.index t 2 * 512 + 1 * k.val = 512 * (t.val / 8) + k.val; rw [idx_p]; show (t.val / 8) * 512 + 1 * k.val = _; omega

theorem emb_r (t : Fin cfg0.N) (y : S2x1024x512.Idx) : ((cfg0.win 3).blk t).view.emb y = ix3 (y 0) (rr t (y 1)) (kk t (y 2)) := by
  funext a
  apply Fin.ext
  match a with
  | ⟨0, _⟩ => show win0_3.index t 0 * 2 + 1 * (y 0).val = (y 0).val; rw [idx_r]; show 0 * 2 + 1 * (y 0).val = _; omega
  | ⟨1, _⟩ => show win0_3.index t 1 * 1024 + 1 * (y 1).val = 1024 * (t.val % 8) + (y 1).val; rw [idx_r]; show (t.val % 8) * 1024 + 1 * (y 1).val = _; omega
  | ⟨2, _⟩ => show win0_3.index t 2 * 512 + 1 * (y 2).val = 512 * (t.val / 8) + (y 2).val; rw [idx_r]; show (t.val / 8) * 512 + 1 * (y 2).val = _; omega

/-- The gradient of the gated product. -/
def gE (U : S8192x2048.Idx → EReal) (O : S5632x2048.Idx → EReal) (x : Fin 8192) (k : Fin 5632) : EReal :=
  ∑ d : Fin 2048, U (ix2 x d) * O (ix2 k d)

/-- The array the kernel leaves. -/
def res : S2x8192x5632.Idx → EReal := fun i =>
  if (i 0).val = 0 then gA (gE (aU m c) (aO m c) (i 1) (i 2)) (aP m c (ix3 0 (i 1) (i 2))) (aP m c (ix3 1 (i 1) (i 2)))
  else gB (gE (aU m c) (aO m c) (i 1) (i 2)) (aP m c (ix3 0 (i 1) (i 2)))

theorem dg_blk (t : Fin cfg0.N) (r : Fin 1024) (k : Fin 512) :
    dg (iblk m c 0 t) (iblk m c 1 t) r k = gE (aU m c) (aO m c) (rr t r) (kk t k) :=
  Finset.sum_congr rfl fun d _ => congrArg₂ (· * ·) (u_rd c (V m c main_arg3) t r d) (o_rd c (V m c main_arg2) t k d)

theorem gate_blk (t : Fin cfg0.N) (y : S2x1024x512.Idx) :
    gate (iblk m c 0 t) (iblk m c 1 t) (iblk m c 2 t) y = res m c (ix3 (y 0) (rr t (y 1)) (kk t (y 2))) := by
  have p0 := p_rd c (V m c main_v7) t 0 (y 1) (y 2)
  have p1 := p_rd c (V m c main_v7) t 1 (y 1) (y 2)
  show (if (y 0).val = 0 then gA (dg (iblk m c 0 t) (iblk m c 1 t) (y 1) (y 2)) _ _ else gB (dg (iblk m c 0 t) (iblk m c 1 t) (y 1) (y 2)) _) = _
  refine (congrArg (fun g => if (y 0).val = 0 then gA g (iblk m c 2 t (ix3 0 (y 1) (y 2))) (iblk m c 2 t (ix3 1 (y 1) (y 2))) else gB g (iblk m c 2 t (ix3 0 (y 1) (y 2))))
    (dg_blk m c t (y 1) (y 2))).trans ?_
  exact congrArg₂ (fun a b => if (y 0).val = 0 then gA (gE (aU m c) (aO m c) (rr t (y 1)) (kk t (y 2))) a b else gB (gE (aU m c) (aO m c) (rr t (y 1)) (kk t (y 2))) a) p0 p1

theorem final : (dats m 0 c).arrAt 3 cfg0.N = res m c := by
  refine (dats m 0 c).arrAt_eq_of_covers 3 _ (by decide +kernel) fun t hf y => ?_
  rw [after0_3, out_eq]
  refine Eq.trans ?_ ((congrArg (res m c) (emb_r t y)).trans (gate_blk m c t y).symm).symm
  refine congrArg (gate (iblk m c 0 t) (iblk m c 1 t) (iblk m c 2 t)) ?_
  funext a
  match a with
  | ⟨0, _⟩ => rfl
  | ⟨1, _⟩ => rfl
  | ⟨2, _⟩ => rfl

/-- The layer's two halves, side by side. -/
def hP (H : FVec Ideal S8192x2048 .bf16) (W : FVec Ideal S2048x11264 .bf16) : FVec Ideal S8192x11264 .f32 :=
  Host.dotGeneral dot_S8192x2048_S2048x11264_S8192x11264_1_0_0_1_n_n none (extf .f32 H bitsLt_bf16_f32) (extf .f32 W bitsLt_bf16_f32)

theorem hP_apply (H : FVec Ideal S8192x2048 .bf16) (W : FVec Ideal S2048x11264 .bf16) (x : Fin 8192) (k : Fin 11264) :
    hP H W (ix2 x k) = ∑ d : Fin 2048, H (ix2 x d) * W (ix2 d k) := by
  pointwise [hP]

/-- The two halves, one above the other. -/
def hStack (P : FVec Ideal S8192x11264 .f32) : FVec Ideal S2x8192x5632 .f32 :=
  concatenate S2x8192x5632 0 [⟨S1x8192x5632, broadcastInDim S1x8192x5632 ![1, 2] bcast_S8192x5632_S1x8192x5632_1_2 (extractStridedSlice S8192x5632 ![0, 0] P slices_S8192x11264_S8192x5632_0_0)⟩,
    ⟨S1x8192x5632, broadcastInDim S1x8192x5632 ![1, 2] bcast_S8192x5632_S1x8192x5632_1_2 (extractStridedSlice S8192x5632 ![0, 5632] P slices_S8192x11264_S8192x5632_0_5632)⟩] concatenates_S1x8192x5632_S1x8192x5632_S2x8192x5632_d0

theorem hStack_0 (P : FVec Ideal S8192x11264 .f32) (x : Fin 8192) (k : Fin 5632) : hStack P (ix3 0 x k) = P (ix2 x (c0 k)) := by
  pointwise [hStack]
  rfl
theorem hStack_1 (P : FVec Ideal S8192x11264 .f32) (x : Fin 8192) (k : Fin 5632) : hStack P (ix3 1 x k) = P (ix2 x (c1 k)) := by
  pointwise [hStack]
  rfl

open StableHlo in
theorem V_p : V m c main_v7 = hStack (hP (m ((c : Thread nD τ).loc main_arg0)) (m ((c : Thread nD τ).loc main_arg1))) := by
  unfold V hostOps0
  after_results_simp <;> rfl

/-- The gradient of the gated product, as the reference forms it. -/
abbrev refG (O : FVec Ideal S5632x2048 .bf16) (U : FVec Ideal S8192x2048 .bf16) : FVec Ideal S8192x5632 .f32 :=
  Host.dotGeneral Cert.Gate2RefIdeal.dot_S8192x2048_S5632x2048_S8192x5632_1_1_0_0_n_n none (extf .f32 U Cert.Gate2RefIdeal.Gen.bitsLt_bf16_f32)
    (extf .f32 O Cert.Gate2RefIdeal.Gen.bitsLt_bf16_f32)

/-- The layer's two halves side by side, and each of them, as the reference forms them. -/
abbrev refP (H : FVec Ideal S8192x2048 .bf16) (W : FVec Ideal S2048x11264 .bf16) : FVec Ideal S8192x11264 .f32 :=
  Host.dotGeneral Cert.Gate2RefIdeal.dot_S8192x2048_S2048x11264_S8192x11264_1_0_0_1_n_n none (extf .f32 H Cert.Gate2RefIdeal.Gen.bitsLt_bf16_f32)
    (extf .f32 W Cert.Gate2RefIdeal.Gen.bitsLt_bf16_f32)
abbrev refA (P : FVec Ideal S8192x11264 .f32) : FVec Ideal S8192x5632 .f32 :=
  extractStridedSlice Cert.Gate2RefIdeal.S8192x5632 ![0, 0] P Cert.Gate2RefIdeal.Gen.slices_S8192x11264_S8192x5632_0_0
abbrev refB (P : FVec Ideal S8192x11264 .f32) : FVec Ideal S8192x5632 .f32 :=
  extractStridedSlice Cert.Gate2RefIdeal.S8192x5632 ![0, 5632] P Cert.Gate2RefIdeal.Gen.slices_S8192x11264_S8192x5632_0_5632

/-- Ones, and the logistic function written out. -/
abbrev refOne : FVec Ideal S8192x5632 .f32 :=
  broadcastInDim Cert.Gate2RefIdeal.S8192x5632 ![] Cert.Gate2RefIdeal.Gen.bcast_S_S8192x5632 (constant Cert.Gate2RefIdeal.S_ .f32 0x3F800000#32)
abbrev refS (A : FVec Ideal S8192x5632 .f32) : FVec Ideal S8192x5632 .f32 :=
  Host.divf refOne (addf refOne (Host.exp (Host.negf A)))

/-- The gradients of the two halves. -/
abbrev refGA (G A B : FVec Ideal S8192x5632 .f32) : FVec Ideal S8192x5632 .f32 :=
  addf (mulf (mulf G B) (refS A)) (mulf (mulf A (mulf G B)) (mulf (refS A) (subf refOne (refS A))))
abbrev refGB (G A : FVec Ideal S8192x5632 .f32) : FVec Ideal S8192x5632 .f32 := mulf (mulf A (refS A)) G

/-- The two gradients, one above the other, in the arguments' type. -/
abbrev refStack (X Y : FVec Ideal S8192x5632 .f32) : FVec Ideal S2x8192x5632 .bf16 :=
  truncf .bf16 (concatenate Cert.Gate2RefIdeal.S2x8192x5632 0
    [⟨Cert.Gate2RefIdeal.S1x8192x5632, (broadcastInDim Cert.Gate2RefIdeal.S1x8192x5632 ![1, 2] Cert.Gate2RefIdeal.Gen.bcast_S8192x5632_S1x8192x5632_1_2 X)⟩,
      ⟨Cert.Gate2RefIdeal.S1x8192x5632, (broadcastInDim Cert.Gate2RefIdeal.S1x8192x5632 ![1, 2] Cert.Gate2RefIdeal.Gen.bcast_S8192x5632_S1x8192x5632_1_2 Y)⟩]
    Cert.Gate2RefIdeal.Gen.concatenates_S1x8192x5632_S1x8192x5632_S2x8192x5632_d0) Cert.Gate2RefIdeal.Gen.bitsLt_bf16_f32

abbrev refGate (H : FVec Ideal S8192x2048 .bf16) (W : FVec Ideal S2048x11264 .bf16) (O : FVec Ideal S5632x2048 .bf16) (U : FVec Ideal S8192x2048 .bf16) :
    FVec Ideal S2x8192x5632 .bf16 :=
  refStack (refGA (refG O U) (refA (refP H W)) (refB (refP H W))) (refGB (refG O U) (refA (refP H W)))

theorem refG_apply (O : FVec Ideal S5632x2048 .bf16) (U : FVec Ideal S8192x2048 .bf16) (x : Fin 8192) (k : Fin 5632) :
    refG O U (ix2 x k) = gE U O x k := by
  pointwise [refG]
  rfl
theorem refP_apply (H : FVec Ideal S8192x2048 .bf16) (W : FVec Ideal S2048x11264 .bf16) (x : Fin 8192) (k : Fin 11264) :
    refP H W (ix2 x k) = ∑ d : Fin 2048, H (ix2 x d) * W (ix2 d k) := by
  pointwise [refP]
theorem refA_apply (P : FVec Ideal S8192x11264 .f32) (x : Fin 8192) (k : Fin 5632) : refA P (ix2 x k) = P (ix2 x (c0 k)) := by
  pointwise [refA]
  rfl
theorem refB_apply (P : FVec Ideal S8192x11264 .f32) (x : Fin 8192) (k : Fin 5632) : refB P (ix2 x k) = P (ix2 x (c1 k)) := by
  pointwise [refB]
  rfl
theorem refOne_apply (i : S8192x5632.Idx) : refOne i = 1 := one_eq
theorem refS_apply (A : FVec Ideal S8192x5632 .f32) (i : S8192x5632.Idx) : refS A i = Ideal.logistic (A i) := by
  show Ideal.div (refOne i) (refOne i + Ideal.exp (-(A i))) = _
  rw [refOne_apply]
  rfl
theorem refGA_apply (G A B : FVec Ideal S8192x5632 .f32) (i : S8192x5632.Idx) :
    refGA G A B i = G i * B i * Ideal.logistic (A i) + A i * (G i * B i) * (Ideal.logistic (A i) * (1 - Ideal.logistic (A i))) := by
  show G i * B i * refS A i + A i * (G i * B i) * (refS A i * (refOne i - refS A i)) = _
  rw [refS_apply, refOne_apply]
theorem refGB_apply (G A : FVec Ideal S8192x5632 .f32) (i : S8192x5632.Idx) :
    refGB G A i = A i * Ideal.logistic (A i) * G i := by
  show A i * refS A i * G i = _
  rw [refS_apply]
theorem refStack_0 (X Y : FVec Ideal S8192x5632 .f32) (x : Fin 8192) (k : Fin 5632) : refStack X Y (ix3 0 x k) = X (ix2 x k) := by
  pointwise [refStack]
theorem refStack_1 (X Y : FVec Ideal S8192x5632 .f32) (x : Fin 8192) (k : Fin 5632) : refStack X Y (ix3 1 x k) = Y (ix2 x k) := by
  pointwise [refStack]

section Values
variable (H : FVec Ideal S8192x2048 .bf16) (W : FVec Ideal S2048x11264 .bf16) (O : FVec Ideal S5632x2048 .bf16) (U : FVec Ideal S8192x2048 .bf16)
  (fH : ∀ i, ∃ r : ℝ, H i = (r : EReal)) (fW : ∀ i, ∃ r : ℝ, W i = (r : EReal)) (fO : ∀ i, ∃ r : ℝ, O i = (r : EReal)) (fU : ∀ i, ∃ r : ℝ, U i = (r : EReal))
  (e0 : H = m ((c : Thread nD τ).loc main_arg0)) (e1 : W = m ((c : Thread nD τ).loc main_arg1)) (e2 : O = aO m c) (e3 : U = aU m c)
include fH fW fO fU e0 e1 e2 e3

theorem aP_eq : aP m c = hStack (hP H W) := by rw [e0, e1]; exact V_p m c

theorem values_at (h : Fin 2) (x : Fin 8192) (k : Fin 5632) : refGate H W O U (ix3 h x k) = res m c (ix3 h x k) := by
  have q := aP_eq m c H W O U fH fW fO fU e0 e1 e2 e3
  obtain ⟨g, eg⟩ := sum_real (fun d : Fin 2048 => U (ix2 x d)) (fun d => O (ix2 k d)) (fun _ => fU _) (fun _ => fO _)
  obtain ⟨a, ea⟩ := sum_real (fun d : Fin 2048 => H (ix2 x d)) (fun d => W (ix2 d (c0 k))) (fun _ => fH _) (fun _ => fW _)
  obtain ⟨b, eb⟩ := sum_real (fun d : Fin 2048 => H (ix2 x d)) (fun d => W (ix2 d (c1 k))) (fun _ => fH _) (fun _ => fW _)
  have rg : gE (aU m c) (aO m c) x k = g := by rw [← e2, ← e3]; exact eg
  have ra : aP m c (ix3 0 x k) = a := by rw [q, hStack_0, hP_apply]; exact ea
  have rb : aP m c (ix3 1 x k) = b := by rw [q, hStack_1, hP_apply]; exact eb
  have sg : refG O U (ix2 x k) = g := (refG_apply O U x k).trans eg
  have sa : refA (refP H W) (ix2 x k) = a := by rw [refA_apply, refP_apply]; exact ea
  have sb : refB (refP H W) (ix2 x k) = b := by rw [refB_apply, refP_apply]; exact eb
  match h with
  | ⟨0, _⟩ =>
    refine (refStack_0 _ _ x k).trans ?_
    rw [refGA_apply, sg, sa, sb, gA_real]
    show _ = gA (gE (aU m c) (aO m c) x k) (aP m c (ix3 0 x k)) (aP m c (ix3 1 x k))
    rw [rg, ra, rb]
  | ⟨1, _⟩ =>
    refine (refStack_1 _ _ x k).trans ?_
    rw [refGB_apply, sg, sa, gB_eq]
    show _ = gB (gE (aU m c) (aO m c) x k) (aP m c (ix3 0 x k))
    rw [rg, ra]

/-- The reference's array is the one the kernel leaves. -/
theorem values : refGate H W O U = (dats m 0 c).arrAt 3 cfg0.N := by
  rw [final]
  funext i
  have := values_at m c H W O U fH fW fO fU e0 e1 e2 e3 (i 0) (i 1) (i 2)
  rwa [ix3_eta] at this

end Values

end Cert.Gate2Ideal.Hand

end
-- ==== Proof.Dh2Value.lean ====
/- The gradient of the second feed-forward layer's input: the array the kernel leaves and the reference's, entry by entry. -/
module

public import proofs.«01_k».proof.Proof.Gen.Dh2Ideal.Value
public import proofs.«01_k».proof.Proof.Gen.Dh2RefIdeal.Run
public import proofs.«01_k».proof.Proof.Blocks
public import Idealize.ShloMosaic.Lib.Pipeline.CanonAppend
public import Idealize.ShloMosaic.Lib.Pipeline.ReadBack

@[expose] public section

set_option maxRecDepth 16384

noncomputable section

namespace Cert.Dh2Ideal.Hand

open Cert.Dh2Ideal Cert.Dh2Ideal.Gen Idealize.ShloMosaic Idealize.ShloMosaic.TcCoe Cert.Product

theorem hz2 : (![0, 0] : Fin 2 → Nat) = fun _ => 0 := by decide
theorem hz3 : (![0, 0, 0] : Fin 3 → Nat) = fun _ => 0 := by decide

section Runs
variable {F : FTy → Type} [FloatOps F]
variable (c : Dev nD) (i : grid0.Coords) (arg3 : Memref sig .tc .vmem S1x1024x2816 .bf16) (harg3 : arg3.IsWhole)
  (arg4 : Memref sig .tc .vmem S1024x2816 .bf16) (harg4 : arg4.IsWhole) (arg5 : Memref sig .tc .vmem S1024x1024 .f32)
  (harg5 : arg5.IsWhole) (arg6 : Memref sig .tc .vmem S1024x1024 .f32) (harg6 : arg6.IsWhole)
  (x0 : Vec F S1x1024x2816 .bf16) (x1 : Vec F S1024x2816 .bf16) (acc : Vec F S1024x1024 .f32)

/-- A run's first point stores its product in the scratch. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread]
  rw [View.canon_unit_zero (S := S1024x1024) hz2]
  simp only [View.ld_unit_zero (S := S1x1024x2816) hz3, View.ld_unit_zero (S := S1024x2816) hz2]

/-- The points between add theirs. -/
theorem sout_B (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  simp only [View.readAt_eq_ld, harg3.read_unread, harg4.read_unread, harg6.read_unread]
  rw [View.canon_unit_zero (S := S1024x1024) hz2]
  simp only [View.ld_unit_zero (S := S1x1024x2816) hz3, View.ld_unit_zero (S := S1024x2816) hz2, View.ld_unit_zero (S := S1024x1024) hz2]

/-- The last writes the sum out. -/
theorem out_C (hc0 : ¬cond0_0 i) (hc1 : ¬cond0_1 i) (hc2 : cond0_2 i) :
    out0_C_2 c i arg3 harg3 arg4 harg4 arg5 harg5 arg6 harg6 hc0 hc1 hc2 x0 x1 acc = k0_pay4 x0 x1 acc := by
  unfold out0_C_2
  rw [View.read_writes_eq_canon _ _ _ (cover0_C_2 c i arg3 harg3 arg4 harg4 arg5 harg5 arg6 harg6 hc0 hc1 hc2 x0 x1 acc)]
  unfold kernelRun0_C
  dsimp only
  sl_unfold_words
  simp only [View.readAt_eq_ld, harg3.read_unread, harg4.read_unread, harg6.read_unread]
  rw [View.canon_unit_zero (S := S1024x1024) hz2]
  simp only [View.ld_unit_zero (S := S1x1024x2816) hz3, View.ld_unit_zero (S := S1024x2816) hz2, View.ld_unit_zero (S := S1024x1024) hz2]

end Runs

section Blocks
variable (x0 : Vec Ideal S1x1024x2816 .bf16) (x1 : Vec Ideal S1024x2816 .bf16) (acc : Vec Ideal S1024x1024 .f32) (r : Fin 1024) (s : Fin 1024)

theorem pay1_apply : k0_pay1 (F := Ideal) x0 x1 (ix2 r s) = ∑ k : Fin 2816, x0 (ix3 0 r k) * x1 (ix2 s k) := by
  pointwise [k0_pay1]

theorem pay2_apply : k0_pay2 (F := Ideal) x0 x1 (ix2 r s) = k0_pay1 (F := Ideal) x0 x1 (ix2 r s) := by
  pointwise [k0_pay2]

theorem pay3_apply : k0_pay3 (F := Ideal) x0 x1 acc (ix2 r s) = acc (ix2 r s) + k0_pay1 (F := Ideal) x0 x1 (ix2 r s) := by
  pointwise [k0_pay3]

theorem pay4_apply : k0_pay4 (F := Ideal) x0 x1 acc (ix2 r s) = acc (ix2 r s) + k0_pay1 (F := Ideal) x0 x1 (ix2 r s) := by
  pointwise [k0_pay4]

end Blocks

variable (m : (ℓ : Loc nD τ sig) → Buf (Elt Ideal) ℓ) (c : Dev nD)

/-- The two halves' gradients and the weights, as the kernel finds them. -/
abbrev aD : S2x8192x5632.Idx → EReal := V m c main_arg0
abbrev aW : S2048x11264.Idx → EReal := V m c main_arg1

theorem idx_d : ∀ t : Fin cfg0.N, win0_0.index t = ![t.val % 4 / 2, t.val / 8, t.val % 2] :=
  (by decide +kernel : ∀ t : Fin grid0.N, _)

theorem d_rd (X : Buf (Elt Ideal) ((c : Thread nD τ).loc main_arg0)) (t : Fin cfg0.N) (r : Fin 1024) (k : Fin 2816) :
    (((cfg0.win 0).blk t).view.read (Elt Ideal) X : Vec Ideal S1x1024x2816 .bf16) (ix3 0 r k)
      = both (n := 8192) X (1024 * (t.val / 8) + r.val) (2816 * (t.val % 4) + k.val) := by
  have hb := k.isLt
  rw [View.read_apply]
  refine eq_at3 (n0 := 2) (n1 := 8192) (n2 := 5632) X _ _ _ _ ?_ ?_ ?_
  · show win0_0.index t 0 * 1 + 1 * 0 = _; rw [idx_d]; show (t.val % 4 / 2) * 1 + 1 * 0 = _; omega
  · show win0_0.index t 1 * 1024 + 1 * r.val = _; rw [idx_d]; show (t.val / 8) * 1024 + 1 * r.val = _; omega
  · show win0_0.index t 2 * 2816 + 1 * k.val = _; rw [idx_d]; show (t.val % 2) * 2816 + 1 * k.val = _; omega

theorem idx_w : ∀ t : Fin cfg0.N, win0_1.index t = ![t.val / 4 % 2, t.val % 4] :=
  (by decide +kernel : ∀ t : Fin grid0.N, _)

theorem w_rd (X : Buf (Elt Ideal) ((c : Thread nD τ).loc main_arg1)) (t : Fin cfg0.N) (s : Fin 1024) (k : Fin 2816) :
    (((cfg0.win 1).blk t).view.read (Elt Ideal) X : Vec Ideal S1024x2816 .bf16) (ix2 s k)
      = at2 (n0 := 2048) (n1 := 11264) X (1024 * (t.val / 4 % 2) + s.val) (2816 * (t.val % 4) + k.val) := by
  rw [View.read_apply]
  refine eq_at2 (n0 := 2048) (n1 := 11264) X _ _ _ ?_ ?_
  · show win0_1.index t 0 * 1024 + 1 * s.val = _; rw [idx_w]; show (t.val / 4 % 2) * 1024 + 1 * s.val = _; omega
  · show win0_1.index t 1 * 2816 + 1 * k.val = _; rw [idx_w]; show (t.val % 4) * 2816 + 1 * k.val = _; omega

/-- An entry of a point's product. -/
theorem pay_blk (t : Fin cfg0.N) (r : Fin 1024) (s : Fin 1024) :
    k0_pay1 (F := Ideal) (iblk m c 0 t) (iblk m c 1 t) (ix2 r s)
      = ∑ k : Fin 2816, both (aD m c) (1024 * (t.val / 8) + r.val) (2816 * (t.val % 4) + k.val) * at2 (aW m c) (1024 * (t.val / 4 % 2) + s.val) (2816 * (t.val % 4) + k.val) :=
  (pay1_apply _ _ r s).trans (Finset.sum_congr rfl fun k _ =>
    congrArg₂ (· * ·) (d_rd c (V m c main_arg0) t r k) (w_rd c (V m c main_arg1) t s k))

/-- What a point leaves, over what the point before left in the scratch. -/
theorem scr_A (t : Fin cfg0.N) (h0 : t.val % 4 = 0) :
    (outsAt0 m c t.val t.isLt).2 = k0_pay2 (iblk m c 0 t) (iblk m c 1 t) := by
  rw [outsAt0_A m c t h0 (by omega) (by omega)]
  dsimp only
  rw [sout_A]

theorem scr_B (t : Fin cfg0.N) (h1 : 1 ≤ t.val % 4 ∧ t.val % 4 ≤ 2) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h1 (by omega)]
  dsimp only
  rw [sout_B]

theorem res_C (t : Fin cfg0.N) (h2 : t.val % 4 = 3) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h2]
  dsimp only
  rw [out_C]

/-- An entry of the kernel's result. -/
theorem G_apply (x : Fin 8192) (y : Fin 2048) :
    (Value.G2 m c : S8192x2048.Idx → EReal) (ix2 x y) = ∑ k : Fin 11264, both (aD m c) x.val k.val * at2 (aW m c) y.val k.val := by
  have hx := x.isLt
  have hy := y.isLt
  have hp : Value.pt2Of (ix2 x y) = 4 * (2 * (x.val / 1024) + y.val / 1024) + (4 - 1) := by
    show 4 * (2 * (x.val / 1024 - 0) + 1 * (y.val / 1024 - 0)) + 3 = _
    omega
  have hlt : Value.pt2Of (ix2 x y) < cfg0.N := by
    rw [hp]; exact lt_of_lt_of_eq (by omega : _ < 64) N_0.symm
  have hl : Value.loc2Of (ix2 x y) = ix2 (⟨x.val % 1024, Nat.mod_lt _ (by norm_num)⟩ : Fin 1024) (⟨y.val % 1024, Nat.mod_lt _ (by norm_num)⟩ : Fin 1024) := by
    funext a; apply Fin.ext
    match a with
    | ⟨0, _⟩ => rfl
    | ⟨1, _⟩ => rfl
  have e : (Value.G2 m c : S8192x2048.Idx → EReal) (ix2 x y)
      = ((outsAt0 m c (Value.pt2Of (ix2 x y)) hlt).1 : Vec Ideal S1024x1024 .f32) (Value.loc2Of (ix2 x y)) := by
    rw [Value.outsAt0_sweep]
    exact dif_pos hlt
  rw [e, hl]
  refine run_sum 4 2816 cfg0.N (by norm_num) (fun t h => ((outsAt0 m c t h).2 : Vec Ideal S1024x1024 .f32) (ix2 _ _))
    (fun t h => ((outsAt0 m c t h).1 : Vec Ideal S1024x1024 .f32) (ix2 _ _))
    (fun t h => k0_pay1 (F := Ideal) (iblk m c 0 ⟨t, h⟩) (iblk m c 1 ⟨t, h⟩) (ix2 _ _))
    (fun t h h0 => (congrFun (scr_A m c ⟨t, h⟩ h0) _).trans (pay2_apply _ _ _ _))
    (fun t h h1 h2 => (congrFun (scr_B m c ⟨t, h⟩ (by dsimp only; omega)) _).trans (pay3_apply _ _ _ _ _))
    (fun t h h2 => (congrFun (res_C m c ⟨t, h⟩ (by dsimp only; omega)) _).trans (pay4_apply _ _ _ _ _))
    (fun k => both (aD m c) x.val k * at2 (aW m c) y.val k) (2 * (x.val / 1024) + y.val / 1024) _ hlt hp fun j h hj => ?_
  refine (pay_blk m c ⟨_, h⟩ _ _).trans (Finset.sum_congr rfl fun k _ => ?_)
  dsimp only
  have ex : 1024 * ((4 * (2 * (x.val / 1024) + y.val / 1024) + j) / 8) + x.val % 1024 = x.val := by omega
  have ey : 1024 * ((4 * (2 * (x.val / 1024) + y.val / 1024) + j) / 4 % 2) + y.val % 1024 = y.val := by omega
  have ek : (4 * (2 * (x.val / 1024) + y.val / 1024) + j) % 4 = j := by omega
  rw [ex, ey, ek]

section Reference
open Cert.Dh2RefIdeal Cert.Dh2RefIdeal.Gen

variable (D : FVec Ideal Cert.Dh2RefIdeal.S2x8192x5632 .bf16) (W : FVec Ideal Cert.Dh2RefIdeal.S2048x11264 .bf16)

/-- The reference's two halves, joined. -/
abbrev refBoth : FVec Ideal Cert.Dh2RefIdeal.S8192x11264 .f32 :=
  concatenate Cert.Dh2RefIdeal.S8192x11264 1 [⟨Cert.Dh2RefIdeal.S8192x5632, (shapeCast Cert.Dh2RefIdeal.S8192x5632 (extractStridedSlice Cert.Dh2RefIdeal.S1x8192x5632 ![0, 0, 0] (extf .f32 D Cert.Dh2RefIdeal.Gen.bitsLt_bf16_f32) slices_S2x8192x5632_S1x8192x5632_0_0_0) shapeCasts_S1x8192x5632_S8192x5632)⟩, ⟨Cert.Dh2RefIdeal.S8192x5632, (shapeCast Cert.Dh2RefIdeal.S8192x5632 (extractStridedSlice Cert.Dh2RefIdeal.S1x8192x5632 ![1, 0, 0] (extf .f32 D Cert.Dh2RefIdeal.Gen.bitsLt_bf16_f32) slices_S2x8192x5632_S1x8192x5632_1_0_0) shapeCasts_S1x8192x5632_S8192x5632)⟩] concatenates_S8192x5632_S8192x5632_S8192x11264_d1

/-- The reference's result. -/
abbrev refDh : FVec Ideal Cert.Dh2RefIdeal.S8192x2048 .f32 :=
  Host.dotGeneral dot_S8192x11264_S2048x11264_S8192x2048_1_1_0_0_n_n none (refBoth D) (extf .f32 W Cert.Dh2RefIdeal.Gen.bitsLt_bf16_f32)

theorem ref_both (x : Fin 8192) (k : Fin 11264) : refBoth D (ix2 x k) = both D x.val k.val := by
  refine Eq.trans ?_ (both_eq D x k)
  pointwise

theorem ref_apply (x : Fin 8192) (y : Fin 2048) :
    refDh D W (ix2 x y) = ∑ k : Fin 11264, both D x.val k.val * at2 W y.val k.val := by
  have e : ∀ B : FVec Ideal Cert.Dh2RefIdeal.S8192x11264 .f32,
      (Host.dotGeneral dot_S8192x11264_S2048x11264_S8192x2048_1_1_0_0_n_n none B (extf .f32 W Cert.Dh2RefIdeal.Gen.bitsLt_bf16_f32) : FVec Ideal Cert.Dh2RefIdeal.S8192x2048 .f32) (ix2 x y)
        = ∑ k : Fin 11264, B (ix2 x k) * W (ix2 y k) := fun B => by pointwise
  refine (e _).trans (Finset.sum_congr rfl fun k _ => ?_)
  rw [ref_both, at2_fin]

/-- The reference's array is the kernel's. -/
theorem values (e0 : D = aD m c) (e1 : W = aW m c) : (refDh D W : S8192x2048.Idx → EReal) = Value.G2 m c := by
  subst e0; subst e1
  funext i
  rw [← ix2_eta i]
  exact (ref_apply _ _ _ _).trans (G_apply m c _ _).symm

end Reference

end Cert.Dh2Ideal.Hand

end
-- ==== Proof.Gwi2Value.lean ====
/- The gradient of the second feed-forward layer's first weights: the array the kernel leaves and the reference's, entry by entry. -/
module

public import proofs.«01_k».proof.Proof.Gen.Gwi2Ideal.Value
public import proofs.«01_k».proof.Proof.Gen.Gwi2RefIdeal.Run
public import proofs.«01_k».proof.Proof.Blocks
public import Idealize.ShloMosaic.Lib.Pipeline.CanonAppend
public import Idealize.ShloMosaic.Lib.Pipeline.ReadBack

@[expose] public section

set_option maxRecDepth 16384

noncomputable section

namespace Cert.Gwi2Ideal.Hand

open Cert.Gwi2Ideal Cert.Gwi2Ideal.Gen Idealize.ShloMosaic Idealize.ShloMosaic.TcCoe Cert.Product

theorem hz2 : (![0, 0] : Fin 2 → Nat) = fun _ => 0 := by decide
theorem hz3 : (![0, 0, 0] : Fin 3 → Nat) = fun _ => 0 := by decide

section Runs
variable {F : FTy → Type} [FloatOps F]
variable (c : Dev nD) (i : grid0.Coords) (arg3 : Memref sig .tc .vmem S2048x1024 .bf16) (harg3 : arg3.IsWhole)
  (arg4 : Memref sig .tc .vmem S1x2048x1408 .bf16) (harg4 : arg4.IsWhole) (arg5 : Memref sig .tc .vmem S1024x1408 .bf16)
  (harg5 : arg5.IsWhole) (arg6 : Memref sig .tc .vmem S1024x1408 .f32) (harg6 : arg6.IsWhole)
  (x0 : Vec F S2048x1024 .bf16) (x1 : Vec F S1x2048x1408 .bf16) (acc : Vec F S1024x1408 .f32)

/-- A run's first point stores its product in the scratch. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread]
  rw [View.canon_unit_zero (S := S1024x1408) hz2]
  simp only [View.ld_unit_zero (S := S2048x1024) hz2, View.ld_unit_zero (S := S1x2048x1408) hz3]

/-- The points between add theirs. -/
theorem sout_B (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  simp only [View.readAt_eq_ld, harg3.read_unread, harg4.read_unread, harg6.read_unread]
  rw [View.canon_unit_zero (S := S1024x1408) hz2]
  simp only [View.ld_unit_zero (S := S2048x1024) hz2, View.ld_unit_zero (S := S1x2048x1408) hz3, View.ld_unit_zero (S := S1024x1408) hz2]

/-- The last writes the sum out. -/
theorem out_C (hc0 : ¬cond0_0 i) (hc1 : ¬cond0_1 i) (hc2 : cond0_2 i) :
    out0_C_2 c i arg3 harg3 arg4 harg4 arg5 harg5 arg6 harg6 hc0 hc1 hc2 x0 x1 acc = k0_pay4 x0 x1 acc := by
  unfold out0_C_2
  rw [View.read_writes_eq_canon _ _ _ (cover0_C_2 c i arg3 harg3 arg4 harg4 arg5 harg5 arg6 harg6 hc0 hc1 hc2 x0 x1 acc)]
  unfold kernelRun0_C
  dsimp only
  sl_unfold_words
  simp only [View.readAt_eq_ld, harg3.read_unread, harg4.read_unread, harg6.read_unread]
  rw [View.canon_unit_zero (S := S1024x1408) hz2]
  simp only [View.ld_unit_zero (S := S2048x1024) hz2, View.ld_unit_zero (S := S1x2048x1408) hz3, View.ld_unit_zero (S := S1024x1408) hz2]

end Runs

section Blocks
variable (x0 : Vec Ideal S2048x1024 .bf16) (x1 : Vec Ideal S1x2048x1408 .bf16) (acc : Vec Ideal S1024x1408 .f32) (r : Fin 1024) (s : Fin 1408)

theorem pay1_apply : k0_pay1 (F := Ideal) x0 x1 (ix2 r s) = ∑ k : Fin 2048, x0 (ix2 k r) * x1 (ix3 0 k s) := by
  pointwise [k0_pay1]

theorem pay2_apply : k0_pay2 (F := Ideal) x0 x1 (ix2 r s) = k0_pay1 (F := Ideal) x0 x1 (ix2 r s) := by
  pointwise [k0_pay2]

theorem pay3_apply : k0_pay3 (F := Ideal) x0 x1 acc (ix2 r s) = acc (ix2 r s) + k0_pay1 (F := Ideal) x0 x1 (ix2 r s) := by
  pointwise [k0_pay3]

theorem pay4_apply : k0_pay4 (F := Ideal) x0 x1 acc (ix2 r s) = acc (ix2 r s) + k0_pay1 (F := Ideal) x0 x1 (ix2 r s) := by
  pointwise [k0_pay4]

end Blocks

variable (m : (ℓ : Loc nD τ sig) → Buf (Elt Ideal) ℓ) (c : Dev nD)

/-- The layer's input and the two halves' gradients, as the kernel finds them. -/
abbrev aH : S8192x2048.Idx → EReal := V m c main_arg0
abbrev aD : S2x8192x5632.Idx → EReal := V m c main_arg1

theorem idx_h : ∀ t : Fin cfg0.N, win0_0.index t = ![t.val % 4, t.val / 32] :=
  (by decide +kernel : ∀ t : Fin grid0.N, _)

theorem h_rd (X : Buf (Elt Ideal) ((c : Thread nD τ).loc main_arg0)) (t : Fin cfg0.N) (k : Fin 2048) (r : Fin 1024) :
    (((cfg0.win 0).blk t).view.read (Elt Ideal) X : Vec Ideal S2048x1024 .bf16) (ix2 k r)
      = at2 (n0 := 8192) (n1 := 2048) X (2048 * (t.val % 4) + k.val) (1024 * (t.val / 32) + r.val) := by
  rw [View.read_apply]
  refine eq_at2 (n0 := 8192) (n1 := 2048) X _ _ _ ?_ ?_
  · show win0_0.index t 0 * 2048 + 1 * k.val = _; rw [idx_h]; show (t.val % 4) * 2048 + 1 * k.val = _; omega
  · show win0_0.index t 1 * 1024 + 1 * r.val = _; rw [idx_h]; show (t.val / 32) * 1024 + 1 * r.val = _; omega

theorem idx_d : ∀ t : Fin cfg0.N, win0_1.index t = ![t.val / 4 % 8 / 4, t.val % 4, t.val / 4 % 8 % 4] :=
  (by decide +kernel : ∀ t : Fin grid0.N, _)

theorem d_rd (X : Buf (Elt Ideal) ((c : Thread nD τ).loc main_arg1)) (t : Fin cfg0.N) (k : Fin 2048) (s : Fin 1408) :
    (((cfg0.win 1).blk t).view.read (Elt Ideal) X : Vec Ideal S1x2048x1408 .bf16) (ix3 0 k s)
      = both (n := 8192) X (2048 * (t.val % 4) + k.val) (1408 * (t.val / 4 % 8) + s.val) := by
  have hb := s.isLt
  rw [View.read_apply]
  refine eq_at3 (n0 := 2) (n1 := 8192) (n2 := 5632) X _ _ _ _ ?_ ?_ ?_
  · show win0_1.index t 0 * 1 + 1 * 0 = _; rw [idx_d]; show (t.val / 4 % 8 / 4) * 1 + 1 * 0 = _; omega
  · show win0_1.index t 1 * 2048 + 1 * k.val = _; rw [idx_d]; show (t.val % 4) * 2048 + 1 * k.val = _; omega
  · show win0_1.index t 2 * 1408 + 1 * s.val = _; rw [idx_d]; show (t.val / 4 % 8 % 4) * 1408 + 1 * s.val = _; omega

/-- An entry of a point's product. -/
theorem pay_blk (t : Fin cfg0.N) (r : Fin 1024) (s : Fin 1408) :
    k0_pay1 (F := Ideal) (iblk m c 0 t) (iblk m c 1 t) (ix2 r s)
      = ∑ k : Fin 2048, at2 (aH m c) (2048 * (t.val % 4) + k.val) (1024 * (t.val / 32) + r.val) * both (aD m c) (2048 * (t.val % 4) + k.val) (1408 * (t.val / 4 % 8) + s.val) :=
  (pay1_apply _ _ r s).trans (Finset.sum_congr rfl fun k _ =>
    congrArg₂ (· * ·) (h_rd c (V m c main_arg0) t k r) (d_rd c (V m c main_arg1) t k s))

/-- What a point leaves, over what the point before left in the scratch. -/
theorem scr_A (t : Fin cfg0.N) (h0 : t.val % 4 = 0) :
    (outsAt0 m c t.val t.isLt).2 = k0_pay2 (iblk m c 0 t) (iblk m c 1 t) := by
  rw [outsAt0_A m c t h0 (by omega) (by omega)]
  dsimp only
  rw [sout_A]

theorem scr_B (t : Fin cfg0.N) (h1 : 1 ≤ t.val % 4 ∧ t.val % 4 ≤ 2) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h1 (by omega)]
  dsimp only
  rw [sout_B]

theorem res_C (t : Fin cfg0.N) (h2 : t.val % 4 = 3) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h2]
  dsimp only
  rw [out_C]

/-- An entry of the kernel's result. -/
theorem G_apply (x : Fin 2048) (y : Fin 11264) :
    (Value.G2 m c : S2048x11264.Idx → EReal) (ix2 x y) = ∑ k : Fin 8192, at2 (aH m c) k.val x.val * both (aD m c) k.val y.val := by
  have hx := x.isLt
  have hy := y.isLt
  have hp : Value.pt2Of (ix2 x y) = 4 * (8 * (x.val / 1024) + y.val / 1408) + (4 - 1) := by
    show 4 * (8 * (x.val / 1024 - 0) + 1 * (y.val / 1408 - 0)) + 3 = _
    omega
  have hlt : Value.pt2Of (ix2 x y) < cfg0.N := by
    rw [hp]; exact lt_of_lt_of_eq (by omega : _ < 64) N_0.symm
  have hl : Value.loc2Of (ix2 x y) = ix2 (⟨x.val % 1024, Nat.mod_lt _ (by norm_num)⟩ : Fin 1024) (⟨y.val % 1408, Nat.mod_lt _ (by norm_num)⟩ : Fin 1408) := by
    funext a; apply Fin.ext
    match a with
    | ⟨0, _⟩ => rfl
    | ⟨1, _⟩ => rfl
  have e : (Value.G2 m c : S2048x11264.Idx → EReal) (ix2 x y)
      = ((outsAt0 m c (Value.pt2Of (ix2 x y)) hlt).1 : Vec Ideal S1024x1408 .bf16) (Value.loc2Of (ix2 x y)) := by
    rw [Value.outsAt0_sweep]
    exact dif_pos hlt
  rw [e, hl]
  refine run_sum 4 2048 cfg0.N (by norm_num) (fun t h => ((outsAt0 m c t h).2 : Vec Ideal S1024x1408 .f32) (ix2 _ _))
    (fun t h => ((outsAt0 m c t h).1 : Vec Ideal S1024x1408 .bf16) (ix2 _ _))
    (fun t h => k0_pay1 (F := Ideal) (iblk m c 0 ⟨t, h⟩) (iblk m c 1 ⟨t, h⟩) (ix2 _ _))
    (fun t h h0 => (congrFun (scr_A m c ⟨t, h⟩ h0) _).trans (pay2_apply _ _ _ _))
    (fun t h h1 h2 => (congrFun (scr_B m c ⟨t, h⟩ (by dsimp only; omega)) _).trans (pay3_apply _ _ _ _ _))
    (fun t h h2 => (congrFun (res_C m c ⟨t, h⟩ (by dsimp only; omega)) _).trans (pay4_apply _ _ _ _ _))
    (fun k => at2 (aH m c) k x.val * both (aD m c) k y.val) (8 * (x.val / 1024) + y.val / 1408) _ hlt hp fun j h hj => ?_
  refine (pay_blk m c ⟨_, h⟩ _ _).trans (Finset.sum_congr rfl fun k _ => ?_)
  dsimp only
  have ex : 1024 * ((4 * (8 * (x.val / 1024) + y.val / 1408) + j) / 32) + x.val % 1024 = x.val := by omega
  have ey : 1408 * ((4 * (8 * (x.val / 1024) + y.val / 1408) + j) / 4 % 8) + y.val % 1408 = y.val := by omega
  have ek : (4 * (8 * (x.val / 1024) + y.val / 1408) + j) % 4 = j := by omega
  rw [ex, ey, ek]

section Reference
open Cert.Gwi2RefIdeal Cert.Gwi2RefIdeal.Gen

variable (D : FVec Ideal Cert.Gwi2RefIdeal.S2x8192x5632 .bf16) (H : FVec Ideal Cert.Gwi2RefIdeal.S8192x2048 .bf16)

/-- The reference's two halves, joined. -/
abbrev refBoth : FVec Ideal Cert.Gwi2RefIdeal.S8192x11264 .f32 :=
  concatenate Cert.Gwi2RefIdeal.S8192x11264 1 [⟨Cert.Gwi2RefIdeal.S8192x5632, (shapeCast Cert.Gwi2RefIdeal.S8192x5632 (extractStridedSlice Cert.Gwi2RefIdeal.S1x8192x5632 ![0, 0, 0] (extf .f32 D Cert.Gwi2RefIdeal.Gen.bitsLt_bf16_f32) slices_S2x8192x5632_S1x8192x5632_0_0_0) shapeCasts_S1x8192x5632_S8192x5632)⟩, ⟨Cert.Gwi2RefIdeal.S8192x5632, (shapeCast Cert.Gwi2RefIdeal.S8192x5632 (extractStridedSlice Cert.Gwi2RefIdeal.S1x8192x5632 ![1, 0, 0] (extf .f32 D Cert.Gwi2RefIdeal.Gen.bitsLt_bf16_f32) slices_S2x8192x5632_S1x8192x5632_1_0_0) shapeCasts_S1x8192x5632_S8192x5632)⟩] concatenates_S8192x5632_S8192x5632_S8192x11264_d1

/-- The reference's result. -/
abbrev refGw : FVec Ideal Cert.Gwi2RefIdeal.S2048x11264 .bf16 :=
  truncf .bf16 (transpose Cert.Gwi2RefIdeal.S2048x11264 [1, 0] (Host.dotGeneral dot_S8192x11264_S8192x2048_S11264x2048_0_0_1_1_n_n none (refBoth D) (extf .f32 H Cert.Gwi2RefIdeal.Gen.bitsLt_bf16_f32)) transposes_S11264x2048_S2048x11264_1_0) Cert.Gwi2RefIdeal.Gen.bitsLt_bf16_f32

theorem ref_both (x : Fin 8192) (k : Fin 11264) : refBoth D (ix2 x k) = both D x.val k.val := by
  refine Eq.trans ?_ (both_eq D x k)
  pointwise

theorem ref_apply (x : Fin 2048) (y : Fin 11264) :
    refGw D H (ix2 x y) = ∑ k : Fin 8192, at2 H k.val x.val * both D k.val y.val := by
  have e : ∀ B : FVec Ideal Cert.Gwi2RefIdeal.S8192x11264 .f32,
      (truncf .bf16 (transpose Cert.Gwi2RefIdeal.S2048x11264 [1, 0] (Host.dotGeneral dot_S8192x11264_S8192x2048_S11264x2048_0_0_1_1_n_n none B (extf .f32 H Cert.Gwi2RefIdeal.Gen.bitsLt_bf16_f32)) transposes_S11264x2048_S2048x11264_1_0) Cert.Gwi2RefIdeal.Gen.bitsLt_bf16_f32 : FVec Ideal Cert.Gwi2RefIdeal.S2048x11264 .bf16) (ix2 x y)
        = ∑ k : Fin 8192, B (ix2 k y) * H (ix2 k x) := fun B => by pointwise
  refine (e _).trans (Finset.sum_congr rfl fun k _ => ?_)
  rw [ref_both, at2_fin, mul_comm]

/-- The reference's array is the kernel's. -/
theorem values (e0 : D = aD m c) (e1 : H = aH m c) : (refGw D H : S2048x11264.Idx → EReal) = Value.G2 m c := by
  subst e0; subst e1
  funext i
  rw [← ix2_eta i]
  exact (ref_apply _ _ _ _).trans (G_apply m c _ _).symm

end Reference

end Cert.Gwi2Ideal.Hand

end
-- ==== Proof.Gwo2Value.lean ====
/- The gradient of the second feed-forward layer's last weights: the array the kernel leaves and the reference's, entry by entry. -/
module

public import proofs.«01_k».proof.Proof.Gen.Gwo2Ideal.Value
public import proofs.«01_k».proof.Proof.Gen.Gwo2RefIdeal.Run
public import proofs.«01_k».proof.Proof.Blocks
public import Idealize.ShloMosaic.Lib.Pipeline.CanonAppend
public import Idealize.ShloMosaic.Lib.Pipeline.ReadBack
public import Idealize.ShloMosaic.Lib.StableHlo.Run

@[expose] public section

set_option maxRecDepth 16384

noncomputable section

namespace Cert.Gwo2Ideal.Hand

open Cert.Gwo2Ideal Cert.Gwo2Ideal.Gen Idealize.ShloMosaic Idealize.ShloMosaic.TcCoe Cert.Product

theorem hz2 : (![0, 0] : Fin 2 → Nat) = fun _ => 0 := by decide

section Runs
variable {F : FTy → Type} [FloatOps F]
variable (c : Dev nD) (i : grid0.Coords) (arg3 : Memref sig .tc .vmem S2048x1408 .bf16) (harg3 : arg3.IsWhole)
  (arg4 : Memref sig .tc .vmem S2048x1024 .bf16) (harg4 : arg4.IsWhole) (arg5 : Memref sig .tc .vmem S1408x1024 .bf16)
  (harg5 : arg5.IsWhole) (arg6 : Memref sig .tc .vmem S1408x1024 .f32) (harg6 : arg6.IsWhole)
  (x0 : Vec F S2048x1408 .bf16) (x1 : Vec F S2048x1024 .bf16) (acc : Vec F S1408x1024 .f32)

/-- A run's first point stores its product in the scratch. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread]
  rw [View.canon_unit_zero (S := S1408x1024) hz2]
  simp only [View.ld_unit_zero (S := S2048x1408) hz2, View.ld_unit_zero (S := S2048x1024) hz2]

/-- The points between add theirs. -/
theorem sout_B (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  simp only [View.readAt_eq_ld, harg3.read_unread, harg4.read_unread, harg6.read_unread]
  rw [View.canon_unit_zero (S := S1408x1024) hz2]
  simp only [View.ld_unit_zero (S := S2048x1408) hz2, View.ld_unit_zero (S := S2048x1024) hz2, View.ld_unit_zero (S := S1408x1024) hz2]

/-- The last writes the sum out. -/
theorem out_C (hc0 : ¬cond0_0 i) (hc1 : ¬cond0_1 i) (hc2 : cond0_2 i) :
    out0_C_2 c i arg3 harg3 arg4 harg4 arg5 harg5 arg6 harg6 hc0 hc1 hc2 x0 x1 acc = k0_pay4 x0 x1 acc := by
  unfold out0_C_2
  rw [View.read_writes_eq_canon _ _ _ (cover0_C_2 c i arg3 harg3 arg4 harg4 arg5 harg5 arg6 harg6 hc0 hc1 hc2 x0 x1 acc)]
  unfold kernelRun0_C
  dsimp only
  sl_unfold_words
  simp only [View.readAt_eq_ld, harg3.read_unread, harg4.read_unread, harg6.read_unread]
  rw [View.canon_unit_zero (S := S1408x1024) hz2]
  simp only [View.ld_unit_zero (S := S2048x1408) hz2, View.ld_unit_zero (S := S2048x1024) hz2, View.ld_unit_zero (S := S1408x1024) hz2]

end Runs

section Blocks
variable (x0 : Vec Ideal S2048x1408 .bf16) (x1 : Vec Ideal S2048x1024 .bf16) (acc : Vec Ideal S1408x1024 .f32) (r : Fin 1408) (s : Fin 1024)

theorem pay1_apply : k0_pay1 (F := Ideal) x0 x1 (ix2 r s) = ∑ k : Fin 2048, x0 (ix2 k r) * x1 (ix2 k s) := by
  pointwise [k0_pay1]

theorem pay2_apply : k0_pay2 (F := Ideal) x0 x1 (ix2 r s) = k0_pay1 (F := Ideal) x0 x1 (ix2 r s) := by
  pointwise [k0_pay2]

theorem pay3_apply : k0_pay3 (F := Ideal) x0 x1 acc (ix2 r s) = acc (ix2 r s) + k0_pay1 (F := Ideal) x0 x1 (ix2 r s) := by
  pointwise [k0_pay3]

theorem pay4_apply : k0_pay4 (F := Ideal) x0 x1 acc (ix2 r s) = acc (ix2 r s) + k0_pay1 (F := Ideal) x0 x1 (ix2 r s) := by
  pointwise [k0_pay4]

end Blocks

variable (m : (ℓ : Loc nD τ sig) → Buf (Elt Ideal) ℓ) (c : Dev nD)

/-- The gated activations and the output's gradient, as the kernel finds them. -/
abbrev aG : S8192x5632.Idx → EReal := V m c main_v7
abbrev aO : S8192x2048.Idx → EReal := V m c main_arg2

theorem idx_g : ∀ t : Fin cfg0.N, win0_0.index t = ![t.val % 4, t.val / 8] :=
  (by decide +kernel : ∀ t : Fin grid0.N, _)

theorem g_rd (X : Buf (Elt Ideal) ((c : Thread nD τ).loc main_v7)) (t : Fin cfg0.N) (k : Fin 2048) (r : Fin 1408) :
    (((cfg0.win 0).blk t).view.read (Elt Ideal) X : Vec Ideal S2048x1408 .bf16) (ix2 k r)
      = at2 (n0 := 8192) (n1 := 5632) X (2048 * (t.val % 4) + k.val) (1408 * (t.val / 8) + r.val) := by
  rw [View.read_apply]
  refine eq_at2 (n0 := 8192) (n1 := 5632) X _ _ _ ?_ ?_
  · show win0_0.index t 0 * 2048 + 1 * k.val = _; rw [idx_g]; show (t.val % 4) * 2048 + 1 * k.val = _; omega
  · show win0_0.index t 1 * 1408 + 1 * r.val = _; rw [idx_g]; show (t.val / 8) * 1408 + 1 * r.val = _; omega

theorem idx_o : ∀ t : Fin cfg0.N, win0_1.index t = ![t.val % 4, t.val / 4 % 2] :=
  (by decide +kernel : ∀ t : Fin grid0.N, _)

theorem o_rd (X : Buf (Elt Ideal) ((c : Thread nD τ).loc main_arg2)) (t : Fin cfg0.N) (k : Fin 2048) (s : Fin 1024) :
    (((cfg0.win 1).blk t).view.read (Elt Ideal) X : Vec Ideal S2048x1024 .bf16) (ix2 k s)
      = at2 (n0 := 8192) (n1 := 2048) X (2048 * (t.val % 4) + k.val) (1024 * (t.val / 4 % 2) + s.val) := by
  rw [View.read_apply]
  refine eq_at2 (n0 := 8192) (n1 := 2048) X _ _ _ ?_ ?_
  · show win0_1.index t 0 * 2048 + 1 * k.val = _; rw [idx_o]; show (t.val % 4) * 2048 + 1 * k.val = _; omega
  · show win0_1.index t 1 * 1024 + 1 * s.val = _; rw [idx_o]; show (t.val / 4 % 2) * 1024 + 1 * s.val = _; omega

/-- An entry of a point's product. -/
theorem pay_blk (t : Fin cfg0.N) (r : Fin 1408) (s : Fin 1024) :
    k0_pay1 (F := Ideal) (iblk m c 0 t) (iblk m c 1 t) (ix2 r s)
      = ∑ k : Fin 2048, at2 (aG m c) (2048 * (t.val % 4) + k.val) (1408 * (t.val / 8) + r.val) * at2 (aO m c) (2048 * (t.val % 4) + k.val) (1024 * (t.val / 4 % 2) + s.val) :=
  (pay1_apply _ _ r s).trans (Finset.sum_congr rfl fun k _ =>
    congrArg₂ (· * ·) (g_rd c (V m c main_v7) t k r) (o_rd c (V m c main_arg2) t k s))

/-- What a point leaves, over what the point before left in the scratch. -/
theorem scr_A (t : Fin cfg0.N) (h0 : t.val % 4 = 0) :
    (outsAt0 m c t.val t.isLt).2 = k0_pay2 (iblk m c 0 t) (iblk m c 1 t) := by
  rw [outsAt0_A m c t h0 (by omega) (by omega)]
  dsimp only
  rw [sout_A]

theorem scr_B (t : Fin cfg0.N) (h1 : 1 ≤ t.val % 4 ∧ t.val % 4 ≤ 2) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h1 (by omega)]
  dsimp only
  rw [sout_B]

theorem res_C (t : Fin cfg0.N) (h2 : t.val % 4 = 3) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h2]
  dsimp only
  rw [out_C]

/-- An entry of the kernel's result. -/
theorem G_apply (x : Fin 5632) (y : Fin 2048) :
    (Value.G2 m c : S5632x2048.Idx → EReal) (ix2 x y) = ∑ k : Fin 8192, at2 (aG m c) k.val x.val * at2 (aO m c) k.val y.val := by
  have hx := x.isLt
  have hy := y.isLt
  have hp : Value.pt2Of (ix2 x y) = 4 * (2 * (x.val / 1408) + y.val / 1024) + (4 - 1) := by
    show 4 * (2 * (x.val / 1408 - 0) + 1 * (y.val / 1024 - 0)) + 3 = _
    omega
  have hlt : Value.pt2Of (ix2 x y) < cfg0.N := by
    rw [hp]; exact lt_of_lt_of_eq (by omega : _ < 32) N_0.symm
  have hl : Value.loc2Of (ix2 x y) = ix2 (⟨x.val % 1408, Nat.mod_lt _ (by norm_num)⟩ : Fin 1408) (⟨y.val % 1024, Nat.mod_lt _ (by norm_num)⟩ : Fin 1024) := by
    funext a; apply Fin.ext
    match a with
    | ⟨0, _⟩ => rfl
    | ⟨1, _⟩ => rfl
  have e : (Value.G2 m c : S5632x2048.Idx → EReal) (ix2 x y)
      = ((outsAt0 m c (Value.pt2Of (ix2 x y)) hlt).1 : Vec Ideal S1408x1024 .bf16) (Value.loc2Of (ix2 x y)) := by
    rw [Value.outsAt0_sweep]
    exact dif_pos hlt
  rw [e, hl]
  refine run_sum 4 2048 cfg0.N (by norm_num) (fun t h => ((outsAt0 m c t h).2 : Vec Ideal S1408x1024 .f32) (ix2 _ _))
    (fun t h => ((outsAt0 m c t h).1 : Vec Ideal S1408x1024 .bf16) (ix2 _ _))
    (fun t h => k0_pay1 (F := Ideal) (iblk m c 0 ⟨t, h⟩) (iblk m c 1 ⟨t, h⟩) (ix2 _ _))
    (fun t h h0 => (congrFun (scr_A m c ⟨t, h⟩ h0) _).trans (pay2_apply _ _ _ _))
    (fun t h h1 h2 => (congrFun (scr_B m c ⟨t, h⟩ (by dsimp only; omega)) _).trans (pay3_apply _ _ _ _ _))
    (fun t h h2 => (congrFun (res_C m c ⟨t, h⟩ (by dsimp only; omega)) _).trans (pay4_apply _ _ _ _ _))
    (fun k => at2 (aG m c) k x.val * at2 (aO m c) k y.val) (2 * (x.val / 1408) + y.val / 1024) _ hlt hp fun j h hj => ?_
  refine (pay_blk m c ⟨_, h⟩ _ _).trans (Finset.sum_congr rfl fun k _ => ?_)
  dsimp only
  have ex : 1408 * ((4 * (2 * (x.val / 1408) + y.val / 1024) + j) / 8) + x.val % 1408 = x.val := by omega
  have ey : 1024 * ((4 * (2 * (x.val / 1408) + y.val / 1024) + j) / 4 % 2) + y.val % 1024 = y.val := by omega
  have ek : (4 * (2 * (x.val / 1408) + y.val / 1024) + j) % 4 = j := by omega
  rw [ex, ey, ek]

/-- The gated activations, as the host forms them. -/
def hG (H : FVec Ideal S8192x2048 .bf16) (W : FVec Ideal S2048x11264 .bf16) : FVec Ideal S8192x5632 .f32 :=
  mulf (mulf (extractStridedSlice S8192x5632 ![0, 0] (Host.dotGeneral dot_S8192x2048_S2048x11264_S8192x11264_1_0_0_1_n_n none (extf .f32 H bitsLt_bf16_f32) (extf .f32 W bitsLt_bf16_f32)) slices_S8192x11264_S8192x5632_0_0) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extractStridedSlice S8192x5632 ![0, 0] (Host.dotGeneral dot_S8192x2048_S2048x11264_S8192x11264_1_0_0_1_n_n none (extf .f32 H bitsLt_bf16_f32) (extf .f32 W bitsLt_bf16_f32)) slices_S8192x11264_S8192x5632_0_0)))))) (extractStridedSlice S8192x5632 ![0, 5632] (Host.dotGeneral dot_S8192x2048_S2048x11264_S8192x11264_1_0_0_1_n_n none (extf .f32 H bitsLt_bf16_f32) (extf .f32 W bitsLt_bf16_f32)) slices_S8192x11264_S8192x5632_0_5632)

open StableHlo in
theorem V_g : V m c main_v7 = truncf .bf16 (hG (m ((c : Thread nD τ).loc main_arg0)) (m ((c : Thread nD τ).loc main_arg1))) bitsLt_bf16_f32 := by
  unfold V hostOps0 hostOps0_1 hostOps0_2
  after_results_simp <;> rfl

section Reference
open Cert.Gwo2RefIdeal Cert.Gwo2RefIdeal.Gen

variable (H : FVec Ideal Cert.Gwo2RefIdeal.S8192x2048 .bf16) (W : FVec Ideal Cert.Gwo2RefIdeal.S2048x11264 .bf16) (O : FVec Ideal Cert.Gwo2RefIdeal.S8192x2048 .bf16)

/-- The reference's gated activations. -/
abbrev refG : FVec Ideal Cert.Gwo2RefIdeal.S8192x5632 .f32 :=
  mulf (mulf (extractStridedSlice Cert.Gwo2RefIdeal.S8192x5632 ![0, 0] (Host.dotGeneral Cert.Gwo2RefIdeal.dot_S8192x2048_S2048x11264_S8192x11264_1_0_0_1_n_n none (extf .f32 H Cert.Gwo2RefIdeal.Gen.bitsLt_bf16_f32) (extf .f32 W Cert.Gwo2RefIdeal.Gen.bitsLt_bf16_f32)) Cert.Gwo2RefIdeal.Gen.slices_S8192x11264_S8192x5632_0_0) (Host.divf (broadcastInDim Cert.Gwo2RefIdeal.S8192x5632 ![] Cert.Gwo2RefIdeal.Gen.bcast_S_S8192x5632 (constant Cert.Gwo2RefIdeal.S_ .f32 0x3F800000#32)) (addf (broadcastInDim Cert.Gwo2RefIdeal.S8192x5632 ![] Cert.Gwo2RefIdeal.Gen.bcast_S_S8192x5632 (constant Cert.Gwo2RefIdeal.S_ .f32 0x3F800000#32)) (Host.exp (Host.negf (extractStridedSlice Cert.Gwo2RefIdeal.S8192x5632 ![0, 0] (Host.dotGeneral Cert.Gwo2RefIdeal.dot_S8192x2048_S2048x11264_S8192x11264_1_0_0_1_n_n none (extf .f32 H Cert.Gwo2RefIdeal.Gen.bitsLt_bf16_f32) (extf .f32 W Cert.Gwo2RefIdeal.Gen.bitsLt_bf16_f32)) Cert.Gwo2RefIdeal.Gen.slices_S8192x11264_S8192x5632_0_0)))))) (extractStridedSlice Cert.Gwo2RefIdeal.S8192x5632 ![0, 5632] (Host.dotGeneral Cert.Gwo2RefIdeal.dot_S8192x2048_S2048x11264_S8192x11264_1_0_0_1_n_n none (extf .f32 H Cert.Gwo2RefIdeal.Gen.bitsLt_bf16_f32) (extf .f32 W Cert.Gwo2RefIdeal.Gen.bitsLt_bf16_f32)) Cert.Gwo2RefIdeal.Gen.slices_S8192x11264_S8192x5632_0_5632)

/-- The reference's result. -/
abbrev refGw : FVec Ideal Cert.Gwo2RefIdeal.S5632x2048 .bf16 :=
  truncf .bf16 (transpose Cert.Gwo2RefIdeal.S5632x2048 [1, 0] (Host.dotGeneral dot_S8192x2048_S8192x5632_S2048x5632_0_0_1_1_n_n none (extf .f32 O Cert.Gwo2RefIdeal.Gen.bitsLt_bf16_f32) (refG H W)) transposes_S2048x5632_S5632x2048_1_0) Cert.Gwo2RefIdeal.Gen.bitsLt_bf16_f32

/-- The reference's activations are the host's. -/
theorem refG_eq : (refG H W : S8192x5632.Idx → EReal) = hG H W := by
  unfold refG hG
  rfl

theorem ref_apply (x : Fin 5632) (y : Fin 2048) :
    refGw H W O (ix2 x y) = ∑ k : Fin 8192, at2 (refG H W) k.val x.val * at2 O k.val y.val := by
  have e : ∀ B : FVec Ideal Cert.Gwo2RefIdeal.S8192x5632 .f32,
      (truncf .bf16 (transpose Cert.Gwo2RefIdeal.S5632x2048 [1, 0] (Host.dotGeneral dot_S8192x2048_S8192x5632_S2048x5632_0_0_1_1_n_n none (extf .f32 O Cert.Gwo2RefIdeal.Gen.bitsLt_bf16_f32) B) transposes_S2048x5632_S5632x2048_1_0) Cert.Gwo2RefIdeal.Gen.bitsLt_bf16_f32 : FVec Ideal Cert.Gwo2RefIdeal.S5632x2048 .bf16) (ix2 x y)
        = ∑ k : Fin 8192, O (ix2 k y) * B (ix2 k x) := fun B => by pointwise
  refine (e _).trans (Finset.sum_congr rfl fun k _ => ?_)
  rw [at2_fin, at2_fin, mul_comm]

/-- The reference's array is the kernel's. -/
theorem values (e0 : H = m ((c : Thread nD τ).loc main_arg0)) (e1 : W = m ((c : Thread nD τ).loc main_arg1)) (e2 : O = aO m c) :
    (refGw H W O : S5632x2048.Idx → EReal) = Value.G2 m c := by
  have eg : aG m c = refG H W := by
    rw [refG_eq, e0, e1]
    exact V_g m c
  subst e2
  funext i
  rw [← ix2_eta i]
  refine (ref_apply _ _ _ _ _).trans ?_
  rw [← eg]
  exact (G_apply m c _ _).symm

end Reference

end Cert.Gwo2Ideal.Hand

end
-- ==== Proof.DhInValue.lean ====
/- The gradient of the input projection's input: the array the kernel leaves and the reference's, entry by entry. -/
module

public import proofs.«01_k».proof.Proof.Gen.DhInIdeal.Value
public import proofs.«01_k».proof.Proof.Gen.DhInRefIdeal.Run
public import proofs.«01_k».proof.Proof.Blocks
public import Idealize.ShloMosaic.Lib.Pipeline.CanonAppend
public import Idealize.ShloMosaic.Lib.Pipeline.ReadBack

@[expose] public section

set_option maxRecDepth 16384

noncomputable section

namespace Cert.DhInIdeal.Hand

open Cert.DhInIdeal Cert.DhInIdeal.Gen Idealize.ShloMosaic Idealize.ShloMosaic.TcCoe Cert.Product

theorem hz2 : (![0, 0] : Fin 2 → Nat) = fun _ => 0 := by decide

section Runs
variable {F : FTy → Type} [FloatOps F]
variable (c : Dev nD) (i : grid0.Coords) (arg3 : Memref sig .tc .vmem S1408x2816 .bf16) (harg3 : arg3.IsWhole)
  (arg4 : Memref sig .tc .vmem S1024x2816 .bf16) (harg4 : arg4.IsWhole) (arg5 : Memref sig .tc .vmem S1408x1024 .f32)
  (harg5 : arg5.IsWhole) (arg6 : Memref sig .tc .vmem S1408x1024 .f32) (harg6 : arg6.IsWhole)
  (x0 : Vec F S1408x2816 .bf16) (x1 : Vec F S1024x2816 .bf16) (acc : Vec F S1408x1024 .f32)

/-- A run's first point stores its product in the scratch. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread]
  rw [View.canon_unit_zero (S := S1408x1024) hz2]
  simp only [View.ld_unit_zero (S := S1408x2816) hz2, View.ld_unit_zero (S := S1024x2816) hz2]

/-- The points between add theirs. -/
theorem sout_B (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  simp only [View.readAt_eq_ld, harg3.read_unread, harg4.read_unread, harg6.read_unread]
  rw [View.canon_unit_zero (S := S1408x1024) hz2]
  simp only [View.ld_unit_zero (S := S1408x2816) hz2, View.ld_unit_zero (S := S1024x2816) hz2, View.ld_unit_zero (S := S1408x1024) hz2]

/-- The last writes the sum out. -/
theorem out_C (hc0 : ¬cond0_0 i) (hc1 : ¬cond0_1 i) (hc2 : cond0_2 i) :
    out0_C_2 c i arg3 harg3 arg4 harg4 arg5 harg5 arg6 harg6 hc0 hc1 hc2 x0 x1 acc = k0_pay4 x0 x1 acc := by
  unfold out0_C_2
  rw [View.read_writes_eq_canon _ _ _ (cover0_C_2 c i arg3 harg3 arg4 harg4 arg5 harg5 arg6 harg6 hc0 hc1 hc2 x0 x1 acc)]
  unfold kernelRun0_C
  dsimp only
  sl_unfold_words
  simp only [View.readAt_eq_ld, harg3.read_unread, harg4.read_unread, harg6.read_unread]
  rw [View.canon_unit_zero (S := S1408x1024) hz2]
  simp only [View.ld_unit_zero (S := S1408x2816) hz2, View.ld_unit_zero (S := S1024x2816) hz2, View.ld_unit_zero (S := S1408x1024) hz2]

end Runs

section Blocks
variable (x0 : Vec Ideal S1408x2816 .bf16) (x1 : Vec Ideal S1024x2816 .bf16) (acc : Vec Ideal S1408x1024 .f32) (r : Fin 1408) (s : Fin 1024)

theorem pay1_apply : k0_pay1 (F := Ideal) x0 x1 (ix2 r s) = ∑ k : Fin 2816, x0 (ix2 r k) * x1 (ix2 s k) := by
  pointwise [k0_pay1]

theorem pay2_apply : k0_pay2 (F := Ideal) x0 x1 (ix2 r s) = k0_pay1 (F := Ideal) x0 x1 (ix2 r s) := by
  pointwise [k0_pay2]

theorem pay3_apply : k0_pay3 (F := Ideal) x0 x1 acc (ix2 r s) = acc (ix2 r s) + k0_pay1 (F := Ideal) x0 x1 (ix2 r s) := by
  pointwise [k0_pay3]

theorem pay4_apply : k0_pay4 (F := Ideal) x0 x1 acc (ix2 r s) = acc (ix2 r s) + k0_pay1 (F := Ideal) x0 x1 (ix2 r s) := by
  pointwise [k0_pay4]

end Blocks

variable (m : (ℓ : Loc nD τ sig) → Buf (Elt Ideal) ℓ) (c : Dev nD)

/-- The projection's gradient and the weights, as the kernel finds them. -/
abbrev aD : S8448x11264.Idx → EReal := V m c main_arg0
abbrev aW : S2048x11264.Idx → EReal := V m c main_arg1

theorem idx_d : ∀ t : Fin cfg0.N, win0_0.index t = ![t.val / 8, t.val % 4] :=
  (by decide +kernel : ∀ t : Fin grid0.N, _)

theorem d_rd (X : Buf (Elt Ideal) ((c : Thread nD τ).loc main_arg0)) (t : Fin cfg0.N) (r : Fin 1408) (k : Fin 2816) :
    (((cfg0.win 0).blk t).view.read (Elt Ideal) X : Vec Ideal S1408x2816 .bf16) (ix2 r k)
      = at2 (n0 := 8448) (n1 := 11264) X (1408 * (t.val / 8) + r.val) (2816 * (t.val % 4) + k.val) := by
  rw [View.read_apply]
  refine eq_at2 (n0 := 8448) (n1 := 11264) X _ _ _ ?_ ?_
  · show win0_0.index t 0 * 1408 + 1 * r.val = _; rw [idx_d]; show (t.val / 8) * 1408 + 1 * r.val = _; omega
  · show win0_0.index t 1 * 2816 + 1 * k.val = _; rw [idx_d]; show (t.val % 4) * 2816 + 1 * k.val = _; omega

theorem idx_w : ∀ t : Fin cfg0.N, win0_1.index t = ![t.val / 4 % 2, t.val % 4] :=
  (by decide +kernel : ∀ t : Fin grid0.N, _)

theorem w_rd (X : Buf (Elt Ideal) ((c : Thread nD τ).loc main_arg1)) (t : Fin cfg0.N) (s : Fin 1024) (k : Fin 2816) :
    (((cfg0.win 1).blk t).view.read (Elt Ideal) X : Vec Ideal S1024x2816 .bf16) (ix2 s k)
      = at2 (n0 := 2048) (n1 := 11264) X (1024 * (t.val / 4 % 2) + s.val) (2816 * (t.val % 4) + k.val) := by
  rw [View.read_apply]
  refine eq_at2 (n0 := 2048) (n1 := 11264) X _ _ _ ?_ ?_
  · show win0_1.index t 0 * 1024 + 1 * s.val = _; rw [idx_w]; show (t.val / 4 % 2) * 1024 + 1 * s.val = _; omega
  · show win0_1.index t 1 * 2816 + 1 * k.val = _; rw [idx_w]; show (t.val % 4) * 2816 + 1 * k.val = _; omega

/-- An entry of a point's product. -/
theorem pay_blk (t : Fin cfg0.N) (r : Fin 1408) (s : Fin 1024) :
    k0_pay1 (F := Ideal) (iblk m c 0 t) (iblk m c 1 t) (ix2 r s)
      = ∑ k : Fin 2816, at2 (aD m c) (1408 * (t.val / 8) + r.val) (2816 * (t.val % 4) + k.val) * at2 (aW m c) (1024 * (t.val / 4 % 2) + s.val) (2816 * (t.val % 4) + k.val) :=
  (pay1_apply _ _ r s).trans (Finset.sum_congr rfl fun k _ =>
    congrArg₂ (· * ·) (d_rd c (V m c main_arg0) t r k) (w_rd c (V m c main_arg1) t s k))

/-- What a point leaves, over what the point before left in the scratch. -/
theorem scr_A (t : Fin cfg0.N) (h0 : t.val % 4 = 0) :
    (outsAt0 m c t.val t.isLt).2 = k0_pay2 (iblk m c 0 t) (iblk m c 1 t) := by
  rw [outsAt0_A m c t h0 (by omega) (by omega)]
  dsimp only
  rw [sout_A]

theorem scr_B (t : Fin cfg0.N) (h1 : 1 ≤ t.val % 4 ∧ t.val % 4 ≤ 2) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h1 (by omega)]
  dsimp only
  rw [sout_B]

theorem res_C (t : Fin cfg0.N) (h2 : t.val % 4 = 3) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h2]
  dsimp only
  rw [out_C]

/-- An entry of the kernel's result. -/
theorem G_apply (x : Fin 8448) (y : Fin 2048) :
    (Value.G2 m c : S8448x2048.Idx → EReal) (ix2 x y) = ∑ k : Fin 11264, at2 (aD m c) x.val k.val * at2 (aW m c) y.val k.val := by
  have hx := x.isLt
  have hy := y.isLt
  have hp : Value.pt2Of (ix2 x y) = 4 * (2 * (x.val / 1408) + y.val / 1024) + (4 - 1) := by
    show 4 * (2 * (x.val / 1408 - 0) + 1 * (y.val / 1024 - 0)) + 3 = _
    omega
  have hlt : Value.pt2Of (ix2 x y) < cfg0.N := by
    rw [hp]; exact lt_of_lt_of_eq (by omega : _ < 48) N_0.symm
  have hl : Value.loc2Of (ix2 x y) = ix2 (⟨x.val % 1408, Nat.mod_lt _ (by norm_num)⟩ : Fin 1408) (⟨y.val % 1024, Nat.mod_lt _ (by norm_num)⟩ : Fin 1024) := by
    funext a; apply Fin.ext
    match a with
    | ⟨0, _⟩ => rfl
    | ⟨1, _⟩ => rfl
  have e : (Value.G2 m c : S8448x2048.Idx → EReal) (ix2 x y)
      = ((outsAt0 m c (Value.pt2Of (ix2 x y)) hlt).1 : Vec Ideal S1408x1024 .f32) (Value.loc2Of (ix2 x y)) := by
    rw [Value.outsAt0_sweep]
    exact dif_pos hlt
  rw [e, hl]
  refine run_sum 4 2816 cfg0.N (by norm_num) (fun t h => ((outsAt0 m c t h).2 : Vec Ideal S1408x1024 .f32) (ix2 _ _))
    (fun t h => ((outsAt0 m c t h).1 : Vec Ideal S1408x1024 .f32) (ix2 _ _))
    (fun t h => k0_pay1 (F := Ideal) (iblk m c 0 ⟨t, h⟩) (iblk m c 1 ⟨t, h⟩) (ix2 _ _))
    (fun t h h0 => (congrFun (scr_A m c ⟨t, h⟩ h0) _).trans (pay2_apply _ _ _ _))
    (fun t h h1 h2 => (congrFun (scr_B m c ⟨t, h⟩ (by dsimp only; omega)) _).trans (pay3_apply _ _ _ _ _))
    (fun t h h2 => (congrFun (res_C m c ⟨t, h⟩ (by dsimp only; omega)) _).trans (pay4_apply _ _ _ _ _))
    (fun k => at2 (aD m c) x.val k * at2 (aW m c) y.val k) (2 * (x.val / 1408) + y.val / 1024) _ hlt hp fun j h hj => ?_
  refine (pay_blk m c ⟨_, h⟩ _ _).trans (Finset.sum_congr rfl fun k _ => ?_)
  dsimp only
  have ex : 1408 * ((4 * (2 * (x.val / 1408) + y.val / 1024) + j) / 8) + x.val % 1408 = x.val := by omega
  have ey : 1024 * ((4 * (2 * (x.val / 1408) + y.val / 1024) + j) / 4 % 2) + y.val % 1024 = y.val := by omega
  have ek : (4 * (2 * (x.val / 1408) + y.val / 1024) + j) % 4 = j := by omega
  rw [ex, ey, ek]

section Reference
open Cert.DhInRefIdeal Cert.DhInRefIdeal.Gen

variable (D : FVec Ideal Cert.DhInRefIdeal.S8448x11264 .bf16) (W : FVec Ideal Cert.DhInRefIdeal.S2048x11264 .bf16)

/-- The reference's result. -/
abbrev refDh : FVec Ideal Cert.DhInRefIdeal.S8448x2048 .f32 :=
  Host.dotGeneral dot_S8448x11264_S2048x11264_S8448x2048_1_1_0_0_n_n none (extf .f32 D Cert.DhInRefIdeal.Gen.bitsLt_bf16_f32) (extf .f32 W Cert.DhInRefIdeal.Gen.bitsLt_bf16_f32)

theorem ref_apply (x : Fin 8448) (y : Fin 2048) :
    refDh D W (ix2 x y) = ∑ k : Fin 11264, at2 D x.val k.val * at2 W y.val k.val := by
  have e : refDh D W (ix2 x y) = ∑ k : Fin 11264, D (ix2 x k) * W (ix2 y k) := by pointwise
  refine e.trans (Finset.sum_congr rfl fun k _ => ?_)
  rw [at2_fin, at2_fin]

/-- The reference's array is the kernel's. -/
theorem values (e0 : D = aD m c) (e1 : W = aW m c) : (refDh D W : S8448x2048.Idx → EReal) = Value.G2 m c := by
  subst e0; subst e1
  funext i
  rw [← ix2_eta i]
  exact (ref_apply _ _ _ _).trans (G_apply m c _ _).symm

end Reference

end Cert.DhInIdeal.Hand

end
-- ==== Proof.GwInValue.lean ====
/- The gradient of the input projection's weights: the array the kernel leaves and the reference's, entry by entry. -/
module

public import proofs.«01_k».proof.Proof.Gen.GwInIdeal.Value
public import proofs.«01_k».proof.Proof.Gen.GwInRefIdeal.Run
public import proofs.«01_k».proof.Proof.Blocks
public import Idealize.ShloMosaic.Lib.Pipeline.CanonAppend
public import Idealize.ShloMosaic.Lib.Pipeline.ReadBack

@[expose] public section

set_option maxRecDepth 16384

noncomputable section

namespace Cert.GwInIdeal.Hand

open Cert.GwInIdeal Cert.GwInIdeal.Gen Idealize.ShloMosaic Idealize.ShloMosaic.TcCoe Cert.Product

theorem hz2 : (![0, 0] : Fin 2 → Nat) = fun _ => 0 := by decide

section Runs
variable {F : FTy → Type} [FloatOps F]
variable (c : Dev nD) (i : grid0.Coords) (arg3 : Memref sig .tc .vmem S2816x1024 .bf16) (harg3 : arg3.IsWhole)
  (arg4 : Memref sig .tc .vmem S2816x1024 .bf16) (harg4 : arg4.IsWhole) (arg5 : Memref sig .tc .vmem S1024x1024 .bf16)
  (harg5 : arg5.IsWhole) (arg6 : Memref sig .tc .vmem S1024x1024 .f32) (harg6 : arg6.IsWhole)
  (x0 : Vec F S2816x1024 .bf16) (x1 : Vec F S2816x1024 .bf16) (acc : Vec F S1024x1024 .f32)

/-- A run's first point stores its product in the scratch. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread]
  rw [View.canon_unit_zero (S := S1024x1024) hz2]
  simp only [View.ld_unit_zero (S := S2816x1024) hz2]

/-- The points between add theirs. -/
theorem sout_B (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  simp only [View.readAt_eq_ld, harg3.read_unread, harg4.read_unread, harg6.read_unread]
  rw [View.canon_unit_zero (S := S1024x1024) hz2]
  simp only [View.ld_unit_zero (S := S2816x1024) hz2, View.ld_unit_zero (S := S1024x1024) hz2]

/-- The last writes the sum out. -/
theorem out_C (hc0 : ¬cond0_0 i) (hc1 : ¬cond0_1 i) (hc2 : cond0_2 i) :
    out0_C_2 c i arg3 harg3 arg4 harg4 arg5 harg5 arg6 harg6 hc0 hc1 hc2 x0 x1 acc = k0_pay4 x0 x1 acc := by
  unfold out0_C_2
  rw [View.read_writes_eq_canon _ _ _ (cover0_C_2 c i arg3 harg3 arg4 harg4 arg5 harg5 arg6 harg6 hc0 hc1 hc2 x0 x1 acc)]
  unfold kernelRun0_C
  dsimp only
  sl_unfold_words
  simp only [View.readAt_eq_ld, harg3.read_unread, harg4.read_unread, harg6.read_unread]
  rw [View.canon_unit_zero (S := S1024x1024) hz2]
  simp only [View.ld_unit_zero (S := S2816x1024) hz2, View.ld_unit_zero (S := S1024x1024) hz2]

end Runs

section Blocks
variable (x0 : Vec Ideal S2816x1024 .bf16) (x1 : Vec Ideal S2816x1024 .bf16) (acc : Vec Ideal S1024x1024 .f32) (r : Fin 1024) (s : Fin 1024)

theorem pay1_apply : k0_pay1 (F := Ideal) x0 x1 (ix2 r s) = ∑ k : Fin 2816, x0 (ix2 k r) * x1 (ix2 k s) := by
  pointwise [k0_pay1]

theorem pay2_apply : k0_pay2 (F := Ideal) x0 x1 (ix2 r s) = k0_pay1 (F := Ideal) x0 x1 (ix2 r s) := by
  pointwise [k0_pay2]

theorem pay3_apply : k0_pay3 (F := Ideal) x0 x1 acc (ix2 r s) = acc (ix2 r s) + k0_pay1 (F := Ideal) x0 x1 (ix2 r s) := by
  pointwise [k0_pay3]

theorem pay4_apply : k0_pay4 (F := Ideal) x0 x1 acc (ix2 r s) = acc (ix2 r s) + k0_pay1 (F := Ideal) x0 x1 (ix2 r s) := by
  pointwise [k0_pay4]

end Blocks

variable (m : (ℓ : Loc nD τ sig) → Buf (Elt Ideal) ℓ) (c : Dev nD)

/-- The layer's input and the projection's gradient, as the kernel finds them. -/
abbrev aH : S8448x2048.Idx → EReal := V m c main_arg0
abbrev aD : S8448x11264.Idx → EReal := V m c main_arg1

theorem idx_h : ∀ t : Fin cfg0.N, win0_0.index t = ![t.val % 3, t.val / 33] :=
  (by decide +kernel : ∀ t : Fin grid0.N, _)

theorem h_rd (X : Buf (Elt Ideal) ((c : Thread nD τ).loc main_arg0)) (t : Fin cfg0.N) (k : Fin 2816) (r : Fin 1024) :
    (((cfg0.win 0).blk t).view.read (Elt Ideal) X : Vec Ideal S2816x1024 .bf16) (ix2 k r)
      = at2 (n0 := 8448) (n1 := 2048) X (2816 * (t.val % 3) + k.val) (1024 * (t.val / 33) + r.val) := by
  rw [View.read_apply]
  refine eq_at2 (n0 := 8448) (n1 := 2048) X _ _ _ ?_ ?_
  · show win0_0.index t 0 * 2816 + 1 * k.val = _; rw [idx_h]; show (t.val % 3) * 2816 + 1 * k.val = _; omega
  · show win0_0.index t 1 * 1024 + 1 * r.val = _; rw [idx_h]; show (t.val / 33) * 1024 + 1 * r.val = _; omega

theorem idx_d : ∀ t : Fin cfg0.N, win0_1.index t = ![t.val % 3, t.val / 3 % 11] :=
  (by decide +kernel : ∀ t : Fin grid0.N, _)

theorem d_rd (X : Buf (Elt Ideal) ((c : Thread nD τ).loc main_arg1)) (t : Fin cfg0.N) (k : Fin 2816) (s : Fin 1024) :
    (((cfg0.win 1).blk t).view.read (Elt Ideal) X : Vec Ideal S2816x1024 .bf16) (ix2 k s)
      = at2 (n0 := 8448) (n1 := 11264) X (2816 * (t.val % 3) + k.val) (1024 * (t.val / 3 % 11) + s.val) := by
  rw [View.read_apply]
  refine eq_at2 (n0 := 8448) (n1 := 11264) X _ _ _ ?_ ?_
  · show win0_1.index t 0 * 2816 + 1 * k.val = _; rw [idx_d]; show (t.val % 3) * 2816 + 1 * k.val = _; omega
  · show win0_1.index t 1 * 1024 + 1 * s.val = _; rw [idx_d]; show (t.val / 3 % 11) * 1024 + 1 * s.val = _; omega

/-- An entry of a point's product. -/
theorem pay_blk (t : Fin cfg0.N) (r : Fin 1024) (s : Fin 1024) :
    k0_pay1 (F := Ideal) (iblk m c 0 t) (iblk m c 1 t) (ix2 r s)
      = ∑ k : Fin 2816, at2 (aH m c) (2816 * (t.val % 3) + k.val) (1024 * (t.val / 33) + r.val) * at2 (aD m c) (2816 * (t.val % 3) + k.val) (1024 * (t.val / 3 % 11) + s.val) :=
  (pay1_apply _ _ r s).trans (Finset.sum_congr rfl fun k _ =>
    congrArg₂ (· * ·) (h_rd c (V m c main_arg0) t k r) (d_rd c (V m c main_arg1) t k s))

/-- What a point leaves, over what the point before left in the scratch. -/
theorem scr_A (t : Fin cfg0.N) (h0 : t.val % 3 = 0) :
    (outsAt0 m c t.val t.isLt).2 = k0_pay2 (iblk m c 0 t) (iblk m c 1 t) := by
  rw [outsAt0_A m c t h0 (by omega) (by omega)]
  dsimp only
  rw [sout_A]

theorem scr_B (t : Fin cfg0.N) (h1 : t.val % 3 = 1) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h1 (by omega)]
  dsimp only
  rw [sout_B]

theorem res_C (t : Fin cfg0.N) (h2 : t.val % 3 = 2) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h2]
  dsimp only
  rw [out_C]

/-- An entry of the kernel's result. -/
theorem G_apply (x : Fin 2048) (y : Fin 11264) :
    (Value.G2 m c : S2048x11264.Idx → EReal) (ix2 x y) = ∑ k : Fin 8448, at2 (aH m c) k.val x.val * at2 (aD m c) k.val y.val := by
  have hx := x.isLt
  have hy := y.isLt
  have hp : Value.pt2Of (ix2 x y) = 3 * (11 * (x.val / 1024) + y.val / 1024) + (3 - 1) := by
    show 3 * (11 * (x.val / 1024 - 0) + 1 * (y.val / 1024 - 0)) + 2 = _
    omega
  have hlt : Value.pt2Of (ix2 x y) < cfg0.N := by
    rw [hp]; exact lt_of_lt_of_eq (by omega : _ < 66) N_0.symm
  have hl : Value.loc2Of (ix2 x y) = ix2 (⟨x.val % 1024, Nat.mod_lt _ (by norm_num)⟩ : Fin 1024) (⟨y.val % 1024, Nat.mod_lt _ (by norm_num)⟩ : Fin 1024) := by
    funext a; apply Fin.ext
    match a with
    | ⟨0, _⟩ => rfl
    | ⟨1, _⟩ => rfl
  have e : (Value.G2 m c : S2048x11264.Idx → EReal) (ix2 x y)
      = ((outsAt0 m c (Value.pt2Of (ix2 x y)) hlt).1 : Vec Ideal S1024x1024 .bf16) (Value.loc2Of (ix2 x y)) := by
    rw [Value.outsAt0_sweep]
    exact dif_pos hlt
  rw [e, hl]
  refine run_sum 3 2816 cfg0.N (by norm_num) (fun t h => ((outsAt0 m c t h).2 : Vec Ideal S1024x1024 .f32) (ix2 _ _))
    (fun t h => ((outsAt0 m c t h).1 : Vec Ideal S1024x1024 .bf16) (ix2 _ _))
    (fun t h => k0_pay1 (F := Ideal) (iblk m c 0 ⟨t, h⟩) (iblk m c 1 ⟨t, h⟩) (ix2 _ _))
    (fun t h h0 => (congrFun (scr_A m c ⟨t, h⟩ h0) _).trans (pay2_apply _ _ _ _))
    (fun t h h1 h2 => (congrFun (scr_B m c ⟨t, h⟩ (by dsimp only; omega)) _).trans (pay3_apply _ _ _ _ _))
    (fun t h h2 => (congrFun (res_C m c ⟨t, h⟩ (by dsimp only; omega)) _).trans (pay4_apply _ _ _ _ _))
    (fun k => at2 (aH m c) k x.val * at2 (aD m c) k y.val) (11 * (x.val / 1024) + y.val / 1024) _ hlt hp fun j h hj => ?_
  refine (pay_blk m c ⟨_, h⟩ _ _).trans (Finset.sum_congr rfl fun k _ => ?_)
  dsimp only
  have ex : 1024 * ((3 * (11 * (x.val / 1024) + y.val / 1024) + j) / 33) + x.val % 1024 = x.val := by omega
  have ey : 1024 * ((3 * (11 * (x.val / 1024) + y.val / 1024) + j) / 3 % 11) + y.val % 1024 = y.val := by omega
  have ek : (3 * (11 * (x.val / 1024) + y.val / 1024) + j) % 3 = j := by omega
  rw [ex, ey, ek]

section Reference
open Cert.GwInRefIdeal Cert.GwInRefIdeal.Gen

variable (D : FVec Ideal Cert.GwInRefIdeal.S8448x11264 .bf16) (H : FVec Ideal Cert.GwInRefIdeal.S8448x2048 .bf16)

/-- The reference's result. -/
abbrev refGw : FVec Ideal Cert.GwInRefIdeal.S2048x11264 .bf16 :=
  truncf .bf16 (transpose Cert.GwInRefIdeal.S2048x11264 [1, 0] (Host.dotGeneral dot_S8448x11264_S8448x2048_S11264x2048_0_0_1_1_n_n none (extf .f32 D Cert.GwInRefIdeal.Gen.bitsLt_bf16_f32) (extf .f32 H Cert.GwInRefIdeal.Gen.bitsLt_bf16_f32)) transposes_S11264x2048_S2048x11264_1_0) Cert.GwInRefIdeal.Gen.bitsLt_bf16_f32

theorem ref_apply (x : Fin 2048) (y : Fin 11264) :
    refGw D H (ix2 x y) = ∑ k : Fin 8448, at2 H k.val x.val * at2 D k.val y.val := by
  have e : refGw D H (ix2 x y) = ∑ k : Fin 8448, D (ix2 k y) * H (ix2 k x) := by pointwise
  refine e.trans (Finset.sum_congr rfl fun k _ => ?_)
  rw [at2_fin, at2_fin, mul_comm]

/-- The reference's array is the kernel's. -/
theorem values (e0 : D = aD m c) (e1 : H = aH m c) : (refGw D H : S2048x11264.Idx → EReal) = Value.G2 m c := by
  subst e0; subst e1
  funext i
  rw [← ix2_eta i]
  exact (ref_apply _ _ _ _).trans (G_apply m c _ _).symm

end Reference

end Cert.GwInIdeal.Hand

end
-- ==== Proof.DMixValue.lean ====
/- The gradient of a mixing product's input: the array the kernel leaves and the reference's, entry by entry. -/
module

public import proofs.«01_k».proof.Proof.Gen.DMixIdeal.Value
public import proofs.«01_k».proof.Proof.Gen.DMixRefIdeal.Run
public import proofs.«01_k».proof.Proof.Product
public import Idealize.ShloMosaic.Lib.Pipeline.CanonAppend
public import Idealize.ShloMosaic.Lib.Pipeline.ReadBack
public import Idealize.ShloMosaic.Lib.Pipeline.ValueKit.Geometry

@[expose] public section

set_option maxRecDepth 16384

noncomputable section

namespace Cert.DMixIdeal.Hand

open Cert.DMixIdeal Cert.DMixIdeal.Gen Idealize.ShloMosaic Idealize.ShloMosaic.TcCoe Cert.Product
open Idealize.ShloMosaic.Pipeline (Dat)

theorem hz2 : (![0, 0] : Fin 2 → Nat) = fun _ => 0 := by decide

section Blocks
variable (x0 : Vec Ideal S1024x2048 .bf16) (x1 : Vec Ideal S1024x2048 .bf16)

theorem pay1_apply (r : Fin 1024) (s : Fin 1024) : k0_pay1 (F := Ideal) x0 x1 (ix2 r s) = ∑ k : Fin 2048, x0 (ix2 r k) * x1 (ix2 s k) := by
  pointwise [k0_pay1]

/-- What a point leaves. -/
theorem out_eq : out0_2 (F := Ideal) x0 x1 = k0_pay1 x0 x1 := by
  unfold out0_2
  rw [View.canon_unit_zero (S := S1024x1024) hz2]
  simp only [View.ld_unit_zero (S := S1024x2048) hz2]

end Blocks

variable (m : (ℓ : Loc nD τ sig) → Buf (Elt Ideal) ℓ) (c : Dev nD)

/-- The product's gradient and the weights, as the kernel finds them. -/
abbrev aA : S8192x2048.Idx → EReal := V m c main_arg0
abbrev aB : S2048x2048.Idx → EReal := V m c main_arg1

theorem idx_a : ∀ t : Fin cfg0.N, win0_0.index t = ![t.val / 2, 0] :=
  (by decide +kernel : ∀ t : Fin grid0.N, _)

theorem a_rd (X : Buf (Elt Ideal) ((c : Thread nD τ).loc main_arg0)) (t : Fin cfg0.N) (r : Fin 1024) (k : Fin 2048) :
    (((cfg0.win 0).blk t).view.read (Elt Ideal) X : Vec Ideal S1024x2048 .bf16) (ix2 r k)
      = at2 (n0 := 8192) (n1 := 2048) X (1024 * (t.val / 2) + r.val) ( k.val) := by
  rw [View.read_apply]
  refine eq_at2 (n0 := 8192) (n1 := 2048) X _ _ _ ?_ ?_
  · show win0_0.index t 0 * 1024 + 1 * r.val = _; rw [idx_a]; show (t.val / 2) * 1024 + 1 * r.val = _; omega
  · show win0_0.index t 1 * 2048 + 1 * k.val = _; rw [idx_a]; show (0) * 2048 + 1 * k.val = _; omega

theorem idx_b : ∀ t : Fin cfg0.N, win0_1.index t = ![t.val % 2, 0] :=
  (by decide +kernel : ∀ t : Fin grid0.N, _)

theorem b_rd (X : Buf (Elt Ideal) ((c : Thread nD τ).loc main_arg1)) (t : Fin cfg0.N) (s : Fin 1024) (k : Fin 2048) :
    (((cfg0.win 1).blk t).view.read (Elt Ideal) X : Vec Ideal S1024x2048 .bf16) (ix2 s k)
      = at2 (n0 := 2048) (n1 := 2048) X (1024 * (t.val % 2) + s.val) ( k.val) := by
  rw [View.read_apply]
  refine eq_at2 (n0 := 2048) (n1 := 2048) X _ _ _ ?_ ?_
  · show win0_1.index t 0 * 1024 + 1 * s.val = _; rw [idx_b]; show (t.val % 2) * 1024 + 1 * s.val = _; omega
  · show win0_1.index t 1 * 2048 + 1 * k.val = _; rw [idx_b]; show (0) * 2048 + 1 * k.val = _; omega

theorem idx_r : ∀ t : Fin cfg0.N, win0_2.index t = ![t.val / 2, t.val % 2] :=
  (by decide +kernel : ∀ t : Fin grid0.N, _)

/-- An entry of a point's product. -/
theorem pay_blk (t : Fin cfg0.N) (r : Fin 1024) (s : Fin 1024) :
    k0_pay1 (F := Ideal) (iblk m c 0 t) (iblk m c 1 t) (ix2 r s)
      = ∑ k : Fin 2048, at2 (aA m c) (1024 * (t.val / 2) + r.val) k.val * at2 (aB m c) (1024 * (t.val % 2) + s.val) k.val :=
  (pay1_apply _ _ r s).trans (Finset.sum_congr rfl fun k _ =>
    congrArg₂ (· * ·) (a_rd c (V m c main_arg0) t r k) (b_rd c (V m c main_arg1) t s k))

/-- The array the kernel leaves. -/
def res : S8192x2048.Idx → EReal := fun i =>
  ∑ k : Fin 2048, at2 (aA m c) (i 0).val k.val * at2 (aB m c) (i 1).val k.val

theorem res_emb (t : Fin cfg0.N) (y : S1024x1024.Idx) :
    res m c (((cfg0.win 2).blk t).view.emb y) = k0_pay1 (F := Ideal) (iblk m c 0 t) (iblk m c 1 t) (ix2 (y 0) (y 1)) := by
  have h0 : (((cfg0.win 2).blk t).view.emb y 0).val = 1024 * (t.val / 2) + (y 0).val := by
    show win0_2.index t 0 * 1024 + 1 * (y 0).val = _; rw [idx_r]; show (t.val / 2) * 1024 + 1 * (y 0).val = _; omega
  have h1 : (((cfg0.win 2).blk t).view.emb y 1).val = 1024 * (t.val % 2) + (y 1).val := by
    show win0_2.index t 1 * 1024 + 1 * (y 1).val = _; rw [idx_r]; show (t.val % 2) * 1024 + 1 * (y 1).val = _; omega
  refine Eq.trans ?_ (pay_blk m c t (y 0) (y 1)).symm
  exact congrArg₂ (fun u v => ∑ k : Fin 2048, at2 (aA m c) u k.val * at2 (aB m c) v k.val) h0 h1

theorem final : (dats m 0 c).arrAt 2 cfg0.N = res m c := by
  refine (dats m 0 c).arrAt_eq_of_covers 2 _ (by decide +kernel) fun t hf y => ?_
  rw [after0_2, out_eq]
  refine Eq.trans ?_ (res_emb m c t y).symm
  refine congrArg (k0_pay1 (F := Ideal) (iblk m c 0 t) (iblk m c 1 t)) ?_
  funext a
  match a with
  | ⟨0, _⟩ => rfl
  | ⟨1, _⟩ => rfl

section Reference
open Cert.DMixRefIdeal Cert.DMixRefIdeal.Gen

variable (A : FVec Ideal Cert.DMixRefIdeal.S8192x2048 .bf16) (B : FVec Ideal Cert.DMixRefIdeal.S2048x2048 .bf16)

/-- The reference's result. -/
abbrev refM : FVec Ideal Cert.DMixRefIdeal.S8192x2048 .bf16 :=
  truncf .bf16 (Host.dotGeneral dot_S8192x2048_S2048x2048_S8192x2048_1_1_0_0_n_n none (extf .f32 A Cert.DMixRefIdeal.Gen.bitsLt_bf16_f32) (extf .f32 B Cert.DMixRefIdeal.Gen.bitsLt_bf16_f32)) Cert.DMixRefIdeal.Gen.bitsLt_bf16_f32

theorem ref_apply (x : Fin 8192) (y : Fin 2048) :
    refM A B (ix2 x y) = ∑ k : Fin 2048, at2 A x.val k.val * at2 B y.val k.val := by
  have e : refM A B (ix2 x y) = ∑ k : Fin 2048, A (ix2 x k) * B (ix2 y k) := by pointwise
  refine e.trans (Finset.sum_congr rfl fun k _ => ?_)
  rw [at2_fin, at2_fin]

/-- The reference's array is the kernel's. -/
theorem values (e0 : A = aA m c) (e1 : B = aB m c) : (refM A B : S8192x2048.Idx → EReal) = (dats m 0 c).arrAt 2 cfg0.N := by
  subst e0; subst e1
  rw [final]
  funext i
  rw [← ix2_eta i]
  exact (ref_apply _ _ _ _).trans rfl

end Reference

end Cert.DMixIdeal.Hand

end
-- ==== Proof.GwMixValue.lean ====
/- The gradient of a mixing product's weights: the array the kernel leaves and the reference's, entry by entry. -/
module

public import proofs.«01_k».proof.Proof.Gen.GwMixIdeal.Value
public import proofs.«01_k».proof.Proof.Gen.GwMixRefIdeal.Run
public import proofs.«01_k».proof.Proof.Blocks
public import Idealize.ShloMosaic.Lib.Pipeline.CanonAppend
public import Idealize.ShloMosaic.Lib.Pipeline.ReadBack

@[expose] public section

set_option maxRecDepth 16384

noncomputable section

namespace Cert.GwMixIdeal.Hand

open Cert.GwMixIdeal Cert.GwMixIdeal.Gen Idealize.ShloMosaic Idealize.ShloMosaic.TcCoe Cert.Product

theorem hz2 : (![0, 0] : Fin 2 → Nat) = fun _ => 0 := by decide

section Runs
variable {F : FTy → Type} [FloatOps F]
variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .bf16)
  (harg5 : arg5.IsWhole) (arg6 : Memref sig .tc .vmem S1024x1024 .f32) (harg6 : arg6.IsWhole)
  (x0 : Vec F S2048x1024 .bf16) (x1 : Vec F S2048x1024 .bf16) (acc : Vec F S1024x1024 .f32)

/-- A run's first point stores its product in the scratch. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread]
  rw [View.canon_unit_zero (S := S1024x1024) hz2]
  simp only [View.ld_unit_zero (S := S2048x1024) hz2]

/-- The points between add theirs. -/
theorem sout_B (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  simp only [View.readAt_eq_ld, harg3.read_unread, harg4.read_unread, harg6.read_unread]
  rw [View.canon_unit_zero (S := S1024x1024) hz2]
  simp only [View.ld_unit_zero (S := S2048x1024) hz2, View.ld_unit_zero (S := S1024x1024) hz2]

/-- The last writes the sum out. -/
theorem out_C (hc0 : ¬cond0_0 i) (hc1 : ¬cond0_1 i) (hc2 : cond0_2 i) :
    out0_C_2 c i arg3 harg3 arg4 harg4 arg5 harg5 arg6 harg6 hc0 hc1 hc2 x0 x1 acc = k0_pay4 x0 x1 acc := by
  unfold out0_C_2
  rw [View.read_writes_eq_canon _ _ _ (cover0_C_2 c i arg3 harg3 arg4 harg4 arg5 harg5 arg6 harg6 hc0 hc1 hc2 x0 x1 acc)]
  unfold kernelRun0_C
  dsimp only
  sl_unfold_words
  simp only [View.readAt_eq_ld, harg3.read_unread, harg4.read_unread, harg6.read_unread]
  rw [View.canon_unit_zero (S := S1024x1024) hz2]
  simp only [View.ld_unit_zero (S := S2048x1024) hz2, View.ld_unit_zero (S := S1024x1024) hz2]

end Runs

section Blocks
variable (x0 : Vec Ideal S2048x1024 .bf16) (x1 : Vec Ideal S2048x1024 .bf16) (acc : Vec Ideal S1024x1024 .f32) (r : Fin 1024) (s : Fin 1024)

theorem pay1_apply : k0_pay1 (F := Ideal) x0 x1 (ix2 r s) = ∑ k : Fin 2048, x0 (ix2 k r) * x1 (ix2 k s) := by
  pointwise [k0_pay1]

theorem pay2_apply : k0_pay2 (F := Ideal) x0 x1 (ix2 r s) = k0_pay1 (F := Ideal) x0 x1 (ix2 r s) := by
  pointwise [k0_pay2]

theorem pay3_apply : k0_pay3 (F := Ideal) x0 x1 acc (ix2 r s) = acc (ix2 r s) + k0_pay1 (F := Ideal) x0 x1 (ix2 r s) := by
  pointwise [k0_pay3]

theorem pay4_apply : k0_pay4 (F := Ideal) x0 x1 acc (ix2 r s) = acc (ix2 r s) + k0_pay1 (F := Ideal) x0 x1 (ix2 r s) := by
  pointwise [k0_pay4]

end Blocks

variable (m : (ℓ : Loc nD τ sig) → Buf (Elt Ideal) ℓ) (c : Dev nD)

/-- The product's input and its gradient, as the kernel finds them. -/
abbrev aA : S8192x2048.Idx → EReal := V m c main_arg0
abbrev aB : S8192x2048.Idx → EReal := V m c main_arg1

theorem idx_a : ∀ t : Fin cfg0.N, win0_0.index t = ![t.val % 4, t.val / 8] :=
  (by decide +kernel : ∀ t : Fin grid0.N, _)

theorem a_rd (X : Buf (Elt Ideal) ((c : Thread nD τ).loc main_arg0)) (t : Fin cfg0.N) (k : Fin 2048) (r : Fin 1024) :
    (((cfg0.win 0).blk t).view.read (Elt Ideal) X : Vec Ideal S2048x1024 .bf16) (ix2 k r)
      = at2 (n0 := 8192) (n1 := 2048) X (2048 * (t.val % 4) + k.val) (1024 * (t.val / 8) + r.val) := by
  rw [View.read_apply]
  refine eq_at2 (n0 := 8192) (n1 := 2048) X _ _ _ ?_ ?_
  · show win0_0.index t 0 * 2048 + 1 * k.val = _; rw [idx_a]; show (t.val % 4) * 2048 + 1 * k.val = _; omega
  · show win0_0.index t 1 * 1024 + 1 * r.val = _; rw [idx_a]; show (t.val / 8) * 1024 + 1 * r.val = _; omega

theorem idx_b : ∀ t : Fin cfg0.N, win0_1.index t = ![t.val % 4, t.val / 4 % 2] :=
  (by decide +kernel : ∀ t : Fin grid0.N, _)

theorem b_rd (X : Buf (Elt Ideal) ((c : Thread nD τ).loc main_arg1)) (t : Fin cfg0.N) (k : Fin 2048) (s : Fin 1024) :
    (((cfg0.win 1).blk t).view.read (Elt Ideal) X : Vec Ideal S2048x1024 .bf16) (ix2 k s)
      = at2 (n0 := 8192) (n1 := 2048) X (2048 * (t.val % 4) + k.val) (1024 * (t.val / 4 % 2) + s.val) := by
  rw [View.read_apply]
  refine eq_at2 (n0 := 8192) (n1 := 2048) X _ _ _ ?_ ?_
  · show win0_1.index t 0 * 2048 + 1 * k.val = _; rw [idx_b]; show (t.val % 4) * 2048 + 1 * k.val = _; omega
  · show win0_1.index t 1 * 1024 + 1 * s.val = _; rw [idx_b]; show (t.val / 4 % 2) * 1024 + 1 * s.val = _; omega

/-- An entry of a point's product. -/
theorem pay_blk (t : Fin cfg0.N) (r : Fin 1024) (s : Fin 1024) :
    k0_pay1 (F := Ideal) (iblk m c 0 t) (iblk m c 1 t) (ix2 r s)
      = ∑ k : Fin 2048, at2 (aA m c) (2048 * (t.val % 4) + k.val) (1024 * (t.val / 8) + r.val) * at2 (aB m c) (2048 * (t.val % 4) + k.val) (1024 * (t.val / 4 % 2) + s.val) :=
  (pay1_apply _ _ r s).trans (Finset.sum_congr rfl fun k _ =>
    congrArg₂ (· * ·) (a_rd c (V m c main_arg0) t k r) (b_rd c (V m c main_arg1) t k s))

/-- What a point leaves, over what the point before left in the scratch. -/
theorem scr_A (t : Fin cfg0.N) (h0 : t.val % 4 = 0) :
    (outsAt0 m c t.val t.isLt).2 = k0_pay2 (iblk m c 0 t) (iblk m c 1 t) := by
  rw [outsAt0_A m c t h0 (by omega) (by omega)]
  dsimp only
  rw [sout_A]

theorem scr_B (t : Fin cfg0.N) (h1 : 1 ≤ t.val % 4 ∧ t.val % 4 ≤ 2) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h1 (by omega)]
  dsimp only
  rw [sout_B]

theorem res_C (t : Fin cfg0.N) (h2 : t.val % 4 = 3) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h2]
  dsimp only
  rw [out_C]

/-- An entry of the kernel's result. -/
theorem G_apply (x : Fin 2048) (y : Fin 2048) :
    (Value.G2 m c : S2048x2048.Idx → EReal) (ix2 x y) = ∑ k : Fin 8192, at2 (aA m c) k.val x.val * at2 (aB m c) k.val y.val := by
  have hx := x.isLt
  have hy := y.isLt
  have hp : Value.pt2Of (ix2 x y) = 4 * (2 * (x.val / 1024) + y.val / 1024) + (4 - 1) := by
    show 4 * (2 * (x.val / 1024 - 0) + 1 * (y.val / 1024 - 0)) + 3 = _
    omega
  have hlt : Value.pt2Of (ix2 x y) < cfg0.N := by
    rw [hp]; exact lt_of_lt_of_eq (by omega : _ < 16) N_0.symm
  have hl : Value.loc2Of (ix2 x y) = ix2 (⟨x.val % 1024, Nat.mod_lt _ (by norm_num)⟩ : Fin 1024) (⟨y.val % 1024, Nat.mod_lt _ (by norm_num)⟩ : Fin 1024) := by
    funext a; apply Fin.ext
    match a with
    | ⟨0, _⟩ => rfl
    | ⟨1, _⟩ => rfl
  have e : (Value.G2 m c : S2048x2048.Idx → EReal) (ix2 x y)
      = ((outsAt0 m c (Value.pt2Of (ix2 x y)) hlt).1 : Vec Ideal S1024x1024 .bf16) (Value.loc2Of (ix2 x y)) := by
    rw [Value.outsAt0_sweep]
    exact dif_pos hlt
  rw [e, hl]
  refine run_sum 4 2048 cfg0.N (by norm_num) (fun t h => ((outsAt0 m c t h).2 : Vec Ideal S1024x1024 .f32) (ix2 _ _))
    (fun t h => ((outsAt0 m c t h).1 : Vec Ideal S1024x1024 .bf16) (ix2 _ _))
    (fun t h => k0_pay1 (F := Ideal) (iblk m c 0 ⟨t, h⟩) (iblk m c 1 ⟨t, h⟩) (ix2 _ _))
    (fun t h h0 => (congrFun (scr_A m c ⟨t, h⟩ h0) _).trans (pay2_apply _ _ _ _))
    (fun t h h1 h2 => (congrFun (scr_B m c ⟨t, h⟩ (by dsimp only; omega)) _).trans (pay3_apply _ _ _ _ _))
    (fun t h h2 => (congrFun (res_C m c ⟨t, h⟩ (by dsimp only; omega)) _).trans (pay4_apply _ _ _ _ _))
    (fun k => at2 (aA m c) k x.val * at2 (aB m c) k y.val) (2 * (x.val / 1024) + y.val / 1024) _ hlt hp fun j h hj => ?_
  refine (pay_blk m c ⟨_, h⟩ _ _).trans (Finset.sum_congr rfl fun k _ => ?_)
  dsimp only
  have ex : 1024 * ((4 * (2 * (x.val / 1024) + y.val / 1024) + j) / 8) + x.val % 1024 = x.val := by omega
  have ey : 1024 * ((4 * (2 * (x.val / 1024) + y.val / 1024) + j) / 4 % 2) + y.val % 1024 = y.val := by omega
  have ek : (4 * (2 * (x.val / 1024) + y.val / 1024) + j) % 4 = j := by omega
  rw [ex, ey, ek]

section Reference
open Cert.GwMixRefIdeal Cert.GwMixRefIdeal.Gen

variable (A : FVec Ideal Cert.GwMixRefIdeal.S8192x2048 .bf16) (B : FVec Ideal Cert.GwMixRefIdeal.S8192x2048 .bf16)

/-- The reference's result. -/
abbrev refM : FVec Ideal Cert.GwMixRefIdeal.S2048x2048 .bf16 :=
  truncf .bf16 (transpose Cert.GwMixRefIdeal.S2048x2048 [1, 0] (Host.dotGeneral dot_S8192x2048_S8192x2048_S2048x2048_0_0_1_1_n_n none (extf .f32 B Cert.GwMixRefIdeal.Gen.bitsLt_bf16_f32) (extf .f32 A Cert.GwMixRefIdeal.Gen.bitsLt_bf16_f32)) transposes_S2048x2048_S2048x2048_1_0) Cert.GwMixRefIdeal.Gen.bitsLt_bf16_f32

theorem ref_apply (x : Fin 2048) (y : Fin 2048) :
    refM A B (ix2 x y) = ∑ k : Fin 8192, at2 A k.val x.val * at2 B k.val y.val := by
  have e : refM A B (ix2 x y) = ∑ k : Fin 8192, B (ix2 k y) * A (ix2 k x) := by pointwise
  refine e.trans (Finset.sum_congr rfl fun k _ => ?_)
  rw [at2_fin, at2_fin, mul_comm]

/-- The reference's array is the kernel's. -/
theorem values (e0 : A = aA m c) (e1 : B = aB m c) : (refM A B : S2048x2048.Idx → EReal) = Value.G2 m c := by
  subst e0; subst e1
  funext i
  rw [← ix2_eta i]
  exact (ref_apply _ _ _ _).trans (G_apply m c _ _).symm

end Reference

end Cert.GwMixIdeal.Hand

end
-- ==== Proof.MixValue.lean ====
/- A branch's mixing product: the array the kernel leaves and the reference's, entry by entry. -/
module

public import proofs.«01_k».proof.Proof.Gen.MixIdeal.Value
public import proofs.«01_k».proof.Proof.Gen.MixRefIdeal.Run
public import proofs.«01_k».proof.Proof.Product
public import Idealize.ShloMosaic.Lib.Pipeline.CanonAppend
public import Idealize.ShloMosaic.Lib.Pipeline.ReadBack
public import Idealize.ShloMosaic.Lib.Pipeline.ValueKit.Geometry

@[expose] public section

set_option maxRecDepth 16384

noncomputable section

namespace Cert.MixIdeal.Hand

open Cert.MixIdeal Cert.MixIdeal.Gen Idealize.ShloMosaic Idealize.ShloMosaic.TcCoe Cert.Product
open Idealize.ShloMosaic.Pipeline (Dat)

theorem hz2 : (![0, 0] : Fin 2 → Nat) = fun _ => 0 := by decide

section Blocks
variable (x0 : Vec Ideal S1024x2048 .bf16) (x1 : Vec Ideal S2048x1024 .bf16)

theorem pay1_apply (r : Fin 1024) (s : Fin 1024) : k0_pay1 (F := Ideal) x0 x1 (ix2 r s) = ∑ k : Fin 2048, x0 (ix2 r k) * x1 (ix2 k s) := by
  pointwise [k0_pay1]

/-- What a point leaves. -/
theorem out_eq : out0_2 (F := Ideal) x0 x1 = k0_pay1 x0 x1 := by
  unfold out0_2
  rw [View.canon_unit_zero (S := S1024x1024) hz2]
  simp only [View.ld_unit_zero (S := S1024x2048) hz2, View.ld_unit_zero (S := S2048x1024) hz2]

end Blocks

variable (m : (ℓ : Loc nD τ sig) → Buf (Elt Ideal) ℓ) (c : Dev nD)

/-- The branch and its weights, as the kernel finds them. -/
abbrev aA : S8192x2048.Idx → EReal := V m c main_arg0
abbrev aB : S2048x2048.Idx → EReal := V m c main_arg1

theorem idx_a : ∀ t : Fin cfg0.N, win0_0.index t = ![t.val / 2, 0] :=
  (by decide +kernel : ∀ t : Fin grid0.N, _)

theorem a_rd (X : Buf (Elt Ideal) ((c : Thread nD τ).loc main_arg0)) (t : Fin cfg0.N) (r : Fin 1024) (k : Fin 2048) :
    (((cfg0.win 0).blk t).view.read (Elt Ideal) X : Vec Ideal S1024x2048 .bf16) (ix2 r k)
      = at2 (n0 := 8192) (n1 := 2048) X (1024 * (t.val / 2) + r.val) ( k.val) := by
  rw [View.read_apply]
  refine eq_at2 (n0 := 8192) (n1 := 2048) X _ _ _ ?_ ?_
  · show win0_0.index t 0 * 1024 + 1 * r.val = _; rw [idx_a]; show (t.val / 2) * 1024 + 1 * r.val = _; omega
  · show win0_0.index t 1 * 2048 + 1 * k.val = _; rw [idx_a]; show (0) * 2048 + 1 * k.val = _; omega

theorem idx_b : ∀ t : Fin cfg0.N, win0_1.index t = ![0, t.val % 2] :=
  (by decide +kernel : ∀ t : Fin grid0.N, _)

theorem b_rd (X : Buf (Elt Ideal) ((c : Thread nD τ).loc main_arg1)) (t : Fin cfg0.N) (k : Fin 2048) (s : Fin 1024) :
    (((cfg0.win 1).blk t).view.read (Elt Ideal) X : Vec Ideal S2048x1024 .bf16) (ix2 k s)
      = at2 (n0 := 2048) (n1 := 2048) X ( k.val) (1024 * (t.val % 2) + s.val) := by
  rw [View.read_apply]
  refine eq_at2 (n0 := 2048) (n1 := 2048) X _ _ _ ?_ ?_
  · show win0_1.index t 0 * 2048 + 1 * k.val = _; rw [idx_b]; show (0) * 2048 + 1 * k.val = _; omega
  · show win0_1.index t 1 * 1024 + 1 * s.val = _; rw [idx_b]; show (t.val % 2) * 1024 + 1 * s.val = _; omega

theorem idx_r : ∀ t : Fin cfg0.N, win0_2.index t = ![t.val / 2, t.val % 2] :=
  (by decide +kernel : ∀ t : Fin grid0.N, _)

/-- An entry of a point's product. -/
theorem pay_blk (t : Fin cfg0.N) (r : Fin 1024) (s : Fin 1024) :
    k0_pay1 (F := Ideal) (iblk m c 0 t) (iblk m c 1 t) (ix2 r s)
      = ∑ k : Fin 2048, at2 (aA m c) (1024 * (t.val / 2) + r.val) k.val * at2 (aB m c) k.val (1024 * (t.val % 2) + s.val) :=
  (pay1_apply _ _ r s).trans (Finset.sum_congr rfl fun k _ =>
    congrArg₂ (· * ·) (a_rd c (V m c main_arg0) t r k) (b_rd c (V m c main_arg1) t k s))

/-- The array the kernel leaves. -/
def res : S8192x2048.Idx → EReal := fun i =>
  ∑ k : Fin 2048, at2 (aA m c) (i 0).val k.val * at2 (aB m c) k.val (i 1).val

theorem res_emb (t : Fin cfg0.N) (y : S1024x1024.Idx) :
    res m c (((cfg0.win 2).blk t).view.emb y) = k0_pay1 (F := Ideal) (iblk m c 0 t) (iblk m c 1 t) (ix2 (y 0) (y 1)) := by
  have h0 : (((cfg0.win 2).blk t).view.emb y 0).val = 1024 * (t.val / 2) + (y 0).val := by
    show win0_2.index t 0 * 1024 + 1 * (y 0).val = _; rw [idx_r]; show (t.val / 2) * 1024 + 1 * (y 0).val = _; omega
  have h1 : (((cfg0.win 2).blk t).view.emb y 1).val = 1024 * (t.val % 2) + (y 1).val := by
    show win0_2.index t 1 * 1024 + 1 * (y 1).val = _; rw [idx_r]; show (t.val % 2) * 1024 + 1 * (y 1).val = _; omega
  refine Eq.trans ?_ (pay_blk m c t (y 0) (y 1)).symm
  exact congrArg₂ (fun u v => ∑ k : Fin 2048, at2 (aA m c) u k.val * at2 (aB m c) k.val v) h0 h1

theorem final : (dats m 0 c).arrAt 2 cfg0.N = res m c := by
  refine (dats m 0 c).arrAt_eq_of_covers 2 _ (by decide +kernel) fun t hf y => ?_
  rw [after0_2, out_eq]
  refine Eq.trans ?_ (res_emb m c t y).symm
  refine congrArg (k0_pay1 (F := Ideal) (iblk m c 0 t) (iblk m c 1 t)) ?_
  funext a
  match a with
  | ⟨0, _⟩ => rfl
  | ⟨1, _⟩ => rfl

section Reference
open Cert.MixRefIdeal Cert.MixRefIdeal.Gen

variable (A : FVec Ideal Cert.MixRefIdeal.S8192x2048 .bf16) (B : FVec Ideal Cert.MixRefIdeal.S2048x2048 .bf16)

/-- The reference's result. -/
abbrev refM : FVec Ideal Cert.MixRefIdeal.S8192x2048 .bf16 :=
  truncf .bf16 (Host.dotGeneral dot_S8192x2048_S2048x2048_S8192x2048_1_0_0_1_n_n none (extf .f32 A Cert.MixRefIdeal.Gen.bitsLt_bf16_f32) (extf .f32 B Cert.MixRefIdeal.Gen.bitsLt_bf16_f32)) Cert.MixRefIdeal.Gen.bitsLt_bf16_f32

theorem ref_apply (x : Fin 8192) (y : Fin 2048) :
    refM A B (ix2 x y) = ∑ k : Fin 2048, at2 A x.val k.val * at2 B k.val y.val := by
  have e : refM A B (ix2 x y) = ∑ k : Fin 2048, A (ix2 x k) * B (ix2 k y) := by pointwise
  refine e.trans (Finset.sum_congr rfl fun k _ => ?_)
  rw [at2_fin, at2_fin]

/-- The reference's array is the kernel's. -/
theorem values (e0 : A = aA m c) (e1 : B = aB m c) : (refM A B : S8192x2048.Idx → EReal) = (dats m 0 c).arrAt 2 cfg0.N := by
  subst e0; subst e1
  rw [final]
  funext i
  rw [← ix2_eta i]
  exact (ref_apply _ _ _ _).trans rfl

end Reference

end Cert.MixIdeal.Hand

end
-- ==== Proof.OutValue.lean ====
/- The output product: the array the kernel leaves and the reference's, entry by entry. -/
module

public import proofs.«01_k».proof.Proof.Gen.OutIdeal.Value
public import proofs.«01_k».proof.Proof.Gen.OutRefIdeal.Run
public import proofs.«01_k».proof.Proof.Product
public import Idealize.ShloMosaic.Lib.Pipeline.CanonAppend
public import Idealize.ShloMosaic.Lib.Pipeline.ReadBack
public import Idealize.ShloMosaic.Lib.Pipeline.ValueKit.Geometry

@[expose] public section

set_option maxRecDepth 16384

noncomputable section

namespace Cert.OutIdeal.Hand

open Cert.OutIdeal Cert.OutIdeal.Gen Idealize.ShloMosaic Idealize.ShloMosaic.TcCoe Cert.Product
open Idealize.ShloMosaic.Pipeline (Dat)

theorem hz2 : (![0, 0] : Fin 2 → Nat) = fun _ => 0 := by decide

section Blocks
variable (x0 : Vec Ideal S1024x2048 .bf16) (x1 : Vec Ideal S2048x1024 .bf16)

theorem pay1_apply (r : Fin 1024) (s : Fin 1024) : k0_pay1 (F := Ideal) x0 x1 (ix2 r s) = ∑ k : Fin 2048, x0 (ix2 r k) * x1 (ix2 k s) := by
  pointwise [k0_pay1]

/-- What a point leaves. -/
theorem out_eq : out0_2 (F := Ideal) x0 x1 = k0_pay1 x0 x1 := by
  unfold out0_2
  rw [View.canon_unit_zero (S := S1024x1024) hz2]
  simp only [View.ld_unit_zero (S := S1024x2048) hz2, View.ld_unit_zero (S := S2048x1024) hz2]

end Blocks

variable (m : (ℓ : Loc nD τ sig) → Buf (Elt Ideal) ℓ) (c : Dev nD)

/-- The mixed branches and the weights, as the kernel finds them. -/
abbrev aA : S8192x2048.Idx → EReal := V m c main_arg0
abbrev aB : S2048x2048.Idx → EReal := V m c main_arg1

theorem idx_a : ∀ t : Fin cfg0.N, win0_0.index t = ![t.val / 2, 0] :=
  (by decide +kernel : ∀ t : Fin grid0.N, _)

theorem a_rd (X : Buf (Elt Ideal) ((c : Thread nD τ).loc main_arg0)) (t : Fin cfg0.N) (r : Fin 1024) (k : Fin 2048) :
    (((cfg0.win 0).blk t).view.read (Elt Ideal) X : Vec Ideal S1024x2048 .bf16) (ix2 r k)
      = at2 (n0 := 8192) (n1 := 2048) X (1024 * (t.val / 2) + r.val) ( k.val) := by
  rw [View.read_apply]
  refine eq_at2 (n0 := 8192) (n1 := 2048) X _ _ _ ?_ ?_
  · show win0_0.index t 0 * 1024 + 1 * r.val = _; rw [idx_a]; show (t.val / 2) * 1024 + 1 * r.val = _; omega
  · show win0_0.index t 1 * 2048 + 1 * k.val = _; rw [idx_a]; show (0) * 2048 + 1 * k.val = _; omega

theorem idx_b : ∀ t : Fin cfg0.N, win0_1.index t = ![0, t.val % 2] :=
  (by decide +kernel : ∀ t : Fin grid0.N, _)

theorem b_rd (X : Buf (Elt Ideal) ((c : Thread nD τ).loc main_arg1)) (t : Fin cfg0.N) (k : Fin 2048) (s : Fin 1024) :
    (((cfg0.win 1).blk t).view.read (Elt Ideal) X : Vec Ideal S2048x1024 .bf16) (ix2 k s)
      = at2 (n0 := 2048) (n1 := 2048) X ( k.val) (1024 * (t.val % 2) + s.val) := by
  rw [View.read_apply]
  refine eq_at2 (n0 := 2048) (n1 := 2048) X _ _ _ ?_ ?_
  · show win0_1.index t 0 * 2048 + 1 * k.val = _; rw [idx_b]; show (0) * 2048 + 1 * k.val = _; omega
  · show win0_1.index t 1 * 1024 + 1 * s.val = _; rw [idx_b]; show (t.val % 2) * 1024 + 1 * s.val = _; omega

theorem idx_r : ∀ t : Fin cfg0.N, win0_2.index t = ![t.val / 2, t.val % 2] :=
  (by decide +kernel : ∀ t : Fin grid0.N, _)

/-- An entry of a point's product. -/
theorem pay_blk (t : Fin cfg0.N) (r : Fin 1024) (s : Fin 1024) :
    k0_pay1 (F := Ideal) (iblk m c 0 t) (iblk m c 1 t) (ix2 r s)
      = ∑ k : Fin 2048, at2 (aA m c) (1024 * (t.val / 2) + r.val) k.val * at2 (aB m c) k.val (1024 * (t.val % 2) + s.val) :=
  (pay1_apply _ _ r s).trans (Finset.sum_congr rfl fun k _ =>
    congrArg₂ (· * ·) (a_rd c (V m c main_arg0) t r k) (b_rd c (V m c main_arg1) t k s))

/-- The array the kernel leaves. -/
def res : S8192x2048.Idx → EReal := fun i =>
  ∑ k : Fin 2048, at2 (aA m c) (i 0).val k.val * at2 (aB m c) k.val (i 1).val

theorem res_emb (t : Fin cfg0.N) (y : S1024x1024.Idx) :
    res m c (((cfg0.win 2).blk t).view.emb y) = k0_pay1 (F := Ideal) (iblk m c 0 t) (iblk m c 1 t) (ix2 (y 0) (y 1)) := by
  have h0 : (((cfg0.win 2).blk t).view.emb y 0).val = 1024 * (t.val / 2) + (y 0).val := by
    show win0_2.index t 0 * 1024 + 1 * (y 0).val = _; rw [idx_r]; show (t.val / 2) * 1024 + 1 * (y 0).val = _; omega
  have h1 : (((cfg0.win 2).blk t).view.emb y 1).val = 1024 * (t.val % 2) + (y 1).val := by
    show win0_2.index t 1 * 1024 + 1 * (y 1).val = _; rw [idx_r]; show (t.val % 2) * 1024 + 1 * (y 1).val = _; omega
  refine Eq.trans ?_ (pay_blk m c t (y 0) (y 1)).symm
  exact congrArg₂ (fun u v => ∑ k : Fin 2048, at2 (aA m c) u k.val * at2 (aB m c) k.val v) h0 h1

theorem final : (dats m 0 c).arrAt 2 cfg0.N = res m c := by
  refine (dats m 0 c).arrAt_eq_of_covers 2 _ (by decide +kernel) fun t hf y => ?_
  rw [after0_2, out_eq]
  refine Eq.trans ?_ (res_emb m c t y).symm
  refine congrArg (k0_pay1 (F := Ideal) (iblk m c 0 t) (iblk m c 1 t)) ?_
  funext a
  match a with
  | ⟨0, _⟩ => rfl
  | ⟨1, _⟩ => rfl

section Reference
open Cert.OutRefIdeal Cert.OutRefIdeal.Gen

variable (A : FVec Ideal Cert.OutRefIdeal.S8192x2048 .bf16) (B : FVec Ideal Cert.OutRefIdeal.S2048x2048 .bf16)

/-- The reference's result. -/
abbrev refM : FVec Ideal Cert.OutRefIdeal.S8192x2048 .f32 :=
  Host.dotGeneral dot_S8192x2048_S2048x2048_S8192x2048_1_0_0_1_n_n none (extf .f32 A Cert.OutRefIdeal.Gen.bitsLt_bf16_f32) (extf .f32 B Cert.OutRefIdeal.Gen.bitsLt_bf16_f32)

theorem ref_apply (x : Fin 8192) (y : Fin 2048) :
    refM A B (ix2 x y) = ∑ k : Fin 2048, at2 A x.val k.val * at2 B k.val y.val := by
  have e : refM A B (ix2 x y) = ∑ k : Fin 2048, A (ix2 x k) * B (ix2 k y) := by pointwise
  refine e.trans (Finset.sum_congr rfl fun k _ => ?_)
  rw [at2_fin, at2_fin]

/-- The reference's array is the kernel's. -/
theorem values (e0 : A = aA m c) (e1 : B = aB m c) : (refM A B : S8192x2048.Idx → EReal) = (dats m 0 c).arrAt 2 cfg0.N := by
  subst e0; subst e1
  rw [final]
  funext i
  rw [← ix2_eta i]
  exact (ref_apply _ _ _ _).trans rfl

end Reference

end Cert.OutIdeal.Hand

end
-- ==== Proof.ProjValue.lean ====
/- The input projection: the array the kernel leaves and the reference's, entry by entry. -/
module

public import proofs.«01_k».proof.Proof.Gen.ProjIdeal.Value
public import proofs.«01_k».proof.Proof.Gen.ProjRefIdeal.Run
public import proofs.«01_k».proof.Proof.Product
public import Idealize.ShloMosaic.Lib.Pipeline.CanonAppend
public import Idealize.ShloMosaic.Lib.Pipeline.ReadBack
public import Idealize.ShloMosaic.Lib.Pipeline.ValueKit.Geometry

@[expose] public section

set_option maxRecDepth 16384

noncomputable section

namespace Cert.ProjIdeal.Hand

open Cert.ProjIdeal Cert.ProjIdeal.Gen Idealize.ShloMosaic Idealize.ShloMosaic.TcCoe Cert.Product
open Idealize.ShloMosaic.Pipeline (Dat)

theorem hz2 : (![0, 0] : Fin 2 → Nat) = fun _ => 0 := by decide

section Blocks
variable (x0 : Vec Ideal S1408x2048 .bf16) (x1 : Vec Ideal S2048x1024 .bf16)

theorem pay1_apply (r : Fin 1408) (s : Fin 1024) : k0_pay1 (F := Ideal) x0 x1 (ix2 r s) = ∑ k : Fin 2048, x0 (ix2 r k) * x1 (ix2 k s) := by
  pointwise [k0_pay1]

/-- What a point leaves. -/
theorem out_eq : out0_2 (F := Ideal) x0 x1 = k0_pay1 x0 x1 := by
  unfold out0_2
  rw [View.canon_unit_zero (S := S1408x1024) hz2]
  simp only [View.ld_unit_zero (S := S1408x2048) hz2, View.ld_unit_zero (S := S2048x1024) hz2]

end Blocks

variable (m : (ℓ : Loc nD τ sig) → Buf (Elt Ideal) ℓ) (c : Dev nD)

/-- The layer's input and the weights, as the kernel finds them. -/
abbrev aA : S8448x2048.Idx → EReal := V m c main_arg0
abbrev aB : S2048x11264.Idx → EReal := V m c main_arg1

theorem idx_a : ∀ t : Fin cfg0.N, win0_0.index t = ![t.val / 11, 0] :=
  (by decide +kernel : ∀ t : Fin grid0.N, _)

theorem a_rd (X : Buf (Elt Ideal) ((c : Thread nD τ).loc main_arg0)) (t : Fin cfg0.N) (r : Fin 1408) (k : Fin 2048) :
    (((cfg0.win 0).blk t).view.read (Elt Ideal) X : Vec Ideal S1408x2048 .bf16) (ix2 r k)
      = at2 (n0 := 8448) (n1 := 2048) X (1408 * (t.val / 11) + r.val) ( k.val) := by
  rw [View.read_apply]
  refine eq_at2 (n0 := 8448) (n1 := 2048) X _ _ _ ?_ ?_
  · show win0_0.index t 0 * 1408 + 1 * r.val = _; rw [idx_a]; show (t.val / 11) * 1408 + 1 * r.val = _; omega
  · show win0_0.index t 1 * 2048 + 1 * k.val = _; rw [idx_a]; show (0) * 2048 + 1 * k.val = _; omega

theorem idx_b : ∀ t : Fin cfg0.N, win0_1.index t = ![0, t.val % 11] :=
  (by decide +kernel : ∀ t : Fin grid0.N, _)

theorem b_rd (X : Buf (Elt Ideal) ((c : Thread nD τ).loc main_arg1)) (t : Fin cfg0.N) (k : Fin 2048) (s : Fin 1024) :
    (((cfg0.win 1).blk t).view.read (Elt Ideal) X : Vec Ideal S2048x1024 .bf16) (ix2 k s)
      = at2 (n0 := 2048) (n1 := 11264) X ( k.val) (1024 * (t.val % 11) + s.val) := by
  rw [View.read_apply]
  refine eq_at2 (n0 := 2048) (n1 := 11264) X _ _ _ ?_ ?_
  · show win0_1.index t 0 * 2048 + 1 * k.val = _; rw [idx_b]; show (0) * 2048 + 1 * k.val = _; omega
  · show win0_1.index t 1 * 1024 + 1 * s.val = _; rw [idx_b]; show (t.val % 11) * 1024 + 1 * s.val = _; omega

theorem idx_r : ∀ t : Fin cfg0.N, win0_2.index t = ![t.val / 11, t.val % 11] :=
  (by decide +kernel : ∀ t : Fin grid0.N, _)

/-- An entry of a point's product. -/
theorem pay_blk (t : Fin cfg0.N) (r : Fin 1408) (s : Fin 1024) :
    k0_pay1 (F := Ideal) (iblk m c 0 t) (iblk m c 1 t) (ix2 r s)
      = ∑ k : Fin 2048, at2 (aA m c) (1408 * (t.val / 11) + r.val) k.val * at2 (aB m c) k.val (1024 * (t.val % 11) + s.val) :=
  (pay1_apply _ _ r s).trans (Finset.sum_congr rfl fun k _ =>
    congrArg₂ (· * ·) (a_rd c (V m c main_arg0) t r k) (b_rd c (V m c main_arg1) t k s))

/-- The array the kernel leaves. -/
def res : S8448x11264.Idx → EReal := fun i =>
  ∑ k : Fin 2048, at2 (aA m c) (i 0).val k.val * at2 (aB m c) k.val (i 1).val

theorem res_emb (t : Fin cfg0.N) (y : S1408x1024.Idx) :
    res m c (((cfg0.win 2).blk t).view.emb y) = k0_pay1 (F := Ideal) (iblk m c 0 t) (iblk m c 1 t) (ix2 (y 0) (y 1)) := by
  have h0 : (((cfg0.win 2).blk t).view.emb y 0).val = 1408 * (t.val / 11) + (y 0).val := by
    show win0_2.index t 0 * 1408 + 1 * (y 0).val = _; rw [idx_r]; show (t.val / 11) * 1408 + 1 * (y 0).val = _; omega
  have h1 : (((cfg0.win 2).blk t).view.emb y 1).val = 1024 * (t.val % 11) + (y 1).val := by
    show win0_2.index t 1 * 1024 + 1 * (y 1).val = _; rw [idx_r]; show (t.val % 11) * 1024 + 1 * (y 1).val = _; omega
  refine Eq.trans ?_ (pay_blk m c t (y 0) (y 1)).symm
  exact congrArg₂ (fun u v => ∑ k : Fin 2048, at2 (aA m c) u k.val * at2 (aB m c) k.val v) h0 h1

theorem final : (dats m 0 c).arrAt 2 cfg0.N = res m c := by
  refine (dats m 0 c).arrAt_eq_of_covers 2 _ (by decide +kernel) fun t hf y => ?_
  rw [after0_2, out_eq]
  refine Eq.trans ?_ (res_emb m c t y).symm
  refine congrArg (k0_pay1 (F := Ideal) (iblk m c 0 t) (iblk m c 1 t)) ?_
  funext a
  match a with
  | ⟨0, _⟩ => rfl
  | ⟨1, _⟩ => rfl

section Reference
open Cert.ProjRefIdeal Cert.ProjRefIdeal.Gen

variable (A : FVec Ideal Cert.ProjRefIdeal.S8448x2048 .bf16) (B : FVec Ideal Cert.ProjRefIdeal.S2048x11264 .bf16)

/-- The reference's result. -/
abbrev refM : FVec Ideal Cert.ProjRefIdeal.S8448x11264 .bf16 :=
  truncf .bf16 (Host.dotGeneral dot_S8448x2048_S2048x11264_S8448x11264_1_0_0_1_n_n none (extf .f32 A Cert.ProjRefIdeal.Gen.bitsLt_bf16_f32) (extf .f32 B Cert.ProjRefIdeal.Gen.bitsLt_bf16_f32)) Cert.ProjRefIdeal.Gen.bitsLt_bf16_f32

theorem ref_apply (x : Fin 8448) (y : Fin 11264) :
    refM A B (ix2 x y) = ∑ k : Fin 2048, at2 A x.val k.val * at2 B k.val y.val := by
  have e : refM A B (ix2 x y) = ∑ k : Fin 2048, A (ix2 x k) * B (ix2 k y) := by pointwise
  refine e.trans (Finset.sum_congr rfl fun k _ => ?_)
  rw [at2_fin, at2_fin]

/-- The reference's array is the kernel's. -/
theorem values (e0 : A = aA m c) (e1 : B = aB m c) : (refM A B : S8448x11264.Idx → EReal) = (dats m 0 c).arrAt 2 cfg0.N := by
  subst e0; subst e1
  rw [final]
  funext i
  rw [← ix2_eta i]
  exact (ref_apply _ _ _ _).trans rfl

end Reference

end Cert.ProjIdeal.Hand

end
-- ==== Proof.DownValue.lean ====
/- The feed-forward layer's last product: the array the kernel leaves and the reference's, entry by entry. -/
module

public import proofs.«01_k».proof.Proof.Gen.DownIdeal.Value
public import proofs.«01_k».proof.Proof.Gen.DownRefIdeal.Run
public import proofs.«01_k».proof.Proof.Blocks
public import Idealize.ShloMosaic.Lib.Pipeline.CanonAppend
public import Idealize.ShloMosaic.Lib.Pipeline.ReadBack

@[expose] public section

set_option maxRecDepth 16384

noncomputable section

namespace Cert.DownIdeal.Hand

open Cert.DownIdeal Cert.DownIdeal.Gen Idealize.ShloMosaic Idealize.ShloMosaic.TcCoe Cert.Product

theorem hz2 : (![0, 0] : Fin 2 → Nat) = fun _ => 0 := by decide

section Runs
variable {F : FTy → Type} [FloatOps F]
variable (c : Dev nD) (i : grid0.Coords) (arg3 : Memref sig .tc .vmem S1408x2816 .bf16) (harg3 : arg3.IsWhole)
  (arg4 : Memref sig .tc .vmem S2816x1024 .bf16) (harg4 : arg4.IsWhole) (arg5 : Memref sig .tc .vmem S1408x1024 .f32)
  (harg5 : arg5.IsWhole) (arg6 : Memref sig .tc .vmem S1408x1024 .f32) (harg6 : arg6.IsWhole)
  (x0 : Vec F S1408x2816 .bf16) (x1 : Vec F S2816x1024 .bf16) (acc : Vec F S1408x1024 .f32)

/-- A run's first point stores its product in the scratch. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread]
  rw [View.canon_unit_zero (S := S1408x1024) hz2]
  simp only [View.ld_unit_zero (S := S1408x2816) hz2, View.ld_unit_zero (S := S2816x1024) hz2]

/-- The last writes the sum out. -/
theorem out_B (hc0 : ¬cond0_0 i) (hc1 : ¬cond0_1 i) (hc2 : cond0_2 i) :
    out0_B_2 c i arg3 harg3 arg4 harg4 arg5 harg5 arg6 harg6 hc0 hc1 hc2 x0 x1 acc = k0_pay4 x0 x1 acc := by
  unfold out0_B_2
  rw [View.read_writes_eq_canon _ _ _ (cover0_B_2 c i arg3 harg3 arg4 harg4 arg5 harg5 arg6 harg6 hc0 hc1 hc2 x0 x1 acc)]
  unfold kernelRun0_B
  dsimp only
  sl_unfold_words
  simp only [View.readAt_eq_ld, harg3.read_unread, harg4.read_unread, harg6.read_unread]
  rw [View.canon_unit_zero (S := S1408x1024) hz2]
  simp only [View.ld_unit_zero (S := S1408x2816) hz2, View.ld_unit_zero (S := S2816x1024) hz2, View.ld_unit_zero (S := S1408x1024) hz2]

end Runs

section Blocks
variable (x0 : Vec Ideal S1408x2816 .bf16) (x1 : Vec Ideal S2816x1024 .bf16) (acc : Vec Ideal S1408x1024 .f32) (r : Fin 1408) (s : Fin 1024)

theorem pay1_apply : k0_pay1 (F := Ideal) x0 x1 (ix2 r s) = ∑ k : Fin 2816, x0 (ix2 r k) * x1 (ix2 k s) := by
  pointwise [k0_pay1]

theorem pay2_apply : k0_pay2 (F := Ideal) x0 x1 (ix2 r s) = k0_pay1 (F := Ideal) x0 x1 (ix2 r s) := by
  pointwise [k0_pay2]

theorem pay4_apply : k0_pay4 (F := Ideal) x0 x1 acc (ix2 r s) = acc (ix2 r s) + k0_pay1 (F := Ideal) x0 x1 (ix2 r s) := by
  pointwise [k0_pay4]

end Blocks

variable (m : (ℓ : Loc nD τ sig) → Buf (Elt Ideal) ℓ) (c : Dev nD)

/-- The gated activations and the weights, as the kernel finds them. -/
abbrev aA : S8448x5632.Idx → EReal := V m c main_arg0
abbrev aB : S5632x2048.Idx → EReal := V m c main_arg1

theorem idx_a : ∀ t : Fin cfg0.N, win0_0.index t = ![t.val / 4, t.val % 2] :=
  (by decide +kernel : ∀ t : Fin grid0.N, _)

theorem a_rd (X : Buf (Elt Ideal) ((c : Thread nD τ).loc main_arg0)) (t : Fin cfg0.N) (r : Fin 1408) (k : Fin 2816) :
    (((cfg0.win 0).blk t).view.read (Elt Ideal) X : Vec Ideal S1408x2816 .bf16) (ix2 r k)
      = at2 (n0 := 8448) (n1 := 5632) X (1408 * (t.val / 4) + r.val) (2816 * (t.val % 2) + k.val) := by
  rw [View.read_apply]
  refine eq_at2 (n0 := 8448) (n1 := 5632) X _ _ _ ?_ ?_
  · show win0_0.index t 0 * 1408 + 1 * r.val = _; rw [idx_a]; show (t.val / 4) * 1408 + 1 * r.val = _; omega
  · show win0_0.index t 1 * 2816 + 1 * k.val = _; rw [idx_a]; show (t.val % 2) * 2816 + 1 * k.val = _; omega

theorem idx_b : ∀ t : Fin cfg0.N, win0_1.index t = ![t.val % 2, t.val / 2 % 2] :=
  (by decide +kernel : ∀ t : Fin grid0.N, _)

theorem b_rd (X : Buf (Elt Ideal) ((c : Thread nD τ).loc main_arg1)) (t : Fin cfg0.N) (k : Fin 2816) (s : Fin 1024) :
    (((cfg0.win 1).blk t).view.read (Elt Ideal) X : Vec Ideal S2816x1024 .bf16) (ix2 k s)
      = at2 (n0 := 5632) (n1 := 2048) X (2816 * (t.val % 2) + k.val) (1024 * (t.val / 2 % 2) + s.val) := by
  rw [View.read_apply]
  refine eq_at2 (n0 := 5632) (n1 := 2048) X _ _ _ ?_ ?_
  · show win0_1.index t 0 * 2816 + 1 * k.val = _; rw [idx_b]; show (t.val % 2) * 2816 + 1 * k.val = _; omega
  · show win0_1.index t 1 * 1024 + 1 * s.val = _; rw [idx_b]; show (t.val / 2 % 2) * 1024 + 1 * s.val = _; omega

/-- An entry of a point's product. -/
theorem pay_blk (t : Fin cfg0.N) (r : Fin 1408) (s : Fin 1024) :
    k0_pay1 (F := Ideal) (iblk m c 0 t) (iblk m c 1 t) (ix2 r s)
      = ∑ k : Fin 2816, at2 (aA m c) (1408 * (t.val / 4) + r.val) (2816 * (t.val % 2) + k.val) * at2 (aB m c) (2816 * (t.val % 2) + k.val) (1024 * (t.val / 2 % 2) + s.val) :=
  (pay1_apply _ _ r s).trans (Finset.sum_congr rfl fun k _ =>
    congrArg₂ (· * ·) (a_rd c (V m c main_arg0) t r k) (b_rd c (V m c main_arg1) t k s))

/-- What a point leaves, over what the point before left in the scratch. -/
theorem scr_A (t : Fin cfg0.N) (h0 : t.val % 2 = 0) :
    (outsAt0 m c t.val t.isLt).2 = k0_pay2 (iblk m c 0 t) (iblk m c 1 t) := by
  rw [outsAt0_A m c t h0 (by omega)]
  dsimp only
  rw [sout_A]

theorem res_B (t : Fin cfg0.N) (h2 : t.val % 2 = 1) :
    (outsAt0 m c t.val t.isLt).1 = k0_pay4 (iblk m c 0 t) (iblk m c 1 t) (outsAt0 m c (t.val - 1) (Nat.lt_of_le_of_lt (Nat.sub_le _ _) t.isLt)).2 := by
  rw [outsAt0_B m c t (by omega) h2]
  dsimp only
  rw [out_B]

/-- An entry of the kernel's result. -/
theorem G_apply (x : Fin 8448) (y : Fin 2048) :
    (Value.G2 m c : S8448x2048.Idx → EReal) (ix2 x y) = ∑ k : Fin 5632, at2 (aA m c) x.val k.val * at2 (aB m c) k.val y.val := by
  have hx := x.isLt
  have hy := y.isLt
  have hp : Value.pt2Of (ix2 x y) = 2 * (2 * (x.val / 1408) + y.val / 1024) + (2 - 1) := by
    show 2 * (2 * (x.val / 1408 - 0) + 1 * (y.val / 1024 - 0)) + 1 = _
    omega
  have hlt : Value.pt2Of (ix2 x y) < cfg0.N := by
    rw [hp]; exact lt_of_lt_of_eq (by omega : _ < 24) N_0.symm
  have hl : Value.loc2Of (ix2 x y) = ix2 (⟨x.val % 1408, Nat.mod_lt _ (by norm_num)⟩ : Fin 1408) (⟨y.val % 1024, Nat.mod_lt _ (by norm_num)⟩ : Fin 1024) := by
    funext a; apply Fin.ext
    match a with
    | ⟨0, _⟩ => rfl
    | ⟨1, _⟩ => rfl
  have e : (Value.G2 m c : S8448x2048.Idx → EReal) (ix2 x y)
      = ((outsAt0 m c (Value.pt2Of (ix2 x y)) hlt).1 : Vec Ideal S1408x1024 .f32) (Value.loc2Of (ix2 x y)) := by
    rw [Value.outsAt0_sweep]
    exact dif_pos hlt
  rw [e, hl]
  refine run_sum 2 2816 cfg0.N (by norm_num) (fun t h => ((outsAt0 m c t h).2 : Vec Ideal S1408x1024 .f32) (ix2 _ _))
    (fun t h => ((outsAt0 m c t h).1 : Vec Ideal S1408x1024 .f32) (ix2 _ _))
    (fun t h => k0_pay1 (F := Ideal) (iblk m c 0 ⟨t, h⟩) (iblk m c 1 ⟨t, h⟩) (ix2 _ _))
    (fun t h h0 => (congrFun (scr_A m c ⟨t, h⟩ h0) _).trans (pay2_apply _ _ _ _))
    (fun t h h1 h2 => absurd h2 (by omega))
    (fun t h h2 => (congrFun (res_B m c ⟨t, h⟩ (by dsimp only; omega)) _).trans (pay4_apply _ _ _ _ _))
    (fun k => at2 (aA m c) x.val k * at2 (aB m c) k y.val) (2 * (x.val / 1408) + y.val / 1024) _ hlt hp fun j h hj => ?_
  refine (pay_blk m c ⟨_, h⟩ _ _).trans (Finset.sum_congr rfl fun k _ => ?_)
  dsimp only
  have ex : 1408 * ((2 * (2 * (x.val / 1408) + y.val / 1024) + j) / 4) + x.val % 1408 = x.val := by omega
  have ey : 1024 * ((2 * (2 * (x.val / 1408) + y.val / 1024) + j) / 2 % 2) + y.val % 1024 = y.val := by omega
  have ek : (2 * (2 * (x.val / 1408) + y.val / 1024) + j) % 2 = j := by omega
  rw [ex, ey, ek]

section Reference
open Cert.DownRefIdeal Cert.DownRefIdeal.Gen

variable (A : FVec Ideal Cert.DownRefIdeal.S8448x5632 .bf16) (B : FVec Ideal Cert.DownRefIdeal.S5632x2048 .bf16)

/-- The reference's result. -/
abbrev refM : FVec Ideal Cert.DownRefIdeal.S8448x2048 .f32 :=
  Host.dotGeneral dot_S8448x5632_S5632x2048_S8448x2048_1_0_0_1_n_n none (extf .f32 A Cert.DownRefIdeal.Gen.bitsLt_bf16_f32) (extf .f32 B Cert.DownRefIdeal.Gen.bitsLt_bf16_f32)

theorem ref_apply (x : Fin 8448) (y : Fin 2048) :
    refM A B (ix2 x y) = ∑ k : Fin 5632, at2 A x.val k.val * at2 B k.val y.val := by
  have e : refM A B (ix2 x y) = ∑ k : Fin 5632, A (ix2 x k) * B (ix2 k y) := by pointwise
  refine e.trans (Finset.sum_congr rfl fun k _ => ?_)
  rw [at2_fin, at2_fin]

/-- The reference's array is the kernel's. -/
theorem values (e0 : A = aA m c) (e1 : B = aB m c) : (refM A B : S8448x2048.Idx → EReal) = Value.G2 m c := by
  subst e0; subst e1
  funext i
  rw [← ix2_eta i]
  exact (ref_apply _ _ _ _).trans (G_apply m c _ _).symm

end Reference

end Cert.DownIdeal.Hand

end
-- ==== Proof.Down2Value.lean ====
/- The second feed-forward layer's last product: the array the kernel leaves and the reference's, entry by entry. -/
module

public import proofs.«01_k».proof.Proof.Gen.Down2Ideal.Value
public import proofs.«01_k».proof.Proof.Gen.Down2RefIdeal.Run
public import proofs.«01_k».proof.Proof.Blocks
public import Idealize.ShloMosaic.Lib.Pipeline.CanonAppend
public import Idealize.ShloMosaic.Lib.Pipeline.ReadBack

@[expose] public section

set_option maxRecDepth 16384

noncomputable section

namespace Cert.Down2Ideal.Hand

open Cert.Down2Ideal Cert.Down2Ideal.Gen Idealize.ShloMosaic Idealize.ShloMosaic.TcCoe Cert.Product

theorem hz2 : (![0, 0] : Fin 2 → Nat) = fun _ => 0 := by decide

section Runs
variable {F : FTy → Type} [FloatOps F]
variable (c : Dev nD) (i : grid0.Coords) (arg3 : Memref sig .tc .vmem S1024x2816 .bf16) (harg3 : arg3.IsWhole)
  (arg4 : Memref sig .tc .vmem S2816x1024 .bf16) (harg4 : arg4.IsWhole) (arg5 : Memref sig .tc .vmem S1024x1024 .f32)
  (harg5 : arg5.IsWhole) (arg6 : Memref sig .tc .vmem S1024x1024 .f32) (harg6 : arg6.IsWhole)
  (x0 : Vec F S1024x2816 .bf16) (x1 : Vec F S2816x1024 .bf16) (acc : Vec F S1024x1024 .f32)

/-- A run's first point stores its product in the scratch. -/
theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread]
  rw [View.canon_unit_zero (S := S1024x1024) hz2]
  simp only [View.ld_unit_zero (S := S1024x2816) hz2, View.ld_unit_zero (S := S2816x1024) hz2]

/-- The last writes the sum out. -/
theorem out_B (hc0 : ¬cond0_0 i) (hc1 : ¬cond0_1 i) (hc2 : cond0_2 i) :
    out0_B_2 c i arg3 harg3 arg4 harg4 arg5 harg5 arg6 harg6 hc0 hc1 hc2 x0 x1 acc = k0_pay4 x0 x1 acc := by
  unfold out0_B_2
  rw [View.read_writes_eq_canon _ _ _ (cover0_B_2 c i arg3 harg3 arg4 harg4 arg5 harg5 arg6 harg6 hc0 hc1 hc2 x0 x1 acc)]
  unfold kernelRun0_B
  dsimp only
  sl_unfold_words
  simp only [View.readAt_eq_ld, harg3.read_unread, harg4.read_unread, harg6.read_unread]
  rw [View.canon_unit_zero (S := S1024x1024) hz2]
  simp only [View.ld_unit_zero (S := S1024x2816) hz2, View.ld_unit_zero (S := S2816x1024) hz2, View.ld_unit_zero (S := S1024x1024) hz2]

end Runs

section Blocks
variable (x0 : Vec Ideal S1024x2816 .bf16) (x1 : Vec Ideal S2816x1024 .bf16) (acc : Vec Ideal S1024x1024 .f32) (r : Fin 1024) (s : Fin 1024)

theorem pay1_apply : k0_pay1 (F := Ideal) x0 x1 (ix2 r s) = ∑ k : Fin 2816, x0 (ix2 r k) * x1 (ix2 k s) := by
  pointwise [k0_pay1]

theorem pay2_apply : k0_pay2 (F := Ideal) x0 x1 (ix2 r s) = k0_pay1 (F := Ideal) x0 x1 (ix2 r s) := by
  pointwise [k0_pay2]

theorem pay4_apply : k0_pay4 (F := Ideal) x0 x1 acc (ix2 r s) = acc (ix2 r s) + k0_pay1 (F := Ideal) x0 x1 (ix2 r s) := by
  pointwise [k0_pay4]

end Blocks

variable (m : (ℓ : Loc nD τ sig) → Buf (Elt Ideal) ℓ) (c : Dev nD)

/-- The gated activations and the weights, as the kernel finds them. -/
abbrev aA : S8192x5632.Idx → EReal := V m c main_arg0
abbrev aB : S5632x2048.Idx → EReal := V m c main_arg1

theorem idx_a : ∀ t : Fin cfg0.N, win0_0.index t = ![t.val / 4, t.val % 2] :=
  (by decide +kernel : ∀ t : Fin grid0.N, _)

theorem a_rd (X : Buf (Elt Ideal) ((c : Thread nD τ).loc main_arg0)) (t : Fin cfg0.N) (r : Fin 1024) (k : Fin 2816) :
    (((cfg0.win 0).blk t).view.read (Elt Ideal) X : Vec Ideal S1024x2816 .bf16) (ix2 r k)
      = at2 (n0 := 8192) (n1 := 5632) X (1024 * (t.val / 4) + r.val) (2816 * (t.val % 2) + k.val) := by
  rw [View.read_apply]
  refine eq_at2 (n0 := 8192) (n1 := 5632) X _ _ _ ?_ ?_
  · show win0_0.index t 0 * 1024 + 1 * r.val = _; rw [idx_a]; show (t.val / 4) * 1024 + 1 * r.val = _; omega
  · show win0_0.index t 1 * 2816 + 1 * k.val = _; rw [idx_a]; show (t.val % 2) * 2816 + 1 * k.val = _; omega

theorem idx_b : ∀ t : Fin cfg0.N, win0_1.index t = ![t.val % 2, t.val / 2 % 2] :=
  (by decide +kernel : ∀ t : Fin grid0.N, _)

theorem b_rd (X : Buf (Elt Ideal) ((c : Thread nD τ).loc main_arg1)) (t : Fin cfg0.N) (k : Fin 2816) (s : Fin 1024) :
    (((cfg0.win 1).blk t).view.read (Elt Ideal) X : Vec Ideal S2816x1024 .bf16) (ix2 k s)
      = at2 (n0 := 5632) (n1 := 2048) X (2816 * (t.val % 2) + k.val) (1024 * (t.val / 2 % 2) + s.val) := by
  rw [View.read_apply]
  refine eq_at2 (n0 := 5632) (n1 := 2048) X _ _ _ ?_ ?_
  · show win0_1.index t 0 * 2816 + 1 * k.val = _; rw [idx_b]; show (t.val % 2) * 2816 + 1 * k.val = _; omega
  · show win0_1.index t 1 * 1024 + 1 * s.val = _; rw [idx_b]; show (t.val / 2 % 2) * 1024 + 1 * s.val = _; omega

/-- An entry of a point's product. -/
theorem pay_blk (t : Fin cfg0.N) (r : Fin 1024) (s : Fin 1024) :
    k0_pay1 (F := Ideal) (iblk m c 0 t) (iblk m c 1 t) (ix2 r s)
      = ∑ k : Fin 2816, at2 (aA m c) (1024 * (t.val / 4) + r.val) (2816 * (t.val % 2) + k.val) * at2 (aB m c) (2816 * (t.val % 2) + k.val) (1024 * (t.val / 2 % 2) + s.val) :=
  (pay1_apply _ _ r s).trans (Finset.sum_congr rfl fun k _ =>
    congrArg₂ (· * ·) (a_rd c (V m c main_arg0) t r k) (b_rd c (V m c main_arg1) t k s))

/-- What a point leaves, over what the point before left in the scratch. -/
theorem scr_A (t : Fin cfg0.N) (h0 : t.val % 2 = 0) :
    (outsAt0 m c t.val t.isLt).2 = k0_pay2 (iblk m c 0 t) (iblk m c 1 t) := by
  rw [outsAt0_A m c t h0 (by omega)]
  dsimp only
  rw [sout_A]

theorem res_B (t : Fin cfg0.N) (h2 : t.val % 2 = 1) :
    (outsAt0 m c t.val t.isLt).1 = k0_pay4 (iblk m c 0 t) (iblk m c 1 t) (outsAt0 m c (t.val - 1) (Nat.lt_of_le_of_lt (Nat.sub_le _ _) t.isLt)).2 := by
  rw [outsAt0_B m c t (by omega) h2]
  dsimp only
  rw [out_B]

/-- An entry of the kernel's result. -/
theorem G_apply (x : Fin 8192) (y : Fin 2048) :
    (Value.G2 m c : S8192x2048.Idx → EReal) (ix2 x y) = ∑ k : Fin 5632, at2 (aA m c) x.val k.val * at2 (aB m c) k.val y.val := by
  have hx := x.isLt
  have hy := y.isLt
  have hp : Value.pt2Of (ix2 x y) = 2 * (2 * (x.val / 1024) + y.val / 1024) + (2 - 1) := by
    show 2 * (2 * (x.val / 1024 - 0) + 1 * (y.val / 1024 - 0)) + 1 = _
    omega
  have hlt : Value.pt2Of (ix2 x y) < cfg0.N := by
    rw [hp]; exact lt_of_lt_of_eq (by omega : _ < 32) N_0.symm
  have hl : Value.loc2Of (ix2 x y) = ix2 (⟨x.val % 1024, Nat.mod_lt _ (by norm_num)⟩ : Fin 1024) (⟨y.val % 1024, Nat.mod_lt _ (by norm_num)⟩ : Fin 1024) := by
    funext a; apply Fin.ext
    match a with
    | ⟨0, _⟩ => rfl
    | ⟨1, _⟩ => rfl
  have e : (Value.G2 m c : S8192x2048.Idx → EReal) (ix2 x y)
      = ((outsAt0 m c (Value.pt2Of (ix2 x y)) hlt).1 : Vec Ideal S1024x1024 .f32) (Value.loc2Of (ix2 x y)) := by
    rw [Value.outsAt0_sweep]
    exact dif_pos hlt
  rw [e, hl]
  refine run_sum 2 2816 cfg0.N (by norm_num) (fun t h => ((outsAt0 m c t h).2 : Vec Ideal S1024x1024 .f32) (ix2 _ _))
    (fun t h => ((outsAt0 m c t h).1 : Vec Ideal S1024x1024 .f32) (ix2 _ _))
    (fun t h => k0_pay1 (F := Ideal) (iblk m c 0 ⟨t, h⟩) (iblk m c 1 ⟨t, h⟩) (ix2 _ _))
    (fun t h h0 => (congrFun (scr_A m c ⟨t, h⟩ h0) _).trans (pay2_apply _ _ _ _))
    (fun t h h1 h2 => absurd h2 (by omega))
    (fun t h h2 => (congrFun (res_B m c ⟨t, h⟩ (by dsimp only; omega)) _).trans (pay4_apply _ _ _ _ _))
    (fun k => at2 (aA m c) x.val k * at2 (aB m c) k y.val) (2 * (x.val / 1024) + y.val / 1024) _ hlt hp fun j h hj => ?_
  refine (pay_blk m c ⟨_, h⟩ _ _).trans (Finset.sum_congr rfl fun k _ => ?_)
  dsimp only
  have ex : 1024 * ((2 * (2 * (x.val / 1024) + y.val / 1024) + j) / 4) + x.val % 1024 = x.val := by omega
  have ey : 1024 * ((2 * (2 * (x.val / 1024) + y.val / 1024) + j) / 2 % 2) + y.val % 1024 = y.val := by omega
  have ek : (2 * (2 * (x.val / 1024) + y.val / 1024) + j) % 2 = j := by omega
  rw [ex, ey, ek]

section Reference
open Cert.Down2RefIdeal Cert.Down2RefIdeal.Gen

variable (A : FVec Ideal Cert.Down2RefIdeal.S8192x5632 .bf16) (B : FVec Ideal Cert.Down2RefIdeal.S5632x2048 .bf16)

/-- The reference's result. -/
abbrev refM : FVec Ideal Cert.Down2RefIdeal.S8192x2048 .f32 :=
  Host.dotGeneral dot_S8192x5632_S5632x2048_S8192x2048_1_0_0_1_n_n none (extf .f32 A Cert.Down2RefIdeal.Gen.bitsLt_bf16_f32) (extf .f32 B Cert.Down2RefIdeal.Gen.bitsLt_bf16_f32)

theorem ref_apply (x : Fin 8192) (y : Fin 2048) :
    refM A B (ix2 x y) = ∑ k : Fin 5632, at2 A x.val k.val * at2 B k.val y.val := by
  have e : refM A B (ix2 x y) = ∑ k : Fin 5632, A (ix2 x k) * B (ix2 k y) := by pointwise
  refine e.trans (Finset.sum_congr rfl fun k _ => ?_)
  rw [at2_fin, at2_fin]

/-- The reference's array is the kernel's. -/
theorem values (e0 : A = aA m c) (e1 : B = aB m c) : (refM A B : S8192x2048.Idx → EReal) = Value.G2 m c := by
  subst e0; subst e1
  funext i
  rw [← ix2_eta i]
  exact (ref_apply _ _ _ _).trans (G_apply m c _ _).symm

end Reference

end Cert.Down2Ideal.Hand

end
-- ==== Proof.UpValue.lean ====
/- A feed-forward layer's first two products and their gated product: the arrays the kernel leaves and the reference's,
   entry by entry. -/
module

public import proofs.«01_k».proof.Proof.Gen.UpIdeal.Value
public import proofs.«01_k».proof.Proof.Gen.UpRefIdeal.Run
public import proofs.«01_k».proof.Proof.GateValue
public import Idealize.ShloMosaic.Lib.Pipeline.ValueKit.Geometry

@[expose] public section

set_option maxRecDepth 16384

noncomputable section

namespace Cert.UpIdeal.Hand

open Cert.UpIdeal Cert.UpIdeal.Gen Idealize.ShloMosaic Idealize.ShloMosaic.TcCoe Cert.Product
open Idealize.ShloMosaic.Pipeline (Dat)
open Cert.GateIdeal.Hand (one_eq hz2 c0 c1)

/-- The gated product of `a` and `b`. -/
def glu (a b : EReal) : EReal := a * Ideal.logistic a * b

section Payloads
variable (a b : FVec Ideal S1408x256 .f32) (x0 : Vec Ideal S1408x2048 .bf16) (w w' : Vec Ideal S2048x256 .bf16)
  (r : Fin 1408) (k : Fin 256)

theorem pay1_apply : k0_pay1 (F := Ideal) a b (ix2 r k) = glu (a (ix2 r k)) (b (ix2 r k)) := by
  refine Eq.trans ?_ (Eq.refl (a (ix2 r k) * Ideal.logistic (a (ix2 r k)) * b (ix2 r k)))
  pointwise [k0_pay1]

theorem pay2_apply : k0_pay2 (F := Ideal) x0 w (ix2 r k) = ∑ d : Fin 2048, x0 (ix2 r d) * w (ix2 d k) := by
  pointwise [k0_pay2]

theorem pay4_apply : k0_pay4 (F := Ideal) x0 w (ix3 0 r k) = k0_pay2 (F := Ideal) x0 w (ix2 r k) := by
  pointwise [k0_pay4]

theorem pay3_eq : k0_pay3 (F := Ideal) x0 w = k0_pay2 (F := Ideal) x0 w := rfl
theorem pay5_eq : k0_pay5 (F := Ideal) x0 w = k0_pay4 (F := Ideal) x0 w := rfl
theorem pay6_eq : k0_pay6 (F := Ideal) x0 w w' = k0_pay1 (F := Ideal) (k0_pay2 x0 w) (k0_pay2 x0 w') := rfl
theorem pay7_eq : k0_pay7 (F := Ideal) x0 w = k0_pay2 (F := Ideal) x0 w := rfl
theorem pay8_eq : k0_pay8 (F := Ideal) x0 w = k0_pay2 (F := Ideal) x0 w := rfl
theorem pay9_eq : k0_pay9 (F := Ideal) x0 w = k0_pay4 (F := Ideal) x0 w := rfl
theorem pay10_eq : k0_pay10 (F := Ideal) x0 w = k0_pay4 (F := Ideal) x0 w := rfl

end Payloads

variable (x0 : Vec Ideal S1408x2048 .bf16) (x1 x2 : Vec Ideal S2048x512 .bf16)

/-- A block's product. -/
def prod (w : Vec Ideal S2048x512 .bf16) (r : Fin 1408) (k : Fin 512) : EReal := ∑ d : Fin 2048, x0 (ix2 r d) * w (ix2 d k)

/-- The block's two results: the two products, one above the other, and their gated product. -/
def up : Vec Ideal S2x1408x512 .f32 := fun y => if (y 0).val = 0 then prod x0 x1 (y 1) (y 2) else prod x0 x2 (y 1) (y 2)
def gated : Vec Ideal S1408x512 .bf16 := fun y => glu (prod x0 x1 (y 0) (y 1)) (prod x0 x2 (y 0) (y 1))

section Pieces
variable (off : Nat) (hoff : off + 256 ≤ 512) (inw : ∀ a, ![0, off] a + ![2048, 256] a ≤ S2048x512.size a)

theorem ld_w (w : Vec Ideal S2048x512 .bf16) (d : Fin 2048) (k : Fin 256) :
    View.ld w (Rect.unit (s := S2048x512) ![0, off] ![2048, 256] inw) (ix2 d k) = w (ix2 d ⟨off + k.val, by omega⟩) := by
  refine congrArg w ?_
  funext a
  apply Fin.ext
  match a with
  | ⟨0, _⟩ => show 0 + 1 * d.val = d.val; omega
  | ⟨1, _⟩ => show off + 1 * k.val = off + k.val; omega

theorem prod_ld (w : Vec Ideal S2048x512 .bf16) (r : Fin 1408) (k : Fin 256) :
    k0_pay2 (F := Ideal) x0 (View.ld w (Rect.unit (s := S2048x512) ![0, off] ![2048, 256] inw)) (ix2 r k)
      = prod x0 w r ⟨off + k.val, by omega⟩ := by
  rw [pay2_apply]
  exact Finset.sum_congr rfl fun d _ => congrArg _ (ld_w off hoff inw w d k)

/-- A stored block sits `off` columns to the right in half `h`. -/
theorem emb3 (h : Fin 2) (inb : ∀ a, ![h.val, 0, off] a + ![1, 1408, 256] a ≤ S2x1408x512.size a) (r : Fin 1408) (k : Fin 256) :
    (Rect.unit (s := S2x1408x512) ![h.val, 0, off] ![1, 1408, 256] inb).emb (ix3 0 r k) = ix3 h r ⟨off + k.val, by omega⟩ := by
  funext a
  apply Fin.ext
  match a with
  | ⟨0, _⟩ => show h.val + 1 * 0 = h.val; omega
  | ⟨1, _⟩ => show 0 + 1 * r.val = r.val; omega
  | ⟨2, _⟩ => show off + 1 * k.val = off + k.val; omega

theorem emb2 (inb : ∀ a, ![0, off] a + ![1408, 256] a ≤ S1408x512.size a) (r : Fin 1408) (k : Fin 256) :
    (Rect.unit (s := S1408x512) ![0, off] ![1408, 256] inb).emb (ix2 r k) = ix2 r ⟨off + k.val, by omega⟩ := by
  funext a
  apply Fin.ext
  match a with
  | ⟨0, _⟩ => show 0 + 1 * r.val = r.val; omega
  | ⟨1, _⟩ => show off + 1 * k.val = off + k.val; omega

theorem idx_unit (x : S1x1408x256.Idx) : ∃ (r : Fin 1408) (k : Fin 256), x = ix3 0 r k :=
  ⟨x 1, x 2, by
    have e : x 0 = (0 : Fin 1) := Subsingleton.elim (α := Fin 1) _ _
    exact (ix3_eta x).symm.trans (congrArg (fun u : Fin 1 => ix3 u (x 1) (x 2)) e)⟩

include hoff in
/-- The product stored in half `h`. -/
theorem piece_up (h : Fin 2) (inb : ∀ a, ![h.val, 0, off] a + ![1, 1408, 256] a ≤ S2x1408x512.size a) (w : Vec Ideal S2048x512 .bf16)
    (hw : ∀ r k, prod x0 w r k = up x0 x1 x2 (ix3 h r k)) (x : S1x1408x256.Idx) :
    k0_pay4 (F := Ideal) x0 (View.ld w (Rect.unit (s := S2048x512) ![0, off] ![2048, 256] inw)) x
      = up x0 x1 x2 ((Rect.unit (s := S2x1408x512) ![h.val, 0, off] ![1, 1408, 256] inb).emb x) := by
  obtain ⟨r, k, rfl⟩ := idx_unit x
  rw [pay4_apply, prod_ld x0 off hoff inw, hw]
  exact (congrArg (up x0 x1 x2) (emb3 off hoff h inb r k)).symm

include hoff in
/-- The gated product stored. -/
theorem piece_gated (inb : ∀ a, ![0, off] a + ![1408, 256] a ≤ S1408x512.size a) (x : S1408x256.Idx) :
    k0_pay1 (F := Ideal) (k0_pay2 x0 (View.ld x1 (Rect.unit (s := S2048x512) ![0, off] ![2048, 256] inw)))
        (k0_pay2 x0 (View.ld x2 (Rect.unit (s := S2048x512) ![0, off] ![2048, 256] inw))) x
      = gated x0 x1 x2 ((Rect.unit (s := S1408x512) ![0, off] ![1408, 256] inb).emb x) := by
  obtain ⟨r, k, rfl⟩ : ∃ (r : Fin 1408) (k : Fin 256), x = ix2 r k := ⟨x 0, x 1, (ix2_eta x).symm⟩
  rw [pay1_apply, prod_ld x0 off hoff inw, prod_ld x0 off hoff inw]
  exact (congrArg (gated x0 x1 x2) (emb2 off hoff inb r k)).symm

end Pieces

/-- What a point leaves. -/
theorem out3_eq : out0_3 (F := Ideal) x0 x1 x2 = up x0 x1 x2 := by
  funext y
  unfold out0_3
  rw [pay10_eq, pay9_eq, pay5_eq, View.ld_unit_zero (S := S1408x2048) hz2]
  refine (congrArg (View.canon · y) (List.append_nil _).symm).trans ?_
  refine View.canon_append_of_pieces (up x0 x1 x2) [] _ ?_ y (cover0_3 _ _ _ _ y)
  refine List.forall_mem_cons.mpr ⟨piece_up x0 x1 x2 256 (by norm_num) inb_S2048x512_S2048x256_0_256 1 inb_S2x1408x512_S1x1408x256_1_0_256 x2 (fun _ _ => rfl), ?_⟩
  refine List.forall_mem_cons.mpr ⟨piece_up x0 x1 x2 256 (by norm_num) inb_S2048x512_S2048x256_0_256 0 inb_S2x1408x512_S1x1408x256_0_0_256 x1 (fun _ _ => rfl), ?_⟩
  refine List.forall_mem_cons.mpr ⟨piece_up x0 x1 x2 0 (by norm_num) inb_S2048x512_S2048x256_0_0 1 inb_S2x1408x512_S1x1408x256_1_0_0 x2 (fun _ _ => rfl), ?_⟩
  refine List.forall_mem_cons.mpr ⟨piece_up x0 x1 x2 0 (by norm_num) inb_S2048x512_S2048x256_0_0 0 inb_S2x1408x512_S1x1408x256_0_0_0 x1 (fun _ _ => rfl), ?_⟩
  exact List.forall_mem_nil _

theorem out4_eq : out0_4 (F := Ideal) x0 x1 x2 = gated x0 x1 x2 := by
  funext y
  unfold out0_4
  rw [pay7_eq, pay8_eq, pay6_eq, View.ld_unit_zero (S := S1408x2048) hz2]
  refine (congrArg (View.canon · y) (List.append_nil _).symm).trans ?_
  refine View.canon_append_of_pieces (gated x0 x1 x2) [] _ ?_ y (cover0_4 _ _ y)
  refine List.forall_mem_cons.mpr ⟨piece_gated x0 x1 x2 256 (by norm_num) inb_S2048x512_S2048x256_0_256 inb_S1408x512_S1408x256_0_256, ?_⟩
  refine List.forall_mem_cons.mpr ⟨piece_gated x0 x1 x2 0 (by norm_num) inb_S2048x512_S2048x256_0_0 inb_S1408x512_S1408x256_0_0, ?_⟩
  exact List.forall_mem_nil _

variable (m : (ℓ : Loc nD τ sig) → Buf (Elt Ideal) ℓ) (c : Dev nD)

/-- The layer's input and its first weights, as the kernel finds them. -/
abbrev aH : S8448x2048.Idx → EReal := V m c main_arg0
abbrev aW : S2048x11264.Idx → EReal := V m c main_arg1

theorem idx_h : ∀ t : Fin cfg0.N, win0_0.index t = ![t.val % 6, 0] :=
  (by decide +kernel : ∀ t : Fin grid0.N, _)
theorem idx_a : ∀ t : Fin cfg0.N, win0_1.index t = ![0, t.val / 6] :=
  (by decide +kernel : ∀ t : Fin grid0.N, _)
theorem idx_b : ∀ t : Fin cfg0.N, win0_2.index t = ![0, 11 + t.val / 6] :=
  (by decide +kernel : ∀ t : Fin grid0.N, _)
theorem idx_r : ∀ t : Fin cfg0.N, win0_3.index t = ![0, t.val % 6, t.val / 6] :=
  (by decide +kernel : ∀ t : Fin grid0.N, _)
theorem idx_g : ∀ t : Fin cfg0.N, win0_4.index t = ![t.val % 6, t.val / 6] :=
  (by decide +kernel : ∀ t : Fin grid0.N, _)

theorem tlt (t : Fin cfg0.N) : t.val < 66 := N_0 ▸ t.isLt

/-- A row and a column of a point's block. -/
def rr (t : Fin cfg0.N) (r : Fin 1408) : Fin 8448 := ⟨1408 * (t.val % 6) + r.val, by omega⟩
def kk (t : Fin cfg0.N) (k : Fin 512) : Fin 5632 := ⟨512 * (t.val / 6) + k.val, by have := tlt t; omega⟩

theorem h_rd (X : Buf (Elt Ideal) ((c : Thread nD τ).loc main_arg0)) (t : Fin cfg0.N) (r : Fin 1408) (d : Fin 2048) :
    (((cfg0.win 0).blk t).view.read (Elt Ideal) X : Vec Ideal S1408x2048 .bf16) (ix2 r d) = X (ix2 (rr t r) d) := by
  rw [View.read_apply]
  refine congrArg X ?_
  funext a
  apply Fin.ext
  match a with
  | ⟨0, _⟩ => show win0_0.index t 0 * 1408 + 1 * r.val = 1408 * (t.val % 6) + r.val; rw [idx_h]; show (t.val % 6) * 1408 + 1 * r.val = _; omega
  | ⟨1, _⟩ => show win0_0.index t 1 * 2048 + 1 * d.val = d.val; rw [idx_h]; show 0 * 2048 + 1 * d.val = _; omega

theorem a_rd (X : Buf (Elt Ideal) ((c : Thread nD τ).loc main_arg1)) (t : Fin cfg0.N) (d : Fin 2048) (k : Fin 512) :
    (((cfg0.win 1).blk t).view.read (Elt Ideal) X : Vec Ideal S2048x512 .bf16) (ix2 d k) = X (ix2 d (c0 (kk t k))) := by
  rw [View.read_apply]
  refine congrArg X ?_
  funext a
  apply Fin.ext
  match a with
  | ⟨0, _⟩ => show win0_1.index t 0 * 2048 + 1 * d.val = d.val; rw [idx_a]; show 0 * 2048 + 1 * d.val = _; omega
  | ⟨1, _⟩ => show win0_1.index t 1 * 512 + 1 * k.val = 512 * (t.val / 6) + k.val; rw [idx_a]; show (t.val / 6) * 512 + 1 * k.val = _; omega

theorem b_rd (X : Buf (Elt Ideal) ((c : Thread nD τ).loc main_arg1)) (t : Fin cfg0.N) (d : Fin 2048) (k : Fin 512) :
    (((cfg0.win 2).blk t).view.read (Elt Ideal) X : Vec Ideal S2048x512 .bf16) (ix2 d k) = X (ix2 d (c1 (kk t k))) := by
  rw [View.read_apply]
  refine congrArg X ?_
  funext a
  apply Fin.ext
  match a with
  | ⟨0, _⟩ => show win0_2.index t 0 * 2048 + 1 * d.val = d.val; rw [idx_b]; show 0 * 2048 + 1 * d.val = _; omega
  | ⟨1, _⟩ => show win0_2.index t 1 * 512 + 1 * k.val = 5632 + (512 * (t.val / 6) + k.val); rw [idx_b]; show (11 + t.val / 6) * 512 + 1 * k.val = _; omega

/-- An entry of the layer's input times its first weights. -/
def hW (H : S8448x2048.Idx → EReal) (W : S2048x11264.Idx → EReal) (x : Fin 8448) (k : Fin 11264) : EReal :=
  ∑ d : Fin 2048, H (ix2 x d) * W (ix2 d k)

/-- The arrays the kernel leaves: the two products, and the gated product. -/
def res3 : S2x8448x5632.Idx → EReal := fun i =>
  if (i 0).val = 0 then hW (aH m c) (aW m c) (i 1) (c0 (i 2)) else hW (aH m c) (aW m c) (i 1) (c1 (i 2))
def res4 : S8448x5632.Idx → EReal := fun i =>
  glu (hW (aH m c) (aW m c) (i 0) (c0 (i 1))) (hW (aH m c) (aW m c) (i 0) (c1 (i 1)))

theorem prod_a (t : Fin cfg0.N) (r : Fin 1408) (k : Fin 512) :
    prod (iblk m c 0 t) (iblk m c 1 t) r k = hW (aH m c) (aW m c) (rr t r) (c0 (kk t k)) :=
  Finset.sum_congr rfl fun d _ => congrArg₂ (· * ·) (h_rd c (V m c main_arg0) t r d) (a_rd c (V m c main_arg1) t d k)

theorem prod_b (t : Fin cfg0.N) (r : Fin 1408) (k : Fin 512) :
    prod (iblk m c 0 t) (iblk m c 2 t) r k = hW (aH m c) (aW m c) (rr t r) (c1 (kk t k)) :=
  Finset.sum_congr rfl fun d _ => congrArg₂ (· * ·) (h_rd c (V m c main_arg0) t r d) (b_rd c (V m c main_arg1) t d k)

theorem up_blk (t : Fin cfg0.N) (y : S2x1408x512.Idx) :
    up (iblk m c 0 t) (iblk m c 1 t) (iblk m c 2 t) y = res3 m c (ix3 (y 0) (rr t (y 1)) (kk t (y 2))) :=
  congrArg₂ (fun a b : EReal => if (y 0).val = 0 then a else b) (prod_a m c t (y 1) (y 2)) (prod_b m c t (y 1) (y 2))

theorem gated_blk (t : Fin cfg0.N) (y : S1408x512.Idx) :
    gated (iblk m c 0 t) (iblk m c 1 t) (iblk m c 2 t) y = res4 m c (ix2 (rr t (y 0)) (kk t (y 1))) :=
  congrArg₂ glu (prod_a m c t (y 0) (y 1)) (prod_b m c t (y 0) (y 1))

theorem emb_r (t : Fin cfg0.N) (y : S2x1408x512.Idx) : ((cfg0.win 3).blk t).view.emb y = ix3 (y 0) (rr t (y 1)) (kk t (y 2)) := by
  funext a
  apply Fin.ext
  match a with
  | ⟨0, _⟩ => show win0_3.index t 0 * 2 + 1 * (y 0).val = (y 0).val; rw [idx_r]; show 0 * 2 + 1 * (y 0).val = _; omega
  | ⟨1, _⟩ => show win0_3.index t 1 * 1408 + 1 * (y 1).val = 1408 * (t.val % 6) + (y 1).val; rw [idx_r]; show (t.val % 6) * 1408 + 1 * (y 1).val = _; omega
  | ⟨2, _⟩ => show win0_3.index t 2 * 512 + 1 * (y 2).val = 512 * (t.val / 6) + (y 2).val; rw [idx_r]; show (t.val / 6) * 512 + 1 * (y 2).val = _; omega

theorem emb_g (t : Fin cfg0.N) (y : S1408x512.Idx) : ((cfg0.win 4).blk t).view.emb y = ix2 (rr t (y 0)) (kk t (y 1)) := by
  funext a
  apply Fin.ext
  match a with
  | ⟨0, _⟩ => show win0_4.index t 0 * 1408 + 1 * (y 0).val = 1408 * (t.val % 6) + (y 0).val; rw [idx_g]; show (t.val % 6) * 1408 + 1 * (y 0).val = _; omega
  | ⟨1, _⟩ => show win0_4.index t 1 * 512 + 1 * (y 1).val = 512 * (t.val / 6) + (y 1).val; rw [idx_g]; show (t.val / 6) * 512 + 1 * (y 1).val = _; omega

theorem final3 : (dats m 0 c).arrAt 3 cfg0.N = res3 m c := by
  refine (dats m 0 c).arrAt_eq_of_covers 3 _ (by decide +kernel) fun t hf y => ?_
  rw [after0_3, out3_eq]
  refine Eq.trans ?_ ((congrArg (res3 m c) (emb_r t y)).trans (up_blk m c t y).symm).symm
  refine congrArg (up (iblk m c 0 t) (iblk m c 1 t) (iblk m c 2 t)) ?_
  funext a
  match a with
  | ⟨0, _⟩ => rfl
  | ⟨1, _⟩ => rfl
  | ⟨2, _⟩ => rfl

theorem final4 : (dats m 0 c).arrAt 4 cfg0.N = res4 m c := by
  refine (dats m 0 c).arrAt_eq_of_covers 4 _ (by decide +kernel) fun t hf y => ?_
  rw [after0_4, out4_eq]
  refine Eq.trans ?_ ((congrArg (res4 m c) (emb_g t y)).trans (gated_blk m c t y).symm).symm
  refine congrArg (gated (iblk m c 0 t) (iblk m c 1 t) (iblk m c 2 t)) ?_
  funext a
  match a with
  | ⟨0, _⟩ => rfl
  | ⟨1, _⟩ => rfl

section Reference
open Cert.UpRefIdeal Cert.UpRefIdeal.Gen

/-- The layer's two halves side by side, and each of them, as the reference forms them. -/
abbrev refP (H : FVec Ideal Cert.UpRefIdeal.S8448x2048 .bf16) (W : FVec Ideal Cert.UpRefIdeal.S2048x11264 .bf16) : FVec Ideal Cert.UpRefIdeal.S8448x11264 .f32 :=
  Host.dotGeneral Cert.UpRefIdeal.dot_S8448x2048_S2048x11264_S8448x11264_1_0_0_1_n_n none (extf .f32 H Cert.UpRefIdeal.Gen.bitsLt_bf16_f32)
    (extf .f32 W Cert.UpRefIdeal.Gen.bitsLt_bf16_f32)
abbrev refA (P : FVec Ideal Cert.UpRefIdeal.S8448x11264 .f32) : FVec Ideal Cert.UpRefIdeal.S8448x5632 .f32 :=
  extractStridedSlice Cert.UpRefIdeal.S8448x5632 ![0, 0] P Cert.UpRefIdeal.Gen.slices_S8448x11264_S8448x5632_0_0
abbrev refB (P : FVec Ideal Cert.UpRefIdeal.S8448x11264 .f32) : FVec Ideal Cert.UpRefIdeal.S8448x5632 .f32 :=
  extractStridedSlice Cert.UpRefIdeal.S8448x5632 ![0, 5632] P Cert.UpRefIdeal.Gen.slices_S8448x11264_S8448x5632_0_5632

/-- Ones, and the logistic function written out. -/
abbrev refOne : FVec Ideal Cert.UpRefIdeal.S8448x5632 .f32 :=
  broadcastInDim Cert.UpRefIdeal.S8448x5632 ![] Cert.UpRefIdeal.Gen.bcast_S_S8448x5632 (constant Cert.UpRefIdeal.S_ .f32 0x3F800000#32)
abbrev refS (A : FVec Ideal Cert.UpRefIdeal.S8448x5632 .f32) : FVec Ideal Cert.UpRefIdeal.S8448x5632 .f32 :=
  Host.divf refOne (addf refOne (Host.exp (Host.negf A)))

/-- The two halves, one above the other, and the gated product. -/
abbrev refStack (X Y : FVec Ideal Cert.UpRefIdeal.S8448x5632 .f32) : FVec Ideal Cert.UpRefIdeal.S2x8448x5632 .f32 :=
  concatenate Cert.UpRefIdeal.S2x8448x5632 0
    [⟨Cert.UpRefIdeal.S1x8448x5632, (broadcastInDim Cert.UpRefIdeal.S1x8448x5632 ![1, 2] Cert.UpRefIdeal.Gen.bcast_S8448x5632_S1x8448x5632_1_2 X)⟩,
      ⟨Cert.UpRefIdeal.S1x8448x5632, (broadcastInDim Cert.UpRefIdeal.S1x8448x5632 ![1, 2] Cert.UpRefIdeal.Gen.bcast_S8448x5632_S1x8448x5632_1_2 Y)⟩]
    Cert.UpRefIdeal.Gen.concatenates_S1x8448x5632_S1x8448x5632_S2x8448x5632_d0
abbrev refG (A B : FVec Ideal Cert.UpRefIdeal.S8448x5632 .f32) : FVec Ideal Cert.UpRefIdeal.S8448x5632 .bf16 :=
  truncf .bf16 (mulf (mulf A (refS A)) B) Cert.UpRefIdeal.Gen.bitsLt_bf16_f32

theorem refP_apply (H : FVec Ideal Cert.UpRefIdeal.S8448x2048 .bf16) (W : FVec Ideal Cert.UpRefIdeal.S2048x11264 .bf16) (x : Fin 8448) (k : Fin 11264) :
    refP H W (ix2 x k) = hW H W x k := by
  refine Eq.trans ?_ (Eq.refl (∑ d : Fin 2048, H (ix2 x d) * W (ix2 d k)))
  pointwise [refP]
theorem refA_apply (P : FVec Ideal Cert.UpRefIdeal.S8448x11264 .f32) (x : Fin 8448) (k : Fin 5632) : refA P (ix2 x k) = P (ix2 x (c0 k)) := by
  pointwise [refA]
  rfl
theorem refB_apply (P : FVec Ideal Cert.UpRefIdeal.S8448x11264 .f32) (x : Fin 8448) (k : Fin 5632) : refB P (ix2 x k) = P (ix2 x (c1 k)) := by
  pointwise [refB]
  rfl
theorem refOne_apply (i : Cert.UpRefIdeal.S8448x5632.Idx) : refOne i = 1 := one_eq
theorem refG_apply (A B : FVec Ideal Cert.UpRefIdeal.S8448x5632 .f32) (i : Cert.UpRefIdeal.S8448x5632.Idx) : refG A B i = glu (A i) (B i) := by
  show A i * Ideal.div (refOne i) (refOne i + Ideal.exp (-(A i))) * B i = _
  rw [refOne_apply]
  rfl
theorem refStack_0 (X Y : FVec Ideal Cert.UpRefIdeal.S8448x5632 .f32) (x : Fin 8448) (k : Fin 5632) : refStack X Y (ix3 0 x k) = X (ix2 x k) := by
  pointwise [refStack]
theorem refStack_1 (X Y : FVec Ideal Cert.UpRefIdeal.S8448x5632 .f32) (x : Fin 8448) (k : Fin 5632) : refStack X Y (ix3 1 x k) = Y (ix2 x k) := by
  pointwise [refStack]

variable (H : FVec Ideal Cert.UpRefIdeal.S8448x2048 .bf16) (W : FVec Ideal Cert.UpRefIdeal.S2048x11264 .bf16)

theorem half_a (x : Fin 8448) (k : Fin 5632) : refA (refP H W) (ix2 x k) = hW H W x (c0 k) := by rw [refA_apply, refP_apply]
theorem half_b (x : Fin 8448) (k : Fin 5632) : refB (refP H W) (ix2 x k) = hW H W x (c1 k) := by rw [refB_apply, refP_apply]

/-- The reference's arrays are the ones the kernel leaves. -/
theorem values3_at (h : Fin 2) (x : Fin 8448) (k : Fin 5632) :
    refStack (refA (refP H W)) (refB (refP H W)) (ix3 h x k)
      = if h.val = 0 then hW H W x (c0 k) else hW H W x (c1 k) := by
  match h with
  | ⟨0, _⟩ => exact (refStack_0 _ _ x k).trans (half_a H W x k)
  | ⟨1, _⟩ => exact (refStack_1 _ _ x k).trans (half_b H W x k)

theorem values3 (e0 : H = aH m c) (e1 : W = aW m c) :
    (refStack (refA (refP H W)) (refB (refP H W)) : S2x8448x5632.Idx → EReal) = (dats m 0 c).arrAt 3 cfg0.N := by
  subst e0; subst e1
  rw [final3]
  funext i
  rw [← ix3_eta i]
  exact values3_at _ _ _ _ _

theorem values4 (e0 : H = aH m c) (e1 : W = aW m c) :
    (refG (refA (refP H W)) (refB (refP H W)) : S8448x5632.Idx → EReal) = (dats m 0 c).arrAt 4 cfg0.N := by
  subst e0; subst e1
  rw [final4]
  funext i
  rw [← ix2_eta i]
  exact (refG_apply _ _ _).trans (congrArg₂ glu (half_a _ _ _ _) (half_b _ _ _ _))

end Reference

end Cert.UpIdeal.Hand

end
-- ==== Proof.Up2Value.lean ====
/- The second feed-forward layer's first two products and their gated product: the arrays the kernel leaves and the reference's,
   entry by entry. -/
module

public import proofs.«01_k».proof.Proof.Gen.Up2Ideal.Value
public import proofs.«01_k».proof.Proof.Gen.Up2RefIdeal.Run
public import proofs.«01_k».proof.Proof.UpValue
public import Idealize.ShloMosaic.Lib.Pipeline.ValueKit.Geometry

@[expose] public section

set_option maxRecDepth 16384

noncomputable section

namespace Cert.Up2Ideal.Hand

open Cert.Up2Ideal Cert.Up2Ideal.Gen Idealize.ShloMosaic Idealize.ShloMosaic.TcCoe Cert.Product
open Idealize.ShloMosaic.Pipeline (Dat)
open Cert.GateIdeal.Hand (one_eq hz2 c0 c1)
open Cert.UpIdeal.Hand (glu)

section Payloads
variable (a b : FVec Ideal S1024x256 .f32) (x0 : Vec Ideal S1024x2048 .bf16) (w w' : Vec Ideal S2048x256 .bf16)
  (r : Fin 1024) (k : Fin 256)

theorem pay1_apply : k0_pay1 (F := Ideal) a b (ix2 r k) = glu (a (ix2 r k)) (b (ix2 r k)) := by
  refine Eq.trans ?_ (Eq.refl (a (ix2 r k) * Ideal.logistic (a (ix2 r k)) * b (ix2 r k)))
  pointwise [k0_pay1]

theorem pay2_apply : k0_pay2 (F := Ideal) x0 w (ix2 r k) = ∑ d : Fin 2048, x0 (ix2 r d) * w (ix2 d k) := by
  pointwise [k0_pay2]

theorem pay4_apply : k0_pay4 (F := Ideal) x0 w (ix3 0 r k) = k0_pay2 (F := Ideal) x0 w (ix2 r k) := by
  pointwise [k0_pay4]

theorem pay3_eq : k0_pay3 (F := Ideal) x0 w = k0_pay2 (F := Ideal) x0 w := rfl
theorem pay5_eq : k0_pay5 (F := Ideal) x0 w = k0_pay4 (F := Ideal) x0 w := rfl
theorem pay6_eq : k0_pay6 (F := Ideal) x0 w w' = k0_pay1 (F := Ideal) (k0_pay2 x0 w) (k0_pay2 x0 w') := rfl
theorem pay7_eq : k0_pay7 (F := Ideal) x0 w = k0_pay2 (F := Ideal) x0 w := rfl
theorem pay8_eq : k0_pay8 (F := Ideal) x0 w = k0_pay2 (F := Ideal) x0 w := rfl
theorem pay9_eq : k0_pay9 (F := Ideal) x0 w = k0_pay4 (F := Ideal) x0 w := rfl
theorem pay10_eq : k0_pay10 (F := Ideal) x0 w = k0_pay4 (F := Ideal) x0 w := rfl

end Payloads

variable (x0 : Vec Ideal S1024x2048 .bf16) (x1 x2 : Vec Ideal S2048x512 .bf16)

/-- A block's product. -/
def prod (w : Vec Ideal S2048x512 .bf16) (r : Fin 1024) (k : Fin 512) : EReal := ∑ d : Fin 2048, x0 (ix2 r d) * w (ix2 d k)

/-- The block's two results: the two products, one above the other, and their gated product. -/
def up : Vec Ideal S2x1024x512 .f32 := fun y => if (y 0).val = 0 then prod x0 x1 (y 1) (y 2) else prod x0 x2 (y 1) (y 2)
def gated : Vec Ideal S1024x512 .bf16 := fun y => glu (prod x0 x1 (y 0) (y 1)) (prod x0 x2 (y 0) (y 1))

section Pieces
variable (off : Nat) (hoff : off + 256 ≤ 512) (inw : ∀ a, ![0, off] a + ![2048, 256] a ≤ S2048x512.size a)

theorem ld_w (w : Vec Ideal S2048x512 .bf16) (d : Fin 2048) (k : Fin 256) :
    View.ld w (Rect.unit (s := S2048x512) ![0, off] ![2048, 256] inw) (ix2 d k) = w (ix2 d ⟨off + k.val, by omega⟩) := by
  refine congrArg w ?_
  funext a
  apply Fin.ext
  match a with
  | ⟨0, _⟩ => show 0 + 1 * d.val = d.val; omega
  | ⟨1, _⟩ => show off + 1 * k.val = off + k.val; omega

theorem prod_ld (w : Vec Ideal S2048x512 .bf16) (r : Fin 1024) (k : Fin 256) :
    k0_pay2 (F := Ideal) x0 (View.ld w (Rect.unit (s := S2048x512) ![0, off] ![2048, 256] inw)) (ix2 r k)
      = prod x0 w r ⟨off + k.val, by omega⟩ := by
  rw [pay2_apply]
  exact Finset.sum_congr rfl fun d _ => congrArg _ (ld_w off hoff inw w d k)

/-- A stored block sits `off` columns to the right in half `h`. -/
theorem emb3 (h : Fin 2) (inb : ∀ a, ![h.val, 0, off] a + ![1, 1024, 256] a ≤ S2x1024x512.size a) (r : Fin 1024) (k : Fin 256) :
    (Rect.unit (s := S2x1024x512) ![h.val, 0, off] ![1, 1024, 256] inb).emb (ix3 0 r k) = ix3 h r ⟨off + k.val, by omega⟩ := by
  funext a
  apply Fin.ext
  match a with
  | ⟨0, _⟩ => show h.val + 1 * 0 = h.val; omega
  | ⟨1, _⟩ => show 0 + 1 * r.val = r.val; omega
  | ⟨2, _⟩ => show off + 1 * k.val = off + k.val; omega

theorem emb2 (inb : ∀ a, ![0, off] a + ![1024, 256] a ≤ S1024x512.size a) (r : Fin 1024) (k : Fin 256) :
    (Rect.unit (s := S1024x512) ![0, off] ![1024, 256] inb).emb (ix2 r k) = ix2 r ⟨off + k.val, by omega⟩ := by
  funext a
  apply Fin.ext
  match a with
  | ⟨0, _⟩ => show 0 + 1 * r.val = r.val; omega
  | ⟨1, _⟩ => show off + 1 * k.val = off + k.val; omega

theorem idx_unit (x : S1x1024x256.Idx) : ∃ (r : Fin 1024) (k : Fin 256), x = ix3 0 r k :=
  ⟨x 1, x 2, by
    have e : x 0 = (0 : Fin 1) := Subsingleton.elim (α := Fin 1) _ _
    exact (ix3_eta x).symm.trans (congrArg (fun u : Fin 1 => ix3 u (x 1) (x 2)) e)⟩

include hoff in
/-- The product stored in half `h`. -/
theorem piece_up (h : Fin 2) (inb : ∀ a, ![h.val, 0, off] a + ![1, 1024, 256] a ≤ S2x1024x512.size a) (w : Vec Ideal S2048x512 .bf16)
    (hw : ∀ r k, prod x0 w r k = up x0 x1 x2 (ix3 h r k)) (x : S1x1024x256.Idx) :
    k0_pay4 (F := Ideal) x0 (View.ld w (Rect.unit (s := S2048x512) ![0, off] ![2048, 256] inw)) x
      = up x0 x1 x2 ((Rect.unit (s := S2x1024x512) ![h.val, 0, off] ![1, 1024, 256] inb).emb x) := by
  obtain ⟨r, k, rfl⟩ := idx_unit x
  rw [pay4_apply, prod_ld x0 off hoff inw, hw]
  exact (congrArg (up x0 x1 x2) (emb3 off hoff h inb r k)).symm

include hoff in
/-- The gated product stored. -/
theorem piece_gated (inb : ∀ a, ![0, off] a + ![1024, 256] a ≤ S1024x512.size a) (x : S1024x256.Idx) :
    k0_pay1 (F := Ideal) (k0_pay2 x0 (View.ld x1 (Rect.unit (s := S2048x512) ![0, off] ![2048, 256] inw)))
        (k0_pay2 x0 (View.ld x2 (Rect.unit (s := S2048x512) ![0, off] ![2048, 256] inw))) x
      = gated x0 x1 x2 ((Rect.unit (s := S1024x512) ![0, off] ![1024, 256] inb).emb x) := by
  obtain ⟨r, k, rfl⟩ : ∃ (r : Fin 1024) (k : Fin 256), x = ix2 r k := ⟨x 0, x 1, (ix2_eta x).symm⟩
  rw [pay1_apply, prod_ld x0 off hoff inw, prod_ld x0 off hoff inw]
  exact (congrArg (gated x0 x1 x2) (emb2 off hoff inb r k)).symm

end Pieces

/-- What a point leaves. -/
theorem out3_eq : out0_3 (F := Ideal) x0 x1 x2 = up x0 x1 x2 := by
  funext y
  unfold out0_3
  rw [pay10_eq, pay9_eq, pay5_eq, View.ld_unit_zero (S := S1024x2048) hz2]
  refine (congrArg (View.canon · y) (List.append_nil _).symm).trans ?_
  refine View.canon_append_of_pieces (up x0 x1 x2) [] _ ?_ y (cover0_3 _ _ _ _ y)
  refine List.forall_mem_cons.mpr ⟨piece_up x0 x1 x2 256 (by norm_num) inb_S2048x512_S2048x256_0_256 1 inb_S2x1024x512_S1x1024x256_1_0_256 x2 (fun _ _ => rfl), ?_⟩
  refine List.forall_mem_cons.mpr ⟨piece_up x0 x1 x2 256 (by norm_num) inb_S2048x512_S2048x256_0_256 0 inb_S2x1024x512_S1x1024x256_0_0_256 x1 (fun _ _ => rfl), ?_⟩
  refine List.forall_mem_cons.mpr ⟨piece_up x0 x1 x2 0 (by norm_num) inb_S2048x512_S2048x256_0_0 1 inb_S2x1024x512_S1x1024x256_1_0_0 x2 (fun _ _ => rfl), ?_⟩
  refine List.forall_mem_cons.mpr ⟨piece_up x0 x1 x2 0 (by norm_num) inb_S2048x512_S2048x256_0_0 0 inb_S2x1024x512_S1x1024x256_0_0_0 x1 (fun _ _ => rfl), ?_⟩
  exact List.forall_mem_nil _

theorem out4_eq : out0_4 (F := Ideal) x0 x1 x2 = gated x0 x1 x2 := by
  funext y
  unfold out0_4
  rw [pay7_eq, pay8_eq, pay6_eq, View.ld_unit_zero (S := S1024x2048) hz2]
  refine (congrArg (View.canon · y) (List.append_nil _).symm).trans ?_
  refine View.canon_append_of_pieces (gated x0 x1 x2) [] _ ?_ y (cover0_4 _ _ y)
  refine List.forall_mem_cons.mpr ⟨piece_gated x0 x1 x2 256 (by norm_num) inb_S2048x512_S2048x256_0_256 inb_S1024x512_S1024x256_0_256, ?_⟩
  refine List.forall_mem_cons.mpr ⟨piece_gated x0 x1 x2 0 (by norm_num) inb_S2048x512_S2048x256_0_0 inb_S1024x512_S1024x256_0_0, ?_⟩
  exact List.forall_mem_nil _

variable (m : (ℓ : Loc nD τ sig) → Buf (Elt Ideal) ℓ) (c : Dev nD)

/-- The layer's input and its first weights, as the kernel finds them. -/
abbrev aH : S8192x2048.Idx → EReal := V m c main_arg0
abbrev aW : S2048x11264.Idx → EReal := V m c main_arg1

theorem idx_h : ∀ t : Fin cfg0.N, win0_0.index t = ![t.val % 8, 0] :=
  (by decide +kernel : ∀ t : Fin grid0.N, _)
theorem idx_a : ∀ t : Fin cfg0.N, win0_1.index t = ![0, t.val / 8] :=
  (by decide +kernel : ∀ t : Fin grid0.N, _)
theorem idx_b : ∀ t : Fin cfg0.N, win0_2.index t = ![0, 11 + t.val / 8] :=
  (by decide +kernel : ∀ t : Fin grid0.N, _)
theorem idx_r : ∀ t : Fin cfg0.N, win0_3.index t = ![0, t.val % 8, t.val / 8] :=
  (by decide +kernel : ∀ t : Fin grid0.N, _)
theorem idx_g : ∀ t : Fin cfg0.N, win0_4.index t = ![t.val % 8, t.val / 8] :=
  (by decide +kernel : ∀ t : Fin grid0.N, _)

theorem tlt (t : Fin cfg0.N) : t.val < 88 := N_0 ▸ t.isLt

/-- A row and a column of a point's block. -/
def rr (t : Fin cfg0.N) (r : Fin 1024) : Fin 8192 := ⟨1024 * (t.val % 8) + r.val, by omega⟩
def kk (t : Fin cfg0.N) (k : Fin 512) : Fin 5632 := ⟨512 * (t.val / 8) + k.val, by have := tlt t; omega⟩

theorem h_rd (X : Buf (Elt Ideal) ((c : Thread nD τ).loc main_arg0)) (t : Fin cfg0.N) (r : Fin 1024) (d : Fin 2048) :
    (((cfg0.win 0).blk t).view.read (Elt Ideal) X : Vec Ideal S1024x2048 .bf16) (ix2 r d) = X (ix2 (rr t r) d) := by
  rw [View.read_apply]
  refine congrArg X ?_
  funext a
  apply Fin.ext
  match a with
  | ⟨0, _⟩ => show win0_0.index t 0 * 1024 + 1 * r.val = 1024 * (t.val % 8) + r.val; rw [idx_h]; show (t.val % 8) * 1024 + 1 * r.val = _; omega
  | ⟨1, _⟩ => show win0_0.index t 1 * 2048 + 1 * d.val = d.val; rw [idx_h]; show 0 * 2048 + 1 * d.val = _; omega

theorem a_rd (X : Buf (Elt Ideal) ((c : Thread nD τ).loc main_arg1)) (t : Fin cfg0.N) (d : Fin 2048) (k : Fin 512) :
    (((cfg0.win 1).blk t).view.read (Elt Ideal) X : Vec Ideal S2048x512 .bf16) (ix2 d k) = X (ix2 d (c0 (kk t k))) := by
  rw [View.read_apply]
  refine congrArg X ?_
  funext a
  apply Fin.ext
  match a with
  | ⟨0, _⟩ => show win0_1.index t 0 * 2048 + 1 * d.val = d.val; rw [idx_a]; show 0 * 2048 + 1 * d.val = _; omega
  | ⟨1, _⟩ => show win0_1.index t 1 * 512 + 1 * k.val = 512 * (t.val / 8) + k.val; rw [idx_a]; show (t.val / 8) * 512 + 1 * k.val = _; omega

theorem b_rd (X : Buf (Elt Ideal) ((c : Thread nD τ).loc main_arg1)) (t : Fin cfg0.N) (d : Fin 2048) (k : Fin 512) :
    (((cfg0.win 2).blk t).view.read (Elt Ideal) X : Vec Ideal S2048x512 .bf16) (ix2 d k) = X (ix2 d (c1 (kk t k))) := by
  rw [View.read_apply]
  refine congrArg X ?_
  funext a
  apply Fin.ext
  match a with
  | ⟨0, _⟩ => show win0_2.index t 0 * 2048 + 1 * d.val = d.val; rw [idx_b]; show 0 * 2048 + 1 * d.val = _; omega
  | ⟨1, _⟩ => show win0_2.index t 1 * 512 + 1 * k.val = 5632 + (512 * (t.val / 8) + k.val); rw [idx_b]; show (11 + t.val / 8) * 512 + 1 * k.val = _; omega

/-- An entry of the layer's input times its first weights. -/
def hW (H : S8192x2048.Idx → EReal) (W : S2048x11264.Idx → EReal) (x : Fin 8192) (k : Fin 11264) : EReal :=
  ∑ d : Fin 2048, H (ix2 x d) * W (ix2 d k)

/-- The arrays the kernel leaves: the two products, and the gated product. -/
def res3 : S2x8192x5632.Idx → EReal := fun i =>
  if (i 0).val = 0 then hW (aH m c) (aW m c) (i 1) (c0 (i 2)) else hW (aH m c) (aW m c) (i 1) (c1 (i 2))
def res4 : S8192x5632.Idx → EReal := fun i =>
  glu (hW (aH m c) (aW m c) (i 0) (c0 (i 1))) (hW (aH m c) (aW m c) (i 0) (c1 (i 1)))

theorem prod_a (t : Fin cfg0.N) (r : Fin 1024) (k : Fin 512) :
    prod (iblk m c 0 t) (iblk m c 1 t) r k = hW (aH m c) (aW m c) (rr t r) (c0 (kk t k)) :=
  Finset.sum_congr rfl fun d _ => congrArg₂ (· * ·) (h_rd c (V m c main_arg0) t r d) (a_rd c (V m c main_arg1) t d k)

theorem prod_b (t : Fin cfg0.N) (r : Fin 1024) (k : Fin 512) :
    prod (iblk m c 0 t) (iblk m c 2 t) r k = hW (aH m c) (aW m c) (rr t r) (c1 (kk t k)) :=
  Finset.sum_congr rfl fun d _ => congrArg₂ (· * ·) (h_rd c (V m c main_arg0) t r d) (b_rd c (V m c main_arg1) t d k)

theorem up_blk (t : Fin cfg0.N) (y : S2x1024x512.Idx) :
    up (iblk m c 0 t) (iblk m c 1 t) (iblk m c 2 t) y = res3 m c (ix3 (y 0) (rr t (y 1)) (kk t (y 2))) :=
  congrArg₂ (fun a b : EReal => if (y 0).val = 0 then a else b) (prod_a m c t (y 1) (y 2)) (prod_b m c t (y 1) (y 2))

theorem gated_blk (t : Fin cfg0.N) (y : S1024x512.Idx) :
    gated (iblk m c 0 t) (iblk m c 1 t) (iblk m c 2 t) y = res4 m c (ix2 (rr t (y 0)) (kk t (y 1))) :=
  congrArg₂ glu (prod_a m c t (y 0) (y 1)) (prod_b m c t (y 0) (y 1))

theorem emb_r (t : Fin cfg0.N) (y : S2x1024x512.Idx) : ((cfg0.win 3).blk t).view.emb y = ix3 (y 0) (rr t (y 1)) (kk t (y 2)) := by
  funext a
  apply Fin.ext
  match a with
  | ⟨0, _⟩ => show win0_3.index t 0 * 2 + 1 * (y 0).val = (y 0).val; rw [idx_r]; show 0 * 2 + 1 * (y 0).val = _; omega
  | ⟨1, _⟩ => show win0_3.index t 1 * 1024 + 1 * (y 1).val = 1024 * (t.val % 8) + (y 1).val; rw [idx_r]; show (t.val % 8) * 1024 + 1 * (y 1).val = _; omega
  | ⟨2, _⟩ => show win0_3.index t 2 * 512 + 1 * (y 2).val = 512 * (t.val / 8) + (y 2).val; rw [idx_r]; show (t.val / 8) * 512 + 1 * (y 2).val = _; omega

theorem emb_g (t : Fin cfg0.N) (y : S1024x512.Idx) : ((cfg0.win 4).blk t).view.emb y = ix2 (rr t (y 0)) (kk t (y 1)) := by
  funext a
  apply Fin.ext
  match a with
  | ⟨0, _⟩ => show win0_4.index t 0 * 1024 + 1 * (y 0).val = 1024 * (t.val % 8) + (y 0).val; rw [idx_g]; show (t.val % 8) * 1024 + 1 * (y 0).val = _; omega
  | ⟨1, _⟩ => show win0_4.index t 1 * 512 + 1 * (y 1).val = 512 * (t.val / 8) + (y 1).val; rw [idx_g]; show (t.val / 8) * 512 + 1 * (y 1).val = _; omega

theorem final3 : (dats m 0 c).arrAt 3 cfg0.N = res3 m c := by
  refine (dats m 0 c).arrAt_eq_of_covers 3 _ (by decide +kernel) fun t hf y => ?_
  rw [after0_3, out3_eq]
  refine Eq.trans ?_ ((congrArg (res3 m c) (emb_r t y)).trans (up_blk m c t y).symm).symm
  refine congrArg (up (iblk m c 0 t) (iblk m c 1 t) (iblk m c 2 t)) ?_
  funext a
  match a with
  | ⟨0, _⟩ => rfl
  | ⟨1, _⟩ => rfl
  | ⟨2, _⟩ => rfl

theorem final4 : (dats m 0 c).arrAt 4 cfg0.N = res4 m c := by
  refine (dats m 0 c).arrAt_eq_of_covers 4 _ (by decide +kernel) fun t hf y => ?_
  rw [after0_4, out4_eq]
  refine Eq.trans ?_ ((congrArg (res4 m c) (emb_g t y)).trans (gated_blk m c t y).symm).symm
  refine congrArg (gated (iblk m c 0 t) (iblk m c 1 t) (iblk m c 2 t)) ?_
  funext a
  match a with
  | ⟨0, _⟩ => rfl
  | ⟨1, _⟩ => rfl

section Reference
open Cert.Up2RefIdeal Cert.Up2RefIdeal.Gen

/-- The layer's two halves side by side, and each of them, as the reference forms them. -/
abbrev refP (H : FVec Ideal Cert.Up2RefIdeal.S8192x2048 .bf16) (W : FVec Ideal Cert.Up2RefIdeal.S2048x11264 .bf16) : FVec Ideal Cert.Up2RefIdeal.S8192x11264 .f32 :=
  Host.dotGeneral Cert.Up2RefIdeal.dot_S8192x2048_S2048x11264_S8192x11264_1_0_0_1_n_n none (extf .f32 H Cert.Up2RefIdeal.Gen.bitsLt_bf16_f32)
    (extf .f32 W Cert.Up2RefIdeal.Gen.bitsLt_bf16_f32)
abbrev refA (P : FVec Ideal Cert.Up2RefIdeal.S8192x11264 .f32) : FVec Ideal Cert.Up2RefIdeal.S8192x5632 .f32 :=
  extractStridedSlice Cert.Up2RefIdeal.S8192x5632 ![0, 0] P Cert.Up2RefIdeal.Gen.slices_S8192x11264_S8192x5632_0_0
abbrev refB (P : FVec Ideal Cert.Up2RefIdeal.S8192x11264 .f32) : FVec Ideal Cert.Up2RefIdeal.S8192x5632 .f32 :=
  extractStridedSlice Cert.Up2RefIdeal.S8192x5632 ![0, 5632] P Cert.Up2RefIdeal.Gen.slices_S8192x11264_S8192x5632_0_5632

/-- Ones, and the logistic function written out. -/
abbrev refOne : FVec Ideal Cert.Up2RefIdeal.S8192x5632 .f32 :=
  broadcastInDim Cert.Up2RefIdeal.S8192x5632 ![] Cert.Up2RefIdeal.Gen.bcast_S_S8192x5632 (constant Cert.Up2RefIdeal.S_ .f32 0x3F800000#32)
abbrev refS (A : FVec Ideal Cert.Up2RefIdeal.S8192x5632 .f32) : FVec Ideal Cert.Up2RefIdeal.S8192x5632 .f32 :=
  Host.divf refOne (addf refOne (Host.exp (Host.negf A)))

/-- The two halves, one above the other, and the gated product. -/
abbrev refStack (X Y : FVec Ideal Cert.Up2RefIdeal.S8192x5632 .f32) : FVec Ideal Cert.Up2RefIdeal.S2x8192x5632 .f32 :=
  concatenate Cert.Up2RefIdeal.S2x8192x5632 0
    [⟨Cert.Up2RefIdeal.S1x8192x5632, (broadcastInDim Cert.Up2RefIdeal.S1x8192x5632 ![1, 2] Cert.Up2RefIdeal.Gen.bcast_S8192x5632_S1x8192x5632_1_2 X)⟩,
      ⟨Cert.Up2RefIdeal.S1x8192x5632, (broadcastInDim Cert.Up2RefIdeal.S1x8192x5632 ![1, 2] Cert.Up2RefIdeal.Gen.bcast_S8192x5632_S1x8192x5632_1_2 Y)⟩]
    Cert.Up2RefIdeal.Gen.concatenates_S1x8192x5632_S1x8192x5632_S2x8192x5632_d0
abbrev refG (A B : FVec Ideal Cert.Up2RefIdeal.S8192x5632 .f32) : FVec Ideal Cert.Up2RefIdeal.S8192x5632 .bf16 :=
  truncf .bf16 (mulf (mulf A (refS A)) B) Cert.Up2RefIdeal.Gen.bitsLt_bf16_f32

theorem refP_apply (H : FVec Ideal Cert.Up2RefIdeal.S8192x2048 .bf16) (W : FVec Ideal Cert.Up2RefIdeal.S2048x11264 .bf16) (x : Fin 8192) (k : Fin 11264) :
    refP H W (ix2 x k) = hW H W x k := by
  refine Eq.trans ?_ (Eq.refl (∑ d : Fin 2048, H (ix2 x d) * W (ix2 d k)))
  pointwise [refP]
theorem refA_apply (P : FVec Ideal Cert.Up2RefIdeal.S8192x11264 .f32) (x : Fin 8192) (k : Fin 5632) : refA P (ix2 x k) = P (ix2 x (c0 k)) := by
  pointwise [refA]
  rfl
theorem refB_apply (P : FVec Ideal Cert.Up2RefIdeal.S8192x11264 .f32) (x : Fin 8192) (k : Fin 5632) : refB P (ix2 x k) = P (ix2 x (c1 k)) := by
  pointwise [refB]
  rfl
theorem refOne_apply (i : Cert.Up2RefIdeal.S8192x5632.Idx) : refOne i = 1 := one_eq
theorem refG_apply (A B : FVec Ideal Cert.Up2RefIdeal.S8192x5632 .f32) (i : Cert.Up2RefIdeal.S8192x5632.Idx) : refG A B i = glu (A i) (B i) := by
  show A i * Ideal.div (refOne i) (refOne i + Ideal.exp (-(A i))) * B i = _
  rw [refOne_apply]
  rfl
theorem refStack_0 (X Y : FVec Ideal Cert.Up2RefIdeal.S8192x5632 .f32) (x : Fin 8192) (k : Fin 5632) : refStack X Y (ix3 0 x k) = X (ix2 x k) := by
  pointwise [refStack]
theorem refStack_1 (X Y : FVec Ideal Cert.Up2RefIdeal.S8192x5632 .f32) (x : Fin 8192) (k : Fin 5632) : refStack X Y (ix3 1 x k) = Y (ix2 x k) := by
  pointwise [refStack]

variable (H : FVec Ideal Cert.Up2RefIdeal.S8192x2048 .bf16) (W : FVec Ideal Cert.Up2RefIdeal.S2048x11264 .bf16)

theorem half_a (x : Fin 8192) (k : Fin 5632) : refA (refP H W) (ix2 x k) = hW H W x (c0 k) := by rw [refA_apply, refP_apply]
theorem half_b (x : Fin 8192) (k : Fin 5632) : refB (refP H W) (ix2 x k) = hW H W x (c1 k) := by rw [refB_apply, refP_apply]

/-- The reference's arrays are the ones the kernel leaves. -/
theorem values3_at (h : Fin 2) (x : Fin 8192) (k : Fin 5632) :
    refStack (refA (refP H W)) (refB (refP H W)) (ix3 h x k)
      = if h.val = 0 then hW H W x (c0 k) else hW H W x (c1 k) := by
  match h with
  | ⟨0, _⟩ => exact (refStack_0 _ _ x k).trans (half_a H W x k)
  | ⟨1, _⟩ => exact (refStack_1 _ _ x k).trans (half_b H W x k)

theorem values3 (e0 : H = aH m c) (e1 : W = aW m c) :
    (refStack (refA (refP H W)) (refB (refP H W)) : S2x8192x5632.Idx → EReal) = (dats m 0 c).arrAt 3 cfg0.N := by
  subst e0; subst e1
  rw [final3]
  funext i
  rw [← ix3_eta i]
  exact values3_at _ _ _ _ _

theorem values4 (e0 : H = aH m c) (e1 : W = aW m c) :
    (refG (refA (refP H W)) (refB (refP H W)) : S8192x5632.Idx → EReal) = (dats m 0 c).arrAt 4 cfg0.N := by
  subst e0; subst e1
  rw [final4]
  funext i
  rw [← ix2_eta i]
  exact (refG_apply _ _ _).trans (congrArg₂ glu (half_a _ _ _ _) (half_b _ _ _ _))

end Reference

end Cert.Up2Ideal.Hand

end
-- ==== Proof.AttnPayload.lean ====
/- The attention kernel's forward pass: every head's body written with the same functions. -/
module

public import proofs.«01_k».proof.Proof.Gen.AttnIdeal.Skeleton

@[expose] public section

set_option maxRecDepth 16384

noncomputable section

namespace Cert.AttnIdeal.Hand

open Cert.AttnIdeal Cert.AttnIdeal.Gen Idealize.ShloMosaic Idealize.ShloMosaic.TcCoe

variable {F : FTy → Type} [FloatOps F] [Named F]

section Vectors
variable (q : Vec F S512x128 .bf16) (k v : Vec F S2816x128 .bf16) (s p : FVec F S512x2816 .f32)
  (a b l : FVec F S512x1 .f32) (x : FVec F S512x128 .f32)

/-- The scores of a head's queries and a chunk's keys, and each query's greatest one. -/
def vS : FVec F S512x2816 .f32 :=
  matmul (φ₁ := .bf16) (φ₂ := .bf16) dot_S512x128_S2816x128_S512x2816_1_1_0_0_n_n none q k (constant S512x2816 .f32 0x00000000#32)
def vTop : FVec F S512x1 .f32 :=
  shapeCast S512x1 (multiReduction .maximumf [1] S512 s 0xFF800000#32 reduces_S512x2816_S512 (.inl rfl) rfl) shapeCasts_S512_S512x1
/-- A sum over a chunk's keys. -/
def vSum : FVec F S512x1 .f32 :=
  shapeCast S512x1 (multiReduction .add [1] S512 p 0x00000000#32 reduces_S512x2816_S512 (.inl rfl) rfl) shapeCasts_S512_S512x1
/-- The powers of two of the scores less a column, and of one column less another. -/
def vP : FVec F S512x2816 .f32 :=
  exp2 (mulf (subf s (broadcastTo S512x2816 a broadcasts_S512x1_S512x2816)) (broadcast S512x2816 (Named.named (F := F) (φ := .f32) κ "scale_log2e" 0x3E0293EE#32)))
def vK : FVec F S512x1 .f32 := exp2 (mulf (subf a b) (broadcast S512x1 (Named.named (F := F) (φ := .f32) κ "scale_log2e" 0x3E0293EE#32)))
/-- The product with a chunk's values, and a column over the lanes of a head. -/
def vPV : FVec F S512x128 .f32 :=
  matmul (φ₂ := .bf16) dot_S512x2816_S2816x128_S512x128_1_0_0_1_n_n none (truncf .bf16 p bitsLt_bf16_f32) v (constant S512x128 .f32 0x00000000#32)
def vLane : FVec F S512x128 .f32 := broadcastTo S512x128 a broadcasts_S512x1_S512x128

end Vectors

section Head
variable (q : Vec F S512x128 .bf16) (k0 k1 k2 v0 v1 v2 : Vec F S2816x128 .bf16)

/-- The greatest scores, the sum and the weighted sum a head carries over the three chunks. -/
def hT0 : FVec F S512x1 .f32 := vTop (vS q k0)
def hT1 : FVec F S512x1 .f32 := maximumf (hT0 q k0) (vTop (vS q k1))
def hT2 : FVec F S512x1 .f32 := maximumf (hT1 q k0 k1) (vTop (vS q k2))
def hL : FVec F S512x1 .f32 :=
  addf (mulf (addf (mulf (vSum (vP (vS q k0) (hT0 q k0))) (vK (hT0 q k0) (hT1 q k0 k1))) (vSum (vP (vS q k1) (hT1 q k0 k1))))
    (vK (hT1 q k0 k1) (hT2 q k0 k1 k2))) (vSum (vP (vS q k2) (hT2 q k0 k1 k2)))
def hA : FVec F S512x128 .f32 :=
  addf (mulf (addf (mulf (vPV v0 (vP (vS q k0) (hT0 q k0))) (vLane (vK (hT0 q k0) (hT1 q k0 k1)))) (vPV v1 (vP (vS q k1) (hT1 q k0 k1))))
    (vLane (vK (hT1 q k0 k1) (hT2 q k0 k1 k2)))) (vPV v2 (vP (vS q k2) (hT2 q k0 k1 k2)))
/-- What a head stores: its output, and its log-sum-exp over its lanes. -/
def hO : FVec F S512x128 .bf16 := truncf .bf16 (divf (hA q k0 k1 k2 v0 v1 v2) (vLane (hL q k0 k1 k2))) bitsLt_bf16_f32
def hE : FVec F S512x128 .f32 :=
  vLane (shapeCast S512x1 (addf (mulf (hT2 q k0 k1 k2) (broadcast S512x1 (Scalar.ofBits (F := F) .f32 0x3DB504F3#32))) (log (hL q k0 k1 k2)))
    shapeCasts_S512x1_S512x1)

/-- Every head stores these two. -/
theorem o0_eq : k0_pay19 q (k0_pay8 q k0 k1) (k0_pay11 q k0 k1) (k0_pay12 q k0 v0 k1) (k0_pay13 q k0 k1) v1 (constant S512x128 .f32 0x00000000#32) k2 v2
    = hO q k0 k1 k2 v0 v1 v2 := rfl
theorem e0_eq : k0_pay20 q (k0_pay8 q k0 k1) (k0_pay11 q k0 k1) k2 = hE q k0 k1 k2 := rfl
theorem o1_eq : k0_pay35 (k0_pay25 q k0 k1) (k0_pay28 q k0 k1) (k0_pay29 q k0 v0 k1 v1) (k0_pay30 q k2) v2 = hO q k0 k1 k2 v0 v1 v2 := rfl
theorem e1_eq : k0_pay36 (k0_pay25 q k0 k1) (k0_pay28 q k0 k1) (k0_pay30 q k2) = hE q k0 k1 k2 := rfl
theorem o2_eq : k0_pay52 (k0_pay45 q (k0_pay38 q k0) (k0_pay39 q k0) (Named.named (F := F) (φ := .f32) κ "scale_log2e" 0x3E0293EE#32) k1) (k0_pay46 q (k0_pay38 q k0) (k0_pay39 q k0) (Named.named (F := F) (φ := .f32) κ "scale_log2e" 0x3E0293EE#32) v0 k1 v1) (k0_pay47 q k2)
    (k0_pay48 q (k0_pay38 q k0) k1 k2) (k0_pay49 q (k0_pay38 q k0) k1 k2) v2 = hO q k0 k1 k2 v0 v1 v2 := rfl
theorem e2_eq : k0_pay53 (k0_pay45 q (k0_pay38 q k0) (k0_pay39 q k0) (Named.named (F := F) (φ := .f32) κ "scale_log2e" 0x3E0293EE#32) k1) (k0_pay47 q k2)
    (k0_pay48 q (k0_pay38 q k0) k1 k2) (k0_pay49 q (k0_pay38 q k0) k1 k2) = hE q k0 k1 k2 := rfl
theorem o3_eq : k0_pay2 (k0_pay63 q (k0_pay55 q k0) (k0_pay58 q k0) v0 k1 v1) (k0_pay66 q (k0_pay55 q k0) k1 k2) (k0_pay67 q (k0_pay55 q k0) k1 k2)
    (k0_pay68 q (k0_pay55 q k0) (k0_pay57 q k0) k1 k2) v2 = hO q k0 k1 k2 v0 v1 v2 := rfl
theorem e3_eq : k0_pay3 (k0_pay65 q (k0_pay55 q k0) k1 k2) (k0_pay67 q (k0_pay55 q k0) k1 k2) (k0_pay68 q (k0_pay55 q k0) (k0_pay57 q k0) k1 k2)
    = hE q k0 k1 k2 := rfl

end Head

end Cert.AttnIdeal.Hand

end
-- ==== Proof.Online.lean ====
/- One query row taken chunk by chunk: three chunks of keys, the running greatest score, sum and weighted sum carried from one to the
   next and rescaled, come to the softmax's weighted sum and to its log-sum-exp. -/
module

public import proofs.«01_k».proof.Proof.Softmax
public import proofs.«01_k».proof.Proof.Product

@[expose] public section

noncomputable section

namespace Cert.Softmax

open Idealize.ShloMosaic

/-- A sum of extended reals scaled by a real that isn't negative. -/
theorem sum_mul_coe {ι : Type} (t : Finset ι) (f : ι → EReal) (k : ℝ) (hk : 0 ≤ k) : (∑ i ∈ t, f i) * (k : EReal) = ∑ i ∈ t, f i * (k : EReal) := by
  classical
  refine Finset.induction_on t (by simp) fun a t ha ih => ?_
  rw [Finset.sum_insert ha, Finset.sum_insert ha, EReal.right_distrib_of_nonneg_of_ne_top (EReal.coe_nonneg.mpr hk) (EReal.coe_ne_top k), ih]

/-- A power of two of a difference scaled by `c` over the logarithm of two. -/
def two (c : ℝ) (x y : EReal) : EReal := Ideal.exp2 ((x - y) * ((c * (Real.log 2)⁻¹ : ℝ) : EReal))

theorem two_real (c x y : ℝ) : two c x y = ((Real.exp ((x - y) * c) : ℝ) : EReal) := by
  have h2 : Real.log 2 ≠ 0 := (Real.log_pos (by norm_num)).ne'
  rw [two, ← EReal.coe_sub, ← EReal.coe_mul, Ideal.exp2_coe]
  refine congrArg _ ?_
  show (2 : ℝ) ^ ((x - y) * (c * (Real.log 2)⁻¹) : ℝ) = _
  rw [Real.rpow_def_of_pos (by norm_num)]
  refine congrArg _ ?_
  field_simp

section Chunks
variable {ι : Type} [Fintype ι] (c : ℝ) (s : Fin 3 → ι → EReal) (u : Fin 3 → ι → EReal)

/-- A chunk's greatest score, and the greatest of the first two chunks and of all three. -/
def top (j : Fin 3) : EReal := Finset.univ.fold max (⊥ : EReal) (s j)
def top1 : EReal := max (top s 0) (top s 1)
def top2 : EReal := max (top1 s) (top s 2)

/-- The weighted sum carried over the chunks. -/
def carried : EReal :=
  ((∑ i, two c (s 0 i) (top s 0) * u 0 i) * two c (top s 0) (top1 s) + ∑ i, two c (s 1 i) (top1 s) * u 1 i) * two c (top1 s) (top2 s)
    + ∑ i, two c (s 2 i) (top2 s) * u 2 i

/-- The sum carried over the chunks. -/
def total : EReal :=
  ((∑ i, two c (s 0 i) (top s 0)) * two c (top s 0) (top1 s) + ∑ i, two c (s 1 i) (top1 s)) * two c (top1 s) (top2 s)
    + ∑ i, two c (s 2 i) (top2 s)

theorem total_eq : total c s = carried c s fun _ _ => 1 := by
  simp only [total, carried, mul_one]

variable [Nonempty ι] (S : Fin 3 → ι → ℝ)

theorem shift (a b x : ℝ) (v : EReal) : ((Real.exp ((x - a) * c) : ℝ) : EReal) * v * ((Real.exp ((a - b) * c) : ℝ) : EReal)
    = ((Real.exp ((x - b) * c) : ℝ) : EReal) * v := by
  rw [mul_right_comm, ← EReal.coe_mul, ← Real.exp_add]
  exact congrArg (fun z : ℝ => ((Real.exp z : ℝ) : EReal) * v) (by ring)

/-- On real scores the carried sum is the sum over every chunk, shifted by one real, the greatest score. -/
theorem carried_real : ∃ M : ℝ, top2 (fun j i => (S j i : EReal)) = (M : EReal) ∧ ∀ u : Fin 3 → ι → EReal,
    carried c (fun j i => (S j i : EReal)) u = ∑ j, ∑ i, ((Real.exp ((S j i - M) * c) : ℝ) : EReal) * u j i := by
  obtain ⟨a, ha⟩ := fold_max (S 0)
  obtain ⟨b, hb⟩ := fold_max (S 1)
  obtain ⟨d, hd⟩ := fold_max (S 2)
  have e0 : top (fun j i => (S j i : EReal)) 0 = (a : EReal) := ha
  have e1 : top1 (fun j i => (S j i : EReal)) = ((max a b : ℝ) : EReal) := by
    rw [top1, e0, EReal.coe_strictMono.monotone.map_max]
    exact congrArg _ hb
  have e2 : top2 (fun j i => (S j i : EReal)) = ((max (max a b) d : ℝ) : EReal) := by
    rw [top2, e1, EReal.coe_strictMono.monotone.map_max]
    exact congrArg _ hd
  refine ⟨max (max a b) d, e2, fun u => ?_⟩
  simp only [carried, e0, e1, e2, two_real]
  rw [sum_mul_coe _ _ _ (Real.exp_pos _).le, EReal.right_distrib_of_nonneg_of_ne_top (EReal.coe_nonneg.mpr (Real.exp_pos _).le) (EReal.coe_ne_top _),
    sum_mul_coe _ _ _ (Real.exp_pos _).le, sum_mul_coe _ _ _ (Real.exp_pos _).le, Fin.sum_univ_three]
  simp only [shift]

end Chunks

section Rows
variable (c : ℝ) (s u : Fin 8448 → EReal)

/-- A chunk of a row. -/
def chunk (f : Fin 8448 → EReal) (j : Fin 3) (i : Fin 2816) : EReal := f ⟨2816 * j.val + i.val, by omega⟩

/-- What a row's chunks come to: the quotient of the carried sums, and the greatest score scaled plus the sum's logarithm. -/
def rowO : EReal := Ideal.div (carried c (chunk s) (chunk u)) (total c (chunk s))
def rowL : EReal := top2 (chunk s) * (c : EReal) + Ideal.log (total c (chunk s))

theorem sum_chunks (f : Fin 8448 → EReal) : ∑ j, ∑ i, chunk f j i = ∑ n, f n := by
  have e := Cert.Product.sum_split 3 2816 (fun n => if h : n < 8448 then f ⟨n, h⟩ else 0)
  refine Eq.trans ?_ (e.symm.trans ?_)
  · refine Finset.sum_congr rfl fun j _ => Finset.sum_congr rfl fun i _ => ?_
    rw [dif_pos (show 2816 * j.val + i.val < 8448 by omega)]
    rfl
  · exact Finset.sum_congr rfl fun n _ => dif_pos n.isLt

variable (S : Fin 8448 → ℝ)

theorem row_real : ∃ M : ℝ, top2 (chunk fun n => (S n : EReal)) = (M : EReal) ∧ ∀ u : Fin 8448 → EReal,
    carried c (chunk fun n => (S n : EReal)) (chunk u) = ∑ n, ((Real.exp ((S n - M) * c) : ℝ) : EReal) * u n := by
  obtain ⟨M, h, e⟩ := carried_real c fun (j : Fin 3) (i : Fin 2816) => S ⟨2816 * j.val + i.val, by omega⟩
  exact ⟨M, h, fun u => (e (chunk u)).trans (sum_chunks fun n => ((Real.exp ((S n - M) * c) : ℝ) : EReal) * u n)⟩

theorem total_row (M : ℝ) (e : ∀ u : Fin 8448 → EReal,
    carried c (chunk fun n => (S n : EReal)) (chunk u) = ∑ n, ((Real.exp ((S n - M) * c) : ℝ) : EReal) * u n) :
    total c (chunk fun n => (S n : EReal)) = ((Z (fun n => S n * c) * Real.exp (-(M * c)) : ℝ) : EReal) := by
  rw [total_eq, ← Z_shift, coe_sum]
  refine (e fun _ => 1).trans (Finset.sum_congr rfl fun n _ => ?_)
  rw [mul_one, sub_mul]

/-- The quotient is the softmax's weighted sum. -/
theorem rowO_real : rowO c (fun n => (S n : EReal)) u = ∑ n, (W (fun n => S n * c) n : EReal) * u n := by
  obtain ⟨M, _, e⟩ := row_real c S
  have hz := Zs_ne (fun n => S n * c) (M * c)
  have hp : 0 ≤ 1 / (Z (fun n => S n * c) * Real.exp (-(M * c))) := (one_div_pos.mpr (mul_pos (Z_pos _) (Real.exp_pos _))).le
  rw [rowO, e, total_row c S M e, Ideal.div_coe hz, sum_mul_coe _ _ _ hp]
  refine Finset.sum_congr rfl fun n _ => ?_
  rw [mul_right_comm, ← EReal.coe_mul]
  refine congrArg (fun z : ℝ => (z : EReal) * u n) ?_
  rw [W, sub_mul, sub_eq_add_neg, Real.exp_add, mul_one_div, mul_div_mul_right _ _ (Real.exp_pos _).ne']

/-- The greatest score scaled plus the sum's logarithm is the logarithm of the sum of the exponentials. -/
theorem rowL_real : rowL c (fun n => (S n : EReal)) = ((Real.log (Z fun n => S n * c) : ℝ) : EReal) := by
  obtain ⟨M, h, e⟩ := row_real c S
  have hp : 0 < Z (fun n => S n * c) * Real.exp (-(M * c)) := mul_pos (Z_pos _) (Real.exp_pos _)
  rw [rowL, h, total_row c S M e, Ideal.log_coe, if_neg (not_le.mpr hp), ← EReal.coe_mul, ← EReal.coe_add,
    Real.log_mul (Z_pos _).ne' (Real.exp_pos _).ne', Real.log_exp]
  exact congrArg _ (by ring)

/-- A shifted log-sum-exp is the same logarithm. -/
theorem lse_real (T : Fin 8448 → ℝ) (M : ℝ) :
    (M : EReal) + Ideal.log (∑ n, Ideal.exp ((T n : EReal) - (M : EReal))) = ((Real.log (Z T) : ℝ) : EReal) := by
  have hp : 0 < Z T * Real.exp (-M) := mul_pos (Z_pos T) (Real.exp_pos _)
  rw [eL, Ideal.log_coe, if_neg (not_le.mpr hp), ← EReal.coe_add, Real.log_mul (Z_pos T).ne' (Real.exp_pos _).ne', Real.log_exp]
  exact congrArg _ (by ring)

end Rows

end Cert.Softmax

end
-- ==== Proof.AttnValue.lean ====
/- The attention kernel's forward pass: what one block of queries leaves, entry by entry. -/
module

public import proofs.«01_k».proof.Proof.Gen.AttnIdeal.Value
public import proofs.«01_k».proof.Proof.GateValue
public import proofs.«01_k».proof.Proof.AttnPayload
public import proofs.«01_k».proof.Proof.Online
public import proofs.«01_k».proof.Proof.Scores
public import Idealize.ShloMosaic.Lib.Pipeline.ValueKit.Geometry
public import Idealize.ShloMosaic.Lib.Pointwise

@[expose] public section

set_option maxRecDepth 16384

noncomputable section

namespace Cert.AttnIdeal.Hand

open Cert.AttnIdeal Cert.AttnIdeal.Gen Idealize.ShloMosaic Idealize.ShloMosaic.TcCoe
open Cert.GateIdeal.Hand (hz2)
open Cert.Softmax (two top top1 top2 carried total chunk rowO rowL cR)

/-- scale / log 2, the factor of the scores. -/
abbrev cScl : EReal := Named.named (F := Ideal) (φ := .f32) κ "scale_log2e" 0x3E0293EE#32

theorem cScl_eq : cScl = ((cR * (Real.log 2)⁻¹ : ℝ) : EReal) := rfl

section Vectors
variable (q : Vec Ideal S512x128 .bf16) (k v : Vec Ideal S2816x128 .bf16) (s p : FVec Ideal S512x2816 .f32)
  (a b : FVec Ideal S512x1 .f32)

theorem vS_apply (r : Fin 512) (t : Fin 2816) : vS q k (ix2 r t) = ∑ d : Fin 128, q (ix2 r d) * k (ix2 t d) := by
  pointwise [vS]
theorem vTop_apply (r : Fin 512) : vTop s (ix2 r 0) = Finset.univ.fold max (⊥ : EReal) fun t : Fin 2816 => s (ix2 r t) := by
  rw [← Cert.Softmax.bits_neg_inf]
  pointwise [vTop]
theorem vSum_apply (r : Fin 512) : vSum p (ix2 r 0) = ∑ t : Fin 2816, p (ix2 r t) := by
  pointwise [vSum]
theorem vP_apply (r : Fin 512) (t : Fin 2816) : vP s a (ix2 r t) = two cR (s (ix2 r t)) (a (ix2 r 0)) := by
  pointwise [vP]
  rfl
theorem vK_apply (r : Fin 512) : vK a b (ix2 r 0) = two cR (a (ix2 r 0)) (b (ix2 r 0)) := rfl
theorem vPV_apply (r : Fin 512) (d : Fin 128) : vPV v p (ix2 r d) = ∑ t : Fin 2816, p (ix2 r t) * v (ix2 t d) := by
  pointwise [vPV]
theorem vLane_apply (r : Fin 512) (d : Fin 128) : vLane a (ix2 r d) = a (ix2 r 0) := by
  pointwise [vLane]

end Vectors

section Head
variable (q : Vec Ideal S512x128 .bf16) (k0 k1 k2 v0 v1 v2 : Vec Ideal S2816x128 .bf16)

/-- A row's scores and a column of values, chunk by chunk. -/
def cS (r : Fin 512) : Fin 3 → Fin 2816 → EReal
  | 0, t => ∑ d : Fin 128, q (ix2 r d) * k0 (ix2 t d)
  | 1, t => ∑ d : Fin 128, q (ix2 r d) * k1 (ix2 t d)
  | 2, t => ∑ d : Fin 128, q (ix2 r d) * k2 (ix2 t d)
def cV (d : Fin 128) : Fin 3 → Fin 2816 → EReal
  | 0, t => v0 (ix2 t d)
  | 1, t => v1 (ix2 t d)
  | 2, t => v2 (ix2 t d)

theorem cS0 (r : Fin 512) : cS q k0 k1 k2 r 0 = fun t => ∑ d : Fin 128, q (ix2 r d) * k0 (ix2 t d) := rfl
theorem cS1 (r : Fin 512) : cS q k0 k1 k2 r 1 = fun t => ∑ d : Fin 128, q (ix2 r d) * k1 (ix2 t d) := rfl
theorem cS2 (r : Fin 512) : cS q k0 k1 k2 r 2 = fun t => ∑ d : Fin 128, q (ix2 r d) * k2 (ix2 t d) := rfl
theorem cV0 (d : Fin 128) : cV v0 v1 v2 d 0 = fun t => v0 (ix2 t d) := rfl
theorem cV1 (d : Fin 128) : cV v0 v1 v2 d 1 = fun t => v1 (ix2 t d) := rfl
theorem cV2 (d : Fin 128) : cV v0 v1 v2 d 2 = fun t => v2 (ix2 t d) := rfl

/-- Vectors of extended reals are combined entry by entry. -/
theorem max_at {S : Shape} (a b : FVec Ideal S .f32) (i : S.Idx) : maximumf a b i = max (a i) (b i) := rfl
theorem add_at {S : Shape} (a b : FVec Ideal S .f32) (i : S.Idx) : addf a b i = a i + b i := rfl
theorem mul_at {S : Shape} (a b : FVec Ideal S .f32) (i : S.Idx) : mulf a b i = a i * b i := rfl
theorem div_at {S : Shape} (a b : FVec Ideal S .f32) (h) (i : S.Idx) : truncf .bf16 (divf a b) h i = Ideal.div (a i) (b i) := rfl
theorem lse_at {S : Shape} (a b : FVec Ideal S .f32) (w : BitVec 32) (i : S.Idx) :
    addf (mulf a (broadcast S (Scalar.ofBits (F := Ideal) .f32 w))) (log b) i = a i * Ideal.ofBits .f32 w + Ideal.log (b i) := rfl

/-- A row's greatest score in a chunk. -/
theorem top_at (k : Vec Ideal S2816x128 .bf16) (r : Fin 512) :
    vTop (vS q k) (ix2 r 0) = Finset.univ.fold max (⊥ : EReal) fun t : Fin 2816 => ∑ d : Fin 128, q (ix2 r d) * k (ix2 t d) := by
  rw [vTop_apply]
  exact congrArg (Finset.univ.fold max (⊥ : EReal)) (funext fun t => vS_apply q k r t)

theorem hT0_apply (r : Fin 512) : hT0 q k0 (ix2 r 0) = top (cS q k0 k1 k2 r) 0 := by
  rw [hT0, top_at, top, cS0]
theorem hT1_apply (r : Fin 512) : hT1 q k0 k1 (ix2 r 0) = top1 (cS q k0 k1 k2 r) := by
  rw [hT1, max_at, hT0_apply q k0 k1 k2, top_at, top1]
  exact congrArg (max _) (by rw [top, cS1])
theorem hT2_apply (r : Fin 512) : hT2 q k0 k1 k2 (ix2 r 0) = top2 (cS q k0 k1 k2 r) := by
  rw [hT2, max_at, hT1_apply q k0 k1 k2, top_at, top2]
  exact congrArg (max _) (by rw [top, cS2])

/-- A chunk's powers of two, their sum, and their sum weighted by the values. -/
theorem p_sum (k : Vec Ideal S2816x128 .bf16) (a : FVec Ideal S512x1 .f32) (r : Fin 512) (M : EReal) (h : a (ix2 r 0) = M) :
    vSum (vP (vS q k) a) (ix2 r 0) = ∑ t : Fin 2816, two cR (∑ d : Fin 128, q (ix2 r d) * k (ix2 t d)) M := by
  rw [vSum_apply, ← h]
  exact Finset.sum_congr rfl fun t _ => by rw [vP_apply, vS_apply]
theorem p_val (k v : Vec Ideal S2816x128 .bf16) (a : FVec Ideal S512x1 .f32) (r : Fin 512) (d : Fin 128) (M : EReal) (h : a (ix2 r 0) = M) :
    vPV v (vP (vS q k) a) (ix2 r d) = ∑ t : Fin 2816, two cR (∑ d : Fin 128, q (ix2 r d) * k (ix2 t d)) M * v (ix2 t d) := by
  rw [vPV_apply, ← h]
  exact Finset.sum_congr rfl fun t _ => by rw [vP_apply, vS_apply]

theorem hL_apply (r : Fin 512) : hL q k0 k1 k2 (ix2 r 0) = total cR (cS q k0 k1 k2 r) := by
  rw [hL, add_at, mul_at, add_at, mul_at, p_sum q k0 _ r _ (hT0_apply q k0 k1 k2 r), p_sum q k1 _ r _ (hT1_apply q k0 k1 k2 r),
    p_sum q k2 _ r _ (hT2_apply q k0 k1 k2 r), vK_apply, vK_apply, hT0_apply q k0 k1 k2, hT1_apply q k0 k1 k2, hT2_apply q k0 k1 k2,
    total, cS0, cS1, cS2]

theorem hA_apply (r : Fin 512) (d : Fin 128) : hA q k0 k1 k2 v0 v1 v2 (ix2 r d) = carried cR (cS q k0 k1 k2 r) (cV v0 v1 v2 d) := by
  rw [hA, add_at, mul_at, add_at, mul_at, p_val q k0 v0 _ r d _ (hT0_apply q k0 k1 k2 r), p_val q k1 v1 _ r d _ (hT1_apply q k0 k1 k2 r),
    p_val q k2 v2 _ r d _ (hT2_apply q k0 k1 k2 r), vLane_apply, vLane_apply, vK_apply, vK_apply, hT0_apply q k0 k1 k2,
    hT1_apply q k0 k1 k2, hT2_apply q k0 k1 k2, carried, cS0, cS1, cS2, cV0, cV1, cV2]

theorem hO_apply (r : Fin 512) (d : Fin 128) :
    hO q k0 k1 k2 v0 v1 v2 (ix2 r d) = Ideal.div (carried cR (cS q k0 k1 k2 r) (cV v0 v1 v2 d)) (total cR (cS q k0 k1 k2 r)) := by
  rw [hO, div_at, hA_apply, vLane_apply, hL_apply]

theorem same_apply (x : FVec Ideal S512x1 .f32) (r : Fin 512) : shapeCast S512x1 x shapeCasts_S512x1_S512x1 (ix2 r 0) = x (ix2 r 0) := by
  pointwise []

theorem hE_apply (r : Fin 512) (d : Fin 128) :
    hE q k0 k1 k2 (ix2 r d) = top2 (cS q k0 k1 k2 r) * (cR : EReal) + Ideal.log (total cR (cS q k0 k1 k2 r)) := by
  rw [hE, vLane_apply, same_apply]
  rw [lse_at, hT2_apply, hL_apply, Cert.Softmax.bits_scale]

end Head
end Cert.AttnIdeal.Hand

end
-- ==== Proof.AttnBlock.lean ====
/- The attention kernel's forward pass: what a point leaves in its two blocks, as one function of the blocks it reads. -/
module

public import proofs.«01_k».proof.Proof.AttnValue

@[expose] public section

set_option maxRecDepth 16384

noncomputable section

namespace Cert.AttnIdeal.Hand

open Cert.AttnIdeal Cert.AttnIdeal.Gen Idealize.ShloMosaic Idealize.ShloMosaic.TcCoe Idealize.ShloMosaic.Tactic
open Cert.Softmax (two top top1 top2 carried total chunk rowO rowL cR)

variable (x0 : Vec Ideal S512x512 .bf16) (x1 x2 : Vec Ideal S8448x128 .bf16)

/-- A head's lane among the columns of a block. -/
def ln (h : Fin 4) (d : Fin 128) : Fin 512 := ⟨128 * h.val + d.val, by omega⟩
/-- The head and the lane of a column. -/
def lh (e : Fin 512) : Fin 4 := ⟨e.val / 128, by omega⟩
def ld' (e : Fin 512) : Fin 128 := ⟨e.val % 128, by omega⟩

theorem lh_ln (h : Fin 4) (d : Fin 128) : lh (ln h d) = h := Fin.ext (by show (128 * h.val + d.val) / 128 = h.val; omega)
theorem ld_ln (h : Fin 4) (d : Fin 128) : ld' (ln h d) = d := Fin.ext (by show (128 * h.val + d.val) % 128 = d.val; omega)

/-- A row's scores over all keys, for one head. -/
def rS (r : Fin 512) (h : Fin 4) (n : Fin 8448) : EReal := ∑ d : Fin 128, x0 (ix2 r (ln h d)) * x1 (ix2 n d)

/-- The output and the log-sum-exp a point leaves. -/
def oB (y : S512x512.Idx) : EReal := rowO cR (rS x0 x1 (y 0) (lh (y 1))) fun n => x2 (ix2 n (ld' (y 1)))
def lB (y : S512x512.Idx) : EReal := rowL cR (rS x0 x1 (y 0) (lh (y 1)))

section Pieces
variable (h : Fin 4) (off : Nat) (hoff : off = 128 * h.val) (inq : ∀ a, ![0, off] a + S512x128.size a ≤ S512x512.size a)

/-- The lanes of a head, loaded from the block of queries. -/
abbrev ldQ : Vec Ideal S512x128 .bf16 := View.ld x0 (Rect.unit (s := S512x512) ![0, off] S512x128.size inq)
/-- A chunk of keys or values, loaded. -/
abbrev ldC (o : Nat) (inc : ∀ a, ![o, 0] a + S2816x128.size a ≤ S8448x128.size a) (x : Vec Ideal S8448x128 .bf16) : Vec Ideal S2816x128 .bf16 :=
  View.ld x (Rect.unit (s := S8448x128) ![o, 0] S2816x128.size inc)

theorem emb_q (inq : ∀ a, ![0, off] a + S512x128.size a ≤ S512x512.size a) (hoff : off = 128 * h.val) (r : Fin 512) (d : Fin 128) :
    (Rect.unit (s := S512x512) ![0, off] S512x128.size inq).emb (ix2 r d) = ix2 r (ln h d) := by
  funext a
  apply Fin.ext
  match a with
  | ⟨0, _⟩ => show 0 + 1 * r.val = r.val; omega
  | ⟨1, _⟩ => show off + 1 * d.val = 128 * h.val + d.val; omega

theorem ldQ_apply (hoff : off = 128 * h.val) (r : Fin 512) (d : Fin 128) : ldQ x0 off inq (ix2 r d) = x0 (ix2 r (ln h d)) :=
  congrArg x0 (emb_q h off inq hoff r d)

theorem ldC_apply (o : Nat) (inc : ∀ a, ![o, 0] a + S2816x128.size a ≤ S8448x128.size a) (x : Vec Ideal S8448x128 .bf16)
    (t : Fin 2816) (d : Fin 128) (n : Fin 8448) (hn : n.val = o + t.val) : ldC o inc x (ix2 t d) = x (ix2 n d) := by
  refine congrArg x ?_
  funext a
  apply Fin.ext
  match a with
  | ⟨0, _⟩ => show o + 1 * t.val = n.val; omega
  | ⟨1, _⟩ => show 0 + 1 * d.val = d.val; omega

/-- The three chunks of a block. -/
abbrev ch0 (x : Vec Ideal S8448x128 .bf16) := ldC 0 inb_S8448x128_S2816x128_0_0 x
abbrev ch1 (x : Vec Ideal S8448x128 .bf16) := ldC 2816 inb_S8448x128_S2816x128_2816_0 x
abbrev ch2 (x : Vec Ideal S8448x128 .bf16) := ldC 5632 inb_S8448x128_S2816x128_5632_0 x

theorem scores_eq (hoff : off = 128 * h.val) (r : Fin 512) :
    cS (ldQ x0 off inq) (ch0 x1) (ch1 x1) (ch2 x1) r = chunk (rS x0 x1 r h) := by
  funext j t
  match j with
  | 0 => exact Finset.sum_congr rfl fun d _ => congrArg₂ (· * ·) (ldQ_apply x0 h off inq hoff r d) (ldC_apply 0 _ x1 t d _ rfl)
  | 1 => exact Finset.sum_congr rfl fun d _ => congrArg₂ (· * ·) (ldQ_apply x0 h off inq hoff r d) (ldC_apply 2816 _ x1 t d _ rfl)
  | 2 => exact Finset.sum_congr rfl fun d _ => congrArg₂ (· * ·) (ldQ_apply x0 h off inq hoff r d) (ldC_apply 5632 _ x1 t d _ rfl)

theorem values_eq (d : Fin 128) : cV (ch0 x2) (ch1 x2) (ch2 x2) d = chunk fun n => x2 (ix2 n d) := by
  funext j t
  match j with
  | 0 => exact ldC_apply 0 _ x2 t d _ rfl
  | 1 => exact ldC_apply 2816 _ x2 t d _ rfl
  | 2 => exact ldC_apply 5632 _ x2 t d _ rfl

theorem piece_o (hoff : off = 128 * h.val) (x : S512x128.Idx) :
    hO (ldQ x0 off inq) (ch0 x1) (ch1 x1) (ch2 x1) (ch0 x2) (ch1 x2) (ch2 x2) x
      = oB x0 x1 x2 ((Rect.unit (s := S512x512) ![0, off] S512x128.size inq).emb x) := by
  obtain ⟨r, d, rfl⟩ : ∃ (r : Fin 512) (d : Fin 128), x = ix2 r d := ⟨x 0, x 1, (ix2_eta x).symm⟩
  rw [hO_apply, scores_eq x0 x1 h off inq hoff, values_eq, emb_q h off inq hoff]
  show _ = rowO cR (rS x0 x1 r (lh (ln h d))) fun n => x2 (ix2 n (ld' (ln h d)))
  rw [lh_ln, ld_ln, rowO]

theorem piece_l (hoff : off = 128 * h.val) (x : S512x128.Idx) :
    hE (ldQ x0 off inq) (ch0 x1) (ch1 x1) (ch2 x1) x
      = lB x0 x1 ((Rect.unit (s := S512x512) ![0, off] S512x128.size inq).emb x) := by
  obtain ⟨r, d, rfl⟩ : ∃ (r : Fin 512) (d : Fin 128), x = ix2 r d := ⟨x 0, x 1, (ix2_eta x).symm⟩
  rw [hE_apply, scores_eq x0 x1 h off inq hoff, emb_q h off inq hoff]
  show _ = rowL cR (rS x0 x1 r (lh (ln h d)))
  rw [lh_ln, rowL]

end Pieces

section Runs
variable (c : Dev nD) (i : grid0.Coords) (arg2 : Memref sig .tc .vmem S512x512 .bf16) (harg2 : arg2.IsWhole)
  (arg3 : Memref sig .tc .vmem S8448x128 .bf16) (harg3 : arg3.IsWhole) (arg4 : Memref sig .tc .vmem S8448x128 .bf16) (harg4 : arg4.IsWhole)
  (arg5 : Memref sig .tc .vmem S512x512 .bf16) (harg5 : arg5.IsWhole) (arg6 : Memref sig .tc .vmem S512x512 .f32) (harg6 : arg6.IsWhole)

theorem out3_eq : out0_A_3 (F := Ideal) c i arg2 harg2 arg3 harg3 arg4 harg4 arg5 harg5 arg6 harg6 x0 x1 x2 = oB x0 x1 x2 := by
  unfold out0_A_3
  funext y
  have hc := cover0_A_3 (F := Ideal) c i arg2 harg2 arg3 harg3 arg4 harg4 arg5 harg5 arg6 harg6 x0 x1 x2
  rw [View.read_writes_eq_canon _ _ _ hc]
  replace hc := hc y
  revert hc
  unfold kernelRun0_A
  dsimp only
  sl_unfold_words
  simp only [View.readAt_eq_ld, harg2.read_unread, harg3.read_unread, harg4.read_unread]
  intro hc
  refine (congrArg (View.canon · y) (List.append_nil _).symm).trans ?_
  refine View.canon_append_of_pieces (oB x0 x1 x2) [] _ ?_ y hc
  refine List.forall_mem_cons.mpr ⟨fun x => (congrFun (o3_eq _ _ _ _ _ _ _) x).trans (piece_o x0 x1 x2 3 384 inb_S512x512_S512x128_0_384 rfl x), ?_⟩
  refine List.forall_mem_cons.mpr ⟨fun x => (congrFun (o2_eq _ _ _ _ _ _ _) x).trans (piece_o x0 x1 x2 2 256 inb_S512x512_S512x128_0_256 rfl x), ?_⟩
  refine List.forall_mem_cons.mpr ⟨fun x => (congrFun (o1_eq _ _ _ _ _ _ _) x).trans (piece_o x0 x1 x2 1 128 inb_S512x512_S512x128_0_128 rfl x), ?_⟩
  refine List.forall_mem_cons.mpr ⟨fun x => (congrFun (o0_eq _ _ _ _ _ _ _) x).trans (piece_o x0 x1 x2 0 0 inb_S512x512_S512x128_0_0 rfl x), ?_⟩
  exact List.forall_mem_nil _

theorem out4_eq : out0_A_4 (F := Ideal) c i arg2 harg2 arg3 harg3 arg4 harg4 arg5 harg5 arg6 harg6 x0 x1 x2 = lB x0 x1 := by
  unfold out0_A_4
  funext y
  have hc := cover0_A_4 (F := Ideal) c i arg2 harg2 arg3 harg3 arg4 harg4 arg5 harg5 arg6 harg6 x0 x1 x2
  rw [View.read_writes_eq_canon _ _ _ hc]
  replace hc := hc y
  revert hc
  unfold kernelRun0_A
  dsimp only
  sl_unfold_words
  simp only [View.readAt_eq_ld, harg2.read_unread, harg3.read_unread, harg4.read_unread]
  intro hc
  refine (congrArg (View.canon · y) (List.append_nil _).symm).trans ?_
  refine View.canon_append_of_pieces (lB x0 x1) [] _ ?_ y hc
  refine List.forall_mem_cons.mpr ⟨fun x => (congrFun (e3_eq _ _ _ _) x).trans (piece_l x0 x1 3 384 inb_S512x512_S512x128_0_384 rfl x), ?_⟩
  refine List.forall_mem_cons.mpr ⟨fun x => (congrFun (e2_eq _ _ _ _) x).trans (piece_l x0 x1 2 256 inb_S512x512_S512x128_0_256 rfl x), ?_⟩
  refine List.forall_mem_cons.mpr ⟨fun x => (congrFun (e1_eq _ _ _ _) x).trans (piece_l x0 x1 1 128 inb_S512x512_S512x128_0_128 rfl x), ?_⟩
  refine List.forall_mem_cons.mpr ⟨fun x => (congrFun (e0_eq _ _ _ _) x).trans (piece_l x0 x1 0 0 inb_S512x512_S512x128_0_0 rfl x), ?_⟩
  exact List.forall_mem_nil _

end Runs

end Cert.AttnIdeal.Hand

end
-- ==== Proof.AttnFinal.lean ====
/- The attention kernel's forward pass: the two arrays it leaves, entry by entry, and that they are the reference's where every query
   and key is real. -/
module

public import proofs.«01_k».proof.Proof.AttnBlock
public import proofs.«01_k».proof.Proof.KernelValue
public import proofs.«01_k».proof.Proof.RefValue
public import proofs.«01_k».proof.Proof.Gen.AttnRefIdeal.Run
public import proofs.«01_k».proof.Proof.Gen.Pre_finite4
public import proofs.«01_k».proof.Proof.Finite

@[expose] public section

set_option maxRecDepth 16384

noncomputable section

namespace Cert.AttnIdeal.Hand

open Cert.AttnIdeal Cert.AttnIdeal.Gen Idealize.ShloMosaic Idealize.ShloMosaic.TcCoe
open Cert.Softmax (rowO rowL cR kq' kk kv up sQ sS W Z)

/-- The key head, the place in its group and the lane of a column. -/
def gc (k : Fin 2048) : Fin 4 := ⟨k.val / 512, by omega⟩
def hc (k : Fin 2048) : Fin 4 := ⟨k.val / 128 % 4, by omega⟩
def dc (k : Fin 2048) : Fin 128 := ⟨k.val % 128, by omega⟩

/-- The product of a query and a key. -/
def qS (A : S8448x2560.Idx → EReal) (g h : Fin 4) (n : Fin 8192) (s : Fin 8448) : EReal :=
  ∑ d : Fin 128, A (ix2 (up n) (kq' g h d)) * A (ix2 s (kk g d))

/-- The two results at an entry. -/
def atO (A : S8448x2560.Idx → EReal) (B : S8448x512.Idx → EReal) (n : Fin 8192) (g h : Fin 4) (d : Fin 128) : EReal :=
  rowO cR (qS A g h n) fun s => B (ix2 s (kv g d))
def atL (A : S8448x2560.Idx → EReal) (n : Fin 8192) (g h : Fin 4) : EReal := rowL cR (qS A g h n)
def resO (A : S8448x2560.Idx → EReal) (B : S8448x512.Idx → EReal) : S8192x2048.Idx → EReal := fun i => atO A B (i 0) (gc (i 1)) (hc (i 1)) (dc (i 1))
def resL (A : S8448x2560.Idx → EReal) : S8192x2048.Idx → EReal := fun i => atL A (i 0) (gc (i 1)) (hc (i 1))

variable (m : (ℓ : Loc nD τ sig) → Buf (Elt Ideal) ℓ) (c : Dev nD)

theorem idx_q : ∀ t : Fin cfg0.N, win0_0.index t = ![t.val % 16, t.val / 16] :=
  (by decide +kernel : ∀ t : Fin grid0.N, _)
theorem idx_k : ∀ t : Fin cfg0.N, win0_1.index t = ![0, 16 + t.val / 16] :=
  (by decide +kernel : ∀ t : Fin grid0.N, _)
theorem idx_v : ∀ t : Fin cfg0.N, win0_2.index t = ![0, t.val / 16] :=
  (by decide +kernel : ∀ t : Fin grid0.N, _)
theorem idx_o : ∀ t : Fin cfg0.N, win0_3.index t = ![t.val % 16, t.val / 16] :=
  (by decide +kernel : ∀ t : Fin grid0.N, _)
theorem idx_l : ∀ t : Fin cfg0.N, win0_4.index t = ![t.val % 16, t.val / 16] :=
  (by decide +kernel : ∀ t : Fin grid0.N, _)

theorem tlt (t : Fin cfg0.N) : t.val < 64 := N_0 ▸ t.isLt

/-- A point's key head, a row and a column of its blocks. -/
def gt (t : Fin cfg0.N) : Fin 4 := ⟨t.val / 16, by have := tlt t; omega⟩
def rt (t : Fin cfg0.N) (r : Fin 512) : Fin 8192 := ⟨512 * (t.val % 16) + r.val, by omega⟩
def ct (t : Fin cfg0.N) (e : Fin 512) : Fin 2048 := ⟨512 * (t.val / 16) + e.val, by have := tlt t; omega⟩

theorem gc_ct (t : Fin cfg0.N) (e : Fin 512) : gc (ct t e) = gt t := Fin.ext (by show (512 * (t.val / 16) + e.val) / 512 = t.val / 16; omega)
theorem hc_ct (t : Fin cfg0.N) (e : Fin 512) : hc (ct t e) = lh e := Fin.ext (by show (512 * (t.val / 16) + e.val) / 128 % 4 = e.val / 128; omega)
theorem dc_ct (t : Fin cfg0.N) (e : Fin 512) : dc (ct t e) = ld' e := Fin.ext (by show (512 * (t.val / 16) + e.val) % 128 = e.val % 128; omega)

theorem q_rd (X : Buf (Elt Ideal) ((c : Thread nD τ).loc main_arg0)) (t : Fin cfg0.N) (r : Fin 512) (h : Fin 4) (d : Fin 128) :
    (cfg0.win 0).fill (cfg0.grid.coords t) dflt0_0 (((cfg0.win 0).blk t).view.read (Elt Ideal) X) (ix2 r (ln h d))
      = X (ix2 (up (rt t r)) (kq' (gt t) h d)) := by
  unfold Pipeline.Window.fill
  rw [dif_pos (moved0_0 t _), View.read_apply]
  refine congrArg X ?_
  funext a
  apply Fin.ext
  match a with
  | ⟨0, _⟩ => show win0_0.index t 0 * 512 + 1 * r.val = 512 * (t.val % 16) + r.val; rw [idx_q]; show (t.val % 16) * 512 + 1 * r.val = _; omega
  | ⟨1, _⟩ =>
    show win0_0.index t 1 * 512 + 1 * (128 * h.val + d.val) = t.val / 16 * 512 + h.val * 128 + d.val
    rw [idx_q]
    show (t.val / 16) * 512 + 1 * (128 * h.val + d.val) = _
    omega

theorem k_rd (X : Buf (Elt Ideal) ((c : Thread nD τ).loc main_arg0)) (t : Fin cfg0.N) (s : Fin 8448) (d : Fin 128) :
    (((cfg0.win 1).blk t).view.read (Elt Ideal) X : Vec Ideal S8448x128 .bf16) (ix2 s d) = X (ix2 s (kk (gt t) d)) := by
  rw [View.read_apply]
  refine congrArg X ?_
  funext a
  apply Fin.ext
  match a with
  | ⟨0, _⟩ => show win0_1.index t 0 * 8448 + 1 * s.val = s.val; rw [idx_k]; show 0 * 8448 + 1 * s.val = _; omega
  | ⟨1, _⟩ => show win0_1.index t 1 * 128 + 1 * d.val = 2048 + (t.val / 16 * 128 + d.val); rw [idx_k]; show (16 + t.val / 16) * 128 + 1 * d.val = _; omega

theorem v_rd (X : Buf (Elt Ideal) ((c : Thread nD τ).loc main_arg1)) (t : Fin cfg0.N) (s : Fin 8448) (d : Fin 128) :
    (((cfg0.win 2).blk t).view.read (Elt Ideal) X : Vec Ideal S8448x128 .bf16) (ix2 s d) = X (ix2 s (kv (gt t) d)) := by
  rw [View.read_apply]
  refine congrArg X ?_
  funext a
  apply Fin.ext
  match a with
  | ⟨0, _⟩ => show win0_2.index t 0 * 8448 + 1 * s.val = s.val; rw [idx_v]; show 0 * 8448 + 1 * s.val = _; omega
  | ⟨1, _⟩ => show win0_2.index t 1 * 128 + 1 * d.val = t.val / 16 * 128 + d.val; rw [idx_v]; show (t.val / 16) * 128 + 1 * d.val = _; omega

theorem scores_blk (t : Fin cfg0.N) (r : Fin 512) (h : Fin 4) :
    rS (X0_0 m c t) (iblk m c 1 t) r h = qS (V m c main_arg0) (gt t) h (rt t r) := by
  funext s
  exact Finset.sum_congr rfl fun d _ => congrArg₂ (· * ·) (q_rd c (V m c main_arg0) t r h d) (k_rd c (V m c main_arg0) t s d)

theorem o_ent (t : Fin cfg0.N) (r e : Fin 512) :
    rowO cR (rS (X0_0 m c t) (iblk m c 1 t) r (lh e)) (fun n => (iblk m c 2 t : Vec Ideal S8448x128 .bf16) (ix2 n (ld' e)))
      = atO (V m c main_arg0) (V m c main_arg1) (rt t r) (gc (ct t e)) (hc (ct t e)) (dc (ct t e)) := by
  rw [gc_ct, hc_ct, dc_ct, scores_blk]
  exact congrArg (rowO cR _) (funext fun s => v_rd c (V m c main_arg1) t s _)

theorem l_ent (t : Fin cfg0.N) (r e : Fin 512) :
    rowL cR (rS (X0_0 m c t) (iblk m c 1 t) r (lh e)) = atL (V m c main_arg0) (rt t r) (gc (ct t e)) (hc (ct t e)) := by
  rw [gc_ct, hc_ct, scores_blk]
  rfl

theorem o_blk (t : Fin cfg0.N) (y : S512x512.Idx) :
    oB (X0_0 m c t) (iblk m c 1 t) (iblk m c 2 t) y = resO (V m c main_arg0) (V m c main_arg1) (ix2 (rt t (y 0)) (ct t (y 1))) :=
  o_ent m c t (y 0) (y 1)

theorem l_blk (t : Fin cfg0.N) (y : S512x512.Idx) :
    lB (X0_0 m c t) (iblk m c 1 t) y = resL (V m c main_arg0) (ix2 (rt t (y 0)) (ct t (y 1))) :=
  l_ent m c t (y 0) (y 1)

theorem emb_o (t : Fin cfg0.N) (y : S512x512.Idx) : ((cfg0.win 3).blk t).view.emb y = ix2 (rt t (y 0)) (ct t (y 1)) := by
  funext a
  apply Fin.ext
  match a with
  | ⟨0, _⟩ => show win0_3.index t 0 * 512 + 1 * (y 0).val = 512 * (t.val % 16) + (y 0).val; rw [idx_o]; show (t.val % 16) * 512 + 1 * (y 0).val = _; omega
  | ⟨1, _⟩ => show win0_3.index t 1 * 512 + 1 * (y 1).val = 512 * (t.val / 16) + (y 1).val; rw [idx_o]; show (t.val / 16) * 512 + 1 * (y 1).val = _; omega

theorem emb_l (t : Fin cfg0.N) (y : S512x512.Idx) : ((cfg0.win 4).blk t).view.emb y = ix2 (rt t (y 0)) (ct t (y 1)) := by
  funext a
  apply Fin.ext
  match a with
  | ⟨0, _⟩ => show win0_4.index t 0 * 512 + 1 * (y 0).val = 512 * (t.val % 16) + (y 0).val; rw [idx_l]; show (t.val % 16) * 512 + 1 * (y 0).val = _; omega
  | ⟨1, _⟩ => show win0_4.index t 1 * 512 + 1 * (y 1).val = 512 * (t.val / 16) + (y 1).val; rw [idx_l]; show (t.val / 16) * 512 + 1 * (y 1).val = _; omega

theorem final3 : (dats m 0 c).arrAt 3 cfg0.N = resO (V m c main_arg0) (V m c main_arg1) := by
  refine (dats m 0 c).arrAt_eq_of_covers 3 _ (by decide +kernel) fun t hf y => ?_
  rw [after0_3, outsAt0, out3_eq]
  refine Eq.trans ?_ ((congrArg (resO (V m c main_arg0) (V m c main_arg1)) (emb_o t y)).trans (o_blk m c t y).symm).symm
  refine congrArg (oB (X0_0 m c t) (iblk m c 1 t) (iblk m c 2 t)) ?_
  funext a
  match a with
  | ⟨0, _⟩ => rfl
  | ⟨1, _⟩ => rfl

theorem final4 : (dats m 0 c).arrAt 4 cfg0.N = resL (V m c main_arg0) := by
  refine (dats m 0 c).arrAt_eq_of_covers 4 _ (by decide +kernel) fun t hf y => ?_
  rw [after0_4, outsAt0, out4_eq]
  refine Eq.trans ?_ ((congrArg (resL (V m c main_arg0)) (emb_l t y)).trans (l_blk m c t y).symm).symm
  refine congrArg (lB (X0_0 m c t) (iblk m c 1 t)) ?_
  funext a
  match a with
  | ⟨0, _⟩ => rfl
  | ⟨1, _⟩ => rfl

section Real
variable (A : S8448x2560.Idx → EReal) (B : S8448x512.Idx → EReal) (X : Fin 8448 → Fin 2560 → ℝ) (hX : ∀ i j, A (ix2 i j) = (X i j : EReal))

include hX in
theorem qS_real (g h : Fin 4) (n : Fin 8192) : qS A g h n = fun s => (sQ X g h n s : EReal) := by
  funext s
  rw [qS, sQ, Cert.Softmax.coe_sum]
  exact Finset.sum_congr rfl fun d _ => by rw [hX, hX, EReal.coe_mul, mul_comm]

include hX in
/-- The output is the sum of the values weighted by the softmax of the scores. -/
theorem atO_real (n : Fin 8192) (g h : Fin 4) (d : Fin 128) :
    atO A B n g h d = ∑ s : Fin 8448, (W (sS X g h n) s : EReal) * B (ix2 s (kv g d)) := by
  rw [atO, qS_real A X hX, Cert.Softmax.rowO_real]
  rfl

include hX in
theorem atL_real (n : Fin 8192) (g h : Fin 4) : atL A n g h = ((Real.log (Z (sS X g h n)) : ℝ) : EReal) := by
  rw [atL, qS_real A X hX, Cert.Softmax.rowL_real]
  rfl

end Real

end Cert.AttnIdeal.Hand

namespace Cert.AttnEquation

open Cert.KernelIdeal Cert.KernelIdeal.Gen Idealize.ShloMosaic Idealize.ShloMosaic.TcCoe
open Cert.KernelIdeal.Hand (o_row o_dot hLse hLse_apply hL_apply hE_apply hS_real hM_real cq ge he)
open Cert.ReferenceIdeal.Hand (rV rW rV_apply rW_real)
open Cert.AttnIdeal.Hand (gc hc dc resO resL atO_real atL_real)

/-- The reference's output. -/
def refO (x : FVec Ideal S8448x2560 .bf16) (v : FVec Ideal S8448x512 .bf16) : FVec Ideal S8192x2048 .bf16 :=
  truncf .bf16 (shapeCast S8192x2048 (transpose S8192x4x4x128 [3, 0, 2, 1]
    (Host.dotGeneral dot_S8448x4x128_S4x4x8192x8448_S4x128x4x8192_0_3_2_12_1_0 none (rV v) (rW x))
    transposes_S4x128x4x8192_S8192x4x4x128_3_0_2_1) shapeCasts_S8192x4x4x128_S8192x2048) bitsLt_bf16_f32

theorem refO_apply (x : FVec Ideal S8448x2560 .bf16) (v : FVec Ideal S8448x512 .bf16) (n : Fin 8192) (k : Fin 2048) :
    refO x v (ix2 n k) = ∑ s : Fin 8448, rV v (ix3 s (gc k) (dc k)) * rW x (ix4 (gc k) (hc k) n s) := by
  unfold refO
  rw [o_row, o_dot]
  rfl

variable (x : FVec Ideal S8448x2560 .bf16) (v : FVec Ideal S8448x512 .bf16)

theorem values_o (h : ∀ i, ∃ r : ℝ, x i = (r : EReal)) : refO x v = resO x v := by
  choose X' hX' using h
  funext y
  obtain ⟨n, k, rfl⟩ : ∃ (n : Fin 8192) (k : Fin 2048), y = ix2 n k := ⟨y 0, y 1, (ix2_eta y).symm⟩
  rw [refO_apply]
  refine Eq.trans ?_ (atO_real x v (fun i j => X' (ix2 i j)) (fun i j => hX' _) n (gc k) (hc k) (dc k)).symm
  refine Finset.sum_congr rfl fun s _ => ?_
  rw [rW_real x (fun i j => X' (ix2 i j)) (fun i j => hX' _), rV_apply, mul_comm]
  rfl

theorem col_eq (k : Fin 2048) : k = cq ⟨k.val / 128, by omega⟩ ⟨k.val % 128, by omega⟩ :=
  Fin.ext (by show k.val = 128 * (k.val / 128) + k.val % 128; omega)

theorem values_l (h : ∀ i, ∃ r : ℝ, x i = (r : EReal)) : hLse x = resL x := by
  choose X' hX' using h
  funext y
  obtain ⟨n, k, rfl⟩ : ∃ (n : Fin 8192) (k : Fin 2048), y = ix2 n k := ⟨y 0, y 1, (ix2_eta y).symm⟩
  refine Eq.trans ?_ (atL_real x (fun i j => X' (ix2 i j)) (fun i j => hX' _) n (gc k) (hc k)).symm
  have e1 : ge ⟨k.val / 128, by omega⟩ = gc k := Fin.ext (by show k.val / 128 / 4 = k.val / 512; omega)
  have e2 : he ⟨k.val / 128, by omega⟩ = hc k := rfl
  obtain ⟨M, hM⟩ := hM_real x (fun i j => X' (ix2 i j)) (fun i j => hX' _) (gc k) (hc k) n
  rw [congrArg (fun z => hLse x (ix2 n z)) (col_eq k), hLse_apply, e1, e2, hL_apply, hM]
  simp only [hE_apply, hS_real x (fun i j => X' (ix2 i j)) (fun i j => hX' _), hM]
  exact Cert.Softmax.lse_real _ M

theorem v26_eq (m : (ℓ : Loc Cert.AttnRefIdeal.nD Cert.AttnRefIdeal.τ Cert.AttnRefIdeal.sig) → Buf (Elt Ideal) ℓ) (c : Dev Cert.AttnRefIdeal.nD) :
    Cert.AttnRefIdeal.Value.res_main_v26 (F := Ideal) m c
      = refO (m ((c.tc : Thread _ _).loc Cert.AttnRefIdeal.main_arg0)) (m ((c.tc : Thread _ _).loc Cert.AttnRefIdeal.main_arg1)) := by
  unfold Cert.AttnRefIdeal.Value.res_main_v26
  rfl

end Cert.AttnEquation

namespace Cert.Pre_finite4.Hand

open Cert.Pre_finite4 Cert.Pre_finite4.Gen Idealize.ShloMosaic

instance : Subsingleton S_.Idx := ⟨fun _ _ => funext fun a => a.elim0⟩

/-- The precondition read back: every query and key is a real. -/
theorem fn_eq (x : FVec Ideal S8448x2560 .bf16) (v : FVec Ideal S8448x512 .bf16) (h : fn x v = fun _ => 1#1) (i : S8448x2560.Idx) :
    ∃ r : ℝ, x i = (r : EReal) := by
  have h0 := congrFun h (fun a => a.elim0)
  unfold fn at h0
  exact Cert.Pre_finite.Hand.real_of_lt (x i) (Host.reduce_andi_all _ _ _ _ _ h0 i)

end Cert.Pre_finite4.Hand

end
-- ==== Proof.lean ====
module

public import proofs.«01_k».proof.Defs
public import proofs.«01_k».proof.Proof.Gen.KernelIdeal.Value
public import proofs.«01_k».proof.Proof.Gen.Attn.Frame
public import proofs.«01_k».proof.Proof.Gen.AttnIdeal.Value
public import proofs.«01_k».proof.Proof.Gen.AttnRefIdeal.Run
public import proofs.«01_k».proof.Proof.Gen.Pre_finite4
public import proofs.«01_k».proof.Proof.Gen.Gate
public import proofs.«01_k».proof.Proof.Gen.Dh
public import proofs.«01_k».proof.Proof.Gen.Gwi
public import proofs.«01_k».proof.Proof.Gen.Gwo
public import proofs.«01_k».proof.Proof.Gen.Pre_finite2
public import proofs.«01_k».proof.Proof.Gen.GateIdeal.Value
public import proofs.«01_k».proof.Proof.Gen.GateRefIdeal.Run
public import proofs.«01_k».proof.Proof.Gen.DhIdeal.Value
public import proofs.«01_k».proof.Proof.Gen.DhRefIdeal.Run
public import proofs.«01_k».proof.Proof.Gen.GwiIdeal.Value
public import proofs.«01_k».proof.Proof.Gen.GwiRefIdeal.Run
public import proofs.«01_k».proof.Proof.Gen.GwoIdeal.Value
public import proofs.«01_k».proof.Proof.Gen.GwoRefIdeal.Run
public import proofs.«01_k».proof.Proof.Gen.Gate2
public import proofs.«01_k».proof.Proof.Gen.Dh2
public import proofs.«01_k».proof.Proof.Gen.Gwi2
public import proofs.«01_k».proof.Proof.Gen.Gwo2
public import proofs.«01_k».proof.Proof.Gen.DhIn
public import proofs.«01_k».proof.Proof.Gen.GwIn
public import proofs.«01_k».proof.Proof.Gen.Pre_finite3
public import proofs.«01_k».proof.Proof.Gen.Gate2Ideal.Value
public import proofs.«01_k».proof.Proof.Gen.Gate2RefIdeal.Run
public import proofs.«01_k».proof.Proof.Gen.Dh2Ideal.Value
public import proofs.«01_k».proof.Proof.Gen.Dh2RefIdeal.Run
public import proofs.«01_k».proof.Proof.Gen.Gwi2Ideal.Value
public import proofs.«01_k».proof.Proof.Gen.Gwi2RefIdeal.Run
public import proofs.«01_k».proof.Proof.Gen.Gwo2Ideal.Value
public import proofs.«01_k».proof.Proof.Gen.Gwo2RefIdeal.Run
public import proofs.«01_k».proof.Proof.Gen.DhInIdeal.Value
public import proofs.«01_k».proof.Proof.Gen.DhInRefIdeal.Run
public import proofs.«01_k».proof.Proof.Gen.GwInIdeal.Value
public import proofs.«01_k».proof.Proof.Gen.GwInRefIdeal.Run
public import proofs.«01_k».proof.Proof.Gen.DMix
public import proofs.«01_k».proof.Proof.Gen.GwMix
public import proofs.«01_k».proof.Proof.Gen.Mix
public import proofs.«01_k».proof.Proof.Gen.Out
public import proofs.«01_k».proof.Proof.Gen.Proj
public import proofs.«01_k».proof.Proof.Gen.Down
public import proofs.«01_k».proof.Proof.Gen.Down2
public import proofs.«01_k».proof.Proof.Gen.Up
public import proofs.«01_k».proof.Proof.Gen.Up2
public import proofs.«01_k».proof.Proof.Gen.DMixIdeal.Value
public import proofs.«01_k».proof.Proof.Gen.DMixRefIdeal.Run
public import proofs.«01_k».proof.Proof.Gen.GwMixIdeal.Value
public import proofs.«01_k».proof.Proof.Gen.GwMixRefIdeal.Run
public import proofs.«01_k».proof.Proof.Gen.MixIdeal.Value
public import proofs.«01_k».proof.Proof.Gen.MixRefIdeal.Run
public import proofs.«01_k».proof.Proof.Gen.OutIdeal.Value
public import proofs.«01_k».proof.Proof.Gen.OutRefIdeal.Run
public import proofs.«01_k».proof.Proof.Gen.ProjIdeal.Value
public import proofs.«01_k».proof.Proof.Gen.ProjRefIdeal.Run
public import proofs.«01_k».proof.Proof.Gen.DownIdeal.Value
public import proofs.«01_k».proof.Proof.Gen.DownRefIdeal.Run
public import proofs.«01_k».proof.Proof.Gen.Down2Ideal.Value
public import proofs.«01_k».proof.Proof.Gen.Down2RefIdeal.Run
public import proofs.«01_k».proof.Proof.Gen.UpIdeal.Value
public import proofs.«01_k».proof.Proof.Gen.UpRefIdeal.Run
public import proofs.«01_k».proof.Proof.Gen.Up2Ideal.Value
public import proofs.«01_k».proof.Proof.Gen.Up2RefIdeal.Run
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Final
public import proofs.«01_k».proof.Proof.Finite
public import proofs.«01_k».proof.Proof.Equation
public import proofs.«01_k».proof.Proof.Finite2
public import proofs.«01_k».proof.Proof.GateValue
public import proofs.«01_k».proof.Proof.DhValue
public import proofs.«01_k».proof.Proof.GwiValue
public import proofs.«01_k».proof.Proof.GwoValue
public import proofs.«01_k».proof.Proof.Finite3
public import proofs.«01_k».proof.Proof.Gate2Value
public import proofs.«01_k».proof.Proof.Dh2Value
public import proofs.«01_k».proof.Proof.Gwi2Value
public import proofs.«01_k».proof.Proof.Gwo2Value
public import proofs.«01_k».proof.Proof.DhInValue
public import proofs.«01_k».proof.Proof.GwInValue
public import proofs.«01_k».proof.Proof.DMixValue
public import proofs.«01_k».proof.Proof.GwMixValue
public import proofs.«01_k».proof.Proof.MixValue
public import proofs.«01_k».proof.Proof.OutValue
public import proofs.«01_k».proof.Proof.ProjValue
public import proofs.«01_k».proof.Proof.DownValue
public import proofs.«01_k».proof.Proof.Down2Value
public import proofs.«01_k».proof.Proof.UpValue
public import proofs.«01_k».proof.Proof.Up2Value
public import Idealize.ShloMosaic.Lib.Quiescent
public import Idealize.ShloMosaic.Adequacy
public import Idealize.ShloMosaic.Init
public import proofs.«01_k».proof.Proof.AttnFinal

@[expose] public section

noncomputable section

namespace Cert.Proof

open Idealize.ShloMosaic Idealize.SL.Sem Cert.Kernel

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ

/-- The reference ends with its arguments unchanged; it has no semaphores. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)
theorem frame_ri_finite : Cert.quiescent_ReferenceIdeal_pre_finite := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The attention gradient's two named constants are the table's. -/
theorem preserves : Cert.preserves_Kernel_KernelIdeal :=
  ⟨IdealRules.named_const.statement _ _ _ _ _ rfl, IdealRules.named_const.statement _ _ _ _ _ rfl⟩

open Cert.KernelIdeal.Hand (resQ resK resV) in
/-- The kernel's three gradients are the reference's. -/
theorem algebraic : Cert.algebraic_KernelIdeal_ReferenceIdeal_pre_finite := by
  intro m g m' g' hm harg
  refine ⟨fun c => resQ m c, fun c => resK m c, fun c => resV m c, ?_, ?_⟩
  · exact (θ_run Cert.KernelIdeal.defs _ _).mono (fun r h c =>
      ⟨(h c).1.trans (Cert.KernelIdeal.Hand.final_q m c), (h c).2.1.trans (Cert.KernelIdeal.Hand.final_k m c),
        (h c).2.2.1.trans (Cert.KernelIdeal.Hand.final_v m c), (h c).2.2.2⟩)
      (Cert.KernelIdeal.Value.run_blocks (F := Ideal) m g)
  · refine (θ_run Cert.ReferenceIdeal.defs _ _).mono (fun r h c => ?_) (Cert.ReferenceIdeal.Value.run (F := Ideal) m' g')
    obtain ⟨fx, fv, fu⟩ := Cert.Pre_finite.Hand.fn_eq _ _ _ (hm c)
    have e := Cert.Equation.values m m' c (harg c).1 (harg c).2.1 (harg c).2.2 fx fv fu
    exact ⟨(h c).1.trans e.1, (h c).2.1.trans e.2.1, (h c).2.2.1.trans e.2.2, (h c).2.2.2⟩

/-! ### The gradient of the gate -/

/-- The two programs have one text: their bodies are one. -/
theorem body_gate : @Cert.Gate.defs₀ Bits _ _ = @Cert.GateIdeal.defs₀ Bits _ _ := by
  unfold Cert.Gate.defs₀ Cert.GateIdeal.defs₀
  refine congrArg Defs.onTc (funext fun l => ?_)
  match l with
  | 0 => exact funext fun ⟨_, _⟩ => rfl
theorem defs_gate : @Cert.Gate.defs Bits _ _ = @Cert.GateIdeal.defs Bits _ _ := by
  unfold Cert.Gate.defs Cert.GateIdeal.defs
  rw [body_gate]
  rfl

theorem frame_gate : Cert.quiescent_Gate := fun m ρ _ => by
  rw [defs_gate]
  exact Cert.GateIdeal.Gen.frame (F := Bits) m ρ
theorem frame_gate_ideal : Cert.quiescent_GateIdeal := fun m ρ _ => Cert.GateIdeal.Gen.frame m ρ
theorem frame_gate_ideal_finite2 : Cert.quiescent_GateIdeal_pre_finite2 := fun m ρ _ => Cert.GateIdeal.Gen.frame m ρ
theorem frame_gate_ref : Cert.quiescent_GateRefIdeal := fun m ρ _ =>
  (θ_run Cert.GateRefIdeal.defs _ _).mono (fun r h => ⟨fun c => (h c).2, Idealize.ShloMosaic.sem_eq_zero_of_no_sems (by decide) r.2⟩)
    (Cert.GateRefIdeal.Value.run (F := Ideal) m ρ)
theorem frame_gate_ref_finite2 : Cert.quiescent_GateRefIdeal_pre_finite2 := fun m ρ _ => frame_gate_ref m ρ trivial

/-- The kernel's gradients of the gate's halves are the reference's. -/
theorem algebraic_gate : Cert.algebraic_GateIdeal_GateRefIdeal_pre_finite2 := by
  intro m g m' g' hm harg
  refine ⟨fun c => (Cert.GateIdeal.Gen.dats m 0 c).arrAt 3 Cert.GateIdeal.cfg0.N, Cert.GateIdeal.Value.run_blocks (F := Ideal) m g, ?_⟩
  refine (θ_run Cert.GateRefIdeal.defs _ _).mono (fun r h c => ?_) (Cert.GateRefIdeal.Value.run (F := Ideal) m' g')
  obtain ⟨fh, fw, fo, fu⟩ := Cert.Pre_finite2.Hand.fn_eq _ _ _ _ (hm c)
  obtain ⟨e0, e1, e2, e3⟩ := harg c
  refine ⟨(h c).1.trans ?_, (h c).2⟩
  rw [← e0] at fh
  rw [← e1] at fw
  rw [← e2] at fo
  rw [← e3] at fu
  exact Cert.GateIdeal.Hand.values m c _ _ _ _ fh fw fo fu e0 e1 (e2.trans (Cert.GateIdeal.Gen.V_main_arg2 m c).symm) (e3.trans (Cert.GateIdeal.Gen.V_main_arg3 m c).symm)

/-! ### The gradient of the layer's input -/

/-- The two programs have one text: their bodies are one. -/
theorem body_dh : @Cert.Dh.defs₀ Bits _ _ = @Cert.DhIdeal.defs₀ Bits _ _ := by
  unfold Cert.Dh.defs₀ Cert.DhIdeal.defs₀
  refine congrArg Defs.onTc (funext fun l => ?_)
  match l with
  | 0 => exact funext fun ⟨_, _⟩ => rfl
theorem defs_dh : @Cert.Dh.defs Bits _ _ = @Cert.DhIdeal.defs Bits _ _ := by
  unfold Cert.Dh.defs Cert.DhIdeal.defs
  rw [body_dh]
  rfl

theorem frame_dh : Cert.quiescent_Dh := fun m ρ _ => by
  rw [defs_dh]
  exact Cert.DhIdeal.Gen.frame (F := Bits) m ρ
theorem frame_dh_ideal : Cert.quiescent_DhIdeal := fun m ρ _ => Cert.DhIdeal.Gen.frame m ρ
theorem frame_dh_ref : Cert.quiescent_DhRefIdeal := fun m ρ _ =>
  (θ_run Cert.DhRefIdeal.defs _ _).mono (fun r h => ⟨fun c => (h c).2, Idealize.ShloMosaic.sem_eq_zero_of_no_sems (by decide) r.2⟩)
    (Cert.DhRefIdeal.Value.run (F := Ideal) m ρ)

/-- The kernel's gradient of the layer's input is the reference's. -/
theorem algebraic_dh : Cert.algebraic_DhIdeal_DhRefIdeal := by
  intro m g m' g' _ harg
  refine ⟨fun c => Cert.DhIdeal.Value.G2 m c, Cert.DhIdeal.Value.run (F := Ideal) m g, ?_⟩
  exact (θ_run Cert.DhRefIdeal.defs _ _).mono (fun r h c => ⟨(h c).1.trans (Cert.DhIdeal.Hand.values m c _ _ (harg c).1 (harg c).2), (h c).2⟩)
    (Cert.DhRefIdeal.Value.run (F := Ideal) m' g')

/-! ### The gradient of the first weight -/

/-- The two programs have one text: their bodies are one. -/
theorem body_gwi : @Cert.Gwi.defs₀ Bits _ _ = @Cert.GwiIdeal.defs₀ Bits _ _ := by
  unfold Cert.Gwi.defs₀ Cert.GwiIdeal.defs₀
  refine congrArg Defs.onTc (funext fun l => ?_)
  match l with
  | 0 => exact funext fun ⟨_, _⟩ => rfl
theorem defs_gwi : @Cert.Gwi.defs Bits _ _ = @Cert.GwiIdeal.defs Bits _ _ := by
  unfold Cert.Gwi.defs Cert.GwiIdeal.defs
  rw [body_gwi]
  rfl

theorem frame_gwi : Cert.quiescent_Gwi := fun m ρ _ => by
  rw [defs_gwi]
  exact Cert.GwiIdeal.Gen.frame (F := Bits) m ρ
theorem frame_gwi_ideal : Cert.quiescent_GwiIdeal := fun m ρ _ => Cert.GwiIdeal.Gen.frame m ρ
theorem frame_gwi_ref : Cert.quiescent_GwiRefIdeal := fun m ρ _ =>
  (θ_run Cert.GwiRefIdeal.defs _ _).mono (fun r h => ⟨fun c => (h c).2, Idealize.ShloMosaic.sem_eq_zero_of_no_sems (by decide) r.2⟩)
    (Cert.GwiRefIdeal.Value.run (F := Ideal) m ρ)

/-- The kernel's gradient of the first weight is the reference's. -/
theorem algebraic_gwi : Cert.algebraic_GwiIdeal_GwiRefIdeal := by
  intro m g m' g' _ harg
  refine ⟨fun c => Cert.GwiIdeal.Value.G2 m c, Cert.GwiIdeal.Value.run (F := Ideal) m g, ?_⟩
  exact (θ_run Cert.GwiRefIdeal.defs _ _).mono (fun r h c => ⟨(h c).1.trans (Cert.GwiIdeal.Hand.values m c _ _ (harg c).2 (harg c).1), (h c).2⟩)
    (Cert.GwiRefIdeal.Value.run (F := Ideal) m' g')

/-! ### The gradient of the second weight -/

/-- The two programs have one text: their bodies are one. -/
theorem body_gwo : @Cert.Gwo.defs₀ Bits _ _ = @Cert.GwoIdeal.defs₀ Bits _ _ := by
  unfold Cert.Gwo.defs₀ Cert.GwoIdeal.defs₀
  refine congrArg Defs.onTc (funext fun l => ?_)
  match l with
  | 0 => exact funext fun ⟨_, _⟩ => rfl
theorem defs_gwo : @Cert.Gwo.defs Bits _ _ = @Cert.GwoIdeal.defs Bits _ _ := by
  unfold Cert.Gwo.defs Cert.GwoIdeal.defs
  rw [body_gwo]
  rfl

theorem frame_gwo : Cert.quiescent_Gwo := fun m ρ _ => by
  rw [defs_gwo]
  exact Cert.GwoIdeal.Gen.frame (F := Bits) m ρ
theorem frame_gwo_ideal : Cert.quiescent_GwoIdeal := fun m ρ _ => Cert.GwoIdeal.Gen.frame m ρ
theorem frame_gwo_ref : Cert.quiescent_GwoRefIdeal := fun m ρ _ =>
  (θ_run Cert.GwoRefIdeal.defs _ _).mono (fun r h => ⟨fun c => (h c).2, Idealize.ShloMosaic.sem_eq_zero_of_no_sems (by decide) r.2⟩)
    (Cert.GwoRefIdeal.Value.run (F := Ideal) m ρ)

/-- The kernel's gradient of the second weight is the reference's. -/
theorem algebraic_gwo : Cert.algebraic_GwoIdeal_GwoRefIdeal := by
  intro m g m' g' _ harg
  refine ⟨fun c => Cert.GwoIdeal.Value.G2 m c, Cert.GwoIdeal.Value.run (F := Ideal) m g, ?_⟩
  exact (θ_run Cert.GwoRefIdeal.defs _ _).mono (fun r h c => ⟨(h c).1.trans (Cert.GwoIdeal.Hand.values m c _ _ _ (harg c).1 (harg c).2.1 (harg c).2.2), (h c).2⟩)
    (Cert.GwoRefIdeal.Value.run (F := Ideal) m' g')

/-! ### The gradient of the gate, second layer -/

/-- The two programs have one text: their bodies are one. -/
theorem body_gate2 : @Cert.Gate2.defs₀ Bits _ _ = @Cert.Gate2Ideal.defs₀ Bits _ _ := by
  unfold Cert.Gate2.defs₀ Cert.Gate2Ideal.defs₀
  refine congrArg Defs.onTc (funext fun l => ?_)
  match l with
  | 0 => exact funext fun ⟨_, _⟩ => rfl
theorem defs_gate2 : @Cert.Gate2.defs Bits _ _ = @Cert.Gate2Ideal.defs Bits _ _ := by
  unfold Cert.Gate2.defs Cert.Gate2Ideal.defs
  rw [body_gate2]
  rfl

theorem frame_gate2 : Cert.quiescent_Gate2 := fun m ρ _ => by
  rw [defs_gate2]
  exact Cert.Gate2Ideal.Gen.frame (F := Bits) m ρ
theorem frame_gate2_ideal : Cert.quiescent_Gate2Ideal := fun m ρ _ => Cert.Gate2Ideal.Gen.frame m ρ
theorem frame_gate2_ideal_finite3 : Cert.quiescent_Gate2Ideal_pre_finite3 := fun m ρ _ => Cert.Gate2Ideal.Gen.frame m ρ
theorem frame_gate2_ref : Cert.quiescent_Gate2RefIdeal := fun m ρ _ =>
  (θ_run Cert.Gate2RefIdeal.defs _ _).mono (fun r h => ⟨fun c => (h c).2, Idealize.ShloMosaic.sem_eq_zero_of_no_sems (by decide) r.2⟩)
    (Cert.Gate2RefIdeal.Value.run (F := Ideal) m ρ)
theorem frame_gate2_ref_finite3 : Cert.quiescent_Gate2RefIdeal_pre_finite3 := fun m ρ _ => frame_gate2_ref m ρ trivial

/-- The kernel's gradients of the second gate's halves are the reference's. -/
theorem algebraic_gate2 : Cert.algebraic_Gate2Ideal_Gate2RefIdeal_pre_finite3 := by
  intro m g m' g' hm harg
  refine ⟨fun c => (Cert.Gate2Ideal.Gen.dats m 0 c).arrAt 3 Cert.Gate2Ideal.cfg0.N, Cert.Gate2Ideal.Value.run_blocks (F := Ideal) m g, ?_⟩
  refine (θ_run Cert.Gate2RefIdeal.defs _ _).mono (fun r h c => ?_) (Cert.Gate2RefIdeal.Value.run (F := Ideal) m' g')
  obtain ⟨fh, fw, fo, fu⟩ := Cert.Pre_finite3.Hand.fn_eq _ _ _ _ (hm c)
  obtain ⟨e0, e1, e2, e3⟩ := harg c
  refine ⟨(h c).1.trans ?_, (h c).2⟩
  rw [← e0] at fh
  rw [← e1] at fw
  rw [← e2] at fo
  rw [← e3] at fu
  exact Cert.Gate2Ideal.Hand.values m c _ _ _ _ fh fw fo fu e0 e1 (e2.trans (Cert.Gate2Ideal.Gen.V_main_arg2 m c).symm) (e3.trans (Cert.Gate2Ideal.Gen.V_main_arg3 m c).symm)

/-! ### The gradient of the layer's input, second layer -/

/-- The two programs have one text: their bodies are one. -/
theorem body_dh2 : @Cert.Dh2.defs₀ Bits _ _ = @Cert.Dh2Ideal.defs₀ Bits _ _ := by
  unfold Cert.Dh2.defs₀ Cert.Dh2Ideal.defs₀
  refine congrArg Defs.onTc (funext fun l => ?_)
  match l with
  | 0 => exact funext fun ⟨_, _⟩ => rfl
theorem defs_dh2 : @Cert.Dh2.defs Bits _ _ = @Cert.Dh2Ideal.defs Bits _ _ := by
  unfold Cert.Dh2.defs Cert.Dh2Ideal.defs
  rw [body_dh2]
  rfl

theorem frame_dh2 : Cert.quiescent_Dh2 := fun m ρ _ => by
  rw [defs_dh2]
  exact Cert.Dh2Ideal.Gen.frame (F := Bits) m ρ
theorem frame_dh2_ideal : Cert.quiescent_Dh2Ideal := fun m ρ _ => Cert.Dh2Ideal.Gen.frame m ρ
theorem frame_dh2_ref : Cert.quiescent_Dh2RefIdeal := fun m ρ _ =>
  (θ_run Cert.Dh2RefIdeal.defs _ _).mono (fun r h => ⟨fun c => (h c).2, Idealize.ShloMosaic.sem_eq_zero_of_no_sems (by decide) r.2⟩)
    (Cert.Dh2RefIdeal.Value.run (F := Ideal) m ρ)

/-- The kernel's gradient of the second layer's input is the reference's. -/
theorem algebraic_dh2 : Cert.algebraic_Dh2Ideal_Dh2RefIdeal := by
  intro m g m' g' _ harg
  refine ⟨fun c => Cert.Dh2Ideal.Value.G2 m c, Cert.Dh2Ideal.Value.run (F := Ideal) m g, ?_⟩
  exact (θ_run Cert.Dh2RefIdeal.defs _ _).mono (fun r h c => ⟨(h c).1.trans (Cert.Dh2Ideal.Hand.values m c _ _ (harg c).1 (harg c).2), (h c).2⟩)
    (Cert.Dh2RefIdeal.Value.run (F := Ideal) m' g')

/-! ### The gradient of the first weight, second layer -/

/-- The two programs have one text: their bodies are one. -/
theorem body_gwi2 : @Cert.Gwi2.defs₀ Bits _ _ = @Cert.Gwi2Ideal.defs₀ Bits _ _ := by
  unfold Cert.Gwi2.defs₀ Cert.Gwi2Ideal.defs₀
  refine congrArg Defs.onTc (funext fun l => ?_)
  match l with
  | 0 => exact funext fun ⟨_, _⟩ => rfl
theorem defs_gwi2 : @Cert.Gwi2.defs Bits _ _ = @Cert.Gwi2Ideal.defs Bits _ _ := by
  unfold Cert.Gwi2.defs Cert.Gwi2Ideal.defs
  rw [body_gwi2]
  rfl

theorem frame_gwi2 : Cert.quiescent_Gwi2 := fun m ρ _ => by
  rw [defs_gwi2]
  exact Cert.Gwi2Ideal.Gen.frame (F := Bits) m ρ
theorem frame_gwi2_ideal : Cert.quiescent_Gwi2Ideal := fun m ρ _ => Cert.Gwi2Ideal.Gen.frame m ρ
theorem frame_gwi2_ref : Cert.quiescent_Gwi2RefIdeal := fun m ρ _ =>
  (θ_run Cert.Gwi2RefIdeal.defs _ _).mono (fun r h => ⟨fun c => (h c).2, Idealize.ShloMosaic.sem_eq_zero_of_no_sems (by decide) r.2⟩)
    (Cert.Gwi2RefIdeal.Value.run (F := Ideal) m ρ)

/-- The kernel's gradient of the second layer's first weight is the reference's. -/
theorem algebraic_gwi2 : Cert.algebraic_Gwi2Ideal_Gwi2RefIdeal := by
  intro m g m' g' _ harg
  refine ⟨fun c => Cert.Gwi2Ideal.Value.G2 m c, Cert.Gwi2Ideal.Value.run (F := Ideal) m g, ?_⟩
  exact (θ_run Cert.Gwi2RefIdeal.defs _ _).mono (fun r h c => ⟨(h c).1.trans (Cert.Gwi2Ideal.Hand.values m c _ _ (harg c).2 (harg c).1), (h c).2⟩)
    (Cert.Gwi2RefIdeal.Value.run (F := Ideal) m' g')

/-! ### The gradient of the second weight, second layer -/

/-- The two programs have one text: their bodies are one. -/
theorem body_gwo2 : @Cert.Gwo2.defs₀ Bits _ _ = @Cert.Gwo2Ideal.defs₀ Bits _ _ := by
  unfold Cert.Gwo2.defs₀ Cert.Gwo2Ideal.defs₀
  refine congrArg Defs.onTc (funext fun l => ?_)
  match l with
  | 0 => exact funext fun ⟨_, _⟩ => rfl
theorem defs_gwo2 : @Cert.Gwo2.defs Bits _ _ = @Cert.Gwo2Ideal.defs Bits _ _ := by
  unfold Cert.Gwo2.defs Cert.Gwo2Ideal.defs
  rw [body_gwo2]
  rfl

theorem frame_gwo2 : Cert.quiescent_Gwo2 := fun m ρ _ => by
  rw [defs_gwo2]
  exact Cert.Gwo2Ideal.Gen.frame (F := Bits) m ρ
theorem frame_gwo2_ideal : Cert.quiescent_Gwo2Ideal := fun m ρ _ => Cert.Gwo2Ideal.Gen.frame m ρ
theorem frame_gwo2_ref : Cert.quiescent_Gwo2RefIdeal := fun m ρ _ =>
  (θ_run Cert.Gwo2RefIdeal.defs _ _).mono (fun r h => ⟨fun c => (h c).2, Idealize.ShloMosaic.sem_eq_zero_of_no_sems (by decide) r.2⟩)
    (Cert.Gwo2RefIdeal.Value.run (F := Ideal) m ρ)

/-- The kernel's gradient of the second layer's second weight is the reference's. -/
theorem algebraic_gwo2 : Cert.algebraic_Gwo2Ideal_Gwo2RefIdeal := by
  intro m g m' g' _ harg
  refine ⟨fun c => Cert.Gwo2Ideal.Value.G2 m c, Cert.Gwo2Ideal.Value.run (F := Ideal) m g, ?_⟩
  exact (θ_run Cert.Gwo2RefIdeal.defs _ _).mono (fun r h c => ⟨(h c).1.trans (Cert.Gwo2Ideal.Hand.values m c _ _ _ (harg c).1 (harg c).2.1 (harg c).2.2), (h c).2⟩)
    (Cert.Gwo2RefIdeal.Value.run (F := Ideal) m' g')

/-! ### The gradient of the input projection's input -/

/-- The two programs have one text: their bodies are one. -/
theorem body_dhin : @Cert.DhIn.defs₀ Bits _ _ = @Cert.DhInIdeal.defs₀ Bits _ _ := by
  unfold Cert.DhIn.defs₀ Cert.DhInIdeal.defs₀
  refine congrArg Defs.onTc (funext fun l => ?_)
  match l with
  | 0 => exact funext fun ⟨_, _⟩ => rfl
theorem defs_dhin : @Cert.DhIn.defs Bits _ _ = @Cert.DhInIdeal.defs Bits _ _ := by
  unfold Cert.DhIn.defs Cert.DhInIdeal.defs
  rw [body_dhin]
  rfl

theorem frame_dhin : Cert.quiescent_DhIn := fun m ρ _ => by
  rw [defs_dhin]
  exact Cert.DhInIdeal.Gen.frame (F := Bits) m ρ
theorem frame_dhin_ideal : Cert.quiescent_DhInIdeal := fun m ρ _ => Cert.DhInIdeal.Gen.frame m ρ
theorem frame_dhin_ref : Cert.quiescent_DhInRefIdeal := fun m ρ _ =>
  (θ_run Cert.DhInRefIdeal.defs _ _).mono (fun r h => ⟨fun c => (h c).2, Idealize.ShloMosaic.sem_eq_zero_of_no_sems (by decide) r.2⟩)
    (Cert.DhInRefIdeal.Value.run (F := Ideal) m ρ)

/-- The kernel's gradient of the projection's input is the reference's. -/
theorem algebraic_dhin : Cert.algebraic_DhInIdeal_DhInRefIdeal := by
  intro m g m' g' _ harg
  refine ⟨fun c => Cert.DhInIdeal.Value.G2 m c, Cert.DhInIdeal.Value.run (F := Ideal) m g, ?_⟩
  exact (θ_run Cert.DhInRefIdeal.defs _ _).mono (fun r h c => ⟨(h c).1.trans (Cert.DhInIdeal.Hand.values m c _ _ (harg c).1 (harg c).2), (h c).2⟩)
    (Cert.DhInRefIdeal.Value.run (F := Ideal) m' g')

/-! ### The gradient of the input projection's weight -/

/-- The two programs have one text: their bodies are one. -/
theorem body_gwin : @Cert.GwIn.defs₀ Bits _ _ = @Cert.GwInIdeal.defs₀ Bits _ _ := by
  unfold Cert.GwIn.defs₀ Cert.GwInIdeal.defs₀
  refine congrArg Defs.onTc (funext fun l => ?_)
  match l with
  | 0 => exact funext fun ⟨_, _⟩ => rfl
theorem defs_gwin : @Cert.GwIn.defs Bits _ _ = @Cert.GwInIdeal.defs Bits _ _ := by
  unfold Cert.GwIn.defs Cert.GwInIdeal.defs
  rw [body_gwin]
  rfl

theorem frame_gwin : Cert.quiescent_GwIn := fun m ρ _ => by
  rw [defs_gwin]
  exact Cert.GwInIdeal.Gen.frame (F := Bits) m ρ
theorem frame_gwin_ideal : Cert.quiescent_GwInIdeal := fun m ρ _ => Cert.GwInIdeal.Gen.frame m ρ
theorem frame_gwin_ref : Cert.quiescent_GwInRefIdeal := fun m ρ _ =>
  (θ_run Cert.GwInRefIdeal.defs _ _).mono (fun r h => ⟨fun c => (h c).2, Idealize.ShloMosaic.sem_eq_zero_of_no_sems (by decide) r.2⟩)
    (Cert.GwInRefIdeal.Value.run (F := Ideal) m ρ)

/-- The kernel's gradient of the projection's weight is the reference's. -/
theorem algebraic_gwin : Cert.algebraic_GwInIdeal_GwInRefIdeal := by
  intro m g m' g' _ harg
  refine ⟨fun c => Cert.GwInIdeal.Value.G2 m c, Cert.GwInIdeal.Value.run (F := Ideal) m g, ?_⟩
  exact (θ_run Cert.GwInRefIdeal.defs _ _).mono (fun r h c => ⟨(h c).1.trans (Cert.GwInIdeal.Hand.values m c _ _ (harg c).2 (harg c).1), (h c).2⟩)
    (Cert.GwInRefIdeal.Value.run (F := Ideal) m' g')

/-! ### The gradient of a mixing product's input -/

/-- The two programs have one text: their bodies are one. -/
theorem body_dmix : @Cert.DMix.defs₀ Bits _ _ = @Cert.DMixIdeal.defs₀ Bits _ _ := by
  unfold Cert.DMix.defs₀ Cert.DMixIdeal.defs₀
  refine congrArg Defs.onTc (funext fun l => ?_)
  match l with
  | 0 => exact funext fun ⟨_, _⟩ => rfl
theorem defs_dmix : @Cert.DMix.defs Bits _ _ = @Cert.DMixIdeal.defs Bits _ _ := by
  unfold Cert.DMix.defs Cert.DMixIdeal.defs
  rw [body_dmix]
  rfl

theorem frame_dmix : Cert.quiescent_DMix := fun m ρ _ => by
  rw [defs_dmix]
  exact Cert.DMixIdeal.Gen.frame (F := Bits) m ρ
theorem frame_dmix_ideal : Cert.quiescent_DMixIdeal := fun m ρ _ => Cert.DMixIdeal.Gen.frame m ρ
theorem frame_dmix_ref : Cert.quiescent_DMixRefIdeal := fun m ρ _ =>
  (θ_run Cert.DMixRefIdeal.defs _ _).mono (fun r h => ⟨fun c => (h c).2, Idealize.ShloMosaic.sem_eq_zero_of_no_sems (by decide) r.2⟩)
    (Cert.DMixRefIdeal.Value.run (F := Ideal) m ρ)

/-- The kernel's gradient of a mixing product's input is the reference's. -/
theorem algebraic_dmix : Cert.algebraic_DMixIdeal_DMixRefIdeal := by
  intro m g m' g' _ harg
  refine ⟨fun c => (Cert.DMixIdeal.Gen.dats m 0 c).arrAt 2 Cert.DMixIdeal.cfg0.N, Cert.DMixIdeal.Value.run_blocks (F := Ideal) m g, ?_⟩
  exact (θ_run Cert.DMixRefIdeal.defs _ _).mono (fun r h c => ⟨(h c).1.trans (Cert.DMixIdeal.Hand.values m c _ _ (harg c).1 (harg c).2), (h c).2⟩)
    (Cert.DMixRefIdeal.Value.run (F := Ideal) m' g')

/-! ### The gradient of a mixing product's weight -/

/-- The two programs have one text: their bodies are one. -/
theorem body_gwmix : @Cert.GwMix.defs₀ Bits _ _ = @Cert.GwMixIdeal.defs₀ Bits _ _ := by
  unfold Cert.GwMix.defs₀ Cert.GwMixIdeal.defs₀
  refine congrArg Defs.onTc (funext fun l => ?_)
  match l with
  | 0 => exact funext fun ⟨_, _⟩ => rfl
theorem defs_gwmix : @Cert.GwMix.defs Bits _ _ = @Cert.GwMixIdeal.defs Bits _ _ := by
  unfold Cert.GwMix.defs Cert.GwMixIdeal.defs
  rw [body_gwmix]
  rfl

theorem frame_gwmix : Cert.quiescent_GwMix := fun m ρ _ => by
  rw [defs_gwmix]
  exact Cert.GwMixIdeal.Gen.frame (F := Bits) m ρ
theorem frame_gwmix_ideal : Cert.quiescent_GwMixIdeal := fun m ρ _ => Cert.GwMixIdeal.Gen.frame m ρ
theorem frame_gwmix_ref : Cert.quiescent_GwMixRefIdeal := fun m ρ _ =>
  (θ_run Cert.GwMixRefIdeal.defs _ _).mono (fun r h => ⟨fun c => (h c).2, Idealize.ShloMosaic.sem_eq_zero_of_no_sems (by decide) r.2⟩)
    (Cert.GwMixRefIdeal.Value.run (F := Ideal) m ρ)

/-- The kernel's gradient of a mixing product's weight is the reference's. -/
theorem algebraic_gwmix : Cert.algebraic_GwMixIdeal_GwMixRefIdeal := by
  intro m g m' g' _ harg
  refine ⟨fun c => Cert.GwMixIdeal.Value.G2 m c, Cert.GwMixIdeal.Value.run (F := Ideal) m g, ?_⟩
  exact (θ_run Cert.GwMixRefIdeal.defs _ _).mono (fun r h c => ⟨(h c).1.trans (Cert.GwMixIdeal.Hand.values m c _ _ (harg c).1 (harg c).2), (h c).2⟩)
    (Cert.GwMixRefIdeal.Value.run (F := Ideal) m' g')

/-! ### A branch's mixing product -/

/-- The two programs have one text: their bodies are one. -/
theorem body_mix : @Cert.Mix.defs₀ Bits _ _ = @Cert.MixIdeal.defs₀ Bits _ _ := by
  unfold Cert.Mix.defs₀ Cert.MixIdeal.defs₀
  refine congrArg Defs.onTc (funext fun l => ?_)
  match l with
  | 0 => exact funext fun ⟨_, _⟩ => rfl
theorem defs_mix : @Cert.Mix.defs Bits _ _ = @Cert.MixIdeal.defs Bits _ _ := by
  unfold Cert.Mix.defs Cert.MixIdeal.defs
  rw [body_mix]
  rfl

theorem frame_mix : Cert.quiescent_Mix := fun m ρ _ => by
  rw [defs_mix]
  exact Cert.MixIdeal.Gen.frame (F := Bits) m ρ
theorem frame_mix_ideal : Cert.quiescent_MixIdeal := fun m ρ _ => Cert.MixIdeal.Gen.frame m ρ
theorem frame_mix_ref : Cert.quiescent_MixRefIdeal := fun m ρ _ =>
  (θ_run Cert.MixRefIdeal.defs _ _).mono (fun r h => ⟨fun c => (h c).2, Idealize.ShloMosaic.sem_eq_zero_of_no_sems (by decide) r.2⟩)
    (Cert.MixRefIdeal.Value.run (F := Ideal) m ρ)

/-- The kernel's mixing product is the reference's. -/
theorem algebraic_mix : Cert.algebraic_MixIdeal_MixRefIdeal := by
  intro m g m' g' _ harg
  refine ⟨fun c => (Cert.MixIdeal.Gen.dats m 0 c).arrAt 2 Cert.MixIdeal.cfg0.N, Cert.MixIdeal.Value.run_blocks (F := Ideal) m g, ?_⟩
  exact (θ_run Cert.MixRefIdeal.defs _ _).mono (fun r h c => ⟨(h c).1.trans (Cert.MixIdeal.Hand.values m c _ _ (harg c).1 (harg c).2), (h c).2⟩)
    (Cert.MixRefIdeal.Value.run (F := Ideal) m' g')

/-! ### The output product -/

/-- The two programs have one text: their bodies are one. -/
theorem body_out : @Cert.Out.defs₀ Bits _ _ = @Cert.OutIdeal.defs₀ Bits _ _ := by
  unfold Cert.Out.defs₀ Cert.OutIdeal.defs₀
  refine congrArg Defs.onTc (funext fun l => ?_)
  match l with
  | 0 => exact funext fun ⟨_, _⟩ => rfl
theorem defs_out : @Cert.Out.defs Bits _ _ = @Cert.OutIdeal.defs Bits _ _ := by
  unfold Cert.Out.defs Cert.OutIdeal.defs
  rw [body_out]
  rfl

theorem frame_out : Cert.quiescent_Out := fun m ρ _ => by
  rw [defs_out]
  exact Cert.OutIdeal.Gen.frame (F := Bits) m ρ
theorem frame_out_ideal : Cert.quiescent_OutIdeal := fun m ρ _ => Cert.OutIdeal.Gen.frame m ρ
theorem frame_out_ref : Cert.quiescent_OutRefIdeal := fun m ρ _ =>
  (θ_run Cert.OutRefIdeal.defs _ _).mono (fun r h => ⟨fun c => (h c).2, Idealize.ShloMosaic.sem_eq_zero_of_no_sems (by decide) r.2⟩)
    (Cert.OutRefIdeal.Value.run (F := Ideal) m ρ)

/-- The kernel's output product is the reference's. -/
theorem algebraic_out : Cert.algebraic_OutIdeal_OutRefIdeal := by
  intro m g m' g' _ harg
  refine ⟨fun c => (Cert.OutIdeal.Gen.dats m 0 c).arrAt 2 Cert.OutIdeal.cfg0.N, Cert.OutIdeal.Value.run_blocks (F := Ideal) m g, ?_⟩
  exact (θ_run Cert.OutRefIdeal.defs _ _).mono (fun r h c => ⟨(h c).1.trans (Cert.OutIdeal.Hand.values m c _ _ (harg c).1 (harg c).2), (h c).2⟩)
    (Cert.OutRefIdeal.Value.run (F := Ideal) m' g')

/-! ### The input projection -/

/-- The two programs have one text: their bodies are one. -/
theorem body_proj : @Cert.Proj.defs₀ Bits _ _ = @Cert.ProjIdeal.defs₀ Bits _ _ := by
  unfold Cert.Proj.defs₀ Cert.ProjIdeal.defs₀
  refine congrArg Defs.onTc (funext fun l => ?_)
  match l with
  | 0 => exact funext fun ⟨_, _⟩ => rfl
theorem defs_proj : @Cert.Proj.defs Bits _ _ = @Cert.ProjIdeal.defs Bits _ _ := by
  unfold Cert.Proj.defs Cert.ProjIdeal.defs
  rw [body_proj]
  rfl

theorem frame_proj : Cert.quiescent_Proj := fun m ρ _ => by
  rw [defs_proj]
  exact Cert.ProjIdeal.Gen.frame (F := Bits) m ρ
theorem frame_proj_ideal : Cert.quiescent_ProjIdeal := fun m ρ _ => Cert.ProjIdeal.Gen.frame m ρ
theorem frame_proj_ref : Cert.quiescent_ProjRefIdeal := fun m ρ _ =>
  (θ_run Cert.ProjRefIdeal.defs _ _).mono (fun r h => ⟨fun c => (h c).2, Idealize.ShloMosaic.sem_eq_zero_of_no_sems (by decide) r.2⟩)
    (Cert.ProjRefIdeal.Value.run (F := Ideal) m ρ)

/-- The kernel's input projection is the reference's. -/
theorem algebraic_proj : Cert.algebraic_ProjIdeal_ProjRefIdeal := by
  intro m g m' g' _ harg
  refine ⟨fun c => (Cert.ProjIdeal.Gen.dats m 0 c).arrAt 2 Cert.ProjIdeal.cfg0.N, Cert.ProjIdeal.Value.run_blocks (F := Ideal) m g, ?_⟩
  exact (θ_run Cert.ProjRefIdeal.defs _ _).mono (fun r h c => ⟨(h c).1.trans (Cert.ProjIdeal.Hand.values m c _ _ (harg c).1 (harg c).2), (h c).2⟩)
    (Cert.ProjRefIdeal.Value.run (F := Ideal) m' g')

/-! ### The last product, first layer -/

/-- The two programs have one text: their bodies are one. -/
theorem body_down : @Cert.Down.defs₀ Bits _ _ = @Cert.DownIdeal.defs₀ Bits _ _ := by
  unfold Cert.Down.defs₀ Cert.DownIdeal.defs₀
  refine congrArg Defs.onTc (funext fun l => ?_)
  match l with
  | 0 => exact funext fun ⟨_, _⟩ => rfl
theorem defs_down : @Cert.Down.defs Bits _ _ = @Cert.DownIdeal.defs Bits _ _ := by
  unfold Cert.Down.defs Cert.DownIdeal.defs
  rw [body_down]
  rfl

theorem frame_down : Cert.quiescent_Down := fun m ρ _ => by
  rw [defs_down]
  exact Cert.DownIdeal.Gen.frame (F := Bits) m ρ
theorem frame_down_ideal : Cert.quiescent_DownIdeal := fun m ρ _ => Cert.DownIdeal.Gen.frame m ρ
theorem frame_down_ref : Cert.quiescent_DownRefIdeal := fun m ρ _ =>
  (θ_run Cert.DownRefIdeal.defs _ _).mono (fun r h => ⟨fun c => (h c).2, Idealize.ShloMosaic.sem_eq_zero_of_no_sems (by decide) r.2⟩)
    (Cert.DownRefIdeal.Value.run (F := Ideal) m ρ)

/-- The kernel's last product of the first layer is the reference's. -/
theorem algebraic_down : Cert.algebraic_DownIdeal_DownRefIdeal := by
  intro m g m' g' _ harg
  refine ⟨fun c => Cert.DownIdeal.Value.G2 m c, Cert.DownIdeal.Value.run (F := Ideal) m g, ?_⟩
  exact (θ_run Cert.DownRefIdeal.defs _ _).mono (fun r h c => ⟨(h c).1.trans (Cert.DownIdeal.Hand.values m c _ _ (harg c).1 (harg c).2), (h c).2⟩)
    (Cert.DownRefIdeal.Value.run (F := Ideal) m' g')

/-! ### The last product, second layer -/

/-- The two programs have one text: their bodies are one. -/
theorem body_down2 : @Cert.Down2.defs₀ Bits _ _ = @Cert.Down2Ideal.defs₀ Bits _ _ := by
  unfold Cert.Down2.defs₀ Cert.Down2Ideal.defs₀
  refine congrArg Defs.onTc (funext fun l => ?_)
  match l with
  | 0 => exact funext fun ⟨_, _⟩ => rfl
theorem defs_down2 : @Cert.Down2.defs Bits _ _ = @Cert.Down2Ideal.defs Bits _ _ := by
  unfold Cert.Down2.defs Cert.Down2Ideal.defs
  rw [body_down2]
  rfl

theorem frame_down2 : Cert.quiescent_Down2 := fun m ρ _ => by
  rw [defs_down2]
  exact Cert.Down2Ideal.Gen.frame (F := Bits) m ρ
theorem frame_down2_ideal : Cert.quiescent_Down2Ideal := fun m ρ _ => Cert.Down2Ideal.Gen.frame m ρ
theorem frame_down2_ref : Cert.quiescent_Down2RefIdeal := fun m ρ _ =>
  (θ_run Cert.Down2RefIdeal.defs _ _).mono (fun r h => ⟨fun c => (h c).2, Idealize.ShloMosaic.sem_eq_zero_of_no_sems (by decide) r.2⟩)
    (Cert.Down2RefIdeal.Value.run (F := Ideal) m ρ)

/-- The kernel's last product of the second layer is the reference's. -/
theorem algebraic_down2 : Cert.algebraic_Down2Ideal_Down2RefIdeal := by
  intro m g m' g' _ harg
  refine ⟨fun c => Cert.Down2Ideal.Value.G2 m c, Cert.Down2Ideal.Value.run (F := Ideal) m g, ?_⟩
  exact (θ_run Cert.Down2RefIdeal.defs _ _).mono (fun r h c => ⟨(h c).1.trans (Cert.Down2Ideal.Hand.values m c _ _ (harg c).1 (harg c).2), (h c).2⟩)
    (Cert.Down2RefIdeal.Value.run (F := Ideal) m' g')

/-! ### The first products and the gate, first layer -/

/-- The two programs have one text: their bodies are one. -/
theorem body_up : @Cert.Up.defs₀ Bits _ _ = @Cert.UpIdeal.defs₀ Bits _ _ := by
  unfold Cert.Up.defs₀ Cert.UpIdeal.defs₀
  refine congrArg Defs.onTc (funext fun l => ?_)
  match l with
  | 0 => exact funext fun ⟨_, _⟩ => rfl
theorem defs_up : @Cert.Up.defs Bits _ _ = @Cert.UpIdeal.defs Bits _ _ := by
  unfold Cert.Up.defs Cert.UpIdeal.defs
  rw [body_up]
  rfl

theorem frame_up : Cert.quiescent_Up := fun m ρ _ => by
  rw [defs_up]
  exact Cert.UpIdeal.Gen.frame (F := Bits) m ρ
theorem frame_up_ideal : Cert.quiescent_UpIdeal := fun m ρ _ => Cert.UpIdeal.Gen.frame m ρ
theorem frame_up_ref : Cert.quiescent_UpRefIdeal := fun m ρ _ =>
  (θ_run Cert.UpRefIdeal.defs _ _).mono (fun r h => ⟨fun c => (h c).2.2, Idealize.ShloMosaic.sem_eq_zero_of_no_sems (by decide) r.2⟩)
    (Cert.UpRefIdeal.Value.run (F := Ideal) m ρ)

/-- The kernel's first products and gated product of the first layer are the reference's. -/
theorem algebraic_up : Cert.algebraic_UpIdeal_UpRefIdeal := by
  intro m g m' g' _ harg
  refine ⟨fun c => (Cert.UpIdeal.Gen.dats m 0 c).arrAt 3 Cert.UpIdeal.cfg0.N, fun c => (Cert.UpIdeal.Gen.dats m 0 c).arrAt 4 Cert.UpIdeal.cfg0.N, Cert.UpIdeal.Value.run_blocks (F := Ideal) m g, ?_⟩
  exact (θ_run Cert.UpRefIdeal.defs _ _).mono (fun r h c => ⟨(h c).1.trans (Cert.UpIdeal.Hand.values3 m c _ _ (harg c).1 (harg c).2),
    (h c).2.1.trans (Cert.UpIdeal.Hand.values4 m c _ _ (harg c).1 (harg c).2), (h c).2.2⟩)
    (Cert.UpRefIdeal.Value.run (F := Ideal) m' g')

/-! ### The first products and the gate, second layer -/

/-- The two programs have one text: their bodies are one. -/
theorem body_up2 : @Cert.Up2.defs₀ Bits _ _ = @Cert.Up2Ideal.defs₀ Bits _ _ := by
  unfold Cert.Up2.defs₀ Cert.Up2Ideal.defs₀
  refine congrArg Defs.onTc (funext fun l => ?_)
  match l with
  | 0 => exact funext fun ⟨_, _⟩ => rfl
theorem defs_up2 : @Cert.Up2.defs Bits _ _ = @Cert.Up2Ideal.defs Bits _ _ := by
  unfold Cert.Up2.defs Cert.Up2Ideal.defs
  rw [body_up2]
  rfl

theorem frame_up2 : Cert.quiescent_Up2 := fun m ρ _ => by
  rw [defs_up2]
  exact Cert.Up2Ideal.Gen.frame (F := Bits) m ρ
theorem frame_up2_ideal : Cert.quiescent_Up2Ideal := fun m ρ _ => Cert.Up2Ideal.Gen.frame m ρ
theorem frame_up2_ref : Cert.quiescent_Up2RefIdeal := fun m ρ _ =>
  (θ_run Cert.Up2RefIdeal.defs _ _).mono (fun r h => ⟨fun c => (h c).2.2, Idealize.ShloMosaic.sem_eq_zero_of_no_sems (by decide) r.2⟩)
    (Cert.Up2RefIdeal.Value.run (F := Ideal) m ρ)

/-- The kernel's first products and gated product of the second layer are the reference's. -/
theorem algebraic_up2 : Cert.algebraic_Up2Ideal_Up2RefIdeal := by
  intro m g m' g' _ harg
  refine ⟨fun c => (Cert.Up2Ideal.Gen.dats m 0 c).arrAt 3 Cert.Up2Ideal.cfg0.N, fun c => (Cert.Up2Ideal.Gen.dats m 0 c).arrAt 4 Cert.Up2Ideal.cfg0.N, Cert.Up2Ideal.Value.run_blocks (F := Ideal) m g, ?_⟩
  exact (θ_run Cert.Up2RefIdeal.defs _ _).mono (fun r h c => ⟨(h c).1.trans (Cert.Up2Ideal.Hand.values3 m c _ _ (harg c).1 (harg c).2),
    (h c).2.1.trans (Cert.Up2Ideal.Hand.values4 m c _ _ (harg c).1 (harg c).2), (h c).2.2⟩)
    (Cert.Up2RefIdeal.Value.run (F := Ideal) m' g')

/-! ### The attention -/

theorem frame_attn : Cert.quiescent_Attn := fun m ρ _ => Cert.Attn.Gen.frame m ρ
theorem frame_attn_ideal : Cert.quiescent_AttnIdeal := fun m ρ _ => Cert.AttnIdeal.Gen.frame m ρ
theorem frame_attn_ideal_finite4 : Cert.quiescent_AttnIdeal_pre_finite4 := fun m ρ _ => Cert.AttnIdeal.Gen.frame m ρ
theorem frame_attn_ref : Cert.quiescent_AttnRefIdeal := fun m ρ _ =>
  (θ_run Cert.AttnRefIdeal.defs _ _).mono (fun r h => ⟨fun c => (h c).2.2, Idealize.ShloMosaic.sem_eq_zero_of_no_sems (by decide) r.2⟩)
    (Cert.AttnRefIdeal.Value.run (F := Ideal) m ρ)
theorem frame_attn_ref_finite4 : Cert.quiescent_AttnRefIdeal_pre_finite4 := fun m ρ _ => frame_attn_ref m ρ trivial

/-- The attention's named constant is the table's. -/
theorem preserves_attn : Cert.preserves_Attn_AttnIdeal := IdealRules.named_const.statement _ _ _ _ _ rfl

/-- The kernel's attention and log-sum-exp are the reference's. -/
theorem algebraic_attn : Cert.algebraic_AttnIdeal_AttnRefIdeal_pre_finite4 := by
  intro m g m' g' hm harg
  refine ⟨fun c => (Cert.AttnIdeal.Gen.dats m 0 c).arrAt 3 Cert.AttnIdeal.cfg0.N, fun c => (Cert.AttnIdeal.Gen.dats m 0 c).arrAt 4 Cert.AttnIdeal.cfg0.N, Cert.AttnIdeal.Value.run_blocks (F := Ideal) m g, ?_⟩
  refine (θ_run Cert.AttnRefIdeal.defs _ _).mono (fun r h c => ?_) (Cert.AttnRefIdeal.Value.run (F := Ideal) m' g')
  obtain ⟨e0, e1⟩ := harg c
  have fx := Cert.Pre_finite4.Hand.fn_eq _ _ (hm c)
  have k3 := Cert.AttnIdeal.Hand.final3 m c
  have k4 := Cert.AttnIdeal.Hand.final4 m c
  rw [Cert.AttnIdeal.Gen.V_main_arg0, Cert.AttnIdeal.Gen.V_main_arg1, ← e0, ← e1] at k3
  rw [Cert.AttnIdeal.Gen.V_main_arg0, ← e0] at k4
  rw [← e0] at fx
  exact ⟨(h c).1.trans ((Cert.AttnEquation.v26_eq m' c).trans ((Cert.AttnEquation.values_o _ _ fx).trans k3.symm)),
    (h c).2.1.trans ((Cert.AttnEquation.values_l _ fx).trans k4.symm), (h c).2.2⟩

theorem claim : Cert.Claim :=
  ⟨Cert.Kernel.Gen.facts, Cert.KernelIdeal.Gen.facts, Cert.ReferenceIdeal.Gen.facts, Cert.Gate.Gen.facts, Cert.GateIdeal.Gen.facts,
    Cert.GateRefIdeal.Gen.facts, Cert.Dh.Gen.facts, Cert.DhIdeal.Gen.facts, Cert.DhRefIdeal.Gen.facts, Cert.Gwi.Gen.facts,
    Cert.GwiIdeal.Gen.facts, Cert.GwiRefIdeal.Gen.facts, Cert.Gwo.Gen.facts, Cert.GwoIdeal.Gen.facts, Cert.GwoRefIdeal.Gen.facts,
    Cert.Gate2.Gen.facts, Cert.Gate2Ideal.Gen.facts, Cert.Gate2RefIdeal.Gen.facts, Cert.Dh2.Gen.facts, Cert.Dh2Ideal.Gen.facts,
    Cert.Dh2RefIdeal.Gen.facts, Cert.Gwi2.Gen.facts, Cert.Gwi2Ideal.Gen.facts, Cert.Gwi2RefIdeal.Gen.facts, Cert.Gwo2.Gen.facts,
    Cert.Gwo2Ideal.Gen.facts, Cert.Gwo2RefIdeal.Gen.facts, Cert.DhIn.Gen.facts, Cert.DhInIdeal.Gen.facts, Cert.DhInRefIdeal.Gen.facts,
    Cert.GwIn.Gen.facts, Cert.GwInIdeal.Gen.facts, Cert.GwInRefIdeal.Gen.facts, Cert.DMix.Gen.facts, Cert.DMixIdeal.Gen.facts,
    Cert.DMixRefIdeal.Gen.facts, Cert.GwMix.Gen.facts, Cert.GwMixIdeal.Gen.facts, Cert.GwMixRefIdeal.Gen.facts, Cert.Mix.Gen.facts,
    Cert.MixIdeal.Gen.facts, Cert.MixRefIdeal.Gen.facts, Cert.Out.Gen.facts, Cert.OutIdeal.Gen.facts, Cert.OutRefIdeal.Gen.facts,
    Cert.Proj.Gen.facts, Cert.ProjIdeal.Gen.facts, Cert.ProjRefIdeal.Gen.facts, Cert.Down.Gen.facts, Cert.DownIdeal.Gen.facts,
    Cert.DownRefIdeal.Gen.facts, Cert.Down2.Gen.facts, Cert.Down2Ideal.Gen.facts, Cert.Down2RefIdeal.Gen.facts, Cert.Up.Gen.facts,
    Cert.UpIdeal.Gen.facts, Cert.UpRefIdeal.Gen.facts, Cert.Up2.Gen.facts, Cert.Up2Ideal.Gen.facts, Cert.Up2RefIdeal.Gen.facts,
    Cert.Attn.Gen.facts, Cert.AttnIdeal.Gen.facts, Cert.AttnRefIdeal.Gen.facts,
    Cert.Pre_finite.Gen.facts, Cert.Pre_finite2.Gen.facts, Cert.Pre_finite3.Gen.facts, Cert.Pre_finite4.Gen.facts,
    frame_p, frame_pi, frame_pi_finite, frame_ri, frame_ri_finite, frame_gate, frame_gate_ideal, frame_gate_ideal_finite2, frame_gate_ref,
    frame_gate_ref_finite2, frame_dh, frame_dh_ideal, frame_dh_ref, frame_gwi, frame_gwi_ideal, frame_gwi_ref, frame_gwo, frame_gwo_ideal,
    frame_gwo_ref, frame_gate2, frame_gate2_ideal, frame_gate2_ideal_finite3, frame_gate2_ref, frame_gate2_ref_finite3, frame_dh2,
    frame_dh2_ideal, frame_dh2_ref, frame_gwi2, frame_gwi2_ideal, frame_gwi2_ref, frame_gwo2, frame_gwo2_ideal, frame_gwo2_ref, frame_dhin,
    frame_dhin_ideal, frame_dhin_ref, frame_gwin, frame_gwin_ideal, frame_gwin_ref, frame_dmix, frame_dmix_ideal, frame_dmix_ref, frame_gwmix,
    frame_gwmix_ideal, frame_gwmix_ref, frame_mix, frame_mix_ideal, frame_mix_ref, frame_out, frame_out_ideal, frame_out_ref, frame_proj,
    frame_proj_ideal, frame_proj_ref, frame_down, frame_down_ideal, frame_down_ref, frame_down2, frame_down2_ideal, frame_down2_ref, frame_up,
    frame_up_ideal, frame_up_ref, frame_up2, frame_up2_ideal, frame_up2_ref, frame_attn, frame_attn_ideal, frame_attn_ideal_finite4,
    frame_attn_ref, frame_attn_ref_finite4,
    preserves, algebraic, trivial, algebraic_gate, trivial, algebraic_dh, trivial, algebraic_gwi, trivial, algebraic_gwo, trivial,
    algebraic_gate2, trivial, algebraic_dh2, trivial, algebraic_gwi2, trivial, algebraic_gwo2, trivial, algebraic_dhin, trivial, algebraic_gwin,
    trivial, algebraic_dmix, trivial, algebraic_gwmix, trivial, algebraic_mix, trivial, algebraic_out, trivial, algebraic_proj, trivial,
    algebraic_down, trivial, algebraic_down2, trivial, algebraic_up, trivial, algebraic_up2,
    preserves_attn, algebraic_attn⟩

end Cert.Proof

end
